-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_ProjA (m : (ℓ : Loc Cert.ProjA.nD Cert.ProjA.τ Cert.ProjA.sig) → Buf (Elt Bits) ℓ) : Prop :=
  True

def Pre_ProjAIdeal (m : (ℓ : Loc Cert.ProjAIdeal.nD Cert.ProjAIdeal.τ Cert.ProjAIdeal.sig) → Buf (Elt Ideal) ℓ) : Prop :=
  True

def Pre_ProjARefIdeal (m : (ℓ : Loc Cert.ProjARefIdeal.nD Cert.ProjARefIdeal.τ Cert.ProjARefIdeal.sig) → Buf (Elt Ideal) ℓ) : Prop :=
  True

def Pre_ProjZ (m : (ℓ : Loc Cert.ProjZ.nD Cert.ProjZ.τ Cert.ProjZ.sig) → Buf (Elt Bits) ℓ) : Prop :=
  True

def Pre_ProjZIdeal (m : (ℓ : Loc Cert.ProjZIdeal.nD Cert.ProjZIdeal.τ Cert.ProjZIdeal.sig) → Buf (Elt Ideal) ℓ) : Prop :=
  True

def Pre_ProjZRefIdeal (m : (ℓ : Loc Cert.ProjZRefIdeal.nD Cert.ProjZRefIdeal.τ Cert.ProjZRefIdeal.sig) → Buf (Elt Ideal) ℓ) : Prop :=
  True

def Pre_ProjXbc (m : (ℓ : Loc Cert.ProjXbc.nD Cert.ProjXbc.τ Cert.ProjXbc.sig) → Buf (Elt Bits) ℓ) : Prop :=
  True

def Pre_ProjXbcIdeal (m : (ℓ : Loc Cert.ProjXbcIdeal.nD Cert.ProjXbcIdeal.τ Cert.ProjXbcIdeal.sig) → Buf (Elt Ideal) ℓ) : Prop :=
  True

def Pre_ProjXbcRefIdeal (m : (ℓ : Loc Cert.ProjXbcRefIdeal.nD Cert.ProjXbcRefIdeal.τ Cert.ProjXbcRefIdeal.sig) → Buf (Elt Ideal) ℓ) : Prop :=
  True

def Pre_ProjDt (m : (ℓ : Loc Cert.ProjDt.nD Cert.ProjDt.τ Cert.ProjDt.sig) → Buf (Elt Bits) ℓ) : Prop :=
  True

def Pre_ProjDtIdeal (m : (ℓ : Loc Cert.ProjDtIdeal.nD Cert.ProjDtIdeal.τ Cert.ProjDtIdeal.sig) → Buf (Elt Ideal) ℓ) : Prop :=
  True

def Pre_ProjDtRefIdeal (m : (ℓ : Loc Cert.ProjDtRefIdeal.nD Cert.ProjDtRefIdeal.τ Cert.ProjDtRefIdeal.sig) → Buf (Elt Ideal) ℓ) : Prop :=
  True

def Pre_ProjQkv (m : (ℓ : Loc Cert.ProjQkv.nD Cert.ProjQkv.τ Cert.ProjQkv.sig) → Buf (Elt Bits) ℓ) : Prop :=
  True

def Pre_ProjQkvIdeal (m : (ℓ : Loc Cert.ProjQkvIdeal.nD Cert.ProjQkvIdeal.τ Cert.ProjQkvIdeal.sig) → Buf (Elt Ideal) ℓ) : Prop :=
  True

def Pre_ProjQkvRefIdeal (m : (ℓ : Loc Cert.ProjQkvRefIdeal.nD Cert.ProjQkvRefIdeal.τ Cert.ProjQkvRefIdeal.sig) → Buf (Elt Ideal) ℓ) : Prop :=
  True

def Pre_ProjGates (m : (ℓ : Loc Cert.ProjGates.nD Cert.ProjGates.τ Cert.ProjGates.sig) → Buf (Elt Bits) ℓ) : Prop :=
  True

def Pre_ProjGatesIdeal (m : (ℓ : Loc Cert.ProjGatesIdeal.nD Cert.ProjGatesIdeal.τ Cert.ProjGatesIdeal.sig) → Buf (Elt Ideal) ℓ) : Prop :=
  True

def Pre_ProjGatesRefIdeal (m : (ℓ : Loc Cert.ProjGatesRefIdeal.nD Cert.ProjGatesRefIdeal.τ Cert.ProjGatesRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_groups_finite [hPre_groups_finite : Cert.Pre_groups_finite.Facts] (m : (ℓ : Loc Cert.MergeIdeal.nD Cert.MergeIdeal.τ Cert.MergeIdeal.sig) → Buf (Elt Ideal) ℓ) : Prop :=
  ∀ c : Dev Cert.MergeIdeal.nD,
    (Cert.Pre_groups_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13))).1 = (fun _ => 1#1)
    ∧ (Cert.Pre_groups_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13))).2 = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_groups_finite [hPre_groups_finite : Cert.Pre_groups_finite.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_groups_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11)) (m ((c.tc : Thread Cert.MergeRefIdeal.nD Cert.MergeRefIdeal.τ).loc Cert.MergeRefIdeal.main_arg12)) (m ((c.tc : Thread Cert.MergeRefIdeal.nD Cert.MergeRefIdeal.τ).loc Cert.MergeRefIdeal.main_arg13))).1 = (fun _ => 1#1)
    ∧ (Cert.Pre_groups_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11)) (m ((c.tc : Thread Cert.MergeRefIdeal.nD Cert.MergeRefIdeal.τ).loc Cert.MergeRefIdeal.main_arg12)) (m ((c.tc : Thread Cert.MergeRefIdeal.nD Cert.MergeRefIdeal.τ).loc Cert.MergeRefIdeal.main_arg13))).2 = (fun _ => 1#1)

def Pre_Dil (m : (ℓ : Loc Cert.Dil.nD Cert.Dil.τ Cert.Dil.sig) → Buf (Elt Bits) ℓ) : Prop :=
  True

def Pre_DilIdeal (m : (ℓ : Loc Cert.DilIdeal.nD Cert.DilIdeal.τ Cert.DilIdeal.sig) → Buf (Elt Ideal) ℓ) : Prop :=
  True

def Pre_DilIdeal_scores_finite [hPre_scores_finite : Cert.Pre_scores_finite.Facts] (m : (ℓ : Loc Cert.DilIdeal.nD Cert.DilIdeal.τ Cert.DilIdeal.sig) → Buf (Elt Ideal) ℓ) : Prop :=
  ∀ c : Dev Cert.DilIdeal.nD,
    (Cert.Pre_scores_finite.fn (F := Ideal) (m ((c.tc : Thread Cert.DilIdeal.nD Cert.DilIdeal.τ).loc Cert.DilIdeal.main_arg0)) (m ((c.tc : Thread Cert.DilIdeal.nD Cert.DilIdeal.τ).loc Cert.DilIdeal.main_arg1))).1 = (fun _ => 1#1)
    ∧ (Cert.Pre_scores_finite.fn (F := Ideal) (m ((c.tc : Thread Cert.DilIdeal.nD Cert.DilIdeal.τ).loc Cert.DilIdeal.main_arg0)) (m ((c.tc : Thread Cert.DilIdeal.nD Cert.DilIdeal.τ).loc Cert.DilIdeal.main_arg1))).2.1 = (fun _ => 1#1)
    ∧ (Cert.Pre_scores_finite.fn (F := Ideal) (m ((c.tc : Thread Cert.DilIdeal.nD Cert.DilIdeal.τ).loc Cert.DilIdeal.main_arg0)) (m ((c.tc : Thread Cert.DilIdeal.nD Cert.DilIdeal.τ).loc Cert.DilIdeal.main_arg1))).2.2 = (fun _ => 1#1)

def Pre_DilRefIdeal (m : (ℓ : Loc Cert.DilRefIdeal.nD Cert.DilRefIdeal.τ Cert.DilRefIdeal.sig) → Buf (Elt Ideal) ℓ) : Prop :=
  True

def Pre_DilRefIdeal_scores_finite [hPre_scores_finite : Cert.Pre_scores_finite.Facts] (m : (ℓ : Loc Cert.DilRefIdeal.nD Cert.DilRefIdeal.τ Cert.DilRefIdeal.sig) → Buf (Elt Ideal) ℓ) : Prop :=
  ∀ c : Dev Cert.DilRefIdeal.nD,
    (Cert.Pre_scores_finite.fn (F := Ideal) (m ((c.tc : Thread Cert.DilRefIdeal.nD Cert.DilRefIdeal.τ).loc Cert.DilRefIdeal.main_arg0)) (m ((c.tc : Thread Cert.DilRefIdeal.nD Cert.DilRefIdeal.τ).loc Cert.DilRefIdeal.main_arg1))).1 = (fun _ => 1#1)
    ∧ (Cert.Pre_scores_finite.fn (F := Ideal) (m ((c.tc : Thread Cert.DilRefIdeal.nD Cert.DilRefIdeal.τ).loc Cert.DilRefIdeal.main_arg0)) (m ((c.tc : Thread Cert.DilRefIdeal.nD Cert.DilRefIdeal.τ).loc Cert.DilRefIdeal.main_arg1))).2.1 = (fun _ => 1#1)
    ∧ (Cert.Pre_scores_finite.fn (F := Ideal) (m ((c.tc : Thread Cert.DilRefIdeal.nD Cert.DilRefIdeal.τ).loc Cert.DilRefIdeal.main_arg0)) (m ((c.tc : Thread Cert.DilRefIdeal.nD Cert.DilRefIdeal.τ).loc Cert.DilRefIdeal.main_arg1))).2.2 = (fun _ => 1#1)

def Pre_DilFour (m : (ℓ : Loc Cert.DilFour.nD Cert.DilFour.τ Cert.DilFour.sig) → Buf (Elt Bits) ℓ) : Prop :=
  True

def Pre_DilFourIdeal (m : (ℓ : Loc Cert.DilFourIdeal.nD Cert.DilFourIdeal.τ Cert.DilFourIdeal.sig) → Buf (Elt Ideal) ℓ) : Prop :=
  True

def Pre_DilFourIdeal_four_finite [hPre_four_finite : Cert.Pre_four_finite.Facts] (m : (ℓ : Loc Cert.DilFourIdeal.nD Cert.DilFourIdeal.τ Cert.DilFourIdeal.sig) → Buf (Elt Ideal) ℓ) : Prop :=
  ∀ c : Dev Cert.DilFourIdeal.nD,
    (Cert.Pre_four_finite.fn (F := Ideal) (m ((c.tc : Thread Cert.DilFourIdeal.nD Cert.DilFourIdeal.τ).loc Cert.DilFourIdeal.main_arg0)) (m ((c.tc : Thread Cert.DilFourIdeal.nD Cert.DilFourIdeal.τ).loc Cert.DilFourIdeal.main_arg1))).1 = (fun _ => 1#1)
    ∧ (Cert.Pre_four_finite.fn (F := Ideal) (m ((c.tc : Thread Cert.DilFourIdeal.nD Cert.DilFourIdeal.τ).loc Cert.DilFourIdeal.main_arg0)) (m ((c.tc : Thread Cert.DilFourIdeal.nD Cert.DilFourIdeal.τ).loc Cert.DilFourIdeal.main_arg1))).2.1 = (fun _ => 1#1)
    ∧ (Cert.Pre_four_finite.fn (F := Ideal) (m ((c.tc : Thread Cert.DilFourIdeal.nD Cert.DilFourIdeal.τ).loc Cert.DilFourIdeal.main_arg0)) (m ((c.tc : Thread Cert.DilFourIdeal.nD Cert.DilFourIdeal.τ).loc Cert.DilFourIdeal.main_arg1))).2.2 = (fun _ => 1#1)

def Pre_DilFourRefIdeal (m : (ℓ : Loc Cert.DilFourRefIdeal.nD Cert.DilFourRefIdeal.τ Cert.DilFourRefIdeal.sig) → Buf (Elt Ideal) ℓ) : Prop :=
  True

def Pre_DilFourRefIdeal_four_finite [hPre_four_finite : Cert.Pre_four_finite.Facts] (m : (ℓ : Loc Cert.DilFourRefIdeal.nD Cert.DilFourRefIdeal.τ Cert.DilFourRefIdeal.sig) → Buf (Elt Ideal) ℓ) : Prop :=
  ∀ c : Dev Cert.DilFourRefIdeal.nD,
    (Cert.Pre_four_finite.fn (F := Ideal) (m ((c.tc : Thread Cert.DilFourRefIdeal.nD Cert.DilFourRefIdeal.τ).loc Cert.DilFourRefIdeal.main_arg0)) (m ((c.tc : Thread Cert.DilFourRefIdeal.nD Cert.DilFourRefIdeal.τ).loc Cert.DilFourRefIdeal.main_arg1))).1 = (fun _ => 1#1)
    ∧ (Cert.Pre_four_finite.fn (F := Ideal) (m ((c.tc : Thread Cert.DilFourRefIdeal.nD Cert.DilFourRefIdeal.τ).loc Cert.DilFourRefIdeal.main_arg0)) (m ((c.tc : Thread Cert.DilFourRefIdeal.nD Cert.DilFourRefIdeal.τ).loc Cert.DilFourRefIdeal.main_arg1))).2.1 = (fun _ => 1#1)
    ∧ (Cert.Pre_four_finite.fn (F := Ideal) (m ((c.tc : Thread Cert.DilFourRefIdeal.nD Cert.DilFourRefIdeal.τ).loc Cert.DilFourRefIdeal.main_arg0)) (m ((c.tc : Thread Cert.DilFourRefIdeal.nD Cert.DilFourRefIdeal.τ).loc Cert.DilFourRefIdeal.main_arg1))).2.2 = (fun _ => 1#1)

def Pre_DilSixteen (m : (ℓ : Loc Cert.DilSixteen.nD Cert.DilSixteen.τ Cert.DilSixteen.sig) → Buf (Elt Bits) ℓ) : Prop :=
  True

def Pre_DilSixteenIdeal (m : (ℓ : Loc Cert.DilSixteenIdeal.nD Cert.DilSixteenIdeal.τ Cert.DilSixteenIdeal.sig) → Buf (Elt Ideal) ℓ) : Prop :=
  True

def Pre_DilSixteenIdeal_sixteen_finite [hPre_sixteen_finite : Cert.Pre_sixteen_finite.Facts] (m : (ℓ : Loc Cert.DilSixteenIdeal.nD Cert.DilSixteenIdeal.τ Cert.DilSixteenIdeal.sig) → Buf (Elt Ideal) ℓ) : Prop :=
  ∀ c : Dev Cert.DilSixteenIdeal.nD,
    (Cert.Pre_sixteen_finite.fn (F := Ideal) (m ((c.tc : Thread Cert.DilSixteenIdeal.nD Cert.DilSixteenIdeal.τ).loc Cert.DilSixteenIdeal.main_arg0)) (m ((c.tc : Thread Cert.DilSixteenIdeal.nD Cert.DilSixteenIdeal.τ).loc Cert.DilSixteenIdeal.main_arg1))).1 = (fun _ => 1#1)
    ∧ (Cert.Pre_sixteen_finite.fn (F := Ideal) (m ((c.tc : Thread Cert.DilSixteenIdeal.nD Cert.DilSixteenIdeal.τ).loc Cert.DilSixteenIdeal.main_arg0)) (m ((c.tc : Thread Cert.DilSixteenIdeal.nD Cert.DilSixteenIdeal.τ).loc Cert.DilSixteenIdeal.main_arg1))).2.1 = (fun _ => 1#1)
    ∧ (Cert.Pre_sixteen_finite.fn (F := Ideal) (m ((c.tc : Thread Cert.DilSixteenIdeal.nD Cert.DilSixteenIdeal.τ).loc Cert.DilSixteenIdeal.main_arg0)) (m ((c.tc : Thread Cert.DilSixteenIdeal.nD Cert.DilSixteenIdeal.τ).loc Cert.DilSixteenIdeal.main_arg1))).2.2 = (fun _ => 1#1)

def Pre_DilSixteenRefIdeal (m : (ℓ : Loc Cert.DilSixteenRefIdeal.nD Cert.DilSixteenRefIdeal.τ Cert.DilSixteenRefIdeal.sig) → Buf (Elt Ideal) ℓ) : Prop :=
  True

def Pre_DilSixteenRefIdeal_sixteen_finite [hPre_sixteen_finite : Cert.Pre_sixteen_finite.Facts] (m : (ℓ : Loc Cert.DilSixteenRefIdeal.nD Cert.DilSixteenRefIdeal.τ Cert.DilSixteenRefIdeal.sig) → Buf (Elt Ideal) ℓ) : Prop :=
  ∀ c : Dev Cert.DilSixteenRefIdeal.nD,
    (Cert.Pre_sixteen_finite.fn (F := Ideal) (m ((c.tc : Thread Cert.DilSixteenRefIdeal.nD Cert.DilSixteenRefIdeal.τ).loc Cert.DilSixteenRefIdeal.main_arg0)) (m ((c.tc : Thread Cert.DilSixteenRefIdeal.nD Cert.DilSixteenRefIdeal.τ).loc Cert.DilSixteenRefIdeal.main_arg1))).1 = (fun _ => 1#1)
    ∧ (Cert.Pre_sixteen_finite.fn (F := Ideal) (m ((c.tc : Thread Cert.DilSixteenRefIdeal.nD Cert.DilSixteenRefIdeal.τ).loc Cert.DilSixteenRefIdeal.main_arg0)) (m ((c.tc : Thread Cert.DilSixteenRefIdeal.nD Cert.DilSixteenRefIdeal.τ).loc Cert.DilSixteenRefIdeal.main_arg1))).2.1 = (fun _ => 1#1)
    ∧ (Cert.Pre_sixteen_finite.fn (F := Ideal) (m ((c.tc : Thread Cert.DilSixteenRefIdeal.nD Cert.DilSixteenRefIdeal.τ).loc Cert.DilSixteenRefIdeal.main_arg0)) (m ((c.tc : Thread Cert.DilSixteenRefIdeal.nD Cert.DilSixteenRefIdeal.τ).loc Cert.DilSixteenRefIdeal.main_arg1))).2.2 = (fun _ => 1#1)

def Pre_Strips (m : (ℓ : Loc Cert.Strips.nD Cert.Strips.τ Cert.Strips.sig) → Buf (Elt Bits) ℓ) : Prop :=
  True

def Pre_StripsIdeal (m : (ℓ : Loc Cert.StripsIdeal.nD Cert.StripsIdeal.τ Cert.StripsIdeal.sig) → Buf (Elt Ideal) ℓ) : Prop :=
  True

def Pre_StripsIdeal_far_finite [hPre_far_finite : Cert.Pre_far_finite.Facts] (m : (ℓ : Loc Cert.StripsIdeal.nD Cert.StripsIdeal.τ Cert.StripsIdeal.sig) → Buf (Elt Ideal) ℓ) : Prop :=
  ∀ c : Dev Cert.StripsIdeal.nD,
    (Cert.Pre_far_finite.fn (F := Ideal) (m ((c.tc : Thread Cert.StripsIdeal.nD Cert.StripsIdeal.τ).loc Cert.StripsIdeal.main_arg0))).1 = (fun _ => 1#1)
    ∧ (Cert.Pre_far_finite.fn (F := Ideal) (m ((c.tc : Thread Cert.StripsIdeal.nD Cert.StripsIdeal.τ).loc Cert.StripsIdeal.main_arg0))).2 = (fun _ => 1#1)

def Pre_StripsRefIdeal (m : (ℓ : Loc Cert.StripsRefIdeal.nD Cert.StripsRefIdeal.τ Cert.StripsRefIdeal.sig) → Buf (Elt Ideal) ℓ) : Prop :=
  True

def Pre_StripsRefIdeal_far_finite [hPre_far_finite : Cert.Pre_far_finite.Facts] (m : (ℓ : Loc Cert.StripsRefIdeal.nD Cert.StripsRefIdeal.τ Cert.StripsRefIdeal.sig) → Buf (Elt Ideal) ℓ) : Prop :=
  ∀ c : Dev Cert.StripsRefIdeal.nD,
    (Cert.Pre_far_finite.fn (F := Ideal) (m ((c.tc : Thread Cert.StripsRefIdeal.nD Cert.StripsRefIdeal.τ).loc Cert.StripsRefIdeal.main_arg0))).1 = (fun _ => 1#1)
    ∧ (Cert.Pre_far_finite.fn (F := Ideal) (m ((c.tc : Thread Cert.StripsRefIdeal.nD Cert.StripsRefIdeal.τ).loc Cert.StripsRefIdeal.main_arg0))).2 = (fun _ => 1#1)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_ProjA [hProjA : Cert.ProjA.Facts] : Prop :=
  ∀ (m : (ℓ : Loc Cert.ProjA.nD Cert.ProjA.τ Cert.ProjA.sig) → Buf (Elt Bits) ℓ) (g : Dev Cert.ProjA.nD → PrngReg), Pre_ProjA m →
    θ_run (Cert.ProjA.defs (F := Bits)) (onTc (τ := Cert.ProjA.τ) (Cert.ProjA.main (F := Bits))) ⟨m, fun _ => 0, g⟩ (fun r => (∀ c : Dev Cert.ProjA.nD,
      r.2.mem ((c.tc : Thread Cert.ProjA.nD Cert.ProjA.τ).loc Cert.ProjA.main_arg0) = m ((c.tc : Thread Cert.ProjA.nD Cert.ProjA.τ).loc Cert.ProjA.main_arg0)
      ∧ r.2.mem ((c.tc : Thread Cert.ProjA.nD Cert.ProjA.τ).loc Cert.ProjA.main_arg1) = m ((c.tc : Thread Cert.ProjA.nD Cert.ProjA.τ).loc Cert.ProjA.main_arg1)
      ∧ r.2.mem ((c.tc : Thread Cert.ProjA.nD Cert.ProjA.τ).loc Cert.ProjA.main_arg2) = m ((c.tc : Thread Cert.ProjA.nD Cert.ProjA.τ).loc Cert.ProjA.main_arg2))
      ∧ r.2.sem = fun _ => 0)

def quiescent_ProjAIdeal [hProjAIdeal : Cert.ProjAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg), Pre_ProjAIdeal m →
    θ_run (Cert.ProjAIdeal.defs (F := Ideal)) (onTc (τ := Cert.ProjAIdeal.τ) (Cert.ProjAIdeal.main (F := Ideal))) ⟨m, fun _ => 0, g⟩ (fun r => (∀ c : Dev Cert.ProjAIdeal.nD,
      r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
      ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1)
      ∧ r.2.mem ((c.tc : Thread Cert.ProjAIdeal.nD Cert.ProjAIdeal.τ).loc Cert.ProjAIdeal.main_arg2) = m ((c.tc : Thread Cert.ProjAIdeal.nD Cert.ProjAIdeal.τ).loc Cert.ProjAIdeal.main_arg2))
      ∧ r.2.sem = fun _ => 0)

def quiescent_ProjARefIdeal [hProjARefIdeal : Cert.ProjARefIdeal.Facts] : Prop :=
  ∀ (m : (ℓ : Loc Cert.ProjARefIdeal.nD Cert.ProjARefIdeal.τ Cert.ProjARefIdeal.sig) → Buf (Elt Ideal) ℓ) (g : Dev Cert.ProjARefIdeal.nD → PrngReg), Pre_ProjARefIdeal m →
    θ_run (Cert.ProjARefIdeal.defs (F := Ideal)) (onTc (τ := Cert.ProjARefIdeal.τ) (Cert.ProjARefIdeal.main (F := Ideal))) ⟨m, fun _ => 0, g⟩ (fun r => (∀ c : Dev Cert.ProjARefIdeal.nD,
      r.2.mem ((c.tc : Thread Cert.ProjARefIdeal.nD Cert.ProjARefIdeal.τ).loc Cert.ProjARefIdeal.main_arg0) = m ((c.tc : Thread Cert.ProjARefIdeal.nD Cert.ProjARefIdeal.τ).loc Cert.ProjARefIdeal.main_arg0)
      ∧ r.2.mem ((c.tc : Thread Cert.ProjARefIdeal.nD Cert.ProjARefIdeal.τ).loc Cert.ProjARefIdeal.main_arg1) = m ((c.tc : Thread Cert.ProjARefIdeal.nD Cert.ProjARefIdeal.τ).loc Cert.ProjARefIdeal.main_arg1)
      ∧ r.2.mem ((c.tc : Thread Cert.ProjARefIdeal.nD Cert.ProjARefIdeal.τ).loc Cert.ProjARefIdeal.main_arg2) = m ((c.tc : Thread Cert.ProjARefIdeal.nD Cert.ProjARefIdeal.τ).loc Cert.ProjARefIdeal.main_arg2))
      ∧ r.2.sem = fun _ => 0)

def quiescent_ProjZ [hProjZ : Cert.ProjZ.Facts] : Prop :=
  ∀ (m : (ℓ : Loc Cert.ProjZ.nD Cert.ProjZ.τ Cert.ProjZ.sig) → Buf (Elt Bits) ℓ) (g : Dev Cert.ProjZ.nD → PrngReg), Pre_ProjZ m →
    θ_run (Cert.ProjZ.defs (F := Bits)) (onTc (τ := Cert.ProjZ.τ) (Cert.ProjZ.main (F := Bits))) ⟨m, fun _ => 0, g⟩ (fun r => (∀ c : Dev Cert.ProjZ.nD,
      r.2.mem ((c.tc : Thread Cert.ProjZ.nD Cert.ProjZ.τ).loc Cert.ProjZ.main_arg0) = m ((c.tc : Thread Cert.ProjZ.nD Cert.ProjZ.τ).loc Cert.ProjZ.main_arg0)
      ∧ r.2.mem ((c.tc : Thread Cert.ProjZ.nD Cert.ProjZ.τ).loc Cert.ProjZ.main_arg1) = m ((c.tc : Thread Cert.ProjZ.nD Cert.ProjZ.τ).loc Cert.ProjZ.main_arg1)
      ∧ r.2.mem ((c.tc : Thread Cert.ProjZ.nD Cert.ProjZ.τ).loc Cert.ProjZ.main_arg2) = m ((c.tc : Thread Cert.ProjZ.nD Cert.ProjZ.τ).loc Cert.ProjZ.main_arg2))
      ∧ r.2.sem = fun _ => 0)

def quiescent_ProjZIdeal [hProjZIdeal : Cert.ProjZIdeal.Facts] : Prop :=
  ∀ (m : (ℓ : Loc Cert.ProjZIdeal.nD Cert.ProjZIdeal.τ Cert.ProjZIdeal.sig) → Buf (Elt Ideal) ℓ) (g : Dev Cert.ProjZIdeal.nD → PrngReg), Pre_ProjZIdeal m →
    θ_run (Cert.ProjZIdeal.defs (F := Ideal)) (onTc (τ := Cert.ProjZIdeal.τ) (Cert.ProjZIdeal.main (F := Ideal))) ⟨m, fun _ => 0, g⟩ (fun r => (∀ c : Dev Cert.ProjZIdeal.nD,
      r.2.mem ((c.tc : Thread Cert.ProjZIdeal.nD Cert.ProjZIdeal.τ).loc Cert.ProjZIdeal.main_arg0) = m ((c.tc : Thread Cert.ProjZIdeal.nD Cert.ProjZIdeal.τ).loc Cert.ProjZIdeal.main_arg0)
      ∧ r.2.mem ((c.tc : Thread Cert.ProjZIdeal.nD Cert.ProjZIdeal.τ).loc Cert.ProjZIdeal.main_arg1) = m ((c.tc : Thread Cert.ProjZIdeal.nD Cert.ProjZIdeal.τ).loc Cert.ProjZIdeal.main_arg1)
      ∧ r.2.mem ((c.tc : Thread Cert.ProjZIdeal.nD Cert.ProjZIdeal.τ).loc Cert.ProjZIdeal.main_arg2) = m ((c.tc : Thread Cert.ProjZIdeal.nD Cert.ProjZIdeal.τ).loc Cert.ProjZIdeal.main_arg2))
      ∧ r.2.sem = fun _ => 0)

def quiescent_ProjZRefIdeal [hProjZRefIdeal : Cert.ProjZRefIdeal.Facts] : Prop :=
  ∀ (m : (ℓ : Loc Cert.ProjZRefIdeal.nD Cert.ProjZRefIdeal.τ Cert.ProjZRefIdeal.sig) → Buf (Elt Ideal) ℓ) (g : Dev Cert.ProjZRefIdeal.nD → PrngReg), Pre_ProjZRefIdeal m →
    θ_run (Cert.ProjZRefIdeal.defs (F := Ideal)) (onTc (τ := Cert.ProjZRefIdeal.τ) (Cert.ProjZRefIdeal.main (F := Ideal))) ⟨m, fun _ => 0, g⟩ (fun r => (∀ c : Dev Cert.ProjZRefIdeal.nD,
      r.2.mem ((c.tc : Thread Cert.ProjZRefIdeal.nD Cert.ProjZRefIdeal.τ).loc Cert.ProjZRefIdeal.main_arg0) = m ((c.tc : Thread Cert.ProjZRefIdeal.nD Cert.ProjZRefIdeal.τ).loc Cert.ProjZRefIdeal.main_arg0)
      ∧ r.2.mem ((c.tc : Thread Cert.ProjZRefIdeal.nD Cert.ProjZRefIdeal.τ).loc Cert.ProjZRefIdeal.main_arg1) = m ((c.tc : Thread Cert.ProjZRefIdeal.nD Cert.ProjZRefIdeal.τ).loc Cert.ProjZRefIdeal.main_arg1)
      ∧ r.2.mem ((c.tc : Thread Cert.ProjZRefIdeal.nD Cert.ProjZRefIdeal.τ).loc Cert.ProjZRefIdeal.main_arg2) = m ((c.tc : Thread Cert.ProjZRefIdeal.nD Cert.ProjZRefIdeal.τ).loc Cert.ProjZRefIdeal.main_arg2))
      ∧ r.2.sem = fun _ => 0)

def quiescent_ProjXbc [hProjXbc : Cert.ProjXbc.Facts] : Prop :=
  ∀ (m : (ℓ : Loc Cert.ProjXbc.nD Cert.ProjXbc.τ Cert.ProjXbc.sig) → Buf (Elt Bits) ℓ) (g : Dev Cert.ProjXbc.nD → PrngReg), Pre_ProjXbc m →
    θ_run (Cert.ProjXbc.defs (F := Bits)) (onTc (τ := Cert.ProjXbc.τ) (Cert.ProjXbc.main (F := Bits))) ⟨m, fun _ => 0, g⟩ (fun r => (∀ c : Dev Cert.ProjXbc.nD,
      r.2.mem ((c.tc : Thread Cert.ProjXbc.nD Cert.ProjXbc.τ).loc Cert.ProjXbc.main_arg0) = m ((c.tc : Thread Cert.ProjXbc.nD Cert.ProjXbc.τ).loc Cert.ProjXbc.main_arg0)
      ∧ r.2.mem ((c.tc : Thread Cert.ProjXbc.nD Cert.ProjXbc.τ).loc Cert.ProjXbc.main_arg1) = m ((c.tc : Thread Cert.ProjXbc.nD Cert.ProjXbc.τ).loc Cert.ProjXbc.main_arg1)
      ∧ r.2.mem ((c.tc : Thread Cert.ProjXbc.nD Cert.ProjXbc.τ).loc Cert.ProjXbc.main_arg2) = m ((c.tc : Thread Cert.ProjXbc.nD Cert.ProjXbc.τ).loc Cert.ProjXbc.main_arg2))
      ∧ r.2.sem = fun _ => 0)

def quiescent_ProjXbcIdeal [hProjXbcIdeal : Cert.ProjXbcIdeal.Facts] : Prop :=
  ∀ (m : (ℓ : Loc Cert.ProjXbcIdeal.nD Cert.ProjXbcIdeal.τ Cert.ProjXbcIdeal.sig) → Buf (Elt Ideal) ℓ) (g : Dev Cert.ProjXbcIdeal.nD → PrngReg), Pre_ProjXbcIdeal m →
    θ_run (Cert.ProjXbcIdeal.defs (F := Ideal)) (onTc (τ := Cert.ProjXbcIdeal.τ) (Cert.ProjXbcIdeal.main (F := Ideal))) ⟨m, fun _ => 0, g⟩ (fun r => (∀ c : Dev Cert.ProjXbcIdeal.nD,
      r.2.mem ((c.tc : Thread Cert.ProjXbcIdeal.nD Cert.ProjXbcIdeal.τ).loc Cert.ProjXbcIdeal.main_arg0) = m ((c.tc : Thread Cert.ProjXbcIdeal.nD Cert.ProjXbcIdeal.τ).loc Cert.ProjXbcIdeal.main_arg0)
      ∧ r.2.mem ((c.tc : Thread Cert.ProjXbcIdeal.nD Cert.ProjXbcIdeal.τ).loc Cert.ProjXbcIdeal.main_arg1) = m ((c.tc : Thread Cert.ProjXbcIdeal.nD Cert.ProjXbcIdeal.τ).loc Cert.ProjXbcIdeal.main_arg1)
      ∧ r.2.mem ((c.tc : Thread Cert.ProjXbcIdeal.nD Cert.ProjXbcIdeal.τ).loc Cert.ProjXbcIdeal.main_arg2) = m ((c.tc : Thread Cert.ProjXbcIdeal.nD Cert.ProjXbcIdeal.τ).loc Cert.ProjXbcIdeal.main_arg2))
      ∧ r.2.sem = fun _ => 0)

def quiescent_ProjXbcRefIdeal [hProjXbcRefIdeal : Cert.ProjXbcRefIdeal.Facts] : Prop :=
  ∀ (m : (ℓ : Loc Cert.ProjXbcRefIdeal.nD Cert.ProjXbcRefIdeal.τ Cert.ProjXbcRefIdeal.sig) → Buf (Elt Ideal) ℓ) (g : Dev Cert.ProjXbcRefIdeal.nD → PrngReg), Pre_ProjXbcRefIdeal m →
    θ_run (Cert.ProjXbcRefIdeal.defs (F := Ideal)) (onTc (τ := Cert.ProjXbcRefIdeal.τ) (Cert.ProjXbcRefIdeal.main (F := Ideal))) ⟨m, fun _ => 0, g⟩ (fun r => (∀ c : Dev Cert.ProjXbcRefIdeal.nD,
      r.2.mem ((c.tc : Thread Cert.ProjXbcRefIdeal.nD Cert.ProjXbcRefIdeal.τ).loc Cert.ProjXbcRefIdeal.main_arg0) = m ((c.tc : Thread Cert.ProjXbcRefIdeal.nD Cert.ProjXbcRefIdeal.τ).loc Cert.ProjXbcRefIdeal.main_arg0)
      ∧ r.2.mem ((c.tc : Thread Cert.ProjXbcRefIdeal.nD Cert.ProjXbcRefIdeal.τ).loc Cert.ProjXbcRefIdeal.main_arg1) = m ((c.tc : Thread Cert.ProjXbcRefIdeal.nD Cert.ProjXbcRefIdeal.τ).loc Cert.ProjXbcRefIdeal.main_arg1)
      ∧ r.2.mem ((c.tc : Thread Cert.ProjXbcRefIdeal.nD Cert.ProjXbcRefIdeal.τ).loc Cert.ProjXbcRefIdeal.main_arg2) = m ((c.tc : Thread Cert.ProjXbcRefIdeal.nD Cert.ProjXbcRefIdeal.τ).loc Cert.ProjXbcRefIdeal.main_arg2))
      ∧ r.2.sem = fun _ => 0)

def quiescent_ProjDt [hProjDt : Cert.ProjDt.Facts] : Prop :=
  ∀ (m : (ℓ : Loc Cert.ProjDt.nD Cert.ProjDt.τ Cert.ProjDt.sig) → Buf (Elt Bits) ℓ) (g : Dev Cert.ProjDt.nD → PrngReg), Pre_ProjDt m →
    θ_run (Cert.ProjDt.defs (F := Bits)) (onTc (τ := Cert.ProjDt.τ) (Cert.ProjDt.main (F := Bits))) ⟨m, fun _ => 0, g⟩ (fun r => (∀ c : Dev Cert.ProjDt.nD,
      r.2.mem ((c.tc : Thread Cert.ProjDt.nD Cert.ProjDt.τ).loc Cert.ProjDt.main_arg0) = m ((c.tc : Thread Cert.ProjDt.nD Cert.ProjDt.τ).loc Cert.ProjDt.main_arg0)
      ∧ r.2.mem ((c.tc : Thread Cert.ProjDt.nD Cert.ProjDt.τ).loc Cert.ProjDt.main_arg1) = m ((c.tc : Thread Cert.ProjDt.nD Cert.ProjDt.τ).loc Cert.ProjDt.main_arg1)
      ∧ r.2.mem ((c.tc : Thread Cert.ProjDt.nD Cert.ProjDt.τ).loc Cert.ProjDt.main_arg2) = m ((c.tc : Thread Cert.ProjDt.nD Cert.ProjDt.τ).loc Cert.ProjDt.main_arg2))
      ∧ r.2.sem = fun _ => 0)

def quiescent_ProjDtIdeal [hProjDtIdeal : Cert.ProjDtIdeal.Facts] : Prop :=
  ∀ (m : (ℓ : Loc Cert.ProjDtIdeal.nD Cert.ProjDtIdeal.τ Cert.ProjDtIdeal.sig) → Buf (Elt Ideal) ℓ) (g : Dev Cert.ProjDtIdeal.nD → PrngReg), Pre_ProjDtIdeal m →
    θ_run (Cert.ProjDtIdeal.defs (F := Ideal)) (onTc (τ := Cert.ProjDtIdeal.τ) (Cert.ProjDtIdeal.main (F := Ideal))) ⟨m, fun _ => 0, g⟩ (fun r => (∀ c : Dev Cert.ProjDtIdeal.nD,
      r.2.mem ((c.tc : Thread Cert.ProjDtIdeal.nD Cert.ProjDtIdeal.τ).loc Cert.ProjDtIdeal.main_arg0) = m ((c.tc : Thread Cert.ProjDtIdeal.nD Cert.ProjDtIdeal.τ).loc Cert.ProjDtIdeal.main_arg0)
      ∧ r.2.mem ((c.tc : Thread Cert.ProjDtIdeal.nD Cert.ProjDtIdeal.τ).loc Cert.ProjDtIdeal.main_arg1) = m ((c.tc : Thread Cert.ProjDtIdeal.nD Cert.ProjDtIdeal.τ).loc Cert.ProjDtIdeal.main_arg1)
      ∧ r.2.mem ((c.tc : Thread Cert.ProjDtIdeal.nD Cert.ProjDtIdeal.τ).loc Cert.ProjDtIdeal.main_arg2) = m ((c.tc : Thread Cert.ProjDtIdeal.nD Cert.ProjDtIdeal.τ).loc Cert.ProjDtIdeal.main_arg2))
      ∧ r.2.sem = fun _ => 0)

def quiescent_ProjDtRefIdeal [hProjDtRefIdeal : Cert.ProjDtRefIdeal.Facts] : Prop :=
  ∀ (m : (ℓ : Loc Cert.ProjDtRefIdeal.nD Cert.ProjDtRefIdeal.τ Cert.ProjDtRefIdeal.sig) → Buf (Elt Ideal) ℓ) (g : Dev Cert.ProjDtRefIdeal.nD → PrngReg), Pre_ProjDtRefIdeal m →
    θ_run (Cert.ProjDtRefIdeal.defs (F := Ideal)) (onTc (τ := Cert.ProjDtRefIdeal.τ) (Cert.ProjDtRefIdeal.main (F := Ideal))) ⟨m, fun _ => 0, g⟩ (fun r => (∀ c : Dev Cert.ProjDtRefIdeal.nD,
      r.2.mem ((c.tc : Thread Cert.ProjDtRefIdeal.nD Cert.ProjDtRefIdeal.τ).loc Cert.ProjDtRefIdeal.main_arg0) = m ((c.tc : Thread Cert.ProjDtRefIdeal.nD Cert.ProjDtRefIdeal.τ).loc Cert.ProjDtRefIdeal.main_arg0)
      ∧ r.2.mem ((c.tc : Thread Cert.ProjDtRefIdeal.nD Cert.ProjDtRefIdeal.τ).loc Cert.ProjDtRefIdeal.main_arg1) = m ((c.tc : Thread Cert.ProjDtRefIdeal.nD Cert.ProjDtRefIdeal.τ).loc Cert.ProjDtRefIdeal.main_arg1)
      ∧ r.2.mem ((c.tc : Thread Cert.ProjDtRefIdeal.nD Cert.ProjDtRefIdeal.τ).loc Cert.ProjDtRefIdeal.main_arg2) = m ((c.tc : Thread Cert.ProjDtRefIdeal.nD Cert.ProjDtRefIdeal.τ).loc Cert.ProjDtRefIdeal.main_arg2))
      ∧ r.2.sem = fun _ => 0)

def quiescent_ProjQkv [hProjQkv : Cert.ProjQkv.Facts] : Prop :=
  ∀ (m : (ℓ : Loc Cert.ProjQkv.nD Cert.ProjQkv.τ Cert.ProjQkv.sig) → Buf (Elt Bits) ℓ) (g : Dev Cert.ProjQkv.nD → PrngReg), Pre_ProjQkv m →
    θ_run (Cert.ProjQkv.defs (F := Bits)) (onTc (τ := Cert.ProjQkv.τ) (Cert.ProjQkv.main (F := Bits))) ⟨m, fun _ => 0, g⟩ (fun r => (∀ c : Dev Cert.ProjQkv.nD,
      r.2.mem ((c.tc : Thread Cert.ProjQkv.nD Cert.ProjQkv.τ).loc Cert.ProjQkv.main_arg0) = m ((c.tc : Thread Cert.ProjQkv.nD Cert.ProjQkv.τ).loc Cert.ProjQkv.main_arg0)
      ∧ r.2.mem ((c.tc : Thread Cert.ProjQkv.nD Cert.ProjQkv.τ).loc Cert.ProjQkv.main_arg1) = m ((c.tc : Thread Cert.ProjQkv.nD Cert.ProjQkv.τ).loc Cert.ProjQkv.main_arg1)
      ∧ r.2.mem ((c.tc : Thread Cert.ProjQkv.nD Cert.ProjQkv.τ).loc Cert.ProjQkv.main_arg2) = m ((c.tc : Thread Cert.ProjQkv.nD Cert.ProjQkv.τ).loc Cert.ProjQkv.main_arg2))
      ∧ r.2.sem = fun _ => 0)

def quiescent_ProjQkvIdeal [hProjQkvIdeal : Cert.ProjQkvIdeal.Facts] : Prop :=
  ∀ (m : (ℓ : Loc Cert.ProjQkvIdeal.nD Cert.ProjQkvIdeal.τ Cert.ProjQkvIdeal.sig) → Buf (Elt Ideal) ℓ) (g : Dev Cert.ProjQkvIdeal.nD → PrngReg), Pre_ProjQkvIdeal m →
    θ_run (Cert.ProjQkvIdeal.defs (F := Ideal)) (onTc (τ := Cert.ProjQkvIdeal.τ) (Cert.ProjQkvIdeal.main (F := Ideal))) ⟨m, fun _ => 0, g⟩ (fun r => (∀ c : Dev Cert.ProjQkvIdeal.nD,
      r.2.mem ((c.tc : Thread Cert.ProjQkvIdeal.nD Cert.ProjQkvIdeal.τ).loc Cert.ProjQkvIdeal.main_arg0) = m ((c.tc : Thread Cert.ProjQkvIdeal.nD Cert.ProjQkvIdeal.τ).loc Cert.ProjQkvIdeal.main_arg0)
      ∧ r.2.mem ((c.tc : Thread Cert.ProjQkvIdeal.nD Cert.ProjQkvIdeal.τ).loc Cert.ProjQkvIdeal.main_arg1) = m ((c.tc : Thread Cert.ProjQkvIdeal.nD Cert.ProjQkvIdeal.τ).loc Cert.ProjQkvIdeal.main_arg1)
      ∧ r.2.mem ((c.tc : Thread Cert.ProjQkvIdeal.nD Cert.ProjQkvIdeal.τ).loc Cert.ProjQkvIdeal.main_arg2) = m ((c.tc : Thread Cert.ProjQkvIdeal.nD Cert.ProjQkvIdeal.τ).loc Cert.ProjQkvIdeal.main_arg2))
      ∧ r.2.sem = fun _ => 0)

def quiescent_ProjQkvRefIdeal [hProjQkvRefIdeal : Cert.ProjQkvRefIdeal.Facts] : Prop :=
  ∀ (m : (ℓ : Loc Cert.ProjQkvRefIdeal.nD Cert.ProjQkvRefIdeal.τ Cert.ProjQkvRefIdeal.sig) → Buf (Elt Ideal) ℓ) (g : Dev Cert.ProjQkvRefIdeal.nD → PrngReg), Pre_ProjQkvRefIdeal m →
    θ_run (Cert.ProjQkvRefIdeal.defs (F := Ideal)) (onTc (τ := Cert.ProjQkvRefIdeal.τ) (Cert.ProjQkvRefIdeal.main (F := Ideal))) ⟨m, fun _ => 0, g⟩ (fun r => (∀ c : Dev Cert.ProjQkvRefIdeal.nD,
      r.2.mem ((c.tc : Thread Cert.ProjQkvRefIdeal.nD Cert.ProjQkvRefIdeal.τ).loc Cert.ProjQkvRefIdeal.main_arg0) = m ((c.tc : Thread Cert.ProjQkvRefIdeal.nD Cert.ProjQkvRefIdeal.τ).loc Cert.ProjQkvRefIdeal.main_arg0)
      ∧ r.2.mem ((c.tc : Thread Cert.ProjQkvRefIdeal.nD Cert.ProjQkvRefIdeal.τ).loc Cert.ProjQkvRefIdeal.main_arg1) = m ((c.tc : Thread Cert.ProjQkvRefIdeal.nD Cert.ProjQkvRefIdeal.τ).loc Cert.ProjQkvRefIdeal.main_arg1)
      ∧ r.2.mem ((c.tc : Thread Cert.ProjQkvRefIdeal.nD Cert.ProjQkvRefIdeal.τ).loc Cert.ProjQkvRefIdeal.main_arg2) = m ((c.tc : Thread Cert.ProjQkvRefIdeal.nD Cert.ProjQkvRefIdeal.τ).loc Cert.ProjQkvRefIdeal.main_arg2))
      ∧ r.2.sem = fun _ => 0)

def quiescent_ProjGates [hProjGates : Cert.ProjGates.Facts] : Prop :=
  ∀ (m : (ℓ : Loc Cert.ProjGates.nD Cert.ProjGates.τ Cert.ProjGates.sig) → Buf (Elt Bits) ℓ) (g : Dev Cert.ProjGates.nD → PrngReg), Pre_ProjGates m →
    θ_run (Cert.ProjGates.defs (F := Bits)) (onTc (τ := Cert.ProjGates.τ) (Cert.ProjGates.main (F := Bits))) ⟨m, fun _ => 0, g⟩ (fun r => (∀ c : Dev Cert.ProjGates.nD,
      r.2.mem ((c.tc : Thread Cert.ProjGates.nD Cert.ProjGates.τ).loc Cert.ProjGates.main_arg0) = m ((c.tc : Thread Cert.ProjGates.nD Cert.ProjGates.τ).loc Cert.ProjGates.main_arg0)
      ∧ r.2.mem ((c.tc : Thread Cert.ProjGates.nD Cert.ProjGates.τ).loc Cert.ProjGates.main_arg1) = m ((c.tc : Thread Cert.ProjGates.nD Cert.ProjGates.τ).loc Cert.ProjGates.main_arg1)
      ∧ r.2.mem ((c.tc : Thread Cert.ProjGates.nD Cert.ProjGates.τ).loc Cert.ProjGates.main_arg2) = m ((c.tc : Thread Cert.ProjGates.nD Cert.ProjGates.τ).loc Cert.ProjGates.main_arg2))
      ∧ r.2.sem = fun _ => 0)

def quiescent_ProjGatesIdeal [hProjGatesIdeal : Cert.ProjGatesIdeal.Facts] : Prop :=
  ∀ (m : (ℓ : Loc Cert.ProjGatesIdeal.nD Cert.ProjGatesIdeal.τ Cert.ProjGatesIdeal.sig) → Buf (Elt Ideal) ℓ) (g : Dev Cert.ProjGatesIdeal.nD → PrngReg), Pre_ProjGatesIdeal m →
    θ_run (Cert.ProjGatesIdeal.defs (F := Ideal)) (onTc (τ := Cert.ProjGatesIdeal.τ) (Cert.ProjGatesIdeal.main (F := Ideal))) ⟨m, fun _ => 0, g⟩ (fun r => (∀ c : Dev Cert.ProjGatesIdeal.nD,
      r.2.mem ((c.tc : Thread Cert.ProjGatesIdeal.nD Cert.ProjGatesIdeal.τ).loc Cert.ProjGatesIdeal.main_arg0) = m ((c.tc : Thread Cert.ProjGatesIdeal.nD Cert.ProjGatesIdeal.τ).loc Cert.ProjGatesIdeal.main_arg0)
      ∧ r.2.mem ((c.tc : Thread Cert.ProjGatesIdeal.nD Cert.ProjGatesIdeal.τ).loc Cert.ProjGatesIdeal.main_arg1) = m ((c.tc : Thread Cert.ProjGatesIdeal.nD Cert.ProjGatesIdeal.τ).loc Cert.ProjGatesIdeal.main_arg1)
      ∧ r.2.mem ((c.tc : Thread Cert.ProjGatesIdeal.nD Cert.ProjGatesIdeal.τ).loc Cert.ProjGatesIdeal.main_arg2) = m ((c.tc : Thread Cert.ProjGatesIdeal.nD Cert.ProjGatesIdeal.τ).loc Cert.ProjGatesIdeal.main_arg2))
      ∧ r.2.sem = fun _ => 0)

def quiescent_ProjGatesRefIdeal [hProjGatesRefIdeal : Cert.ProjGatesRefIdeal.Facts] : Prop :=
  ∀ (m : (ℓ : Loc Cert.ProjGatesRefIdeal.nD Cert.ProjGatesRefIdeal.τ Cert.ProjGatesRefIdeal.sig) → Buf (Elt Ideal) ℓ) (g : Dev Cert.ProjGatesRefIdeal.nD → PrngReg), Pre_ProjGatesRefIdeal m →
    θ_run (Cert.ProjGatesRefIdeal.defs (F := Ideal)) (onTc (τ := Cert.ProjGatesRefIdeal.τ) (Cert.ProjGatesRefIdeal.main (F := Ideal))) ⟨m, fun _ => 0, g⟩ (fun r => (∀ c : Dev Cert.ProjGatesRefIdeal.nD,
      r.2.mem ((c.tc : Thread Cert.ProjGatesRefIdeal.nD Cert.ProjGatesRefIdeal.τ).loc Cert.ProjGatesRefIdeal.main_arg0) = m ((c.tc : Thread Cert.ProjGatesRefIdeal.nD Cert.ProjGatesRefIdeal.τ).loc Cert.ProjGatesRefIdeal.main_arg0)
      ∧ r.2.mem ((c.tc : Thread Cert.ProjGatesRefIdeal.nD Cert.ProjGatesRefIdeal.τ).loc Cert.ProjGatesRefIdeal.main_arg1) = m ((c.tc : Thread Cert.ProjGatesRefIdeal.nD Cert.ProjGatesRefIdeal.τ).loc Cert.ProjGatesRefIdeal.main_arg1)
      ∧ r.2.mem ((c.tc : Thread Cert.ProjGatesRefIdeal.nD Cert.ProjGatesRefIdeal.τ).loc Cert.ProjGatesRefIdeal.main_arg2) = m ((c.tc : Thread Cert.ProjGatesRefIdeal.nD Cert.ProjGatesRefIdeal.τ).loc Cert.ProjGatesRefIdeal.main_arg2))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ r.2.sem = fun _ => 0)

def quiescent_MergeIdeal_pre_groups_finite [hMergeIdeal : Cert.MergeIdeal.Facts] [hPre_groups_finite : Cert.Pre_groups_finite.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_groups_finite m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13))
      ∧ r.2.sem = fun _ => 0)

def quiescent_MergeRefIdeal_pre_groups_finite [hMergeRefIdeal : Cert.MergeRefIdeal.Facts] [hPre_groups_finite : Cert.Pre_groups_finite.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_groups_finite m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13))
      ∧ r.2.sem = fun _ => 0)

def quiescent_Dil [hDil : Cert.Dil.Facts] : Prop :=
  ∀ (m : (ℓ : Loc Cert.Dil.nD Cert.Dil.τ Cert.Dil.sig) → Buf (Elt Bits) ℓ) (g : Dev Cert.Dil.nD → PrngReg), Pre_Dil m →
    θ_run (Cert.Dil.defs (F := Bits)) (onTc (τ := Cert.Dil.τ) (Cert.Dil.main (F := Bits))) ⟨m, fun _ => 0, g⟩ (fun r => (∀ c : Dev Cert.Dil.nD,
      r.2.mem ((c.tc : Thread Cert.Dil.nD Cert.Dil.τ).loc Cert.Dil.main_arg0) = m ((c.tc : Thread Cert.Dil.nD Cert.Dil.τ).loc Cert.Dil.main_arg0)
      ∧ r.2.mem ((c.tc : Thread Cert.Dil.nD Cert.Dil.τ).loc Cert.Dil.main_arg1) = m ((c.tc : Thread Cert.Dil.nD Cert.Dil.τ).loc Cert.Dil.main_arg1))
      ∧ r.2.sem = fun _ => 0)

def quiescent_DilIdeal [hDilIdeal : Cert.DilIdeal.Facts] : Prop :=
  ∀ (m : (ℓ : Loc Cert.DilIdeal.nD Cert.DilIdeal.τ Cert.DilIdeal.sig) → Buf (Elt Ideal) ℓ) (g : Dev Cert.DilIdeal.nD → PrngReg), Pre_DilIdeal m →
    θ_run (Cert.DilIdeal.defs (F := Ideal)) (onTc (τ := Cert.DilIdeal.τ) (Cert.DilIdeal.main (F := Ideal))) ⟨m, fun _ => 0, g⟩ (fun r => (∀ c : Dev Cert.DilIdeal.nD,
      r.2.mem ((c.tc : Thread Cert.DilIdeal.nD Cert.DilIdeal.τ).loc Cert.DilIdeal.main_arg0) = m ((c.tc : Thread Cert.DilIdeal.nD Cert.DilIdeal.τ).loc Cert.DilIdeal.main_arg0)
      ∧ r.2.mem ((c.tc : Thread Cert.DilIdeal.nD Cert.DilIdeal.τ).loc Cert.DilIdeal.main_arg1) = m ((c.tc : Thread Cert.DilIdeal.nD Cert.DilIdeal.τ).loc Cert.DilIdeal.main_arg1))
      ∧ r.2.sem = fun _ => 0)

def quiescent_DilIdeal_pre_scores_finite [hDilIdeal : Cert.DilIdeal.Facts] [hPre_scores_finite : Cert.Pre_scores_finite.Facts] : Prop :=
  ∀ (m : (ℓ : Loc Cert.DilIdeal.nD Cert.DilIdeal.τ Cert.DilIdeal.sig) → Buf (Elt Ideal) ℓ) (g : Dev Cert.DilIdeal.nD → PrngReg), Pre_DilIdeal_scores_finite m →
    θ_run (Cert.DilIdeal.defs (F := Ideal)) (onTc (τ := Cert.DilIdeal.τ) (Cert.DilIdeal.main (F := Ideal))) ⟨m, fun _ => 0, g⟩ (fun r => (∀ c : Dev Cert.DilIdeal.nD,
      r.2.mem ((c.tc : Thread Cert.DilIdeal.nD Cert.DilIdeal.τ).loc Cert.DilIdeal.main_arg0) = m ((c.tc : Thread Cert.DilIdeal.nD Cert.DilIdeal.τ).loc Cert.DilIdeal.main_arg0)
      ∧ r.2.mem ((c.tc : Thread Cert.DilIdeal.nD Cert.DilIdeal.τ).loc Cert.DilIdeal.main_arg1) = m ((c.tc : Thread Cert.DilIdeal.nD Cert.DilIdeal.τ).loc Cert.DilIdeal.main_arg1))
      ∧ r.2.sem = fun _ => 0)

def quiescent_DilRefIdeal [hDilRefIdeal : Cert.DilRefIdeal.Facts] : Prop :=
  ∀ (m : (ℓ : Loc Cert.DilRefIdeal.nD Cert.DilRefIdeal.τ Cert.DilRefIdeal.sig) → Buf (Elt Ideal) ℓ) (g : Dev Cert.DilRefIdeal.nD → PrngReg), Pre_DilRefIdeal m →
    θ_run (Cert.DilRefIdeal.defs (F := Ideal)) (onTc (τ := Cert.DilRefIdeal.τ) (Cert.DilRefIdeal.main (F := Ideal))) ⟨m, fun _ => 0, g⟩ (fun r => (∀ c : Dev Cert.DilRefIdeal.nD,
      r.2.mem ((c.tc : Thread Cert.DilRefIdeal.nD Cert.DilRefIdeal.τ).loc Cert.DilRefIdeal.main_arg0) = m ((c.tc : Thread Cert.DilRefIdeal.nD Cert.DilRefIdeal.τ).loc Cert.DilRefIdeal.main_arg0)
      ∧ r.2.mem ((c.tc : Thread Cert.DilRefIdeal.nD Cert.DilRefIdeal.τ).loc Cert.DilRefIdeal.main_arg1) = m ((c.tc : Thread Cert.DilRefIdeal.nD Cert.DilRefIdeal.τ).loc Cert.DilRefIdeal.main_arg1))
      ∧ r.2.sem = fun _ => 0)

def quiescent_DilRefIdeal_pre_scores_finite [hDilRefIdeal : Cert.DilRefIdeal.Facts] [hPre_scores_finite : Cert.Pre_scores_finite.Facts] : Prop :=
  ∀ (m : (ℓ : Loc Cert.DilRefIdeal.nD Cert.DilRefIdeal.τ Cert.DilRefIdeal.sig) → Buf (Elt Ideal) ℓ) (g : Dev Cert.DilRefIdeal.nD → PrngReg), Pre_DilRefIdeal_scores_finite m →
    θ_run (Cert.DilRefIdeal.defs (F := Ideal)) (onTc (τ := Cert.DilRefIdeal.τ) (Cert.DilRefIdeal.main (F := Ideal))) ⟨m, fun _ => 0, g⟩ (fun r => (∀ c : Dev Cert.DilRefIdeal.nD,
      r.2.mem ((c.tc : Thread Cert.DilRefIdeal.nD Cert.DilRefIdeal.τ).loc Cert.DilRefIdeal.main_arg0) = m ((c.tc : Thread Cert.DilRefIdeal.nD Cert.DilRefIdeal.τ).loc Cert.DilRefIdeal.main_arg0)
      ∧ r.2.mem ((c.tc : Thread Cert.DilRefIdeal.nD Cert.DilRefIdeal.τ).loc Cert.DilRefIdeal.main_arg1) = m ((c.tc : Thread Cert.DilRefIdeal.nD Cert.DilRefIdeal.τ).loc Cert.DilRefIdeal.main_arg1))
      ∧ r.2.sem = fun _ => 0)

def quiescent_DilFour [hDilFour : Cert.DilFour.Facts] : Prop :=
  ∀ (m : (ℓ : Loc Cert.DilFour.nD Cert.DilFour.τ Cert.DilFour.sig) → Buf (Elt Bits) ℓ) (g : Dev Cert.DilFour.nD → PrngReg), Pre_DilFour m →
    θ_run (Cert.DilFour.defs (F := Bits)) (onTc (τ := Cert.DilFour.τ) (Cert.DilFour.main (F := Bits))) ⟨m, fun _ => 0, g⟩ (fun r => (∀ c : Dev Cert.DilFour.nD,
      r.2.mem ((c.tc : Thread Cert.DilFour.nD Cert.DilFour.τ).loc Cert.DilFour.main_arg0) = m ((c.tc : Thread Cert.DilFour.nD Cert.DilFour.τ).loc Cert.DilFour.main_arg0)
      ∧ r.2.mem ((c.tc : Thread Cert.DilFour.nD Cert.DilFour.τ).loc Cert.DilFour.main_arg1) = m ((c.tc : Thread Cert.DilFour.nD Cert.DilFour.τ).loc Cert.DilFour.main_arg1))
      ∧ r.2.sem = fun _ => 0)

def quiescent_DilFourIdeal [hDilFourIdeal : Cert.DilFourIdeal.Facts] : Prop :=
  ∀ (m : (ℓ : Loc Cert.DilFourIdeal.nD Cert.DilFourIdeal.τ Cert.DilFourIdeal.sig) → Buf (Elt Ideal) ℓ) (g : Dev Cert.DilFourIdeal.nD → PrngReg), Pre_DilFourIdeal m →
    θ_run (Cert.DilFourIdeal.defs (F := Ideal)) (onTc (τ := Cert.DilFourIdeal.τ) (Cert.DilFourIdeal.main (F := Ideal))) ⟨m, fun _ => 0, g⟩ (fun r => (∀ c : Dev Cert.DilFourIdeal.nD,
      r.2.mem ((c.tc : Thread Cert.DilFourIdeal.nD Cert.DilFourIdeal.τ).loc Cert.DilFourIdeal.main_arg0) = m ((c.tc : Thread Cert.DilFourIdeal.nD Cert.DilFourIdeal.τ).loc Cert.DilFourIdeal.main_arg0)
      ∧ r.2.mem ((c.tc : Thread Cert.DilFourIdeal.nD Cert.DilFourIdeal.τ).loc Cert.DilFourIdeal.main_arg1) = m ((c.tc : Thread Cert.DilFourIdeal.nD Cert.DilFourIdeal.τ).loc Cert.DilFourIdeal.main_arg1))
      ∧ r.2.sem = fun _ => 0)

def quiescent_DilFourIdeal_pre_four_finite [hDilFourIdeal : Cert.DilFourIdeal.Facts] [hPre_four_finite : Cert.Pre_four_finite.Facts] : Prop :=
  ∀ (m : (ℓ : Loc Cert.DilFourIdeal.nD Cert.DilFourIdeal.τ Cert.DilFourIdeal.sig) → Buf (Elt Ideal) ℓ) (g : Dev Cert.DilFourIdeal.nD → PrngReg), Pre_DilFourIdeal_four_finite m →
    θ_run (Cert.DilFourIdeal.defs (F := Ideal)) (onTc (τ := Cert.DilFourIdeal.τ) (Cert.DilFourIdeal.main (F := Ideal))) ⟨m, fun _ => 0, g⟩ (fun r => (∀ c : Dev Cert.DilFourIdeal.nD,
      r.2.mem ((c.tc : Thread Cert.DilFourIdeal.nD Cert.DilFourIdeal.τ).loc Cert.DilFourIdeal.main_arg0) = m ((c.tc : Thread Cert.DilFourIdeal.nD Cert.DilFourIdeal.τ).loc Cert.DilFourIdeal.main_arg0)
      ∧ r.2.mem ((c.tc : Thread Cert.DilFourIdeal.nD Cert.DilFourIdeal.τ).loc Cert.DilFourIdeal.main_arg1) = m ((c.tc : Thread Cert.DilFourIdeal.nD Cert.DilFourIdeal.τ).loc Cert.DilFourIdeal.main_arg1))
      ∧ r.2.sem = fun _ => 0)

def quiescent_DilFourRefIdeal [hDilFourRefIdeal : Cert.DilFourRefIdeal.Facts] : Prop :=
  ∀ (m : (ℓ : Loc Cert.DilFourRefIdeal.nD Cert.DilFourRefIdeal.τ Cert.DilFourRefIdeal.sig) → Buf (Elt Ideal) ℓ) (g : Dev Cert.DilFourRefIdeal.nD → PrngReg), Pre_DilFourRefIdeal m →
    θ_run (Cert.DilFourRefIdeal.defs (F := Ideal)) (onTc (τ := Cert.DilFourRefIdeal.τ) (Cert.DilFourRefIdeal.main (F := Ideal))) ⟨m, fun _ => 0, g⟩ (fun r => (∀ c : Dev Cert.DilFourRefIdeal.nD,
      r.2.mem ((c.tc : Thread Cert.DilFourRefIdeal.nD Cert.DilFourRefIdeal.τ).loc Cert.DilFourRefIdeal.main_arg0) = m ((c.tc : Thread Cert.DilFourRefIdeal.nD Cert.DilFourRefIdeal.τ).loc Cert.DilFourRefIdeal.main_arg0)
      ∧ r.2.mem ((c.tc : Thread Cert.DilFourRefIdeal.nD Cert.DilFourRefIdeal.τ).loc Cert.DilFourRefIdeal.main_arg1) = m ((c.tc : Thread Cert.DilFourRefIdeal.nD Cert.DilFourRefIdeal.τ).loc Cert.DilFourRefIdeal.main_arg1))
      ∧ r.2.sem = fun _ => 0)

def quiescent_DilFourRefIdeal_pre_four_finite [hDilFourRefIdeal : Cert.DilFourRefIdeal.Facts] [hPre_four_finite : Cert.Pre_four_finite.Facts] : Prop :=
  ∀ (m : (ℓ : Loc Cert.DilFourRefIdeal.nD Cert.DilFourRefIdeal.τ Cert.DilFourRefIdeal.sig) → Buf (Elt Ideal) ℓ) (g : Dev Cert.DilFourRefIdeal.nD → PrngReg), Pre_DilFourRefIdeal_four_finite m →
    θ_run (Cert.DilFourRefIdeal.defs (F := Ideal)) (onTc (τ := Cert.DilFourRefIdeal.τ) (Cert.DilFourRefIdeal.main (F := Ideal))) ⟨m, fun _ => 0, g⟩ (fun r => (∀ c : Dev Cert.DilFourRefIdeal.nD,
      r.2.mem ((c.tc : Thread Cert.DilFourRefIdeal.nD Cert.DilFourRefIdeal.τ).loc Cert.DilFourRefIdeal.main_arg0) = m ((c.tc : Thread Cert.DilFourRefIdeal.nD Cert.DilFourRefIdeal.τ).loc Cert.DilFourRefIdeal.main_arg0)
      ∧ r.2.mem ((c.tc : Thread Cert.DilFourRefIdeal.nD Cert.DilFourRefIdeal.τ).loc Cert.DilFourRefIdeal.main_arg1) = m ((c.tc : Thread Cert.DilFourRefIdeal.nD Cert.DilFourRefIdeal.τ).loc Cert.DilFourRefIdeal.main_arg1))
      ∧ r.2.sem = fun _ => 0)

def quiescent_DilSixteen [hDilSixteen : Cert.DilSixteen.Facts] : Prop :=
  ∀ (m : (ℓ : Loc Cert.DilSixteen.nD Cert.DilSixteen.τ Cert.DilSixteen.sig) → Buf (Elt Bits) ℓ) (g : Dev Cert.DilSixteen.nD → PrngReg), Pre_DilSixteen m →
    θ_run (Cert.DilSixteen.defs (F := Bits)) (onTc (τ := Cert.DilSixteen.τ) (Cert.DilSixteen.main (F := Bits))) ⟨m, fun _ => 0, g⟩ (fun r => (∀ c : Dev Cert.DilSixteen.nD,
      r.2.mem ((c.tc : Thread Cert.DilSixteen.nD Cert.DilSixteen.τ).loc Cert.DilSixteen.main_arg0) = m ((c.tc : Thread Cert.DilSixteen.nD Cert.DilSixteen.τ).loc Cert.DilSixteen.main_arg0)
      ∧ r.2.mem ((c.tc : Thread Cert.DilSixteen.nD Cert.DilSixteen.τ).loc Cert.DilSixteen.main_arg1) = m ((c.tc : Thread Cert.DilSixteen.nD Cert.DilSixteen.τ).loc Cert.DilSixteen.main_arg1))
      ∧ r.2.sem = fun _ => 0)

def quiescent_DilSixteenIdeal [hDilSixteenIdeal : Cert.DilSixteenIdeal.Facts] : Prop :=
  ∀ (m : (ℓ : Loc Cert.DilSixteenIdeal.nD Cert.DilSixteenIdeal.τ Cert.DilSixteenIdeal.sig) → Buf (Elt Ideal) ℓ) (g : Dev Cert.DilSixteenIdeal.nD → PrngReg), Pre_DilSixteenIdeal m →
    θ_run (Cert.DilSixteenIdeal.defs (F := Ideal)) (onTc (τ := Cert.DilSixteenIdeal.τ) (Cert.DilSixteenIdeal.main (F := Ideal))) ⟨m, fun _ => 0, g⟩ (fun r => (∀ c : Dev Cert.DilSixteenIdeal.nD,
      r.2.mem ((c.tc : Thread Cert.DilSixteenIdeal.nD Cert.DilSixteenIdeal.τ).loc Cert.DilSixteenIdeal.main_arg0) = m ((c.tc : Thread Cert.DilSixteenIdeal.nD Cert.DilSixteenIdeal.τ).loc Cert.DilSixteenIdeal.main_arg0)
      ∧ r.2.mem ((c.tc : Thread Cert.DilSixteenIdeal.nD Cert.DilSixteenIdeal.τ).loc Cert.DilSixteenIdeal.main_arg1) = m ((c.tc : Thread Cert.DilSixteenIdeal.nD Cert.DilSixteenIdeal.τ).loc Cert.DilSixteenIdeal.main_arg1))
      ∧ r.2.sem = fun _ => 0)

def quiescent_DilSixteenIdeal_pre_sixteen_finite [hDilSixteenIdeal : Cert.DilSixteenIdeal.Facts] [hPre_sixteen_finite : Cert.Pre_sixteen_finite.Facts] : Prop :=
  ∀ (m : (ℓ : Loc Cert.DilSixteenIdeal.nD Cert.DilSixteenIdeal.τ Cert.DilSixteenIdeal.sig) → Buf (Elt Ideal) ℓ) (g : Dev Cert.DilSixteenIdeal.nD → PrngReg), Pre_DilSixteenIdeal_sixteen_finite m →
    θ_run (Cert.DilSixteenIdeal.defs (F := Ideal)) (onTc (τ := Cert.DilSixteenIdeal.τ) (Cert.DilSixteenIdeal.main (F := Ideal))) ⟨m, fun _ => 0, g⟩ (fun r => (∀ c : Dev Cert.DilSixteenIdeal.nD,
      r.2.mem ((c.tc : Thread Cert.DilSixteenIdeal.nD Cert.DilSixteenIdeal.τ).loc Cert.DilSixteenIdeal.main_arg0) = m ((c.tc : Thread Cert.DilSixteenIdeal.nD Cert.DilSixteenIdeal.τ).loc Cert.DilSixteenIdeal.main_arg0)
      ∧ r.2.mem ((c.tc : Thread Cert.DilSixteenIdeal.nD Cert.DilSixteenIdeal.τ).loc Cert.DilSixteenIdeal.main_arg1) = m ((c.tc : Thread Cert.DilSixteenIdeal.nD Cert.DilSixteenIdeal.τ).loc Cert.DilSixteenIdeal.main_arg1))
      ∧ r.2.sem = fun _ => 0)

def quiescent_DilSixteenRefIdeal [hDilSixteenRefIdeal : Cert.DilSixteenRefIdeal.Facts] : Prop :=
  ∀ (m : (ℓ : Loc Cert.DilSixteenRefIdeal.nD Cert.DilSixteenRefIdeal.τ Cert.DilSixteenRefIdeal.sig) → Buf (Elt Ideal) ℓ) (g : Dev Cert.DilSixteenRefIdeal.nD → PrngReg), Pre_DilSixteenRefIdeal m →
    θ_run (Cert.DilSixteenRefIdeal.defs (F := Ideal)) (onTc (τ := Cert.DilSixteenRefIdeal.τ) (Cert.DilSixteenRefIdeal.main (F := Ideal))) ⟨m, fun _ => 0, g⟩ (fun r => (∀ c : Dev Cert.DilSixteenRefIdeal.nD,
      r.2.mem ((c.tc : Thread Cert.DilSixteenRefIdeal.nD Cert.DilSixteenRefIdeal.τ).loc Cert.DilSixteenRefIdeal.main_arg0) = m ((c.tc : Thread Cert.DilSixteenRefIdeal.nD Cert.DilSixteenRefIdeal.τ).loc Cert.DilSixteenRefIdeal.main_arg0)
      ∧ r.2.mem ((c.tc : Thread Cert.DilSixteenRefIdeal.nD Cert.DilSixteenRefIdeal.τ).loc Cert.DilSixteenRefIdeal.main_arg1) = m ((c.tc : Thread Cert.DilSixteenRefIdeal.nD Cert.DilSixteenRefIdeal.τ).loc Cert.DilSixteenRefIdeal.main_arg1))
      ∧ r.2.sem = fun _ => 0)

def quiescent_DilSixteenRefIdeal_pre_sixteen_finite [hDilSixteenRefIdeal : Cert.DilSixteenRefIdeal.Facts] [hPre_sixteen_finite : Cert.Pre_sixteen_finite.Facts] : Prop :=
  ∀ (m : (ℓ : Loc Cert.DilSixteenRefIdeal.nD Cert.DilSixteenRefIdeal.τ Cert.DilSixteenRefIdeal.sig) → Buf (Elt Ideal) ℓ) (g : Dev Cert.DilSixteenRefIdeal.nD → PrngReg), Pre_DilSixteenRefIdeal_sixteen_finite m →
    θ_run (Cert.DilSixteenRefIdeal.defs (F := Ideal)) (onTc (τ := Cert.DilSixteenRefIdeal.τ) (Cert.DilSixteenRefIdeal.main (F := Ideal))) ⟨m, fun _ => 0, g⟩ (fun r => (∀ c : Dev Cert.DilSixteenRefIdeal.nD,
      r.2.mem ((c.tc : Thread Cert.DilSixteenRefIdeal.nD Cert.DilSixteenRefIdeal.τ).loc Cert.DilSixteenRefIdeal.main_arg0) = m ((c.tc : Thread Cert.DilSixteenRefIdeal.nD Cert.DilSixteenRefIdeal.τ).loc Cert.DilSixteenRefIdeal.main_arg0)
      ∧ r.2.mem ((c.tc : Thread Cert.DilSixteenRefIdeal.nD Cert.DilSixteenRefIdeal.τ).loc Cert.DilSixteenRefIdeal.main_arg1) = m ((c.tc : Thread Cert.DilSixteenRefIdeal.nD Cert.DilSixteenRefIdeal.τ).loc Cert.DilSixteenRefIdeal.main_arg1))
      ∧ r.2.sem = fun _ => 0)

def quiescent_Strips [hStrips : Cert.Strips.Facts] : Prop :=
  ∀ (m : (ℓ : Loc Cert.Strips.nD Cert.Strips.τ Cert.Strips.sig) → Buf (Elt Bits) ℓ) (g : Dev Cert.Strips.nD → PrngReg), Pre_Strips m →
    θ_run (Cert.Strips.defs (F := Bits)) (onTc (τ := Cert.Strips.τ) (Cert.Strips.main (F := Bits))) ⟨m, fun _ => 0, g⟩ (fun r => (∀ c : Dev Cert.Strips.nD,
      r.2.mem ((c.tc : Thread Cert.Strips.nD Cert.Strips.τ).loc Cert.Strips.main_arg0) = m ((c.tc : Thread Cert.Strips.nD Cert.Strips.τ).loc Cert.Strips.main_arg0))
      ∧ r.2.sem = fun _ => 0)

def quiescent_StripsIdeal [hStripsIdeal : Cert.StripsIdeal.Facts] : Prop :=
  ∀ (m : (ℓ : Loc Cert.StripsIdeal.nD Cert.StripsIdeal.τ Cert.StripsIdeal.sig) → Buf (Elt Ideal) ℓ) (g : Dev Cert.StripsIdeal.nD → PrngReg), Pre_StripsIdeal m →
    θ_run (Cert.StripsIdeal.defs (F := Ideal)) (onTc (τ := Cert.StripsIdeal.τ) (Cert.StripsIdeal.main (F := Ideal))) ⟨m, fun _ => 0, g⟩ (fun r => (∀ c : Dev Cert.StripsIdeal.nD,
      r.2.mem ((c.tc : Thread Cert.StripsIdeal.nD Cert.StripsIdeal.τ).loc Cert.StripsIdeal.main_arg0) = m ((c.tc : Thread Cert.StripsIdeal.nD Cert.StripsIdeal.τ).loc Cert.StripsIdeal.main_arg0))
      ∧ r.2.sem = fun _ => 0)

def quiescent_StripsIdeal_pre_far_finite [hStripsIdeal : Cert.StripsIdeal.Facts] [hPre_far_finite : Cert.Pre_far_finite.Facts] : Prop :=
  ∀ (m : (ℓ : Loc Cert.StripsIdeal.nD Cert.StripsIdeal.τ Cert.StripsIdeal.sig) → Buf (Elt Ideal) ℓ) (g : Dev Cert.StripsIdeal.nD → PrngReg), Pre_StripsIdeal_far_finite m →
    θ_run (Cert.StripsIdeal.defs (F := Ideal)) (onTc (τ := Cert.StripsIdeal.τ) (Cert.StripsIdeal.main (F := Ideal))) ⟨m, fun _ => 0, g⟩ (fun r => (∀ c : Dev Cert.StripsIdeal.nD,
      r.2.mem ((c.tc : Thread Cert.StripsIdeal.nD Cert.StripsIdeal.τ).loc Cert.StripsIdeal.main_arg0) = m ((c.tc : Thread Cert.StripsIdeal.nD Cert.StripsIdeal.τ).loc Cert.StripsIdeal.main_arg0))
      ∧ r.2.sem = fun _ => 0)

def quiescent_StripsRefIdeal [hStripsRefIdeal : Cert.StripsRefIdeal.Facts] : Prop :=
  ∀ (m : (ℓ : Loc Cert.StripsRefIdeal.nD Cert.StripsRefIdeal.τ Cert.StripsRefIdeal.sig) → Buf (Elt Ideal) ℓ) (g : Dev Cert.StripsRefIdeal.nD → PrngReg), Pre_StripsRefIdeal m →
    θ_run (Cert.StripsRefIdeal.defs (F := Ideal)) (onTc (τ := Cert.StripsRefIdeal.τ) (Cert.StripsRefIdeal.main (F := Ideal))) ⟨m, fun _ => 0, g⟩ (fun r => (∀ c : Dev Cert.StripsRefIdeal.nD,
      r.2.mem ((c.tc : Thread Cert.StripsRefIdeal.nD Cert.StripsRefIdeal.τ).loc Cert.StripsRefIdeal.main_arg0) = m ((c.tc : Thread Cert.StripsRefIdeal.nD Cert.StripsRefIdeal.τ).loc Cert.StripsRefIdeal.main_arg0))
      ∧ r.2.sem = fun _ => 0)

def quiescent_StripsRefIdeal_pre_far_finite [hStripsRefIdeal : Cert.StripsRefIdeal.Facts] [hPre_far_finite : Cert.Pre_far_finite.Facts] : Prop :=
  ∀ (m : (ℓ : Loc Cert.StripsRefIdeal.nD Cert.StripsRefIdeal.τ Cert.StripsRefIdeal.sig) → Buf (Elt Ideal) ℓ) (g : Dev Cert.StripsRefIdeal.nD → PrngReg), Pre_StripsRefIdeal_far_finite m →
    θ_run (Cert.StripsRefIdeal.defs (F := Ideal)) (onTc (τ := Cert.StripsRefIdeal.τ) (Cert.StripsRefIdeal.main (F := Ideal))) ⟨m, fun _ => 0, g⟩ (fun r => (∀ c : Dev Cert.StripsRefIdeal.nD,
      r.2.mem ((c.tc : Thread Cert.StripsRefIdeal.nD Cert.StripsRefIdeal.τ).loc Cert.StripsRefIdeal.main_arg0) = m ((c.tc : Thread Cert.StripsRefIdeal.nD Cert.StripsRefIdeal.τ).loc Cert.StripsRefIdeal.main_arg0))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v20) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_ProjA_ProjAIdeal : Prop :=
  True

def algebraic_ProjAIdeal_ProjARefIdeal [hProjAIdeal : Cert.ProjAIdeal.Facts] [hProjARefIdeal : Cert.ProjARefIdeal.Facts] : Prop :=
  ∀ (m : (ℓ : Loc Cert.ProjAIdeal.nD Cert.ProjAIdeal.τ Cert.ProjAIdeal.sig) → Buf (Elt Ideal) ℓ) (g : Dev Cert.ProjAIdeal.nD → PrngReg)
    (m' : (ℓ : Loc Cert.ProjARefIdeal.nD Cert.ProjARefIdeal.τ Cert.ProjARefIdeal.sig) → Buf (Elt Ideal) ℓ) (g' : Dev Cert.ProjARefIdeal.nD → PrngReg), Pre_ProjAIdeal m →
    (∀ c : Dev Cert.ProjAIdeal.nD,
      m' ((c.tc : Thread Cert.ProjARefIdeal.nD Cert.ProjARefIdeal.τ).loc Cert.ProjARefIdeal.main_arg0) = m ((c.tc : Thread Cert.ProjAIdeal.nD Cert.ProjAIdeal.τ).loc Cert.ProjAIdeal.main_arg0)
      ∧ m' ((c.tc : Thread Cert.ProjARefIdeal.nD Cert.ProjARefIdeal.τ).loc Cert.ProjARefIdeal.main_arg1) = m ((c.tc : Thread Cert.ProjAIdeal.nD Cert.ProjAIdeal.τ).loc Cert.ProjAIdeal.main_arg1)
      ∧ m' ((c.tc : Thread Cert.ProjARefIdeal.nD Cert.ProjARefIdeal.τ).loc Cert.ProjARefIdeal.main_arg2) = m ((c.tc : Thread Cert.ProjAIdeal.nD Cert.ProjAIdeal.τ).loc Cert.ProjAIdeal.main_arg2)) →
    ∃ (v0 : (c : Dev Cert.ProjAIdeal.nD) → Buf (Elt Ideal) ((c.tc : Thread Cert.ProjAIdeal.nD Cert.ProjAIdeal.τ).loc Cert.ProjAIdeal.main_v2)),
      θ_run (Cert.ProjAIdeal.defs (F := Ideal)) (onTc (τ := Cert.ProjAIdeal.τ) (Cert.ProjAIdeal.main (F := Ideal))) ⟨m, fun _ => 0, g⟩ (fun r => ∀ c : Dev Cert.ProjAIdeal.nD,
          r.2.mem ((c.tc : Thread Cert.ProjAIdeal.nD Cert.ProjAIdeal.τ).loc Cert.ProjAIdeal.main_v2) = v0 c
          ∧ r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
          ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1)
          ∧ r.2.mem ((c.tc : Thread Cert.ProjAIdeal.nD Cert.ProjAIdeal.τ).loc Cert.ProjAIdeal.main_arg2) = m ((c.tc : Thread Cert.ProjAIdeal.nD Cert.ProjAIdeal.τ).loc Cert.ProjAIdeal.main_arg2))
      ∧ θ_run (Cert.ProjARefIdeal.defs (F := Ideal)) (onTc (τ := Cert.ProjARefIdeal.τ) (Cert.ProjARefIdeal.main (F := Ideal))) ⟨m', fun _ => 0, g'⟩ (fun r => ∀ c : Dev Cert.ProjARefIdeal.nD,
          r.2.mem ((c.tc : Thread Cert.ProjARefIdeal.nD Cert.ProjARefIdeal.τ).loc Cert.ProjARefIdeal.main_v13) = v0 c
          ∧ r.2.mem ((c.tc : Thread Cert.ProjARefIdeal.nD Cert.ProjARefIdeal.τ).loc Cert.ProjARefIdeal.main_arg0) = m' ((c.tc : Thread Cert.ProjARefIdeal.nD Cert.ProjARefIdeal.τ).loc Cert.ProjARefIdeal.main_arg0)
          ∧ r.2.mem ((c.tc : Thread Cert.ProjARefIdeal.nD Cert.ProjARefIdeal.τ).loc Cert.ProjARefIdeal.main_arg1) = m' ((c.tc : Thread Cert.ProjARefIdeal.nD Cert.ProjARefIdeal.τ).loc Cert.ProjARefIdeal.main_arg1)
          ∧ r.2.mem ((c.tc : Thread Cert.ProjARefIdeal.nD Cert.ProjARefIdeal.τ).loc Cert.ProjARefIdeal.main_arg2) = m' ((c.tc : Thread Cert.ProjARefIdeal.nD Cert.ProjARefIdeal.τ).loc Cert.ProjARefIdeal.main_arg2))

def preserves_ProjZ_ProjZIdeal : Prop :=
  True

def algebraic_ProjZIdeal_ProjZRefIdeal [hProjZIdeal : Cert.ProjZIdeal.Facts] [hProjZRefIdeal : Cert.ProjZRefIdeal.Facts] : Prop :=
  ∀ (m : (ℓ : Loc Cert.ProjZIdeal.nD Cert.ProjZIdeal.τ Cert.ProjZIdeal.sig) → Buf (Elt Ideal) ℓ) (g : Dev Cert.ProjZIdeal.nD → PrngReg)
    (m' : (ℓ : Loc Cert.ProjZRefIdeal.nD Cert.ProjZRefIdeal.τ Cert.ProjZRefIdeal.sig) → Buf (Elt Ideal) ℓ) (g' : Dev Cert.ProjZRefIdeal.nD → PrngReg), Pre_ProjZIdeal m →
    (∀ c : Dev Cert.ProjZIdeal.nD,
      m' ((c.tc : Thread Cert.ProjZRefIdeal.nD Cert.ProjZRefIdeal.τ).loc Cert.ProjZRefIdeal.main_arg0) = m ((c.tc : Thread Cert.ProjZIdeal.nD Cert.ProjZIdeal.τ).loc Cert.ProjZIdeal.main_arg0)
      ∧ m' ((c.tc : Thread Cert.ProjZRefIdeal.nD Cert.ProjZRefIdeal.τ).loc Cert.ProjZRefIdeal.main_arg1) = m ((c.tc : Thread Cert.ProjZIdeal.nD Cert.ProjZIdeal.τ).loc Cert.ProjZIdeal.main_arg1)
      ∧ m' ((c.tc : Thread Cert.ProjZRefIdeal.nD Cert.ProjZRefIdeal.τ).loc Cert.ProjZRefIdeal.main_arg2) = m ((c.tc : Thread Cert.ProjZIdeal.nD Cert.ProjZIdeal.τ).loc Cert.ProjZIdeal.main_arg2)) →
    ∃ (v0 : (c : Dev Cert.ProjZIdeal.nD) → Buf (Elt Ideal) ((c.tc : Thread Cert.ProjZIdeal.nD Cert.ProjZIdeal.τ).loc Cert.ProjZIdeal.main_v2)),
      θ_run (Cert.ProjZIdeal.defs (F := Ideal)) (onTc (τ := Cert.ProjZIdeal.τ) (Cert.ProjZIdeal.main (F := Ideal))) ⟨m, fun _ => 0, g⟩ (fun r => ∀ c : Dev Cert.ProjZIdeal.nD,
          r.2.mem ((c.tc : Thread Cert.ProjZIdeal.nD Cert.ProjZIdeal.τ).loc Cert.ProjZIdeal.main_v2) = v0 c
          ∧ r.2.mem ((c.tc : Thread Cert.ProjZIdeal.nD Cert.ProjZIdeal.τ).loc Cert.ProjZIdeal.main_arg0) = m ((c.tc : Thread Cert.ProjZIdeal.nD Cert.ProjZIdeal.τ).loc Cert.ProjZIdeal.main_arg0)
          ∧ r.2.mem ((c.tc : Thread Cert.ProjZIdeal.nD Cert.ProjZIdeal.τ).loc Cert.ProjZIdeal.main_arg1) = m ((c.tc : Thread Cert.ProjZIdeal.nD Cert.ProjZIdeal.τ).loc Cert.ProjZIdeal.main_arg1)
          ∧ r.2.mem ((c.tc : Thread Cert.ProjZIdeal.nD Cert.ProjZIdeal.τ).loc Cert.ProjZIdeal.main_arg2) = m ((c.tc : Thread Cert.ProjZIdeal.nD Cert.ProjZIdeal.τ).loc Cert.ProjZIdeal.main_arg2))
      ∧ θ_run (Cert.ProjZRefIdeal.defs (F := Ideal)) (onTc (τ := Cert.ProjZRefIdeal.τ) (Cert.ProjZRefIdeal.main (F := Ideal))) ⟨m', fun _ => 0, g'⟩ (fun r => ∀ c : Dev Cert.ProjZRefIdeal.nD,
          r.2.mem ((c.tc : Thread Cert.ProjZRefIdeal.nD Cert.ProjZRefIdeal.τ).loc Cert.ProjZRefIdeal.main_v13) = v0 c
          ∧ r.2.mem ((c.tc : Thread Cert.ProjZRefIdeal.nD Cert.ProjZRefIdeal.τ).loc Cert.ProjZRefIdeal.main_arg0) = m' ((c.tc : Thread Cert.ProjZRefIdeal.nD Cert.ProjZRefIdeal.τ).loc Cert.ProjZRefIdeal.main_arg0)
          ∧ r.2.mem ((c.tc : Thread Cert.ProjZRefIdeal.nD Cert.ProjZRefIdeal.τ).loc Cert.ProjZRefIdeal.main_arg1) = m' ((c.tc : Thread Cert.ProjZRefIdeal.nD Cert.ProjZRefIdeal.τ).loc Cert.ProjZRefIdeal.main_arg1)
          ∧ r.2.mem ((c.tc : Thread Cert.ProjZRefIdeal.nD Cert.ProjZRefIdeal.τ).loc Cert.ProjZRefIdeal.main_arg2) = m' ((c.tc : Thread Cert.ProjZRefIdeal.nD Cert.ProjZRefIdeal.τ).loc Cert.ProjZRefIdeal.main_arg2))

def preserves_ProjXbc_ProjXbcIdeal : Prop :=
  True

def algebraic_ProjXbcIdeal_ProjXbcRefIdeal [hProjXbcIdeal : Cert.ProjXbcIdeal.Facts] [hProjXbcRefIdeal : Cert.ProjXbcRefIdeal.Facts] : Prop :=
  ∀ (m : (ℓ : Loc Cert.ProjXbcIdeal.nD Cert.ProjXbcIdeal.τ Cert.ProjXbcIdeal.sig) → Buf (Elt Ideal) ℓ) (g : Dev Cert.ProjXbcIdeal.nD → PrngReg)
    (m' : (ℓ : Loc Cert.ProjXbcRefIdeal.nD Cert.ProjXbcRefIdeal.τ Cert.ProjXbcRefIdeal.sig) → Buf (Elt Ideal) ℓ) (g' : Dev Cert.ProjXbcRefIdeal.nD → PrngReg), Pre_ProjXbcIdeal m →
    (∀ c : Dev Cert.ProjXbcIdeal.nD,
      m' ((c.tc : Thread Cert.ProjXbcRefIdeal.nD Cert.ProjXbcRefIdeal.τ).loc Cert.ProjXbcRefIdeal.main_arg0) = m ((c.tc : Thread Cert.ProjXbcIdeal.nD Cert.ProjXbcIdeal.τ).loc Cert.ProjXbcIdeal.main_arg0)
      ∧ m' ((c.tc : Thread Cert.ProjXbcRefIdeal.nD Cert.ProjXbcRefIdeal.τ).loc Cert.ProjXbcRefIdeal.main_arg1) = m ((c.tc : Thread Cert.ProjXbcIdeal.nD Cert.ProjXbcIdeal.τ).loc Cert.ProjXbcIdeal.main_arg1)
      ∧ m' ((c.tc : Thread Cert.ProjXbcRefIdeal.nD Cert.ProjXbcRefIdeal.τ).loc Cert.ProjXbcRefIdeal.main_arg2) = m ((c.tc : Thread Cert.ProjXbcIdeal.nD Cert.ProjXbcIdeal.τ).loc Cert.ProjXbcIdeal.main_arg2)) →
    ∃ (v0 : (c : Dev Cert.ProjXbcIdeal.nD) → Buf (Elt Ideal) ((c.tc : Thread Cert.ProjXbcIdeal.nD Cert.ProjXbcIdeal.τ).loc Cert.ProjXbcIdeal.main_v2)),
      θ_run (Cert.ProjXbcIdeal.defs (F := Ideal)) (onTc (τ := Cert.ProjXbcIdeal.τ) (Cert.ProjXbcIdeal.main (F := Ideal))) ⟨m, fun _ => 0, g⟩ (fun r => ∀ c : Dev Cert.ProjXbcIdeal.nD,
          r.2.mem ((c.tc : Thread Cert.ProjXbcIdeal.nD Cert.ProjXbcIdeal.τ).loc Cert.ProjXbcIdeal.main_v2) = v0 c
          ∧ r.2.mem ((c.tc : Thread Cert.ProjXbcIdeal.nD Cert.ProjXbcIdeal.τ).loc Cert.ProjXbcIdeal.main_arg0) = m ((c.tc : Thread Cert.ProjXbcIdeal.nD Cert.ProjXbcIdeal.τ).loc Cert.ProjXbcIdeal.main_arg0)
          ∧ r.2.mem ((c.tc : Thread Cert.ProjXbcIdeal.nD Cert.ProjXbcIdeal.τ).loc Cert.ProjXbcIdeal.main_arg1) = m ((c.tc : Thread Cert.ProjXbcIdeal.nD Cert.ProjXbcIdeal.τ).loc Cert.ProjXbcIdeal.main_arg1)
          ∧ r.2.mem ((c.tc : Thread Cert.ProjXbcIdeal.nD Cert.ProjXbcIdeal.τ).loc Cert.ProjXbcIdeal.main_arg2) = m ((c.tc : Thread Cert.ProjXbcIdeal.nD Cert.ProjXbcIdeal.τ).loc Cert.ProjXbcIdeal.main_arg2))
      ∧ θ_run (Cert.ProjXbcRefIdeal.defs (F := Ideal)) (onTc (τ := Cert.ProjXbcRefIdeal.τ) (Cert.ProjXbcRefIdeal.main (F := Ideal))) ⟨m', fun _ => 0, g'⟩ (fun r => ∀ c : Dev Cert.ProjXbcRefIdeal.nD,
          r.2.mem ((c.tc : Thread Cert.ProjXbcRefIdeal.nD Cert.ProjXbcRefIdeal.τ).loc Cert.ProjXbcRefIdeal.main_v13) = v0 c
          ∧ r.2.mem ((c.tc : Thread Cert.ProjXbcRefIdeal.nD Cert.ProjXbcRefIdeal.τ).loc Cert.ProjXbcRefIdeal.main_arg0) = m' ((c.tc : Thread Cert.ProjXbcRefIdeal.nD Cert.ProjXbcRefIdeal.τ).loc Cert.ProjXbcRefIdeal.main_arg0)
          ∧ r.2.mem ((c.tc : Thread Cert.ProjXbcRefIdeal.nD Cert.ProjXbcRefIdeal.τ).loc Cert.ProjXbcRefIdeal.main_arg1) = m' ((c.tc : Thread Cert.ProjXbcRefIdeal.nD Cert.ProjXbcRefIdeal.τ).loc Cert.ProjXbcRefIdeal.main_arg1)
          ∧ r.2.mem ((c.tc : Thread Cert.ProjXbcRefIdeal.nD Cert.ProjXbcRefIdeal.τ).loc Cert.ProjXbcRefIdeal.main_arg2) = m' ((c.tc : Thread Cert.ProjXbcRefIdeal.nD Cert.ProjXbcRefIdeal.τ).loc Cert.ProjXbcRefIdeal.main_arg2))

def preserves_ProjDt_ProjDtIdeal : Prop :=
  True

def algebraic_ProjDtIdeal_ProjDtRefIdeal [hProjDtIdeal : Cert.ProjDtIdeal.Facts] [hProjDtRefIdeal : Cert.ProjDtRefIdeal.Facts] : Prop :=
  ∀ (m : (ℓ : Loc Cert.ProjDtIdeal.nD Cert.ProjDtIdeal.τ Cert.ProjDtIdeal.sig) → Buf (Elt Ideal) ℓ) (g : Dev Cert.ProjDtIdeal.nD → PrngReg)
    (m' : (ℓ : Loc Cert.ProjDtRefIdeal.nD Cert.ProjDtRefIdeal.τ Cert.ProjDtRefIdeal.sig) → Buf (Elt Ideal) ℓ) (g' : Dev Cert.ProjDtRefIdeal.nD → PrngReg), Pre_ProjDtIdeal m →
    (∀ c : Dev Cert.ProjDtIdeal.nD,
      m' ((c.tc : Thread Cert.ProjDtRefIdeal.nD Cert.ProjDtRefIdeal.τ).loc Cert.ProjDtRefIdeal.main_arg0) = m ((c.tc : Thread Cert.ProjDtIdeal.nD Cert.ProjDtIdeal.τ).loc Cert.ProjDtIdeal.main_arg0)
      ∧ m' ((c.tc : Thread Cert.ProjDtRefIdeal.nD Cert.ProjDtRefIdeal.τ).loc Cert.ProjDtRefIdeal.main_arg1) = m ((c.tc : Thread Cert.ProjDtIdeal.nD Cert.ProjDtIdeal.τ).loc Cert.ProjDtIdeal.main_arg1)
      ∧ m' ((c.tc : Thread Cert.ProjDtRefIdeal.nD Cert.ProjDtRefIdeal.τ).loc Cert.ProjDtRefIdeal.main_arg2) = m ((c.tc : Thread Cert.ProjDtIdeal.nD Cert.ProjDtIdeal.τ).loc Cert.ProjDtIdeal.main_arg2)) →
    ∃ (v0 : (c : Dev Cert.ProjDtIdeal.nD) → Buf (Elt Ideal) ((c.tc : Thread Cert.ProjDtIdeal.nD Cert.ProjDtIdeal.τ).loc Cert.ProjDtIdeal.main_v2)),
      θ_run (Cert.ProjDtIdeal.defs (F := Ideal)) (onTc (τ := Cert.ProjDtIdeal.τ) (Cert.ProjDtIdeal.main (F := Ideal))) ⟨m, fun _ => 0, g⟩ (fun r => ∀ c : Dev Cert.ProjDtIdeal.nD,
          r.2.mem ((c.tc : Thread Cert.ProjDtIdeal.nD Cert.ProjDtIdeal.τ).loc Cert.ProjDtIdeal.main_v2) = v0 c
          ∧ r.2.mem ((c.tc : Thread Cert.ProjDtIdeal.nD Cert.ProjDtIdeal.τ).loc Cert.ProjDtIdeal.main_arg0) = m ((c.tc : Thread Cert.ProjDtIdeal.nD Cert.ProjDtIdeal.τ).loc Cert.ProjDtIdeal.main_arg0)
          ∧ r.2.mem ((c.tc : Thread Cert.ProjDtIdeal.nD Cert.ProjDtIdeal.τ).loc Cert.ProjDtIdeal.main_arg1) = m ((c.tc : Thread Cert.ProjDtIdeal.nD Cert.ProjDtIdeal.τ).loc Cert.ProjDtIdeal.main_arg1)
          ∧ r.2.mem ((c.tc : Thread Cert.ProjDtIdeal.nD Cert.ProjDtIdeal.τ).loc Cert.ProjDtIdeal.main_arg2) = m ((c.tc : Thread Cert.ProjDtIdeal.nD Cert.ProjDtIdeal.τ).loc Cert.ProjDtIdeal.main_arg2))
      ∧ θ_run (Cert.ProjDtRefIdeal.defs (F := Ideal)) (onTc (τ := Cert.ProjDtRefIdeal.τ) (Cert.ProjDtRefIdeal.main (F := Ideal))) ⟨m', fun _ => 0, g'⟩ (fun r => ∀ c : Dev Cert.ProjDtRefIdeal.nD,
          r.2.mem ((c.tc : Thread Cert.ProjDtRefIdeal.nD Cert.ProjDtRefIdeal.τ).loc Cert.ProjDtRefIdeal.main_v13) = v0 c
          ∧ r.2.mem ((c.tc : Thread Cert.ProjDtRefIdeal.nD Cert.ProjDtRefIdeal.τ).loc Cert.ProjDtRefIdeal.main_arg0) = m' ((c.tc : Thread Cert.ProjDtRefIdeal.nD Cert.ProjDtRefIdeal.τ).loc Cert.ProjDtRefIdeal.main_arg0)
          ∧ r.2.mem ((c.tc : Thread Cert.ProjDtRefIdeal.nD Cert.ProjDtRefIdeal.τ).loc Cert.ProjDtRefIdeal.main_arg1) = m' ((c.tc : Thread Cert.ProjDtRefIdeal.nD Cert.ProjDtRefIdeal.τ).loc Cert.ProjDtRefIdeal.main_arg1)
          ∧ r.2.mem ((c.tc : Thread Cert.ProjDtRefIdeal.nD Cert.ProjDtRefIdeal.τ).loc Cert.ProjDtRefIdeal.main_arg2) = m' ((c.tc : Thread Cert.ProjDtRefIdeal.nD Cert.ProjDtRefIdeal.τ).loc Cert.ProjDtRefIdeal.main_arg2))

def preserves_ProjQkv_ProjQkvIdeal : Prop :=
  True

def algebraic_ProjQkvIdeal_ProjQkvRefIdeal [hProjQkvIdeal : Cert.ProjQkvIdeal.Facts] [hProjQkvRefIdeal : Cert.ProjQkvRefIdeal.Facts] : Prop :=
  ∀ (m : (ℓ : Loc Cert.ProjQkvIdeal.nD Cert.ProjQkvIdeal.τ Cert.ProjQkvIdeal.sig) → Buf (Elt Ideal) ℓ) (g : Dev Cert.ProjQkvIdeal.nD → PrngReg)
    (m' : (ℓ : Loc Cert.ProjQkvRefIdeal.nD Cert.ProjQkvRefIdeal.τ Cert.ProjQkvRefIdeal.sig) → Buf (Elt Ideal) ℓ) (g' : Dev Cert.ProjQkvRefIdeal.nD → PrngReg), Pre_ProjQkvIdeal m →
    (∀ c : Dev Cert.ProjQkvIdeal.nD,
      m' ((c.tc : Thread Cert.ProjQkvRefIdeal.nD Cert.ProjQkvRefIdeal.τ).loc Cert.ProjQkvRefIdeal.main_arg0) = m ((c.tc : Thread Cert.ProjQkvIdeal.nD Cert.ProjQkvIdeal.τ).loc Cert.ProjQkvIdeal.main_arg0)
      ∧ m' ((c.tc : Thread Cert.ProjQkvRefIdeal.nD Cert.ProjQkvRefIdeal.τ).loc Cert.ProjQkvRefIdeal.main_arg1) = m ((c.tc : Thread Cert.ProjQkvIdeal.nD Cert.ProjQkvIdeal.τ).loc Cert.ProjQkvIdeal.main_arg1)
      ∧ m' ((c.tc : Thread Cert.ProjQkvRefIdeal.nD Cert.ProjQkvRefIdeal.τ).loc Cert.ProjQkvRefIdeal.main_arg2) = m ((c.tc : Thread Cert.ProjQkvIdeal.nD Cert.ProjQkvIdeal.τ).loc Cert.ProjQkvIdeal.main_arg2)) →
    ∃ (v0 : (c : Dev Cert.ProjQkvIdeal.nD) → Buf (Elt Ideal) ((c.tc : Thread Cert.ProjQkvIdeal.nD Cert.ProjQkvIdeal.τ).loc Cert.ProjQkvIdeal.main_v2)),
      θ_run (Cert.ProjQkvIdeal.defs (F := Ideal)) (onTc (τ := Cert.ProjQkvIdeal.τ) (Cert.ProjQkvIdeal.main (F := Ideal))) ⟨m, fun _ => 0, g⟩ (fun r => ∀ c : Dev Cert.ProjQkvIdeal.nD,
          r.2.mem ((c.tc : Thread Cert.ProjQkvIdeal.nD Cert.ProjQkvIdeal.τ).loc Cert.ProjQkvIdeal.main_v2) = v0 c
          ∧ r.2.mem ((c.tc : Thread Cert.ProjQkvIdeal.nD Cert.ProjQkvIdeal.τ).loc Cert.ProjQkvIdeal.main_arg0) = m ((c.tc : Thread Cert.ProjQkvIdeal.nD Cert.ProjQkvIdeal.τ).loc Cert.ProjQkvIdeal.main_arg0)
          ∧ r.2.mem ((c.tc : Thread Cert.ProjQkvIdeal.nD Cert.ProjQkvIdeal.τ).loc Cert.ProjQkvIdeal.main_arg1) = m ((c.tc : Thread Cert.ProjQkvIdeal.nD Cert.ProjQkvIdeal.τ).loc Cert.ProjQkvIdeal.main_arg1)
          ∧ r.2.mem ((c.tc : Thread Cert.ProjQkvIdeal.nD Cert.ProjQkvIdeal.τ).loc Cert.ProjQkvIdeal.main_arg2) = m ((c.tc : Thread Cert.ProjQkvIdeal.nD Cert.ProjQkvIdeal.τ).loc Cert.ProjQkvIdeal.main_arg2))
      ∧ θ_run (Cert.ProjQkvRefIdeal.defs (F := Ideal)) (onTc (τ := Cert.ProjQkvRefIdeal.τ) (Cert.ProjQkvRefIdeal.main (F := Ideal))) ⟨m', fun _ => 0, g'⟩ (fun r => ∀ c : Dev Cert.ProjQkvRefIdeal.nD,
          r.2.mem ((c.tc : Thread Cert.ProjQkvRefIdeal.nD Cert.ProjQkvRefIdeal.τ).loc Cert.ProjQkvRefIdeal.main_v14) = v0 c
          ∧ r.2.mem ((c.tc : Thread Cert.ProjQkvRefIdeal.nD Cert.ProjQkvRefIdeal.τ).loc Cert.ProjQkvRefIdeal.main_arg0) = m' ((c.tc : Thread Cert.ProjQkvRefIdeal.nD Cert.ProjQkvRefIdeal.τ).loc Cert.ProjQkvRefIdeal.main_arg0)
          ∧ r.2.mem ((c.tc : Thread Cert.ProjQkvRefIdeal.nD Cert.ProjQkvRefIdeal.τ).loc Cert.ProjQkvRefIdeal.main_arg1) = m' ((c.tc : Thread Cert.ProjQkvRefIdeal.nD Cert.ProjQkvRefIdeal.τ).loc Cert.ProjQkvRefIdeal.main_arg1)
          ∧ r.2.mem ((c.tc : Thread Cert.ProjQkvRefIdeal.nD Cert.ProjQkvRefIdeal.τ).loc Cert.ProjQkvRefIdeal.main_arg2) = m' ((c.tc : Thread Cert.ProjQkvRefIdeal.nD Cert.ProjQkvRefIdeal.τ).loc Cert.ProjQkvRefIdeal.main_arg2))

def preserves_ProjGates_ProjGatesIdeal : Prop :=
  True

def algebraic_ProjGatesIdeal_ProjGatesRefIdeal [hProjGatesIdeal : Cert.ProjGatesIdeal.Facts] [hProjGatesRefIdeal : Cert.ProjGatesRefIdeal.Facts] : Prop :=
  ∀ (m : (ℓ : Loc Cert.ProjGatesIdeal.nD Cert.ProjGatesIdeal.τ Cert.ProjGatesIdeal.sig) → Buf (Elt Ideal) ℓ) (g : Dev Cert.ProjGatesIdeal.nD → PrngReg)
    (m' : (ℓ : Loc Cert.ProjGatesRefIdeal.nD Cert.ProjGatesRefIdeal.τ Cert.ProjGatesRefIdeal.sig) → Buf (Elt Ideal) ℓ) (g' : Dev Cert.ProjGatesRefIdeal.nD → PrngReg), Pre_ProjGatesIdeal m →
    (∀ c : Dev Cert.ProjGatesIdeal.nD,
      m' ((c.tc : Thread Cert.ProjGatesRefIdeal.nD Cert.ProjGatesRefIdeal.τ).loc Cert.ProjGatesRefIdeal.main_arg0) = m ((c.tc : Thread Cert.ProjGatesIdeal.nD Cert.ProjGatesIdeal.τ).loc Cert.ProjGatesIdeal.main_arg0)
      ∧ m' ((c.tc : Thread Cert.ProjGatesRefIdeal.nD Cert.ProjGatesRefIdeal.τ).loc Cert.ProjGatesRefIdeal.main_arg1) = m ((c.tc : Thread Cert.ProjGatesIdeal.nD Cert.ProjGatesIdeal.τ).loc Cert.ProjGatesIdeal.main_arg1)
      ∧ m' ((c.tc : Thread Cert.ProjGatesRefIdeal.nD Cert.ProjGatesRefIdeal.τ).loc Cert.ProjGatesRefIdeal.main_arg2) = m ((c.tc : Thread Cert.ProjGatesIdeal.nD Cert.ProjGatesIdeal.τ).loc Cert.ProjGatesIdeal.main_arg2)) →
    ∃ (v0 : (c : Dev Cert.ProjGatesIdeal.nD) → Buf (Elt Ideal) ((c.tc : Thread Cert.ProjGatesIdeal.nD Cert.ProjGatesIdeal.τ).loc Cert.ProjGatesIdeal.main_v2)),
      θ_run (Cert.ProjGatesIdeal.defs (F := Ideal)) (onTc (τ := Cert.ProjGatesIdeal.τ) (Cert.ProjGatesIdeal.main (F := Ideal))) ⟨m, fun _ => 0, g⟩ (fun r => ∀ c : Dev Cert.ProjGatesIdeal.nD,
          r.2.mem ((c.tc : Thread Cert.ProjGatesIdeal.nD Cert.ProjGatesIdeal.τ).loc Cert.ProjGatesIdeal.main_v2) = v0 c
          ∧ r.2.mem ((c.tc : Thread Cert.ProjGatesIdeal.nD Cert.ProjGatesIdeal.τ).loc Cert.ProjGatesIdeal.main_arg0) = m ((c.tc : Thread Cert.ProjGatesIdeal.nD Cert.ProjGatesIdeal.τ).loc Cert.ProjGatesIdeal.main_arg0)
          ∧ r.2.mem ((c.tc : Thread Cert.ProjGatesIdeal.nD Cert.ProjGatesIdeal.τ).loc Cert.ProjGatesIdeal.main_arg1) = m ((c.tc : Thread Cert.ProjGatesIdeal.nD Cert.ProjGatesIdeal.τ).loc Cert.ProjGatesIdeal.main_arg1)
          ∧ r.2.mem ((c.tc : Thread Cert.ProjGatesIdeal.nD Cert.ProjGatesIdeal.τ).loc Cert.ProjGatesIdeal.main_arg2) = m ((c.tc : Thread Cert.ProjGatesIdeal.nD Cert.ProjGatesIdeal.τ).loc Cert.ProjGatesIdeal.main_arg2))
      ∧ θ_run (Cert.ProjGatesRefIdeal.defs (F := Ideal)) (onTc (τ := Cert.ProjGatesRefIdeal.τ) (Cert.ProjGatesRefIdeal.main (F := Ideal))) ⟨m', fun _ => 0, g'⟩ (fun r => ∀ c : Dev Cert.ProjGatesRefIdeal.nD,
          r.2.mem ((c.tc : Thread Cert.ProjGatesRefIdeal.nD Cert.ProjGatesRefIdeal.τ).loc Cert.ProjGatesRefIdeal.main_v13) = v0 c
          ∧ r.2.mem ((c.tc : Thread Cert.ProjGatesRefIdeal.nD Cert.ProjGatesRefIdeal.τ).loc Cert.ProjGatesRefIdeal.main_arg0) = m' ((c.tc : Thread Cert.ProjGatesRefIdeal.nD Cert.ProjGatesRefIdeal.τ).loc Cert.ProjGatesRefIdeal.main_arg0)
          ∧ r.2.mem ((c.tc : Thread Cert.ProjGatesRefIdeal.nD Cert.ProjGatesRefIdeal.τ).loc Cert.ProjGatesRefIdeal.main_arg1) = m' ((c.tc : Thread Cert.ProjGatesRefIdeal.nD Cert.ProjGatesRefIdeal.τ).loc Cert.ProjGatesRefIdeal.main_arg1)
          ∧ r.2.mem ((c.tc : Thread Cert.ProjGatesRefIdeal.nD Cert.ProjGatesRefIdeal.τ).loc Cert.ProjGatesRefIdeal.main_arg2) = m' ((c.tc : Thread Cert.ProjGatesRefIdeal.nD Cert.ProjGatesRefIdeal.τ).loc Cert.ProjGatesRefIdeal.main_arg2))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)) →
    ∃ (v0 : (c : Dev Cert.PleIdeal.nD) → Buf (Elt Ideal) ((c.tc : Thread Cert.PleIdeal.nD Cert.PleIdeal.τ).loc Cert.PleIdeal.main_v4)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v4) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v35) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)) →
    ∃ (v0 : (c : Dev Cert.PrepIdeal.nD) → Buf (Elt Ideal) ((c.tc : Thread Cert.PrepIdeal.nD Cert.PrepIdeal.τ).loc Cert.PrepIdeal.main_v4_0)) (v1 : (c : Dev Cert.PrepIdeal.nD) → Buf (Elt Ideal) ((c.tc : Thread Cert.PrepIdeal.nD Cert.PrepIdeal.τ).loc Cert.PrepIdeal.main_v4_1)) (v2 : (c : Dev Cert.PrepIdeal.nD) → Buf (Elt Ideal) ((c.tc : Thread Cert.PrepIdeal.nD Cert.PrepIdeal.τ).loc Cert.PrepIdeal.main_v4_2)) (v3 : (c : Dev Cert.PrepIdeal.nD) → Buf (Elt Ideal) ((c.tc : Thread Cert.PrepIdeal.nD Cert.PrepIdeal.τ).loc Cert.PrepIdeal.main_v4_3)) (v4 : (c : Dev Cert.PrepIdeal.nD) → Buf (Elt Ideal) ((c.tc : Thread Cert.PrepIdeal.nD Cert.PrepIdeal.τ).loc Cert.PrepIdeal.main_v4_4)) (v5 : (c : Dev Cert.PrepIdeal.nD) → Buf (Elt Ideal) ((c.tc : Thread Cert.PrepIdeal.nD Cert.PrepIdeal.τ).loc Cert.PrepIdeal.main_v4_5)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v4_0) = v0 c
          ∧ r.2.mem ((c.tc : Thread Cert.PrepIdeal.nD Cert.PrepIdeal.τ).loc Cert.PrepIdeal.main_v4_1) = v1 c
          ∧ r.2.mem ((c.tc : Thread Cert.PrepIdeal.nD Cert.PrepIdeal.τ).loc Cert.PrepIdeal.main_v4_2) = v2 c
          ∧ r.2.mem ((c.tc : Thread Cert.PrepIdeal.nD Cert.PrepIdeal.τ).loc Cert.PrepIdeal.main_v4_3) = v3 c
          ∧ r.2.mem ((c.tc : Thread Cert.PrepIdeal.nD Cert.PrepIdeal.τ).loc Cert.PrepIdeal.main_v4_4) = v4 c
          ∧ r.2.mem ((c.tc : Thread Cert.PrepIdeal.nD Cert.PrepIdeal.τ).loc Cert.PrepIdeal.main_v4_5) = v5 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v43) = v0 c
          ∧ r.2.mem ((c.tc : Thread Cert.PrepRefIdeal.nD Cert.PrepRefIdeal.τ).loc Cert.PrepRefIdeal.main_v45) = v1 c
          ∧ r.2.mem ((c.tc : Thread Cert.PrepRefIdeal.nD Cert.PrepRefIdeal.τ).loc Cert.PrepRefIdeal.main_v47) = v2 c
          ∧ r.2.mem ((c.tc : Thread Cert.PrepRefIdeal.nD Cert.PrepRefIdeal.τ).loc Cert.PrepRefIdeal.main_v49) = v3 c
          ∧ r.2.mem ((c.tc : Thread Cert.PrepRefIdeal.nD Cert.PrepRefIdeal.τ).loc Cert.PrepRefIdeal.main_v51) = v4 c
          ∧ r.2.mem ((c.tc : Thread Cert.PrepRefIdeal.nD Cert.PrepRefIdeal.τ).loc Cert.PrepRefIdeal.main_v52) = v5 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4))

def preserves_Merge_MergeIdeal : Prop :=
  True

def algebraic_MergeIdeal_MergeRefIdeal_pre_groups_finite [hMergeIdeal : Cert.MergeIdeal.Facts] [hMergeRefIdeal : Cert.MergeRefIdeal.Facts] [hPre_groups_finite : Cert.Pre_groups_finite.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_groups_finite m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)) →
    ∃ (v0 : (c : Dev Cert.MergeIdeal.nD) → Buf (Elt Ideal) ((c.tc : Thread Cert.MergeIdeal.nD Cert.MergeIdeal.τ).loc Cert.MergeIdeal.main_v4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v53) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13))

def preserves_Dil_DilIdeal : Prop :=
  IdealRules.named_const.Statement Cert.DilIdeal.κ "mask" .f32 0xF149F2CA#32 ⊥

def algebraic_DilIdeal_DilRefIdeal_pre_scores_finite [hDilIdeal : Cert.DilIdeal.Facts] [hDilRefIdeal : Cert.DilRefIdeal.Facts] [hPre_scores_finite : Cert.Pre_scores_finite.Facts] : Prop :=
  ∀ (m : (ℓ : Loc Cert.DilIdeal.nD Cert.DilIdeal.τ Cert.DilIdeal.sig) → Buf (Elt Ideal) ℓ) (g : Dev Cert.DilIdeal.nD → PrngReg)
    (m' : (ℓ : Loc Cert.DilRefIdeal.nD Cert.DilRefIdeal.τ Cert.DilRefIdeal.sig) → Buf (Elt Ideal) ℓ) (g' : Dev Cert.DilRefIdeal.nD → PrngReg), Pre_DilIdeal_scores_finite m →
    (∀ c : Dev Cert.DilIdeal.nD,
      m' ((c.tc : Thread Cert.DilRefIdeal.nD Cert.DilRefIdeal.τ).loc Cert.DilRefIdeal.main_arg0) = m ((c.tc : Thread Cert.DilIdeal.nD Cert.DilIdeal.τ).loc Cert.DilIdeal.main_arg0)
      ∧ m' ((c.tc : Thread Cert.DilRefIdeal.nD Cert.DilRefIdeal.τ).loc Cert.DilRefIdeal.main_arg1) = m ((c.tc : Thread Cert.DilIdeal.nD Cert.DilIdeal.τ).loc Cert.DilIdeal.main_arg1)) →
    ∃ (v0 : (c : Dev Cert.DilIdeal.nD) → Buf (Elt Ideal) ((c.tc : Thread Cert.DilIdeal.nD Cert.DilIdeal.τ).loc Cert.DilIdeal.main_v1_0)) (v1 : (c : Dev Cert.DilIdeal.nD) → Buf (Elt Ideal) ((c.tc : Thread Cert.DilIdeal.nD Cert.DilIdeal.τ).loc Cert.DilIdeal.main_v1_1)),
      θ_run (Cert.DilIdeal.defs (F := Ideal)) (onTc (τ := Cert.DilIdeal.τ) (Cert.DilIdeal.main (F := Ideal))) ⟨m, fun _ => 0, g⟩ (fun r => ∀ c : Dev Cert.DilIdeal.nD,
          r.2.mem ((c.tc : Thread Cert.DilIdeal.nD Cert.DilIdeal.τ).loc Cert.DilIdeal.main_v1_0) = v0 c
          ∧ r.2.mem ((c.tc : Thread Cert.DilIdeal.nD Cert.DilIdeal.τ).loc Cert.DilIdeal.main_v1_1) = v1 c
          ∧ r.2.mem ((c.tc : Thread Cert.DilIdeal.nD Cert.DilIdeal.τ).loc Cert.DilIdeal.main_arg0) = m ((c.tc : Thread Cert.DilIdeal.nD Cert.DilIdeal.τ).loc Cert.DilIdeal.main_arg0)
          ∧ r.2.mem ((c.tc : Thread Cert.DilIdeal.nD Cert.DilIdeal.τ).loc Cert.DilIdeal.main_arg1) = m ((c.tc : Thread Cert.DilIdeal.nD Cert.DilIdeal.τ).loc Cert.DilIdeal.main_arg1))
      ∧ θ_run (Cert.DilRefIdeal.defs (F := Ideal)) (onTc (τ := Cert.DilRefIdeal.τ) (Cert.DilRefIdeal.main (F := Ideal))) ⟨m', fun _ => 0, g'⟩ (fun r => ∀ c : Dev Cert.DilRefIdeal.nD,
          r.2.mem ((c.tc : Thread Cert.DilRefIdeal.nD Cert.DilRefIdeal.τ).loc Cert.DilRefIdeal.main_v85) = v0 c
          ∧ r.2.mem ((c.tc : Thread Cert.DilRefIdeal.nD Cert.DilRefIdeal.τ).loc Cert.DilRefIdeal.main_v88) = v1 c
          ∧ r.2.mem ((c.tc : Thread Cert.DilRefIdeal.nD Cert.DilRefIdeal.τ).loc Cert.DilRefIdeal.main_arg0) = m' ((c.tc : Thread Cert.DilRefIdeal.nD Cert.DilRefIdeal.τ).loc Cert.DilRefIdeal.main_arg0)
          ∧ r.2.mem ((c.tc : Thread Cert.DilRefIdeal.nD Cert.DilRefIdeal.τ).loc Cert.DilRefIdeal.main_arg1) = m' ((c.tc : Thread Cert.DilRefIdeal.nD Cert.DilRefIdeal.τ).loc Cert.DilRefIdeal.main_arg1))

def preserves_DilFour_DilFourIdeal : Prop :=
  IdealRules.named_const.Statement Cert.DilFourIdeal.κ "mask" .f32 0xF149F2CA#32 ⊥

def algebraic_DilFourIdeal_DilFourRefIdeal_pre_four_finite [hDilFourIdeal : Cert.DilFourIdeal.Facts] [hDilFourRefIdeal : Cert.DilFourRefIdeal.Facts] [hPre_four_finite : Cert.Pre_four_finite.Facts] : Prop :=
  ∀ (m : (ℓ : Loc Cert.DilFourIdeal.nD Cert.DilFourIdeal.τ Cert.DilFourIdeal.sig) → Buf (Elt Ideal) ℓ) (g : Dev Cert.DilFourIdeal.nD → PrngReg)
    (m' : (ℓ : Loc Cert.DilFourRefIdeal.nD Cert.DilFourRefIdeal.τ Cert.DilFourRefIdeal.sig) → Buf (Elt Ideal) ℓ) (g' : Dev Cert.DilFourRefIdeal.nD → PrngReg), Pre_DilFourIdeal_four_finite m →
    (∀ c : Dev Cert.DilFourIdeal.nD,
      m' ((c.tc : Thread Cert.DilFourRefIdeal.nD Cert.DilFourRefIdeal.τ).loc Cert.DilFourRefIdeal.main_arg0) = m ((c.tc : Thread Cert.DilFourIdeal.nD Cert.DilFourIdeal.τ).loc Cert.DilFourIdeal.main_arg0)
      ∧ m' ((c.tc : Thread Cert.DilFourRefIdeal.nD Cert.DilFourRefIdeal.τ).loc Cert.DilFourRefIdeal.main_arg1) = m ((c.tc : Thread Cert.DilFourIdeal.nD Cert.DilFourIdeal.τ).loc Cert.DilFourIdeal.main_arg1)) →
    ∃ (v0 : (c : Dev Cert.DilFourIdeal.nD) → Buf (Elt Ideal) ((c.tc : Thread Cert.DilFourIdeal.nD Cert.DilFourIdeal.τ).loc Cert.DilFourIdeal.main_v2_0)) (v1 : (c : Dev Cert.DilFourIdeal.nD) → Buf (Elt Ideal) ((c.tc : Thread Cert.DilFourIdeal.nD Cert.DilFourIdeal.τ).loc Cert.DilFourIdeal.main_v2_1)),
      θ_run (Cert.DilFourIdeal.defs (F := Ideal)) (onTc (τ := Cert.DilFourIdeal.τ) (Cert.DilFourIdeal.main (F := Ideal))) ⟨m, fun _ => 0, g⟩ (fun r => ∀ c : Dev Cert.DilFourIdeal.nD,
          r.2.mem ((c.tc : Thread Cert.DilFourIdeal.nD Cert.DilFourIdeal.τ).loc Cert.DilFourIdeal.main_v2_0) = v0 c
          ∧ r.2.mem ((c.tc : Thread Cert.DilFourIdeal.nD Cert.DilFourIdeal.τ).loc Cert.DilFourIdeal.main_v2_1) = v1 c
          ∧ r.2.mem ((c.tc : Thread Cert.DilFourIdeal.nD Cert.DilFourIdeal.τ).loc Cert.DilFourIdeal.main_arg0) = m ((c.tc : Thread Cert.DilFourIdeal.nD Cert.DilFourIdeal.τ).loc Cert.DilFourIdeal.main_arg0)
          ∧ r.2.mem ((c.tc : Thread Cert.DilFourIdeal.nD Cert.DilFourIdeal.τ).loc Cert.DilFourIdeal.main_arg1) = m ((c.tc : Thread Cert.DilFourIdeal.nD Cert.DilFourIdeal.τ).loc Cert.DilFourIdeal.main_arg1))
      ∧ θ_run (Cert.DilFourRefIdeal.defs (F := Ideal)) (onTc (τ := Cert.DilFourRefIdeal.τ) (Cert.DilFourRefIdeal.main (F := Ideal))) ⟨m', fun _ => 0, g'⟩ (fun r => ∀ c : Dev Cert.DilFourRefIdeal.nD,
          r.2.mem ((c.tc : Thread Cert.DilFourRefIdeal.nD Cert.DilFourRefIdeal.τ).loc Cert.DilFourRefIdeal.main_v85) = v0 c
          ∧ r.2.mem ((c.tc : Thread Cert.DilFourRefIdeal.nD Cert.DilFourRefIdeal.τ).loc Cert.DilFourRefIdeal.main_v89) = v1 c
          ∧ r.2.mem ((c.tc : Thread Cert.DilFourRefIdeal.nD Cert.DilFourRefIdeal.τ).loc Cert.DilFourRefIdeal.main_arg0) = m' ((c.tc : Thread Cert.DilFourRefIdeal.nD Cert.DilFourRefIdeal.τ).loc Cert.DilFourRefIdeal.main_arg0)
          ∧ r.2.mem ((c.tc : Thread Cert.DilFourRefIdeal.nD Cert.DilFourRefIdeal.τ).loc Cert.DilFourRefIdeal.main_arg1) = m' ((c.tc : Thread Cert.DilFourRefIdeal.nD Cert.DilFourRefIdeal.τ).loc Cert.DilFourRefIdeal.main_arg1))

def preserves_DilSixteen_DilSixteenIdeal : Prop :=
  IdealRules.named_const.Statement Cert.DilSixteenIdeal.κ "mask" .f32 0xF149F2CA#32 ⊥

def algebraic_DilSixteenIdeal_DilSixteenRefIdeal_pre_sixteen_finite [hDilSixteenIdeal : Cert.DilSixteenIdeal.Facts] [hDilSixteenRefIdeal : Cert.DilSixteenRefIdeal.Facts] [hPre_sixteen_finite : Cert.Pre_sixteen_finite.Facts] : Prop :=
  ∀ (m : (ℓ : Loc Cert.DilSixteenIdeal.nD Cert.DilSixteenIdeal.τ Cert.DilSixteenIdeal.sig) → Buf (Elt Ideal) ℓ) (g : Dev Cert.DilSixteenIdeal.nD → PrngReg)
    (m' : (ℓ : Loc Cert.DilSixteenRefIdeal.nD Cert.DilSixteenRefIdeal.τ Cert.DilSixteenRefIdeal.sig) → Buf (Elt Ideal) ℓ) (g' : Dev Cert.DilSixteenRefIdeal.nD → PrngReg), Pre_DilSixteenIdeal_sixteen_finite m →
    (∀ c : Dev Cert.DilSixteenIdeal.nD,
      m' ((c.tc : Thread Cert.DilSixteenRefIdeal.nD Cert.DilSixteenRefIdeal.τ).loc Cert.DilSixteenRefIdeal.main_arg0) = m ((c.tc : Thread Cert.DilSixteenIdeal.nD Cert.DilSixteenIdeal.τ).loc Cert.DilSixteenIdeal.main_arg0)
      ∧ m' ((c.tc : Thread Cert.DilSixteenRefIdeal.nD Cert.DilSixteenRefIdeal.τ).loc Cert.DilSixteenRefIdeal.main_arg1) = m ((c.tc : Thread Cert.DilSixteenIdeal.nD Cert.DilSixteenIdeal.τ).loc Cert.DilSixteenIdeal.main_arg1)) →
    ∃ (v0 : (c : Dev Cert.DilSixteenIdeal.nD) → Buf (Elt Ideal) ((c.tc : Thread Cert.DilSixteenIdeal.nD Cert.DilSixteenIdeal.τ).loc Cert.DilSixteenIdeal.main_v2_0)) (v1 : (c : Dev Cert.DilSixteenIdeal.nD) → Buf (Elt Ideal) ((c.tc : Thread Cert.DilSixteenIdeal.nD Cert.DilSixteenIdeal.τ).loc Cert.DilSixteenIdeal.main_v2_1)),
      θ_run (Cert.DilSixteenIdeal.defs (F := Ideal)) (onTc (τ := Cert.DilSixteenIdeal.τ) (Cert.DilSixteenIdeal.main (F := Ideal))) ⟨m, fun _ => 0, g⟩ (fun r => ∀ c : Dev Cert.DilSixteenIdeal.nD,
          r.2.mem ((c.tc : Thread Cert.DilSixteenIdeal.nD Cert.DilSixteenIdeal.τ).loc Cert.DilSixteenIdeal.main_v2_0) = v0 c
          ∧ r.2.mem ((c.tc : Thread Cert.DilSixteenIdeal.nD Cert.DilSixteenIdeal.τ).loc Cert.DilSixteenIdeal.main_v2_1) = v1 c
          ∧ r.2.mem ((c.tc : Thread Cert.DilSixteenIdeal.nD Cert.DilSixteenIdeal.τ).loc Cert.DilSixteenIdeal.main_arg0) = m ((c.tc : Thread Cert.DilSixteenIdeal.nD Cert.DilSixteenIdeal.τ).loc Cert.DilSixteenIdeal.main_arg0)
          ∧ r.2.mem ((c.tc : Thread Cert.DilSixteenIdeal.nD Cert.DilSixteenIdeal.τ).loc Cert.DilSixteenIdeal.main_arg1) = m ((c.tc : Thread Cert.DilSixteenIdeal.nD Cert.DilSixteenIdeal.τ).loc Cert.DilSixteenIdeal.main_arg1))
      ∧ θ_run (Cert.DilSixteenRefIdeal.defs (F := Ideal)) (onTc (τ := Cert.DilSixteenRefIdeal.τ) (Cert.DilSixteenRefIdeal.main (F := Ideal))) ⟨m', fun _ => 0, g'⟩ (fun r => ∀ c : Dev Cert.DilSixteenRefIdeal.nD,
          r.2.mem ((c.tc : Thread Cert.DilSixteenRefIdeal.nD Cert.DilSixteenRefIdeal.τ).loc Cert.DilSixteenRefIdeal.main_v85) = v0 c
          ∧ r.2.mem ((c.tc : Thread Cert.DilSixteenRefIdeal.nD Cert.DilSixteenRefIdeal.τ).loc Cert.DilSixteenRefIdeal.main_v89) = v1 c
          ∧ r.2.mem ((c.tc : Thread Cert.DilSixteenRefIdeal.nD Cert.DilSixteenRefIdeal.τ).loc Cert.DilSixteenRefIdeal.main_arg0) = m' ((c.tc : Thread Cert.DilSixteenRefIdeal.nD Cert.DilSixteenRefIdeal.τ).loc Cert.DilSixteenRefIdeal.main_arg0)
          ∧ r.2.mem ((c.tc : Thread Cert.DilSixteenRefIdeal.nD Cert.DilSixteenRefIdeal.τ).loc Cert.DilSixteenRefIdeal.main_arg1) = m' ((c.tc : Thread Cert.DilSixteenRefIdeal.nD Cert.DilSixteenRefIdeal.τ).loc Cert.DilSixteenRefIdeal.main_arg1))

def preserves_Strips_StripsIdeal : Prop :=
  True

def algebraic_StripsIdeal_StripsRefIdeal_pre_far_finite [hStripsIdeal : Cert.StripsIdeal.Facts] [hStripsRefIdeal : Cert.StripsRefIdeal.Facts] [hPre_far_finite : Cert.Pre_far_finite.Facts] : Prop :=
  ∀ (m : (ℓ : Loc Cert.StripsIdeal.nD Cert.StripsIdeal.τ Cert.StripsIdeal.sig) → Buf (Elt Ideal) ℓ) (g : Dev Cert.StripsIdeal.nD → PrngReg)
    (m' : (ℓ : Loc Cert.StripsRefIdeal.nD Cert.StripsRefIdeal.τ Cert.StripsRefIdeal.sig) → Buf (Elt Ideal) ℓ) (g' : Dev Cert.StripsRefIdeal.nD → PrngReg), Pre_StripsIdeal_far_finite m →
    (∀ c : Dev Cert.StripsIdeal.nD,
      m' ((c.tc : Thread Cert.StripsRefIdeal.nD Cert.StripsRefIdeal.τ).loc Cert.StripsRefIdeal.main_arg0) = m ((c.tc : Thread Cert.StripsIdeal.nD Cert.StripsIdeal.τ).loc Cert.StripsIdeal.main_arg0)) →
    ∃ (v0 : (c : Dev Cert.StripsIdeal.nD) → Buf (Elt Ideal) ((c.tc : Thread Cert.StripsIdeal.nD Cert.StripsIdeal.τ).loc Cert.StripsIdeal.main_v0)),
      θ_run (Cert.StripsIdeal.defs (F := Ideal)) (onTc (τ := Cert.StripsIdeal.τ) (Cert.StripsIdeal.main (F := Ideal))) ⟨m, fun _ => 0, g⟩ (fun r => ∀ c : Dev Cert.StripsIdeal.nD,
          r.2.mem ((c.tc : Thread Cert.StripsIdeal.nD Cert.StripsIdeal.τ).loc Cert.StripsIdeal.main_v0) = v0 c
          ∧ r.2.mem ((c.tc : Thread Cert.StripsIdeal.nD Cert.StripsIdeal.τ).loc Cert.StripsIdeal.main_arg0) = m ((c.tc : Thread Cert.StripsIdeal.nD Cert.StripsIdeal.τ).loc Cert.StripsIdeal.main_arg0))
      ∧ θ_run (Cert.StripsRefIdeal.defs (F := Ideal)) (onTc (τ := Cert.StripsRefIdeal.τ) (Cert.StripsRefIdeal.main (F := Ideal))) ⟨m', fun _ => 0, g'⟩ (fun r => ∀ c : Dev Cert.StripsRefIdeal.nD,
          r.2.mem ((c.tc : Thread Cert.StripsRefIdeal.nD Cert.StripsRefIdeal.τ).loc Cert.StripsRefIdeal.main_v44) = v0 c
          ∧ r.2.mem ((c.tc : Thread Cert.StripsRefIdeal.nD Cert.StripsRefIdeal.τ).loc Cert.StripsRefIdeal.main_arg0) = m' ((c.tc : Thread Cert.StripsRefIdeal.nD Cert.StripsRefIdeal.τ).loc Cert.StripsRefIdeal.main_arg0))

def Claim : Prop :=
  ∃ (hFfn : Cert.Ffn.Facts) (hFfnIdeal : Cert.FfnIdeal.Facts) (hFfnRefIdeal : Cert.FfnRefIdeal.Facts) (hProjA : Cert.ProjA.Facts) (hProjAIdeal : Cert.ProjAIdeal.Facts) (hProjARefIdeal : Cert.ProjARefIdeal.Facts) (hProjZ : Cert.ProjZ.Facts) (hProjZIdeal : Cert.ProjZIdeal.Facts) (hProjZRefIdeal : Cert.ProjZRefIdeal.Facts) (hProjXbc : Cert.ProjXbc.Facts) (hProjXbcIdeal : Cert.ProjXbcIdeal.Facts) (hProjXbcRefIdeal : Cert.ProjXbcRefIdeal.Facts) (hProjDt : Cert.ProjDt.Facts) (hProjDtIdeal : Cert.ProjDtIdeal.Facts) (hProjDtRefIdeal : Cert.ProjDtRefIdeal.Facts) (hProjQkv : Cert.ProjQkv.Facts) (hProjQkvIdeal : Cert.ProjQkvIdeal.Facts) (hProjQkvRefIdeal : Cert.ProjQkvRefIdeal.Facts) (hProjGates : Cert.ProjGates.Facts) (hProjGatesIdeal : Cert.ProjGatesIdeal.Facts) (hProjGatesRefIdeal : Cert.ProjGatesRefIdeal.Facts) (hPle : Cert.Ple.Facts) (hPleIdeal : Cert.PleIdeal.Facts) (hPleRefIdeal : Cert.PleRefIdeal.Facts) (hPrep : Cert.Prep.Facts) (hPrepIdeal : Cert.PrepIdeal.Facts) (hPrepRefIdeal : Cert.PrepRefIdeal.Facts) (hMerge : Cert.Merge.Facts) (hMergeIdeal : Cert.MergeIdeal.Facts) (hMergeRefIdeal : Cert.MergeRefIdeal.Facts) (hDil : Cert.Dil.Facts) (hDilIdeal : Cert.DilIdeal.Facts) (hDilRefIdeal : Cert.DilRefIdeal.Facts) (hDilFour : Cert.DilFour.Facts) (hDilFourIdeal : Cert.DilFourIdeal.Facts) (hDilFourRefIdeal : Cert.DilFourRefIdeal.Facts) (hDilSixteen : Cert.DilSixteen.Facts) (hDilSixteenIdeal : Cert.DilSixteenIdeal.Facts) (hDilSixteenRefIdeal : Cert.DilSixteenRefIdeal.Facts) (hStrips : Cert.Strips.Facts) (hStripsIdeal : Cert.StripsIdeal.Facts) (hStripsRefIdeal : Cert.StripsRefIdeal.Facts) (hPre_groups_finite : Cert.Pre_groups_finite.Facts) (hPre_scores_finite : Cert.Pre_scores_finite.Facts) (hPre_four_finite : Cert.Pre_four_finite.Facts) (hPre_sixteen_finite : Cert.Pre_sixteen_finite.Facts) (hPre_far_finite : Cert.Pre_far_finite.Facts),
    quiescent_Ffn (hFfn := hFfn)
    ∧ quiescent_FfnIdeal (hFfnIdeal := hFfnIdeal)
    ∧ quiescent_FfnRefIdeal (hFfnRefIdeal := hFfnRefIdeal)
    ∧ quiescent_ProjA (hProjA := hProjA)
    ∧ quiescent_ProjAIdeal (hProjAIdeal := hProjAIdeal)
    ∧ quiescent_ProjARefIdeal (hProjARefIdeal := hProjARefIdeal)
    ∧ quiescent_ProjZ (hProjZ := hProjZ)
    ∧ quiescent_ProjZIdeal (hProjZIdeal := hProjZIdeal)
    ∧ quiescent_ProjZRefIdeal (hProjZRefIdeal := hProjZRefIdeal)
    ∧ quiescent_ProjXbc (hProjXbc := hProjXbc)
    ∧ quiescent_ProjXbcIdeal (hProjXbcIdeal := hProjXbcIdeal)
    ∧ quiescent_ProjXbcRefIdeal (hProjXbcRefIdeal := hProjXbcRefIdeal)
    ∧ quiescent_ProjDt (hProjDt := hProjDt)
    ∧ quiescent_ProjDtIdeal (hProjDtIdeal := hProjDtIdeal)
    ∧ quiescent_ProjDtRefIdeal (hProjDtRefIdeal := hProjDtRefIdeal)
    ∧ quiescent_ProjQkv (hProjQkv := hProjQkv)
    ∧ quiescent_ProjQkvIdeal (hProjQkvIdeal := hProjQkvIdeal)
    ∧ quiescent_ProjQkvRefIdeal (hProjQkvRefIdeal := hProjQkvRefIdeal)
    ∧ quiescent_ProjGates (hProjGates := hProjGates)
    ∧ quiescent_ProjGatesIdeal (hProjGatesIdeal := hProjGatesIdeal)
    ∧ quiescent_ProjGatesRefIdeal (hProjGatesRefIdeal := hProjGatesRefIdeal)
    ∧ quiescent_Ple (hPle := hPle)
    ∧ quiescent_PleIdeal (hPleIdeal := hPleIdeal)
    ∧ quiescent_PleRefIdeal (hPleRefIdeal := hPleRefIdeal)
    ∧ quiescent_Prep (hPrep := hPrep)
    ∧ quiescent_PrepIdeal (hPrepIdeal := hPrepIdeal)
    ∧ quiescent_PrepRefIdeal (hPrepRefIdeal := hPrepRefIdeal)
    ∧ quiescent_Merge (hMerge := hMerge)
    ∧ quiescent_MergeIdeal (hMergeIdeal := hMergeIdeal)
    ∧ quiescent_MergeIdeal_pre_groups_finite (hMergeIdeal := hMergeIdeal) (hPre_groups_finite := hPre_groups_finite)
    ∧ quiescent_MergeRefIdeal (hMergeRefIdeal := hMergeRefIdeal)
    ∧ quiescent_MergeRefIdeal_pre_groups_finite (hMergeRefIdeal := hMergeRefIdeal) (hPre_groups_finite := hPre_groups_finite)
    ∧ quiescent_Dil (hDil := hDil)
    ∧ quiescent_DilIdeal (hDilIdeal := hDilIdeal)
    ∧ quiescent_DilIdeal_pre_scores_finite (hDilIdeal := hDilIdeal) (hPre_scores_finite := hPre_scores_finite)
    ∧ quiescent_DilRefIdeal (hDilRefIdeal := hDilRefIdeal)
    ∧ quiescent_DilRefIdeal_pre_scores_finite (hDilRefIdeal := hDilRefIdeal) (hPre_scores_finite := hPre_scores_finite)
    ∧ quiescent_DilFour (hDilFour := hDilFour)
    ∧ quiescent_DilFourIdeal (hDilFourIdeal := hDilFourIdeal)
    ∧ quiescent_DilFourIdeal_pre_four_finite (hDilFourIdeal := hDilFourIdeal) (hPre_four_finite := hPre_four_finite)
    ∧ quiescent_DilFourRefIdeal (hDilFourRefIdeal := hDilFourRefIdeal)
    ∧ quiescent_DilFourRefIdeal_pre_four_finite (hDilFourRefIdeal := hDilFourRefIdeal) (hPre_four_finite := hPre_four_finite)
    ∧ quiescent_DilSixteen (hDilSixteen := hDilSixteen)
    ∧ quiescent_DilSixteenIdeal (hDilSixteenIdeal := hDilSixteenIdeal)
    ∧ quiescent_DilSixteenIdeal_pre_sixteen_finite (hDilSixteenIdeal := hDilSixteenIdeal) (hPre_sixteen_finite := hPre_sixteen_finite)
    ∧ quiescent_DilSixteenRefIdeal (hDilSixteenRefIdeal := hDilSixteenRefIdeal)
    ∧ quiescent_DilSixteenRefIdeal_pre_sixteen_finite (hDilSixteenRefIdeal := hDilSixteenRefIdeal) (hPre_sixteen_finite := hPre_sixteen_finite)
    ∧ quiescent_Strips (hStrips := hStrips)
    ∧ quiescent_StripsIdeal (hStripsIdeal := hStripsIdeal)
    ∧ quiescent_StripsIdeal_pre_far_finite (hStripsIdeal := hStripsIdeal) (hPre_far_finite := hPre_far_finite)
    ∧ quiescent_StripsRefIdeal (hStripsRefIdeal := hStripsRefIdeal)
    ∧ quiescent_StripsRefIdeal_pre_far_finite (hStripsRefIdeal := hStripsRefIdeal) (hPre_far_finite := hPre_far_finite)
    ∧ preserves_Ffn_FfnIdeal
    ∧ algebraic_FfnIdeal_FfnRefIdeal (hFfnIdeal := hFfnIdeal) (hFfnRefIdeal := hFfnRefIdeal)
    ∧ preserves_ProjA_ProjAIdeal
    ∧ algebraic_ProjAIdeal_ProjARefIdeal (hProjAIdeal := hProjAIdeal) (hProjARefIdeal := hProjARefIdeal)
    ∧ preserves_ProjZ_ProjZIdeal
    ∧ algebraic_ProjZIdeal_ProjZRefIdeal (hProjZIdeal := hProjZIdeal) (hProjZRefIdeal := hProjZRefIdeal)
    ∧ preserves_ProjXbc_ProjXbcIdeal
    ∧ algebraic_ProjXbcIdeal_ProjXbcRefIdeal (hProjXbcIdeal := hProjXbcIdeal) (hProjXbcRefIdeal := hProjXbcRefIdeal)
    ∧ preserves_ProjDt_ProjDtIdeal
    ∧ algebraic_ProjDtIdeal_ProjDtRefIdeal (hProjDtIdeal := hProjDtIdeal) (hProjDtRefIdeal := hProjDtRefIdeal)
    ∧ preserves_ProjQkv_ProjQkvIdeal
    ∧ algebraic_ProjQkvIdeal_ProjQkvRefIdeal (hProjQkvIdeal := hProjQkvIdeal) (hProjQkvRefIdeal := hProjQkvRefIdeal)
    ∧ preserves_ProjGates_ProjGatesIdeal
    ∧ algebraic_ProjGatesIdeal_ProjGatesRefIdeal (hProjGatesIdeal := hProjGatesIdeal) (hProjGatesRefIdeal := hProjGatesRefIdeal)
    ∧ preserves_Ple_PleIdeal
    ∧ algebraic_PleIdeal_PleRefIdeal (hPleIdeal := hPleIdeal) (hPleRefIdeal := hPleRefIdeal)
    ∧ preserves_Prep_PrepIdeal
    ∧ algebraic_PrepIdeal_PrepRefIdeal (hPrepIdeal := hPrepIdeal) (hPrepRefIdeal := hPrepRefIdeal)
    ∧ preserves_Merge_MergeIdeal
    ∧ algebraic_MergeIdeal_MergeRefIdeal_pre_groups_finite (hMergeIdeal := hMergeIdeal) (hMergeRefIdeal := hMergeRefIdeal) (hPre_groups_finite := hPre_groups_finite)
    ∧ preserves_Dil_DilIdeal
    ∧ algebraic_DilIdeal_DilRefIdeal_pre_scores_finite (hDilIdeal := hDilIdeal) (hDilRefIdeal := hDilRefIdeal) (hPre_scores_finite := hPre_scores_finite)
    ∧ preserves_DilFour_DilFourIdeal
    ∧ algebraic_DilFourIdeal_DilFourRefIdeal_pre_four_finite (hDilFourIdeal := hDilFourIdeal) (hDilFourRefIdeal := hDilFourRefIdeal) (hPre_four_finite := hPre_four_finite)
    ∧ preserves_DilSixteen_DilSixteenIdeal
    ∧ algebraic_DilSixteenIdeal_DilSixteenRefIdeal_pre_sixteen_finite (hDilSixteenIdeal := hDilSixteenIdeal) (hDilSixteenRefIdeal := hDilSixteenRefIdeal) (hPre_sixteen_finite := hPre_sixteen_finite)
    ∧ preserves_Strips_StripsIdeal
    ∧ algebraic_StripsIdeal_StripsRefIdeal_pre_far_finite (hStripsIdeal := hStripsIdeal) (hStripsRefIdeal := hStripsRefIdeal) (hPre_far_finite := hPre_far_finite)
-- ==== Pre_far_finite.lean ====
abbrev S32x40 : Shape := ⟨2, ![32, 40]⟩
abbrev S1x16 : Shape := ⟨2, ![1, 16]⟩
abbrev S_ : Shape := ⟨0, ![]⟩

class Facts : Prop where
  slices_S32x40_S1x16_31_0 : S32x40.Slices ![31, 0] S1x16
  bcast_S_S1x16 : S_.BroadcastsInDim S1x16 (![] : Fin 0 → Fin S1x16.rank)

variable [Facts]

def fn {F : FTy → Type} [FloatOps F] (main_arg0 : FVec F S32x40 .f32) : IVec S1x16 1 × IVec S1x16 1 :=
  let main_v0 : FVec F S1x16 .f32 := (extractStridedSlice S1x16 ![31, 0] · slices_S32x40_S1x16_31_0) main_arg0
  let main_cst : FVec F S_ .f32 := constant S_ .f32 0xFF800000#32
  let main_v1 : FVec F S1x16 .f32 := broadcastInDim S1x16 ![] bcast_S_S1x16 main_cst
  let main_v2 : IVec S1x16 1 := cmpf .ogt main_v0 main_v1
  let main_cst_0 : FVec F S_ .f32 := constant S_ .f32 0x7F800000#32
  let main_v3 : FVec F S1x16 .f32 := broadcastInDim S1x16 ![] bcast_S_S1x16 main_cst_0
  let main_v4 : IVec S1x16 1 := cmpf .olt main_v0 main_v3
  (main_v2, main_v4)
-- ==== Pre_four_finite.lean ====
abbrev S2x16384x4608 : Shape := ⟨3, ![2, 16384, 4608]⟩
abbrev S32x40 : Shape := ⟨2, ![32, 40]⟩
abbrev S2x16384x1024 : Shape := ⟨3, ![2, 16384, 1024]⟩
abbrev S32x8 : Shape := ⟨2, ![32, 8]⟩
abbrev S_ : Shape := ⟨0, ![]⟩

class Facts : Prop where
  slices_S2x16384x4608_S2x16384x1024_0_0_1536 : S2x16384x4608.Slices ![0, 0, 1536] S2x16384x1024
  slices_S32x40_S32x8_0_24 : S32x40.Slices ![0, 24] S32x8
  bcast_S_S2x16384x1024 : S_.BroadcastsInDim S2x16384x1024 (![] : Fin 0 → Fin S2x16384x1024.rank)
  bcast_S_S32x8 : S_.BroadcastsInDim S32x8 (![] : Fin 0 → Fin S32x8.rank)

variable [Facts]

def fn {F : FTy → Type} [FloatOps F] (main_arg0 : FVec F S2x16384x4608 .bf16) (main_arg1 : FVec F S32x40 .f32) : IVec S2x16384x1024 1 × IVec S2x16384x1024 1 × IVec S32x8 1 :=
  let main_v0 : FVec F S2x16384x1024 .bf16 := (extractStridedSlice S2x16384x1024 ![0, 0, 1536] · slices_S2x16384x4608_S2x16384x1024_0_0_1536) main_arg0
  let main_v1 : FVec F S32x8 .f32 := (extractStridedSlice S32x8 ![0, 24] · slices_S32x40_S32x8_0_24) main_arg1
  let main_cst : FVec F S_ .bf16 := constant S_ .bf16 0xFF80#16
  let main_v2 : FVec F S2x16384x1024 .bf16 := broadcastInDim S2x16384x1024 ![] bcast_S_S2x16384x1024 main_cst
  let main_v3 : IVec S2x16384x1024 1 := cmpf .ogt main_v0 main_v2
  let main_cst_0 : FVec F S_ .bf16 := constant S_ .bf16 0x7F80#16
  let main_v4 : FVec F S2x16384x1024 .bf16 := broadcastInDim S2x16384x1024 ![] bcast_S_S2x16384x1024 main_cst_0
  let main_v5 : IVec S2x16384x1024 1 := cmpf .olt main_v0 main_v4
  let main_cst_1 : FVec F S_ .f32 := constant S_ .f32 0x7F800000#32
  let main_v6 : FVec F S32x8 .f32 := broadcastInDim S32x8 ![] bcast_S_S32x8 main_cst_1
  let main_v7 : IVec S32x8 1 := cmpf .olt main_v1 main_v6
  (main_v3, main_v5, main_v7)
-- ==== Pre_groups_finite.lean ====
abbrev S32768x1024 : Shape := ⟨2, ![32768, 1024]⟩
abbrev S32768x2048 : Shape := ⟨2, ![32768, 2048]⟩
abbrev S32768x512 : Shape := ⟨2, ![32768, 512]⟩
abbrev S32768x3072 : Shape := ⟨2, ![32768, 3072]⟩
abbrev S2048x1024 : Shape := ⟨2, ![2048, 1024]⟩
abbrev S512x1024 : Shape := ⟨2, ![512, 1024]⟩
abbrev S1024x1024 : Shape := ⟨2, ![1024, 1024]⟩
abbrev S_ : Shape := ⟨0, ![]⟩

class Facts : Prop where
  bcast_S_S32768x512 : S_.BroadcastsInDim S32768x512 (![] : Fin 0 → Fin S32768x512.rank)

variable [Facts]

def fn {F : FTy → Type} [FloatOps F] (main_arg0 : FVec F S32768x1024 .f32) (main_arg1 : FVec F S32768x2048 .bf16) (main_arg2 : FVec F S32768x2048 .bf16) (main_arg3 : FVec F S32768x512 .f32) (main_arg4 : FVec F S32768x512 .f32) (main_arg5 : FVec F S32768x512 .f32) (main_arg6 : FVec F S32768x512 .f32) (main_arg7 : FVec F S32768x512 .f32) (main_arg8 : FVec F S32768x512 .f32) (main_arg9 : FVec F S32768x3072 .f32) (main_arg10 : FVec F S2048x1024 .f32) (main_arg11 : FVec F S2048x1024 .f32) (main_arg12 : FVec F S512x1024 .f32) (main_arg13 : FVec F S1024x1024 .f32) : IVec S32768x512 1 × IVec S32768x512 1 :=
  let main_v0 : FVec F S32768x512 .f32 := maximumf main_arg6 main_arg7
  let main_v1 : FVec F S32768x512 .f32 := maximumf main_v0 main_arg8
  let main_cst : FVec F S_ .f32 := constant S_ .f32 0xFF800000#32
  let main_v2 : FVec F S32768x512 .f32 := broadcastInDim S32768x512 ![] bcast_S_S32768x512 main_cst
  let main_v3 : IVec S32768x512 1 := cmpf .ogt main_v1 main_v2
  let main_cst_0 : FVec F S_ .f32 := constant S_ .f32 0x7F800000#32
  let main_v4 : FVec F S32768x512 .f32 := broadcastInDim S32768x512 ![] bcast_S_S32768x512 main_cst_0
  let main_v5 : IVec S32768x512 1 := cmpf .olt main_v1 main_v4
  (main_v3, main_v5)
-- ==== Pre_scores_finite.lean ====
abbrev S2x16384x4608 : Shape := ⟨3, ![2, 16384, 4608]⟩
abbrev S32x40 : Shape := ⟨2, ![32, 40]⟩
abbrev S2x16384x1024 : Shape := ⟨3, ![2, 16384, 1024]⟩
abbrev S32x8 : Shape := ⟨2, ![32, 8]⟩
abbrev S_ : Shape := ⟨0, ![]⟩

class Facts : Prop where
  slices_S2x16384x4608_S2x16384x1024_0_0_0 : S2x16384x4608.Slices ![0, 0, 0] S2x16384x1024
  slices_S32x40_S32x8_0_16 : S32x40.Slices ![0, 16] S32x8
  bcast_S_S2x16384x1024 : S_.BroadcastsInDim S2x16384x1024 (![] : Fin 0 → Fin S2x16384x1024.rank)
  bcast_S_S32x8 : S_.BroadcastsInDim S32x8 (![] : Fin 0 → Fin S32x8.rank)

variable [Facts]

def fn {F : FTy → Type} [FloatOps F] (main_arg0 : FVec F S2x16384x4608 .bf16) (main_arg1 : FVec F S32x40 .f32) : IVec S2x16384x1024 1 × IVec S2x16384x1024 1 × IVec S32x8 1 :=
  let main_v0 : FVec F S2x16384x1024 .bf16 := (extractStridedSlice S2x16384x1024 ![0, 0, 0] · slices_S2x16384x4608_S2x16384x1024_0_0_0) main_arg0
  let main_v1 : FVec F S32x8 .f32 := (extractStridedSlice S32x8 ![0, 16] · slices_S32x40_S32x8_0_16) main_arg1
  let main_cst : FVec F S_ .bf16 := constant S_ .bf16 0xFF80#16
  let main_v2 : FVec F S2x16384x1024 .bf16 := broadcastInDim S2x16384x1024 ![] bcast_S_S2x16384x1024 main_cst
  let main_v3 : IVec S2x16384x1024 1 := cmpf .ogt main_v0 main_v2
  let main_cst_0 : FVec F S_ .bf16 := constant S_ .bf16 0x7F80#16
  let main_v4 : FVec F S2x16384x1024 .bf16 := broadcastInDim S2x16384x1024 ![] bcast_S_S2x16384x1024 main_cst_0
  let main_v5 : IVec S2x16384x1024 1 := cmpf .olt main_v0 main_v4
  let main_cst_1 : FVec F S_ .f32 := constant S_ .f32 0x7F800000#32
  let main_v6 : FVec F S32x8 .f32 := broadcastInDim S32x8 ![] bcast_S_S32x8 main_cst_1
  let main_v7 : IVec S32x8 1 := cmpf .olt main_v1 main_v6
  (main_v3, main_v5, main_v7)
-- ==== Pre_sixteen_finite.lean ====
abbrev S2x16384x4608 : Shape := ⟨3, ![2, 16384, 4608]⟩
abbrev S32x40 : Shape := ⟨2, ![32, 40]⟩
abbrev S2x16384x1024 : Shape := ⟨3, ![2, 16384, 1024]⟩
abbrev S32x8 : Shape := ⟨2, ![32, 8]⟩
abbrev S_ : Shape := ⟨0, ![]⟩

class Facts : Prop where
  slices_S2x16384x4608_S2x16384x1024_0_0_3072 : S2x16384x4608.Slices ![0, 0, 3072] S2x16384x1024
  slices_S32x40_S32x8_0_32 : S32x40.Slices ![0, 32] S32x8
  bcast_S_S2x16384x1024 : S_.BroadcastsInDim S2x16384x1024 (![] : Fin 0 → Fin S2x16384x1024.rank)
  bcast_S_S32x8 : S_.BroadcastsInDim S32x8 (![] : Fin 0 → Fin S32x8.rank)

variable [Facts]

def fn {F : FTy → Type} [FloatOps F] (main_arg0 : FVec F S2x16384x4608 .bf16) (main_arg1 : FVec F S32x40 .f32) : IVec S2x16384x1024 1 × IVec S2x16384x1024 1 × IVec S32x8 1 :=
  let main_v0 : FVec F S2x16384x1024 .bf16 := (extractStridedSlice S2x16384x1024 ![0, 0, 3072] · slices_S2x16384x4608_S2x16384x1024_0_0_3072) main_arg0
  let main_v1 : FVec F S32x8 .f32 := (extractStridedSlice S32x8 ![0, 32] · slices_S32x40_S32x8_0_32) main_arg1
  let main_cst : FVec F S_ .bf16 := constant S_ .bf16 0xFF80#16
  let main_v2 : FVec F S2x16384x1024 .bf16 := broadcastInDim S2x16384x1024 ![] bcast_S_S2x16384x1024 main_cst
  let main_v3 : IVec S2x16384x1024 1 := cmpf .ogt main_v0 main_v2
  let main_cst_0 : FVec F S_ .bf16 := constant S_ .bf16 0x7F80#16
  let main_v4 : FVec F S2x16384x1024 .bf16 := broadcastInDim S2x16384x1024 ![] bcast_S_S2x16384x1024 main_cst_0
  let main_v5 : IVec S2x16384x1024 1 := cmpf .olt main_v0 main_v4
  let main_cst_1 : FVec F S_ .f32 := constant S_ .f32 0x7F800000#32
  let main_v6 : FVec F S32x8 .f32 := broadcastInDim S32x8 ![] bcast_S_S32x8 main_cst_1
  let main_v7 : IVec S32x8 1 := cmpf .olt main_v1 main_v6
  (main_v3, main_v5, main_v7)
-- ==== Ffn.lean ====
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 10
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![64, 2], ![false, false]⟩

def k0_cond2 (i : grid0.Coords) : BitVec 1 :=
  let arg1 : BitVec 32 := BitVec.ofNat 32 (i 1).val
  let c1_i32 : BitVec 32 := 1#32
  let v28 : BitVec 1 := Scalar.cmpi .eq arg1 c1_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2816 : Shape := ⟨2, ![32768, 2816]⟩

abbrev nBuf : Space → Nat
  | .hbm => 38
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x2816, .f32⟩
  | .hbm, ⟨22, _⟩ => ⟨S32768x2816, .f32⟩
  | .hbm, ⟨23, _⟩ => ⟨S32768x2816, .f32⟩
  | .hbm, ⟨24, _⟩ => ⟨S_, .f32⟩
  | .hbm, ⟨25, _⟩ => ⟨S32768x2816, .f32⟩
  | .hbm, ⟨26, _⟩ => ⟨S32768x2816, .f32⟩
  | .hbm, ⟨27, _⟩ => ⟨S_, .f32⟩
  | .hbm, ⟨28, _⟩ => ⟨S32768x2816, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S32768x1024, .f32⟩
  | .hbm, ⟨34, _⟩ => ⟨S_, .f32⟩
  | .hbm, ⟨35, _⟩ => ⟨S32768x1024, .f32⟩
  | .hbm, ⟨36, _⟩ => ⟨S32768x1024, .f32⟩
  | .hbm, ⟨37, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== ProjA.lean ====
abbrev S32768x1024 : Shape := ⟨2, ![32768, 1024]⟩
abbrev S1024 : Shape := ⟨1, ![1024]⟩
abbrev S1024x512 : Shape := ⟨2, ![1024, 512]⟩
abbrev S1x1024 : Shape := ⟨2, ![1, 1024]⟩
abbrev S32768x512 : Shape := ⟨2, ![32768, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 6
  | .vmem => 7
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x512, .f32⟩
  | .hbm, ⟨3, _⟩ => ⟨S1024x512, .bf16⟩
  | .hbm, ⟨4, _⟩ => ⟨S1x1024, .f32⟩
  | .hbm, ⟨5, _⟩ => ⟨S32768x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | .local _ .vmem, ⟨6, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjARefIdeal.lean ====
abbrev S32768x1024 : Shape := ⟨2, ![32768, 1024]⟩
abbrev S1024 : Shape := ⟨1, ![1024]⟩
abbrev S1024x512 : Shape := ⟨2, ![1024, 512]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x512 : Shape := ⟨2, ![32768, 512]⟩

abbrev nBuf : Space → Nat
  | .hbm => 20
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x512, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x512, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== ProjZ.lean ====
abbrev S32768x1024 : Shape := ⟨2, ![32768, 1024]⟩
abbrev S1024 : Shape := ⟨1, ![1024]⟩
abbrev S1024x2048 : Shape := ⟨2, ![1024, 2048]⟩
abbrev S1x1024 : Shape := ⟨2, ![1, 1024]⟩
abbrev S32768x2048 : Shape := ⟨2, ![32768, 2048]⟩
abbrev S1024x1024 : Shape := ⟨2, ![1024, 1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2048, .f32⟩
  | .hbm, ⟨3, _⟩ => ⟨S1024x2048, .bf16⟩
  | .hbm, ⟨4, _⟩ => ⟨S1x1024, .f32⟩
  | .hbm, ⟨5, _⟩ => ⟨S32768x2048, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjZRefIdeal.lean ====
abbrev S32768x1024 : Shape := ⟨2, ![32768, 1024]⟩
abbrev S1024 : Shape := ⟨1, ![1024]⟩
abbrev S1024x2048 : Shape := ⟨2, ![1024, 2048]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2048 : Shape := ⟨2, ![32768, 2048]⟩

abbrev nBuf : Space → Nat
  | .hbm => 20
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2048, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x2048, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== ProjXbc.lean ====
abbrev S32768x1024 : Shape := ⟨2, ![32768, 1024]⟩
abbrev S1024 : Shape := ⟨1, ![1024]⟩
abbrev S1024x4096 : Shape := ⟨2, ![1024, 4096]⟩
abbrev S1x1024 : Shape := ⟨2, ![1, 1024]⟩
abbrev S32768x4096 : Shape := ⟨2, ![32768, 4096]⟩
abbrev S1024x1024 : Shape := ⟨2, ![1024, 1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4096, .f32⟩
  | .hbm, ⟨3, _⟩ => ⟨S1024x4096, .bf16⟩
  | .hbm, ⟨4, _⟩ => ⟨S1x1024, .f32⟩
  | .hbm, ⟨5, _⟩ => ⟨S32768x4096, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjXbcRefIdeal.lean ====
abbrev S32768x1024 : Shape := ⟨2, ![32768, 1024]⟩
abbrev S1024 : Shape := ⟨1, ![1024]⟩
abbrev S1024x4096 : Shape := ⟨2, ![1024, 4096]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4096 : Shape := ⟨2, ![32768, 4096]⟩

abbrev nBuf : Space → Nat
  | .hbm => 20
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4096, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x4096, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== ProjDt.lean ====
abbrev S32768x1024 : Shape := ⟨2, ![32768, 1024]⟩
abbrev S1024 : Shape := ⟨1, ![1024]⟩
abbrev S1024x128 : Shape := ⟨2, ![1024, 128]⟩
abbrev S1x1024 : Shape := ⟨2, ![1, 1024]⟩
abbrev S32768x128 : Shape := ⟨2, ![32768, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 6
  | .vmem => 7
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x128, .f32⟩
  | .hbm, ⟨3, _⟩ => ⟨S1024x128, .bf16⟩
  | .hbm, ⟨4, _⟩ => ⟨S1x1024, .f32⟩
  | .hbm, ⟨5, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x128, .bf16⟩
  | .local _ .vmem, ⟨4, _⟩ => ⟨S512x128, .f32⟩
  | .local _ .vmem, ⟨5, _⟩ => ⟨S512x128, .f32⟩
  | .local _ .vmem, ⟨6, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjDtRefIdeal.lean ====
abbrev S32768x1024 : Shape := ⟨2, ![32768, 1024]⟩
abbrev S1024 : Shape := ⟨1, ![1024]⟩
abbrev S1024x128 : Shape := ⟨2, ![1024, 128]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x128 : Shape := ⟨2, ![32768, 128]⟩

abbrev nBuf : Space → Nat
  | .hbm => 20
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x128, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== ProjQkv.lean ====
abbrev S32768x1024 : Shape := ⟨2, ![32768, 1024]⟩
abbrev S1024 : Shape := ⟨1, ![1024]⟩
abbrev S1024x4608 : Shape := ⟨2, ![1024, 4608]⟩
abbrev S1x1024 : Shape := ⟨2, ![1, 1024]⟩
abbrev S32768x4608 : Shape := ⟨2, ![32768, 4608]⟩
abbrev S1024x1024 : Shape := ⟨2, ![1024, 1024]⟩
abbrev S1024x1536 : Shape := ⟨2, ![1024, 1536]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4608, .f32⟩
  | .hbm, ⟨3, _⟩ => ⟨S1024x4608, .bf16⟩
  | .hbm, ⟨4, _⟩ => ⟨S1x1024, .f32⟩
  | .hbm, ⟨5, _⟩ => ⟨S32768x4608, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1536, .bf16⟩
  | .local _ .vmem, ⟨4, _⟩ => ⟨S1024x1536, .bf16⟩
  | .local _ .vmem, ⟨5, _⟩ => ⟨S1024x1536, .bf16⟩
  | .local _ .vmem, ⟨6, _⟩ => ⟨S1024x1536, .bf16⟩
  | .local _ .vmem, ⟨7, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjQkvRefIdeal.lean ====
abbrev S32768x1024 : Shape := ⟨2, ![32768, 1024]⟩
abbrev S1024 : Shape := ⟨1, ![1024]⟩
abbrev S1024x4608 : Shape := ⟨2, ![1024, 4608]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4608 : Shape := ⟨2, ![32768, 4608]⟩

abbrev nBuf : Space → Nat
  | .hbm => 21
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4608, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x4608, .f32⟩
  | .hbm, ⟨20, _⟩ => ⟨S32768x4608, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== ProjGates.lean ====
abbrev S32768x1024 : Shape := ⟨2, ![32768, 1024]⟩
abbrev S1024 : Shape := ⟨1, ![1024]⟩
abbrev S1024x3072 : Shape := ⟨2, ![1024, 3072]⟩
abbrev S1x1024 : Shape := ⟨2, ![1, 1024]⟩
abbrev S32768x3072 : Shape := ⟨2, ![32768, 3072]⟩
abbrev S1024x1024 : Shape := ⟨2, ![1024, 1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3072, .f32⟩
  | .hbm, ⟨3, _⟩ => ⟨S1024x3072, .bf16⟩
  | .hbm, ⟨4, _⟩ => ⟨S1x1024, .f32⟩
  | .hbm, ⟨5, _⟩ => ⟨S32768x3072, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjGatesRefIdeal.lean ====
abbrev S32768x1024 : Shape := ⟨2, ![32768, 1024]⟩
abbrev S1024 : Shape := ⟨1, ![1024]⟩
abbrev S1024x3072 : Shape := ⟨2, ![1024, 3072]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3072 : Shape := ⟨2, ![32768, 3072]⟩

abbrev nBuf : Space → Nat
  | .hbm => 20
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3072, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x3072, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Ple.lean ====
abbrev S32768x1024 : Shape := ⟨2, ![32768, 1024]⟩
abbrev S32768x256 : Shape := ⟨2, ![32768, 256]⟩
abbrev S1024 : Shape := ⟨1, ![1024]⟩
abbrev S1024x1024 : Shape := ⟨2, ![1024, 1024]⟩
abbrev S256x1024 : Shape := ⟨2, ![256, 1024]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S32768x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S1024, .f32⟩
  | .hbm, ⟨6, _⟩ => ⟨S1x1024, .f32⟩
  | .hbm, ⟨7, _⟩ => ⟨S1024x1024, .bf16⟩
  | .hbm, ⟨8, _⟩ => ⟨S256x1024, .bf16⟩
  | .hbm, ⟨9, _⟩ => ⟨S1x1024, .f32⟩
  | .hbm, ⟨10, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S1x1024, .f32⟩
  | .local _ .vmem, ⟨5, _⟩ => ⟨S1024x1024, .bf16⟩
  | .local _ .vmem, ⟨6, _⟩ => ⟨S256x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PleRefIdeal.lean ====
abbrev S32768x1024 : Shape := ⟨2, ![32768, 1024]⟩
abbrev S32768x256 : Shape := ⟨2, ![32768, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S1024, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S1x1024, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S_, .f32⟩
  | .hbm, ⟨26, _⟩ => ⟨S32768x1024, .f32⟩
  | .hbm, ⟨27, _⟩ => ⟨S32768x1024, .f32⟩
  | .hbm, ⟨28, _⟩ => ⟨S_, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S_, .f32⟩
  | .hbm, ⟨36, _⟩ => ⟨S32768, .f32⟩
  | .hbm, ⟨37, _⟩ => ⟨S32768x1, .f32⟩
  | .hbm, ⟨38, _⟩ => ⟨S_, .f32⟩
  | .hbm, ⟨39, _⟩ => ⟨S32768x1, .f32⟩
  | .hbm, ⟨40, _⟩ => ⟨S32768x1, .f32⟩
  | .hbm, ⟨41, _⟩ => ⟨S_, .f32⟩
  | .hbm, ⟨42, _⟩ => ⟨S32768x1, .f32⟩
  | .hbm, ⟨43, _⟩ => ⟨S32768x1, .f32⟩
  | .hbm, ⟨44, _⟩ => ⟨S32768x1, .f32⟩
  | .hbm, ⟨45, _⟩ => ⟨S32768x1024, .f32⟩
  | .hbm, ⟨46, _⟩ => ⟨S32768x1024, .f32⟩
  | .hbm, ⟨47, _⟩ => ⟨S1x1024, .f32⟩
  | .hbm, ⟨48, _⟩ => ⟨S32768x1024, .f32⟩
  | .hbm, ⟨49, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Prep.lean ====
abbrev S2x16384x512 : Shape := ⟨3, ![2, 16384, 512]⟩
abbrev S256 : Shape := ⟨1, ![256]⟩
abbrev S128 : Shape := ⟨1, ![128]⟩
abbrev S256x2048 : Shape := ⟨2, ![256, 2048]⟩
abbrev S256x512 : Shape := ⟨2, ![256, 512]⟩
abbrev S256x2560 : Shape := ⟨2, ![256, 2560]⟩
abbrev S1x256 : Shape := ⟨2, ![1, 256]⟩
abbrev S1x128 : Shape := ⟨2, ![1, 128]⟩
abbrev S2x16x16384x128 : Shape := ⟨4, ![2, 16, 16384, 128]⟩
abbrev S2x8x16384x64 : Shape := ⟨4, ![2, 8, 16384, 64]⟩
abbrev S2x128x16384 : Shape := ⟨3, ![2, 128, 16384]⟩
abbrev S2x16384x256 : Shape := ⟨3, ![2, 16384, 256]⟩
abbrev S2x64x16384 : Shape := ⟨3, ![2, 64, 16384]⟩
abbrev S2x8x16384 : Shape := ⟨3, ![2, 8, 16384]⟩
abbrev S1x512x512 : Shape := ⟨3, ![1, 512, 512]⟩
abbrev S1x16x512x128 : Shape := ⟨4, ![1, 16, 512, 128]⟩
abbrev S1x8x512x64 : Shape := ⟨4, ![1, 8, 512, 64]⟩
abbrev S1x128x512 : Shape := ⟨3, ![1, 128, 512]⟩
abbrev S1x512x256 : Shape := ⟨3, ![1, 512, 256]⟩
abbrev S1x64x512 : Shape := ⟨3, ![1, 64, 512]⟩
abbrev S1x8x512 : Shape := ⟨3, ![1, 8, 512]⟩
abbrev S512x512 : Shape := ⟨2, ![512, 512]⟩
abbrev S512x256 : Shape := ⟨2, ![512, 256]⟩
abbrev S512 : Shape := ⟨1, ![512]⟩
abbrev S512x1 : Shape := ⟨2, ![512, 1]⟩
abbrev S512x2560 : Shape := ⟨2, ![512, 2560]⟩
abbrev S512x2048 : Shape := ⟨2, ![512, 2048]⟩
abbrev S512x128 : Shape := ⟨2, ![512, 128]⟩
abbrev S1x1x512x128 : Shape := ⟨4, ![1, 1, 512, 128]⟩
abbrev S512x64 : Shape := ⟨2, ![512, 64]⟩
abbrev S1x1x512x64 : Shape := ⟨4, ![1, 1, 512, 64]⟩
abbrev S128x512 : Shape := ⟨2, ![128, 512]⟩
abbrev S1x512x128 : Shape := ⟨3, ![1, 512, 128]⟩
abbrev S64x512 : Shape := ⟨2, ![64, 512]⟩
abbrev S8x512 : Shape := ⟨2, ![8, 512]⟩

abbrev nBuf : Space → Nat
  | .hbm => 15
  | .vmem => 17
  | .smem => 0
  | _ => 0

abbrev bufTy : (tb : Table) → Fin (tcTables nBuf tb) → BufTy
  | .hbm, ⟨0, _⟩ => ⟨S2x16384x512, .f32⟩
  | .hbm, ⟨1, _⟩ => ⟨S256, .f32⟩
  | .hbm, ⟨2, _⟩ => ⟨S128, .f32⟩
  | .hbm, ⟨3, _⟩ => ⟨S256x2048, .f32⟩
  | .hbm, ⟨4, _⟩ => ⟨S256x512, .f32⟩
  | .hbm, ⟨5, _⟩ => ⟨S256x2560, .f32⟩
  | .hbm, ⟨6, _⟩ => ⟨S256x2560, .bf16⟩
  | .hbm, ⟨7, _⟩ => ⟨S1x256, .f32⟩
  | .hbm, ⟨8, _⟩ => ⟨S1x128, .f32⟩
  | .hbm, ⟨9, _⟩ => ⟨S2x16x16384x128, .bf16⟩
  | .hbm, ⟨10, _⟩ => ⟨S2x8x16384x64, .bf16⟩
  | .hbm, ⟨11, _⟩ => ⟨S2x128x16384, .bf16⟩
  | .hbm, ⟨12, _⟩ => ⟨S2x16384x256, .bf16⟩
  | .hbm, ⟨13, _⟩ => ⟨S2x64x16384, .bf16⟩
  | .hbm, ⟨14, _⟩ => ⟨S2x8x16384, .f32⟩
  | .local _ .vmem, ⟨0, _⟩ => ⟨S1x512x512, .f32⟩
  | .local _ .vmem, ⟨1, _⟩ => ⟨S1x512x512, .f32⟩
  | .local _ .vmem, ⟨2, _⟩ => ⟨S1x256, .f32⟩
  | .local _ .vmem, ⟨3, _⟩ => ⟨S1x128, .f32⟩
  | .local _ .vmem, ⟨4, _⟩ => ⟨S256x2560, .bf16⟩
  | .local _ .vmem, ⟨5, _⟩ => ⟨S1x16x512x128, .bf16⟩
  | .local _ .vmem, ⟨6, _⟩ => ⟨S1x16x512x128, .bf16⟩
  | .local _ .vmem, ⟨7, _⟩ => ⟨S1x8x512x64, .bf16⟩
  | .local _ .vmem, ⟨8, _⟩ => ⟨S1x8x512x64, .bf16⟩
  | .local _ .vmem, ⟨9, _⟩ => ⟨S1x128x512, .bf16⟩
  | .local _ .vmem, ⟨10, _⟩ => ⟨S1x128x512, .bf16⟩
  | .local _ .vmem, ⟨11, _⟩ => ⟨S1x512x256, .bf16⟩
  | .local _ .vmem, ⟨12, _⟩ => ⟨S1x512x256, .bf16⟩
  | .local _ .vmem, ⟨13, _⟩ => ⟨S1x64x512, .bf16⟩
  | .local _ .vmem, ⟨14, _⟩ => ⟨S1x64x512, .bf16⟩
  | .local _ .vmem, ⟨15, _⟩ => ⟨S1x8x512, .f32⟩
  | .local _ .vmem, ⟨16, _⟩ => ⟨S1x8x512, .f32⟩
  | _, _ => ⟨S2x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev main_v4_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x16x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x512x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== PrepRefIdeal.lean ====
abbrev S2x16384x512 : Shape := ⟨3, ![2, 16384, 512]⟩
abbrev S256 : Shape := ⟨1, ![256]⟩
abbrev S128 : Shape := ⟨1, ![128]⟩
abbrev S256x2048 : Shape := ⟨2, ![256, 2048]⟩
abbrev S256x512 : Shape := ⟨2, ![256, 512]⟩
abbrev S2x16384x256 : Shape := ⟨3, ![2, 16384, 256]⟩
abbrev S2x16384x128 : Shape := ⟨3, ![2, 16384, 128]⟩
abbrev S2x16384x64 : Shape := ⟨3, ![2, 16384, 64]⟩
abbrev S2x16384x8 : Shape := ⟨3, ![2, 16384, 8]⟩
abbrev S2x16384x56 : Shape := ⟨3, ![2, 16384, 56]⟩
abbrev S_ : Shape := ⟨0, ![]⟩
abbrev S2x16384 : Shape := ⟨2, ![2, 16384]⟩
abbrev S2x16384x1 : Shape := ⟨3, ![2, 16384, 1]⟩
abbrev S1x1x256 : Shape := ⟨3, ![1, 1, 256]⟩
abbrev S2x16384x2048 : Shape := ⟨3, ![2, 16384, 2048]⟩
abbrev S2x16384x16x128 : Shape := ⟨4, ![2, 16384, 16, 128]⟩
abbrev S2x16384x8x64 : Shape := ⟨4, ![2, 16384, 8, 64]⟩
abbrev S1x1x128 : Shape := ⟨3, ![1, 1, 128]⟩
abbrev S2x16384x127 : Shape := ⟨3, ![2, 16384, 127]⟩
abbrev S2x16x16384x128 : Shape := ⟨4, ![2, 16, 16384, 128]⟩
abbrev S2x8x16384x64 : Shape := ⟨4, ![2, 8, 16384, 64]⟩
abbrev S2x128x16384 : Shape := ⟨3, ![2, 128, 16384]⟩
abbrev S2x64x16384 : Shape := ⟨3, ![2, 64, 16384]⟩
abbrev S2x8x16384 : Shape := ⟨3, ![2, 8, 16384]⟩

abbrev nBuf : Space → Nat
  | .hbm => 68
  | .vmem => 0
  | .smem => 0
  | _ => 0

abbrev bufTy : (tb : Table) → Fin (tcTables nBuf tb) → BufTy
  | .hbm, ⟨0, _⟩ => ⟨S2x16384x512, .f32⟩
  | .hbm, ⟨1, _⟩ => ⟨S256, .f32⟩
  | .hbm, ⟨2, _⟩ => ⟨S128, .f32⟩
  | .hbm, ⟨3, _⟩ => ⟨S256x2048, .f32⟩
  | .hbm, ⟨4, _⟩ => ⟨S256x512, .f32⟩
  | .hbm, ⟨5, _⟩ => ⟨S2x16384x256, .f32⟩
  | .hbm, ⟨6, _⟩ => ⟨S2x16384x128, .f32⟩
  | .hbm, ⟨7, _⟩ => ⟨S2x16384x64, .f32⟩
  | .hbm, ⟨8, _⟩ => ⟨S2x16384x8, .f32⟩
  | .hbm, ⟨9, _⟩ => ⟨S2x16384x56, .f32⟩
  | .hbm, ⟨10, _⟩ => ⟨S2x16384x256, .f32⟩
  | .hbm, ⟨11, _⟩ => ⟨S_, .f32⟩
  | .hbm, ⟨12, _⟩ => ⟨S2x16384, .f32⟩
  | .hbm, ⟨13, _⟩ => ⟨S2x16384x1, .f32⟩
  | .hbm, ⟨14, _⟩ => ⟨S_, .f32⟩
  | .hbm, ⟨15, _⟩ => ⟨S2x16384x1, .f32⟩
  | .hbm, ⟨16, _⟩ => ⟨S2x16384x1, .f32⟩
  | .hbm, ⟨17, _⟩ => ⟨S_, .f32⟩
  | .hbm, ⟨18, _⟩ => ⟨S2x16384x1, .f32⟩
  | .hbm, ⟨19, _⟩ => ⟨S2x16384x1, .f32⟩
  | .hbm, ⟨20, _⟩ => ⟨S2x16384x1, .f32⟩
  | .hbm, ⟨21, _⟩ => ⟨S2x16384x256, .f32⟩
  | .hbm, ⟨22, _⟩ => ⟨S2x16384x256, .f32⟩
  | .hbm, ⟨23, _⟩ => ⟨S1x1x256, .f32⟩
  | .hbm, ⟨24, _⟩ => ⟨S2x16384x256, .f32⟩
  | .hbm, ⟨25, _⟩ => ⟨S2x16384x256, .f32⟩
  | .hbm, ⟨26, _⟩ => ⟨S2x16384x2048, .f32⟩
  | .hbm, ⟨27, _⟩ => ⟨S2x16384x16x128, .f32⟩
  | .hbm, ⟨28, _⟩ => ⟨S_, .f32⟩
  | .hbm, ⟨29, _⟩ => ⟨S2x16384x16x128, .f32⟩
  | .hbm, ⟨30, _⟩ => ⟨S2x16384x16x128, .f32⟩
  | .hbm, ⟨31, _⟩ => ⟨S2x16384x512, .f32⟩
  | .hbm, ⟨32, _⟩ => ⟨S2x16384x8x64, .f32⟩
  | .hbm, ⟨33, _⟩ => ⟨S2x16384x128, .f32⟩
  | .hbm, ⟨34, _⟩ => ⟨S_, .f32⟩
  | .hbm, ⟨35, _⟩ => ⟨S2x16384, .f32⟩
  | .hbm, ⟨36, _⟩ => ⟨S2x16384x1, .f32⟩
  | .hbm, ⟨37, _⟩ => ⟨S_, .f32⟩
  | .hbm, ⟨38, _⟩ => ⟨S2x16384x1, .f32⟩
  | .hbm, ⟨39, _⟩ => ⟨S2x16384x1, .f32⟩
  | .hbm, ⟨40, _⟩ => ⟨S_, .f32⟩
  | .hbm, ⟨41, _⟩ => ⟨S2x16384x1, .f32⟩
  | .hbm, ⟨42, _⟩ => ⟨S2x16384x1, .f32⟩
  | .hbm, ⟨43, _⟩ => ⟨S2x16384x1, .f32⟩
  | .hbm, ⟨44, _⟩ => ⟨S2x16384x128, .f32⟩
  | .hbm, ⟨45, _⟩ => ⟨S2x16384x128, .f32⟩
  | .hbm, ⟨46, _⟩ => ⟨S1x1x128, .f32⟩
  | .hbm, ⟨47, _⟩ => ⟨S2x16384x128, .f32⟩
  | .hbm, ⟨48, _⟩ => ⟨S2x16384x128, .f32⟩
  | .hbm, ⟨49, _⟩ => ⟨S_, .f32⟩
  | .hbm, ⟨50, _⟩ => ⟨S2x16384x8, .f32⟩
  | .hbm, ⟨51, _⟩ => ⟨S2x16384x8, .f32⟩
  | .hbm, ⟨52, _⟩ => ⟨S_, .f32⟩
  | .hbm, ⟨53, _⟩ => ⟨S2x16384x1, .f32⟩
  | .hbm, ⟨54, _⟩ => ⟨S_, .f32⟩
  | .hbm, ⟨55, _⟩ => ⟨S2x16384x127, .f32⟩
  | .hbm, ⟨56, _⟩ => ⟨S2x16384x128, .f32⟩
  | .hbm, ⟨57, _⟩ => ⟨S2x16x16384x128, .f32⟩
  | .hbm, ⟨58, _⟩ => ⟨S2x16x16384x128, .bf16⟩
  | .hbm, ⟨59, _⟩ => ⟨S2x8x16384x64, .f32⟩
  | .hbm, ⟨60, _⟩ => ⟨S2x8x16384x64, .bf16⟩
  | .hbm, ⟨61, _⟩ => ⟨S2x128x16384, .f32⟩
  | .hbm, ⟨62, _⟩ => ⟨S2x128x16384, .bf16⟩
  | .hbm, ⟨63, _⟩ => ⟨S2x16384x256, .f32⟩
  | .hbm, ⟨64, _⟩ => ⟨S2x16384x256, .bf16⟩
  | .hbm, ⟨65, _⟩ => ⟨S2x64x16384, .f32⟩
  | .hbm, ⟨66, _⟩ => ⟨S2x64x16384, .bf16⟩
  | .hbm, ⟨67, _⟩ => ⟨S2x8x16384, .f32⟩
  | _, _ => ⟨S2x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩

abbrev nD : Nat := 1
abbrev τ : Topo := Topo.v7x

variable {F : FTy → Type} [FloatOps F]
-- ==== Merge.lean ====
abbrev S32768x1024 : Shape := ⟨2, ![32768, 1024]⟩
abbrev S32768x2048 : Shape := ⟨2, ![32768, 2048]⟩
abbrev S32768x512 : Shape := ⟨2, ![32768, 512]⟩
abbrev S32768x3072 : Shape := ⟨2, ![32768, 3072]⟩
abbrev S2048x1024 : Shape := ⟨2, ![2048, 1024]⟩
abbrev S512x1024 : Shape := ⟨2, ![512, 1024]⟩
abbrev S1024x1024 : Shape := ⟨2, ![1024, 1024]⟩
abbrev S256x1024 : Shape := ⟨2, ![256, 1024]⟩
abbrev S256x2048 : Shape := ⟨2, ![256, 2048]⟩
abbrev S256x512 : Shape := ⟨2, ![256, 512]⟩

abbrev nBuf : Space → Nat
  | .hbm => 19
  | .vmem => 30
  | .smem => 0
  | _ => 0

abbrev bufTy : (tb : Table) → Fin (tcTables nBuf tb) → BufTy
  | .hbm, ⟨0, _⟩ => ⟨S32768x1024, .f32⟩
  | .hbm, ⟨1, _⟩ => ⟨S32768x2048, .bf16⟩
  | .hbm, ⟨2, _⟩ => ⟨S32768x2048, .bf16⟩
  | .hbm, ⟨3, _⟩ => ⟨S32768x512, .f32⟩
  | .hbm, ⟨4, _⟩ => ⟨S32768x512, .f32⟩
  | .hbm, ⟨5, _⟩ => ⟨S32768x512, .f32⟩
  | .hbm, ⟨6, _⟩ => ⟨S32768x512, .f32⟩
  | .hbm, ⟨7, _⟩ => ⟨S32768x512, .f32⟩
  | .hbm, ⟨8, _⟩ => ⟨S32768x512, .f32⟩
  | .hbm, ⟨9, _⟩ => ⟨S32768x3072, .f32⟩
  | .hbm, ⟨10, _⟩ => ⟨S2048x1024, .f32⟩
  | .hbm, ⟨11, _⟩ => ⟨S2048x1024, .f32⟩
  | .hbm, ⟨12, _⟩ => ⟨S512x1024, .f32⟩
  | .hbm, ⟨13, _⟩ => ⟨S1024x1024, .f32⟩
  | .hbm, ⟨14, _⟩ => ⟨S2048x1024, .bf16⟩
  | .hbm, ⟨15, _⟩ => ⟨S2048x1024, .bf16⟩
  | .hbm, ⟨16, _⟩ => ⟨S512x1024, .bf16⟩
  | .hbm, ⟨17, _⟩ => ⟨S1024x1024, .bf16⟩
  | .hbm, ⟨18, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S2048x1024, .bf16⟩
  | .local _ .vmem, ⟨25, _⟩ => ⟨S2048x1024, .bf16⟩
  | .local _ .vmem, ⟨26, _⟩ => ⟨S512x1024, .bf16⟩
  | .local _ .vmem, ⟨27, _⟩ => ⟨S1024x1024, .bf16⟩
  | .local _ .vmem, ⟨28, _⟩ => ⟨S256x1024, .f32⟩
  | .local _ .vmem, ⟨29, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg16_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_11 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S2048x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2048x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MergeRefIdeal.lean ====
abbrev S32768x1024 : Shape := ⟨2, ![32768, 1024]⟩
abbrev S32768x2048 : Shape := ⟨2, ![32768, 2048]⟩
abbrev S32768x512 : Shape := ⟨2, ![32768, 512]⟩
abbrev S32768x3072 : Shape := ⟨2, ![32768, 3072]⟩
abbrev S2048x1024 : Shape := ⟨2, ![2048, 1024]⟩
abbrev S512x1024 : Shape := ⟨2, ![512, 1024]⟩
abbrev S1024x1024 : Shape := ⟨2, ![1024, 1024]⟩
abbrev S1x32768x512 : Shape := ⟨3, ![1, 32768, 512]⟩
abbrev S3x32768x512 : Shape := ⟨3, ![3, 32768, 512]⟩
abbrev S_ : Shape := ⟨0, ![]⟩

abbrev nBuf : Space → Nat
  | .hbm => 78
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x2048, .bf16⟩
  | .hbm, ⟨2, _⟩ => ⟨S32768x2048, .bf16⟩
  | .hbm, ⟨3, _⟩ => ⟨S32768x512, .f32⟩
  | .hbm, ⟨4, _⟩ => ⟨S32768x512, .f32⟩
  | .hbm, ⟨5, _⟩ => ⟨S32768x512, .f32⟩
  | .hbm, ⟨6, _⟩ => ⟨S32768x512, .f32⟩
  | .hbm, ⟨7, _⟩ => ⟨S32768x512, .f32⟩
  | .hbm, ⟨8, _⟩ => ⟨S32768x512, .f32⟩
  | .hbm, ⟨9, _⟩ => ⟨S32768x3072, .f32⟩
  | .hbm, ⟨10, _⟩ => ⟨S2048x1024, .f32⟩
  | .hbm, ⟨11, _⟩ => ⟨S2048x1024, .f32⟩
  | .hbm, ⟨12, _⟩ => ⟨S512x1024, .f32⟩
  | .hbm, ⟨13, _⟩ => ⟨S1024x1024, .f32⟩
  | .hbm, ⟨14, _⟩ => ⟨S32768x2048, .f32⟩
  | .hbm, ⟨15, _⟩ => ⟨S32768x2048, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S1x32768x512, .f32⟩
  | .hbm, ⟨20, _⟩ => ⟨S1x32768x512, .f32⟩
  | .hbm, ⟨21, _⟩ => ⟨S1x32768x512, .f32⟩
  | .hbm, ⟨22, _⟩ => ⟨S3x32768x512, .f32⟩
  | .hbm, ⟨23, _⟩ => ⟨S_, .f32⟩
  | .hbm, ⟨24, _⟩ => ⟨S32768x512, .f32⟩
  | .hbm, ⟨25, _⟩ => ⟨S_, .f32⟩
  | .hbm, ⟨26, _⟩ => ⟨S32768x512, .f32⟩
  | .hbm, ⟨27, _⟩ => ⟨S32768x512, .f32⟩
  | .hbm, ⟨28, _⟩ => ⟨S1x32768x512, .f32⟩
  | .hbm, ⟨29, _⟩ => ⟨S3x32768x512, .f32⟩
  | .hbm, ⟨30, _⟩ => ⟨S3x32768x512, .f32⟩
  | .hbm, ⟨31, _⟩ => ⟨S3x32768x512, .f32⟩
  | .hbm, ⟨32, _⟩ => ⟨S_, .f32⟩
  | .hbm, ⟨33, _⟩ => ⟨S32768x512, .f32⟩
  | .hbm, ⟨34, _⟩ => ⟨S1x32768x512, .f32⟩
  | .hbm, ⟨35, _⟩ => ⟨S3x32768x512, .f32⟩
  | .hbm, ⟨36, _⟩ => ⟨S3x32768x512, .f32⟩
  | .hbm, ⟨37, _⟩ => ⟨S1x32768x512, .f32⟩
  | .hbm, ⟨38, _⟩ => ⟨S1x32768x512, .f32⟩
  | .hbm, ⟨39, _⟩ => ⟨S1x32768x512, .f32⟩
  | .hbm, ⟨40, _⟩ => ⟨S3x32768x512, .f32⟩
  | .hbm, ⟨41, _⟩ => ⟨S3x32768x512, .f32⟩
  | .hbm, ⟨42, _⟩ => ⟨S_, .f32⟩
  | .hbm, ⟨43, _⟩ => ⟨S32768x512, .f32⟩
  | .hbm, ⟨44, _⟩ => ⟨S32768x1024, .f32⟩
  | .hbm, ⟨45, _⟩ => ⟨S32768x1024, .f32⟩
  | .hbm, ⟨46, _⟩ => ⟨S_, .f32⟩
  | .hbm, ⟨47, _⟩ => ⟨S32768x1024, .f32⟩
  | .hbm, ⟨48, _⟩ => ⟨S32768x1024, .f32⟩
  | .hbm, ⟨49, _⟩ => ⟨S_, .f32⟩
  | .hbm, ⟨50, _⟩ => ⟨S32768x1024, .f32⟩
  | .hbm, ⟨51, _⟩ => ⟨S32768x1024, .f32⟩
  | .hbm, ⟨52, _⟩ => ⟨S32768x1024, .f32⟩
  | .hbm, ⟨53, _⟩ => ⟨S32768x1024, .f32⟩
  | .hbm, ⟨54, _⟩ => ⟨S32768x1024, .f32⟩
  | .hbm, ⟨55, _⟩ => ⟨S32768x1024, .f32⟩
  | .hbm, ⟨56, _⟩ => ⟨S_, .f32⟩
  | .hbm, ⟨57, _⟩ => ⟨S32768x1024, .f32⟩
  | .hbm, ⟨58, _⟩ => ⟨S32768x1024, .f32⟩
  | .hbm, ⟨59, _⟩ => ⟨S_, .f32⟩
  | .hbm, ⟨60, _⟩ => ⟨S32768x1024, .f32⟩
  | .hbm, ⟨61, _⟩ => ⟨S32768x1024, .f32⟩
  | .hbm, ⟨62, _⟩ => ⟨S32768x1024, .f32⟩
  | .hbm, ⟨63, _⟩ => ⟨S32768x1024, .f32⟩
  | .hbm, ⟨64, _⟩ => ⟨S32768x1024, .f32⟩
  | .hbm, ⟨65, _⟩ => ⟨S32768x1024, .f32⟩
  | .hbm, ⟨66, _⟩ => ⟨S32768x1024, .f32⟩
  | .hbm, ⟨67, _⟩ => ⟨S_, .f32⟩
  | .hbm, ⟨68, _⟩ => ⟨S32768x1024, .f32⟩
  | .hbm, ⟨69, _⟩ => ⟨S32768x1024, .f32⟩
  | .hbm, ⟨70, _⟩ => ⟨S_, .f32⟩
  | .hbm, ⟨71, _⟩ => ⟨S32768x1024, .f32⟩
  | .hbm, ⟨72, _⟩ => ⟨S32768x1024, .f32⟩
  | .hbm, ⟨73, _⟩ => ⟨S32768x1024, .f32⟩
  | .hbm, ⟨74, _⟩ => ⟨S32768x1024, .f32⟩
  | .hbm, ⟨75, _⟩ => ⟨S32768x1024, .f32⟩
  | .hbm, ⟨76, _⟩ => ⟨S32768x1024, .f32⟩
  | .hbm, ⟨77, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_7 : Ref sig .tc := ⟨.hbm, 67, rfl⟩
abbrev main_v45 : Ref sig .tc := ⟨.hbm, 68, rfl⟩
abbrev main_v46 : Ref sig .tc := ⟨.hbm, 69, rfl⟩
abbrev main_cst_8 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩

abbrev nD : Nat := 1
abbrev τ : Topo := Topo.v7x

variable {F : FTy → Type} [FloatOps F]
-- ==== Dil.lean ====
abbrev S2x16384x4608 : Shape := ⟨3, ![2, 16384, 4608]⟩
abbrev S32x40 : Shape := ⟨2, ![32, 40]⟩
abbrev S2x8x128x256 : Shape := ⟨4, ![2, 8, 128, 256]⟩
abbrev S1x1x128x256 : Shape := ⟨4, ![1, 1, 128, 256]⟩
abbrev S128x256 : Shape := ⟨2, ![128, 256]⟩
abbrev S1x1 : Shape := ⟨2, ![1, 1]⟩
abbrev S2x16384x512 : Shape := ⟨3, ![2, 16384, 512]⟩
abbrev S1x128x512 : Shape := ⟨3, ![1, 128, 512]⟩
abbrev S1x8x128x256 : Shape := ⟨4, ![1, 8, 128, 256]⟩
abbrev S128x512 : Shape := ⟨2, ![128, 512]⟩
abbrev S256x512 : Shape := ⟨2, ![256, 512]⟩
abbrev S128x64 : Shape := ⟨2, ![128, 64]⟩
abbrev S256x64 : Shape := ⟨2, ![256, 64]⟩
abbrev S128 : Shape := ⟨1, ![128]⟩
abbrev S128x1 : Shape := ⟨2, ![128, 1]⟩
abbrev S1x128x64 : Shape := ⟨3, ![1, 128, 64]⟩

abbrev nBuf : Space → Nat
  | .hbm => 5
  | .vmem => 18
  | .smem => 1
  | _ => 0

abbrev bufTy : (tb : Table) → Fin (tcTables nBuf tb) → BufTy
  | .hbm, ⟨0, _⟩ => ⟨S2x16384x4608, .bf16⟩
  | .hbm, ⟨1, _⟩ => ⟨S32x40, .f32⟩
  | .hbm, ⟨2, _⟩ => ⟨S2x8x128x256, .f32⟩
  | .hbm, ⟨3, _⟩ => ⟨S2x16384x512, .f32⟩
  | .hbm, ⟨4, _⟩ => ⟨S2x16384x512, .f32⟩
  | .local _ .vmem, ⟨0, _⟩ => ⟨S1x1x128x256, .f32⟩
  | .local _ .vmem, ⟨1, _⟩ => ⟨S1x1x128x256, .f32⟩
  | .local _ .vmem, ⟨2, _⟩ => ⟨S1x128x512, .bf16⟩
  | .local _ .vmem, ⟨3, _⟩ => ⟨S1x128x512, .bf16⟩
  | .local _ .vmem, ⟨4, _⟩ => ⟨S1x128x512, .bf16⟩
  | .local _ .vmem, ⟨5, _⟩ => ⟨S1x128x512, .bf16⟩
  | .local _ .vmem, ⟨6, _⟩ => ⟨S1x128x512, .bf16⟩
  | .local _ .vmem, ⟨7, _⟩ => ⟨S1x128x512, .bf16⟩
  | .local _ .vmem, ⟨8, _⟩ => ⟨S1x128x512, .bf16⟩
  | .local _ .vmem, ⟨9, _⟩ => ⟨S1x128x512, .bf16⟩
  | .local _ .vmem, ⟨10, _⟩ => ⟨S1x128x512, .bf16⟩
  | .local _ .vmem, ⟨11, _⟩ => ⟨S1x128x512, .bf16⟩
  | .local _ .vmem, ⟨12, _⟩ => ⟨S1x8x128x256, .f32⟩
  | .local _ .vmem, ⟨13, _⟩ => ⟨S1x8x128x256, .f32⟩
  | .local _ .vmem, ⟨14, _⟩ => ⟨S1x128x512, .f32⟩
  | .local _ .vmem, ⟨15, _⟩ => ⟨S1x128x512, .f32⟩
  | .local _ .vmem, ⟨16, _⟩ => ⟨S1x128x512, .f32⟩
  | .local _ .vmem, ⟨17, _⟩ => ⟨S1x128x512, .f32⟩
  | .local _ .smem, ⟨0, _⟩ => ⟨S32x40, .f32⟩
  | _, _ => ⟨S2x16384x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg1_0 : Ref sig .tc := ⟨.vmem, 0, rfl⟩
abbrev cc0_stg1_1 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg7_1 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem5_1 : DmaSem sig := 14
abbrev cc1_sem6_0 : DmaSem sig := 15
abbrev cc1_sem6_1 : DmaSem sig := 16
abbrev cc1_sem7_0 : DmaSem sig := 17
abbrev cc1_sem7_1 : DmaSem sig := 18

abbrev nD : Nat := 1
abbrev τ : Topo := Topo.v7x

variable {F : FTy → Type} [FloatOps F]

abbrev grid0 : Pipeline.Grid := ⟨2, ![2, 8], ![false, false]⟩

def k0_off1 (i : grid0.Coords) : Fin 2 → Nat :=
  let c0 : Index := 0#32
  let c16_i32_6 : BitVec 32 := 16#32
  let arg1 : BitVec 32 := BitVec.ofNat 32 (i 1).val
  let v30 : BitVec 32 := Scalar.addi c16_i32_6 arg1
  let v31 : Index := Scalar.indexCast v30
  ![0, v31.toNat]
def k0_off2 (i : grid0.Coords) : Fin 2 → Nat :=
  let c1 : Index := 1#32
  let c16_i32_8 : BitVec 32 := 16#32
  let arg1 : BitVec 32 := BitVec.ofNat 32 (i 1).val
  let v37 : BitVec 32 := Scalar.addi c16_i32_8 arg1
  let v38 : Index := Scalar.indexCast v37
  ![1, v38.toNat]
def k0_off3 (i : grid0.Coords) : Fin 2 → Nat :=
  let c2 : Index := 2#32
  let c16_i32_9 : BitVec 32 := 16#32
  let arg1 : BitVec 32 := BitVec.ofNat 32 (i 1).val
  let v44 : BitVec 32 := Scalar.addi c16_i32_9 arg1
  let v45 : Index := Scalar.indexCast v44
  ![2, v45.toNat]
def k0_off4 (i : grid0.Coords) : Fin 2 → Nat :=
  let c3 : Index := 3#32
  let c16_i32_10 : BitVec 32 := 16#32
  let arg1 : BitVec 32 := BitVec.ofNat 32 (i 1).val
  let v51 : BitVec 32 := Scalar.addi c16_i32_10 arg1
  let v52 : Index := Scalar.indexCast v51
  ![3, v52.toNat]
def k0_off5 (i : grid0.Coords) : Fin 2 → Nat :=
  let c4 : Index := 4#32
  let c16_i32_11 : BitVec 32 := 16#32
  let arg1 : BitVec 32 := BitVec.ofNat 32 (i 1).val
  let v58 : BitVec 32 := Scalar.addi c16_i32_11 arg1
  let v59 : Index := Scalar.indexCast v58
  ![4, v59.toNat]
def k0_off6 (i : grid0.Coords) : Fin 2 → Nat :=
  let c5 : Index := 5#32
  let c16_i32_12 : BitVec 32 := 16#32
  let arg1 : BitVec 32 := BitVec.ofNat 32 (i 1).val
  let v65 : BitVec 32 := Scalar.addi c16_i32_12 arg1
  let v66 : Index := Scalar.indexCast v65
  ![5, v66.toNat]
def k0_off7 (i : grid0.Coords) : Fin 2 → Nat :=
  let c6 : Index := 6#32
  let c16_i32_13 : BitVec 32 := 16#32
  let arg1 : BitVec 32 := BitVec.ofNat 32 (i 1).val
  let v72 : BitVec 32 := Scalar.addi c16_i32_13 arg1
  let v73 : Index := Scalar.indexCast v72
  ![6, v73.toNat]
def k0_off8 (i : grid0.Coords) : Fin 2 → Nat :=
  let c7 : Index := 7#32
  let c16_i32_14 : BitVec 32 := 16#32
  let arg1 : BitVec 32 := BitVec.ofNat 32 (i 1).val
  let v79 : BitVec 32 := Scalar.addi c16_i32_14 arg1
  let v80 : Index := Scalar.indexCast v79
  ![7, v80.toNat]
def k0_off9 (i : grid0.Coords) : Fin 2 → Nat :=
  let c8 : Index := 8#32
  let c16_i32_15 : BitVec 32 := 16#32
  let arg1 : BitVec 32 := BitVec.ofNat 32 (i 1).val
  let v86 : BitVec 32 := Scalar.addi c16_i32_15 arg1
  let v87 : Index := Scalar.indexCast v86
  ![8, v87.toNat]
def k0_off10 (i : grid0.Coords) : Fin 2 → Nat :=
  let c9 : Index := 9#32
  let c16_i32_16 : BitVec 32 := 16#32
  let arg1 : BitVec 32 := BitVec.ofNat 32 (i 1).val
  let v93 : BitVec 32 := Scalar.addi c16_i32_16 arg1
  let v94 : Index := Scalar.indexCast v93
  ![9, v94.toNat]
def k0_off11 (i : grid0.Coords) : Fin 2 → Nat :=
  let c10 : Index := 10#32
  let c16_i32_17 : BitVec 32 := 16#32
  let arg1 : BitVec 32 := BitVec.ofNat 32 (i 1).val
  let v100 : BitVec 32 := Scalar.addi c16_i32_17 arg1
  let v101 : Index := Scalar.indexCast v100
  ![10, v101.toNat]
def k0_off12 (i : grid0.Coords) : Fin 2 → Nat :=
  let c11 : Index := 11#32
  let c16_i32_18 : BitVec 32 := 16#32
  let arg1 : BitVec 32 := BitVec.ofNat 32 (i 1).val
  let v107 : BitVec 32 := Scalar.addi c16_i32_18 arg1
  let v108 : Index := Scalar.indexCast v107
  ![11, v108.toNat]
def k0_off13 (i : grid0.Coords) : Fin 2 → Nat :=
  let c12 : Index := 12#32
  let c16_i32_19 : BitVec 32 := 16#32
  let arg1 : BitVec 32 := BitVec.ofNat 32 (i 1).val
  let v114 : BitVec 32 := Scalar.addi c16_i32_19 arg1
  let v115 : Index := Scalar.indexCast v114
  ![12, v115.toNat]
def k0_off14 (i : grid0.Coords) : Fin 2 → Nat :=
  let c13 : Index := 13#32
  let c16_i32_20 : BitVec 32 := 16#32
  let arg1 : BitVec 32 := BitVec.ofNat 32 (i 1).val
  let v121 : BitVec 32 := Scalar.addi c16_i32_20 arg1
  let v122 : Index := Scalar.indexCast v121
  ![13, v122.toNat]
def k0_off15 (i : grid0.Coords) : Fin 2 → Nat :=
  let c14 : Index := 14#32
  let c16_i32_21 : BitVec 32 := 16#32
  let arg1 : BitVec 32 := BitVec.ofNat 32 (i 1).val
  let v128 : BitVec 32 := Scalar.addi c16_i32_21 arg1
  let v129 : Index := Scalar.indexCast v128
  ![14, v129.toNat]
def k0_off16 (i : grid0.Coords) : Fin 2 → Nat :=
  let c15 : Index := 15#32
  let c16_i32_22 : BitVec 32 := 16#32
  let arg1 : BitVec 32 := BitVec.ofNat 32 (i 1).val
  let v135 : BitVec 32 := Scalar.addi c16_i32_22 arg1
  let v136 : Index := Scalar.indexCast v135
  ![15, v136.toNat]
def k0_off17 (i : grid0.Coords) : Fin 2 → Nat :=
  let c16 : Index := 16#32
  let c16_i32_24 : BitVec 32 := 16#32
  let arg1 : BitVec 32 := BitVec.ofNat 32 (i 1).val
  let v142 : BitVec 32 := Scalar.addi c16_i32_24 arg1
  let v143 : Index := Scalar.indexCast v142
  ![16, v143.toNat]
def k0_off18 (i : grid0.Coords) : Fin 2 → Nat :=
  let c17 : Index := 17#32
  let c16_i32_25 : BitVec 32 := 16#32
  let arg1 : BitVec 32 := BitVec.ofNat 32 (i 1).val
  let v149 : BitVec 32 := Scalar.addi c16_i32_25 arg1
  let v150 : Index := Scalar.indexCast v149
  ![17, v150.toNat]
def k0_off19 (i : grid0.Coords) : Fin 2 → Nat :=
  let c18 : Index := 18#32
  let c16_i32_26 : BitVec 32 := 16#32
  let arg1 : BitVec 32 := BitVec.ofNat 32 (i 1).val
  let v156 : BitVec 32 := Scalar.addi c16_i32_26 arg1
  let v157 : Index := Scalar.indexCast v156
  ![18, v157.toNat]
def k0_off20 (i : grid0.Coords) : Fin 2 → Nat :=
  let c19 : Index := 19#32
  let c16_i32_27 : BitVec 32 := 16#32
  let arg1 : BitVec 32 := BitVec.ofNat 32 (i 1).val
  let v163 : BitVec 32 := Scalar.addi c16_i32_27 arg1
  let v164 : Index := Scalar.indexCast v163
  ![19, v164.toNat]
def k0_off21 (i : grid0.Coords) : Fin 2 → Nat :=
  let c20 : Index := 20#32
  let c16_i32_28 : BitVec 32 := 16#32
  let arg1 : BitVec 32 := BitVec.ofNat 32 (i 1).val
  let v170 : BitVec 32 := Scalar.addi c16_i32_28 arg1
  let v171 : Index := Scalar.indexCast v170
  ![20, v171.toNat]
def k0_off22 (i : grid0.Coords) : Fin 2 → Nat :=
  let c21 : Index := 21#32
  let c16_i32_29 : BitVec 32 := 16#32
  let arg1 : BitVec 32 := BitVec.ofNat 32 (i 1).val
  let v177 : BitVec 32 := Scalar.addi c16_i32_29 arg1
  let v178 : Index := Scalar.indexCast v177
  ![21, v178.toNat]
def k0_off23 (i : grid0.Coords) : Fin 2 → Nat :=
  let c22 : Index := 22#32
  let c16_i32_30 : BitVec 32 := 16#32
  let arg1 : BitVec 32 := BitVec.ofNat 32 (i 1).val
  let v184 : BitVec 32 := Scalar.addi c16_i32_30 arg1
  let v185 : Index := Scalar.indexCast v184
  ![22, v185.toNat]
def k0_off24 (i : grid0.Coords) : Fin 2 → Nat :=
  let c23 : Index := 23#32
  let c16_i32_31 : BitVec 32 := 16#32
  let arg1 : BitVec 32 := BitVec.ofNat 32 (i 1).val
  let v191 : BitVec 32 := Scalar.addi c16_i32_31 arg1
  let v192 : Index := Scalar.indexCast v191
  ![23, v192.toNat]
def k0_off25 (i : grid0.Coords) : Fin 2 → Nat :=
  let c24 : Index := 24#32
  let c16_i32_32 : BitVec 32 := 16#32
  let arg1 : BitVec 32 := BitVec.ofNat 32 (i 1).val
  let v198 : BitVec 32 := Scalar.addi c16_i32_32 arg1
  let v199 : Index := Scalar.indexCast v198
  ![24, v199.toNat]
def k0_off26 (i : grid0.Coords) : Fin 2 → Nat :=
  let c25 : Index := 25#32
  let c16_i32_33 : BitVec 32 := 16#32
  let arg1 : BitVec 32 := BitVec.ofNat 32 (i 1).val
  let v205 : BitVec 32 := Scalar.addi c16_i32_33 arg1
  let v206 : Index := Scalar.indexCast v205
  ![25, v206.toNat]
def k0_off27 (i : grid0.Coords) : Fin 2 → Nat :=
  let c26 : Index := 26#32
  let c16_i32_34 : BitVec 32 := 16#32
  let arg1 : BitVec 32 := BitVec.ofNat 32 (i 1).val
  let v212 : BitVec 32 := Scalar.addi c16_i32_34 arg1
  let v213 : Index := Scalar.indexCast v212
  ![26, v213.toNat]
def k0_off28 (i : grid0.Coords) : Fin 2 → Nat :=
  let c27 : Index := 27#32
  let c16_i32_35 : BitVec 32 := 16#32
  let arg1 : BitVec 32 := BitVec.ofNat 32 (i 1).val
  let v219 : BitVec 32 := Scalar.addi c16_i32_35 arg1
  let v220 : Index := Scalar.indexCast v219
  ![27, v220.toNat]
def k0_off29 (i : grid0.Coords) : Fin 2 → Nat :=
  let c28 : Index := 28#32
  let c16_i32_36 : BitVec 32 := 16#32
  let arg1 : BitVec 32 := BitVec.ofNat 32 (i 1).val
  let v226 : BitVec 32 := Scalar.addi c16_i32_36 arg1
  let v227 : Index := Scalar.indexCast v226
  ![28, v227.toNat]
def k0_off30 (i : grid0.Coords) : Fin 2 → Nat :=
  let c29 : Index := 29#32
  let c16_i32_37 : BitVec 32 := 16#32
  let arg1 : BitVec 32 := BitVec.ofNat 32 (i 1).val
  let v233 : BitVec 32 := Scalar.addi c16_i32_37 arg1
  let v234 : Index := Scalar.indexCast v233
  ![29, v234.toNat]
def k0_off31 (i : grid0.Coords) : Fin 2 → Nat :=
  let c30 : Index := 30#32
  let c16_i32_38 : BitVec 32 := 16#32
  let arg1 : BitVec 32 := BitVec.ofNat 32 (i 1).val
  let v240 : BitVec 32 := Scalar.addi c16_i32_38 arg1
  let v241 : Index := Scalar.indexCast v240
  ![30, v241.toNat]
def k0_off32 (i : grid0.Coords) : Fin 2 → Nat :=
  let c31 : Index := 31#32
  let c16_i32_40 : BitVec 32 := 16#32
  let arg1 : BitVec 32 := BitVec.ofNat 32 (i 1).val
  let v247 : BitVec 32 := Scalar.addi c16_i32_40 arg1
  let v248 : Index := Scalar.indexCast v247
  ![31, v248.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S32x40 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨3, ![2, 1, 128], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg1 c9_i32
  let c0_i32 : BitVec 32 := 0#32
  let v1 : BitVec 32 := Scalar.addi v0 c0_i32
  let c0_i32_0 : BitVec 32 := 0#32
  let v2 : BitVec 32 := Scalar.addi v1 c0_i32_0
  let c0_i32_1 : BitVec 32 := 0#32
  ![arg0.toNat, arg2.toNat, v2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg1 c9_i32
  let c0_i32 : BitVec 32 := 0#32
  let v1 : BitVec 32 := Scalar.addi v0 c0_i32
  let c1_i32 : BitVec 32 := 1#32
  let v2 : BitVec 32 := Scalar.addi v1 c1_i32
  let c0_i32_0 : BitVec 32 := 0#32
  ![arg0.toNat, arg2.toNat, v2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c9_i32 : BitVec 32 := 9#32
  let v2 : BitVec 32 := Scalar.muli arg1 c9_i32
  let c0_i32_0 : BitVec 32 := 0#32
  let v3 : BitVec 32 := Scalar.addi v2 c0_i32_0
  let c1_i32_1 : BitVec 32 := 1#32
  let v4 : BitVec 32 := Scalar.addi v3 c1_i32_1
  let c0_i32_2 : BitVec 32 := 0#32
  ![arg0.toNat, v1.toNat, v4.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg1 c9_i32
  let c0_i32 : BitVec 32 := 0#32
  let v1 : BitVec 32 := Scalar.addi v0 c0_i32
  let c2_i32 : BitVec 32 := 2#32
  let v2 : BitVec 32 := Scalar.addi v1 c2_i32
  let c0_i32_0 : BitVec 32 := 0#32
  ![arg0.toNat, arg2.toNat, v2.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c9_i32 : BitVec 32 := 9#32
  let v2 : BitVec 32 := Scalar.muli arg1 c9_i32
  let c0_i32_0 : BitVec 32 := 0#32
  let v3 : BitVec 32 := Scalar.addi v2 c0_i32_0
  let c2_i32 : BitVec 32 := 2#32
  let v4 : BitVec 32 := Scalar.addi v3 c2_i32
  let c0_i32_1 : BitVec 32 := 0#32
  ![arg0.toNat, v1.toNat, v4.toNat]

def cc1_transform_5 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_7 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x128x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x128x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x128x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x128x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S1x128x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev stage1_5 : Fin 2 → Memref sig .tc .vmem S1x8x128x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, false, true]

abbrev stage1_6 : Fin 2 → Memref sig .tc .vmem S1x128x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, true]

abbrev stage1_7 : Fin 2 → Memref sig .tc .vmem S1x128x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, true]
-- ==== DilIdeal.lean ====
variable {F : FTy → Type} [FloatOps F] [Named F]
def κ : String → Option EReal := fun
  | "mask" => some ⊥
  | _ => none
-- ==== DilRefIdeal.lean ====
abbrev S2x16384x4608 : Shape := ⟨3, ![2, 16384, 4608]⟩
abbrev S32x40 : Shape := ⟨2, ![32, 40]⟩
abbrev S2x16384x3x3x8x64 : Shape := ⟨6, ![2, 16384, 3, 3, 8, 64]⟩
abbrev S2x16384x1x1x8x64 : Shape := ⟨6, ![2, 16384, 1, 1, 8, 64]⟩
abbrev S2x16384x8x64 : Shape := ⟨4, ![2, 16384, 8, 64]⟩
abbrev S16384 : Shape := ⟨1, ![16384]⟩
abbrev S129 : Shape := ⟨1, ![129]⟩
abbrev S_ : Shape := ⟨0, ![]⟩
abbrev S32x8 : Shape := ⟨2, ![32, 8]⟩
abbrev S129x1 : Shape := ⟨2, ![129, 1]⟩
abbrev S129x8 : Shape := ⟨2, ![129, 8]⟩
abbrev S8x129 : Shape := ⟨2, ![8, 129]⟩
abbrev S16384x1 : Shape := ⟨2, ![16384, 1]⟩
abbrev S1x129 : Shape := ⟨2, ![1, 129]⟩
abbrev S16384x129 : Shape := ⟨2, ![16384, 129]⟩
abbrev S16384x129x1 : Shape := ⟨3, ![16384, 129, 1]⟩
abbrev S2x16384x129x8x64 : Shape := ⟨5, ![2, 16384, 129, 8, 64]⟩
abbrev S2x16384x8x129 : Shape := ⟨4, ![2, 16384, 8, 129]⟩
abbrev S1x1x8x129 : Shape := ⟨4, ![1, 1, 8, 129]⟩
abbrev S1x16384x1x129 : Shape := ⟨4, ![1, 16384, 1, 129]⟩
abbrev S2x16384x8 : Shape := ⟨3, ![2, 16384, 8]⟩
abbrev S2x16384x8x1 : Shape := ⟨4, ![2, 16384, 8, 1]⟩
abbrev S2x16384x512 : Shape := ⟨3, ![2, 16384, 512]⟩

abbrev nBuf : Space → Nat
  | .hbm => 115
  | .vmem => 0
  | .smem => 0
  | _ => 0

abbrev bufTy : (tb : Table) → Fin (tcTables nBuf tb) → BufTy
  | .hbm, ⟨0, _⟩ => ⟨S2x16384x4608, .bf16⟩
  | .hbm, ⟨1, _⟩ => ⟨S32x40, .f32⟩
  | .hbm, ⟨2, _⟩ => ⟨S2x16384x4608, .f32⟩
  | .hbm, ⟨3, _⟩ => ⟨S2x16384x3x3x8x64, .f32⟩
  | .hbm, ⟨4, _⟩ => ⟨S2x16384x1x1x8x64, .f32⟩
  | .hbm, ⟨5, _⟩ => ⟨S2x16384x8x64, .f32⟩
  | .hbm, ⟨6, _⟩ => ⟨S2x16384x1x1x8x64, .f32⟩
  | .hbm, ⟨7, _⟩ => ⟨S2x16384x8x64, .f32⟩
  | .hbm, ⟨8, _⟩ => ⟨S2x16384x1x1x8x64, .f32⟩
  | .hbm, ⟨9, _⟩ => ⟨S2x16384x8x64, .f32⟩
  | .hbm, ⟨10, _⟩ => ⟨S16384, .i32⟩
  | .hbm, ⟨11, _⟩ => ⟨S129, .i32⟩
  | .hbm, ⟨12, _⟩ => ⟨S_, .i32⟩
  | .hbm, ⟨13, _⟩ => ⟨S129, .i32⟩
  | .hbm, ⟨14, _⟩ => ⟨S129, .i32⟩
  | .hbm, ⟨15, _⟩ => ⟨S32x8, .f32⟩
  | .hbm, ⟨16, _⟩ => ⟨S_, .i32⟩
  | .hbm, ⟨17, _⟩ => ⟨S129, .i32⟩
  | .hbm, ⟨18, _⟩ => ⟨S129, .i32⟩
  | .hbm, ⟨19, _⟩ => ⟨S_, .i32⟩
  | .hbm, ⟨20, _⟩ => ⟨S129, .i32⟩
  | .hbm, ⟨21, _⟩ => ⟨S129, .i32⟩
  | .hbm, ⟨22, _⟩ => ⟨S129, .f32⟩
  | .hbm, ⟨23, _⟩ => ⟨S_, .f32⟩
  | .hbm, ⟨24, _⟩ => ⟨S129, .f32⟩
  | .hbm, ⟨25, _⟩ => ⟨S129, .f32⟩
  | .hbm, ⟨26, _⟩ => ⟨S129, .f32⟩
  | .hbm, ⟨27, _⟩ => ⟨S_, .f32⟩
  | .hbm, ⟨28, _⟩ => ⟨S129, .f32⟩
  | .hbm, ⟨29, _⟩ => ⟨S129, .f32⟩
  | .hbm, ⟨30, _⟩ => ⟨S_, .f32⟩
  | .hbm, ⟨31, _⟩ => ⟨S129, .f32⟩
  | .hbm, ⟨32, _⟩ => ⟨S129, .f32⟩
  | .hbm, ⟨33, _⟩ => ⟨S129, .i32⟩
  | .hbm, ⟨34, _⟩ => ⟨S_, .i32⟩
  | .hbm, ⟨35, _⟩ => ⟨S129, .i32⟩
  | .hbm, ⟨36, _⟩ => ⟨S129, .i32⟩
  | .hbm, ⟨37, _⟩ => ⟨S_, .i32⟩
  | .hbm, ⟨38, _⟩ => ⟨S129, .i32⟩
  | .hbm, ⟨39, _⟩ => ⟨S129, .i32⟩
  | .hbm, ⟨40, _⟩ => ⟨S_, .i32⟩
  | .hbm, ⟨41, _⟩ => ⟨S129, .i32⟩
  | .hbm, ⟨42, _⟩ => ⟨S129, .i1⟩
  | .hbm, ⟨43, _⟩ => ⟨S129, .i32⟩
  | .hbm, ⟨44, _⟩ => ⟨S_, .i32⟩
  | .hbm, ⟨45, _⟩ => ⟨S129, .i32⟩
  | .hbm, ⟨46, _⟩ => ⟨S129, .i1⟩
  | .hbm, ⟨47, _⟩ => ⟨S_, .i32⟩
  | .hbm, ⟨48, _⟩ => ⟨S129, .i32⟩
  | .hbm, ⟨49, _⟩ => ⟨S129, .i32⟩
  | .hbm, ⟨50, _⟩ => ⟨S129, .i32⟩
  | .hbm, ⟨51, _⟩ => ⟨S129x1, .i32⟩
  | .hbm, ⟨52, _⟩ => ⟨S129x8, .f32⟩
  | .hbm, ⟨53, _⟩ => ⟨S8x129, .f32⟩
  | .hbm, ⟨54, _⟩ => ⟨S16384x1, .i32⟩
  | .hbm, ⟨55, _⟩ => ⟨S1x129, .i32⟩
  | .hbm, ⟨56, _⟩ => ⟨S16384x129, .i32⟩
  | .hbm, ⟨57, _⟩ => ⟨S16384x129, .i32⟩
  | .hbm, ⟨58, _⟩ => ⟨S16384x129, .i32⟩
  | .hbm, ⟨59, _⟩ => ⟨S_, .i32⟩
  | .hbm, ⟨60, _⟩ => ⟨S16384x129, .i32⟩
  | .hbm, ⟨61, _⟩ => ⟨S16384x129, .i1⟩
  | .hbm, ⟨62, _⟩ => ⟨S_, .i32⟩
  | .hbm, ⟨63, _⟩ => ⟨S16384x129, .i32⟩
  | .hbm, ⟨64, _⟩ => ⟨S16384x129, .i32⟩
  | .hbm, ⟨65, _⟩ => ⟨S_, .i32⟩
  | .hbm, ⟨66, _⟩ => ⟨S16384x129, .i32⟩
  | .hbm, ⟨67, _⟩ => ⟨S16384x129, .i1⟩
  | .hbm, ⟨68, _⟩ => ⟨S_, .i32⟩
  | .hbm, ⟨69, _⟩ => ⟨S16384x129, .i32⟩
  | .hbm, ⟨70, _⟩ => ⟨S16384x129, .i32⟩
  | .hbm, ⟨71, _⟩ => ⟨S16384x129, .i32⟩
  | .hbm, ⟨72, _⟩ => ⟨S16384x129x1, .i32⟩
  | .hbm, ⟨73, _⟩ => ⟨S2x16384x129x8x64, .f32⟩
  | .hbm, ⟨74, _⟩ => ⟨S_, .i32⟩
  | .hbm, ⟨75, _⟩ => ⟨S16384x129, .i32⟩
  | .hbm, ⟨76, _⟩ => ⟨S16384x129, .i1⟩
  | .hbm, ⟨77, _⟩ => ⟨S_, .i32⟩
  | .hbm, ⟨78, _⟩ => ⟨S16384x129, .i32⟩
  | .hbm, ⟨79, _⟩ => ⟨S16384x129, .i32⟩
  | .hbm, ⟨80, _⟩ => ⟨S16384x129, .i32⟩
  | .hbm, ⟨81, _⟩ => ⟨S16384x129x1, .i32⟩
  | .hbm, ⟨82, _⟩ => ⟨S2x16384x129x8x64, .f32⟩
  | .hbm, ⟨83, _⟩ => ⟨S2x16384x8x129, .f32⟩
  | .hbm, ⟨84, _⟩ => ⟨S_, .f32⟩
  | .hbm, ⟨85, _⟩ => ⟨S2x16384x8x129, .f32⟩
  | .hbm, ⟨86, _⟩ => ⟨S2x16384x8x129, .f32⟩
  | .hbm, ⟨87, _⟩ => ⟨S1x1x8x129, .f32⟩
  | .hbm, ⟨88, _⟩ => ⟨S2x16384x8x129, .f32⟩
  | .hbm, ⟨89, _⟩ => ⟨S2x16384x8x129, .f32⟩
  | .hbm, ⟨90, _⟩ => ⟨S1x16384x1x129, .i1⟩
  | .hbm, ⟨91, _⟩ => ⟨S_, .f32⟩
  | .hbm, ⟨92, _⟩ => ⟨S_, .f32⟩
  | .hbm, ⟨93, _⟩ => ⟨S2x16384x8x129, .i1⟩
  | .hbm, ⟨94, _⟩ => ⟨S2x16384x8x129, .f32⟩
  | .hbm, ⟨95, _⟩ => ⟨S2x16384x8x129, .f32⟩
  | .hbm, ⟨96, _⟩ => ⟨S_, .f32⟩
  | .hbm, ⟨97, _⟩ => ⟨S2x16384x8, .f32⟩
  | .hbm, ⟨98, _⟩ => ⟨S2x16384x8x1, .f32⟩
  | .hbm, ⟨99, _⟩ => ⟨S2x16384x8x129, .f32⟩
  | .hbm, ⟨100, _⟩ => ⟨S2x16384x8x129, .f32⟩
  | .hbm, ⟨101, _⟩ => ⟨S2x16384x8x129, .f32⟩
  | .hbm, ⟨102, _⟩ => ⟨S_, .f32⟩
  | .hbm, ⟨103, _⟩ => ⟨S2x16384x8, .f32⟩
  | .hbm, ⟨104, _⟩ => ⟨S2x16384x8x1, .f32⟩
  | .hbm, ⟨105, _⟩ => ⟨S2x16384x8x1, .f32⟩
  | .hbm, ⟨106, _⟩ => ⟨S2x16384x8x1, .f32⟩
  | .hbm, ⟨107, _⟩ => ⟨S2x16384x8x129, .f32⟩
  | .hbm, ⟨108, _⟩ => ⟨S2x16384x8x129, .f32⟩
  | .hbm, ⟨109, _⟩ => ⟨S2x16384x8x129, .f32⟩
  | .hbm, ⟨110, _⟩ => ⟨S2x16384x8x64, .f32⟩
  | .hbm, ⟨111, _⟩ => ⟨S2x16384x512, .f32⟩
  | .hbm, ⟨112, _⟩ => ⟨S2x16384x8, .f32⟩
  | .hbm, ⟨113, _⟩ => ⟨S2x16384x8x64, .f32⟩
  | .hbm, ⟨114, _⟩ => ⟨S2x16384x512, .f32⟩
  | _, _ => ⟨S2x16384x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c_0 : Ref sig .tc := ⟨.hbm, 16, rfl⟩
abbrev main_v13 : Ref sig .tc := ⟨.hbm, 17, rfl⟩
abbrev main_v14 : Ref sig .tc := ⟨.hbm, 18, rfl⟩
abbrev main_c_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_4 : Ref sig .tc := ⟨.hbm, 34, rfl⟩
abbrev main_v26 : Ref sig .tc := ⟨.hbm, 35, rfl⟩
abbrev main_v27 : Ref sig .tc := ⟨.hbm, 36, rfl⟩
abbrev main_c_5 : Ref sig .tc := ⟨.hbm, 37, rfl⟩
abbrev main_v28 : Ref sig .tc := ⟨.hbm, 38, rfl⟩
abbrev main_v29 : Ref sig .tc := ⟨.hbm, 39, rfl⟩
abbrev main_c_6 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_7 : Ref sig .tc := ⟨.hbm, 44, rfl⟩
abbrev main_v33 : Ref sig .tc := ⟨.hbm, 45, rfl⟩
abbrev main_v34 : Ref sig .tc := ⟨.hbm, 46, rfl⟩
abbrev main_c_8 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c_9 : Ref sig .tc := ⟨.hbm, 59, rfl⟩
abbrev main_v46 : Ref sig .tc := ⟨.hbm, 60, rfl⟩
abbrev main_v47 : Ref sig .tc := ⟨.hbm, 61, rfl⟩
abbrev main_c_10 : Ref sig .tc := ⟨.hbm, 62, rfl⟩
abbrev main_v48 : Ref sig .tc := ⟨.hbm, 63, rfl⟩
abbrev main_v49 : Ref sig .tc := ⟨.hbm, 64, rfl⟩
abbrev main_c_11 : Ref sig .tc := ⟨.hbm, 65, rfl⟩
abbrev main_v50 : Ref sig .tc := ⟨.hbm, 66, rfl⟩
abbrev main_v51 : Ref sig .tc := ⟨.hbm, 67, rfl⟩
abbrev main_c_12 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_c_13 : Ref sig .tc := ⟨.hbm, 74, rfl⟩
abbrev main_v57 : Ref sig .tc := ⟨.hbm, 75, rfl⟩
abbrev main_v58 : Ref sig .tc := ⟨.hbm, 76, rfl⟩
abbrev main_c_14 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_15 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_16 : Ref sig .tc := ⟨.hbm, 91, rfl⟩
abbrev main_call1_v0 : Ref sig .tc := ⟨.hbm, 92, rfl⟩
abbrev main_call1_v1 : Ref sig .tc := ⟨.hbm, 93, rfl⟩
abbrev main_call1_v2 : Ref sig .tc := ⟨.hbm, 94, rfl⟩
abbrev main_v71 : Ref sig .tc := ⟨.hbm, 95, rfl⟩
abbrev main_cst_17 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_18 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩

abbrev nD : Nat := 1
abbrev τ : Topo := Topo.v7x

variable {F : FTy → Type} [FloatOps F]
-- ==== DilFour.lean ====
abbrev S2x16384x4608 : Shape := ⟨3, ![2, 16384, 4608]⟩
abbrev S32x40 : Shape := ⟨2, ![32, 40]⟩
abbrev S2x8x128x256 : Shape := ⟨4, ![2, 8, 128, 256]⟩
abbrev S1x1x128x256 : Shape := ⟨4, ![1, 1, 128, 256]⟩
abbrev S128x256 : Shape := ⟨2, ![128, 256]⟩
abbrev S1x1 : Shape := ⟨2, ![1, 1]⟩
abbrev S2x4096x18432 : Shape := ⟨3, ![2, 4096, 18432]⟩
abbrev S2x4096x2048 : Shape := ⟨3, ![2, 4096, 2048]⟩
abbrev S1x128x512 : Shape := ⟨3, ![1, 128, 512]⟩
abbrev S1x8x128x256 : Shape := ⟨4, ![1, 8, 128, 256]⟩
abbrev S128x512 : Shape := ⟨2, ![128, 512]⟩
abbrev S256x512 : Shape := ⟨2, ![256, 512]⟩
abbrev S128x64 : Shape := ⟨2, ![128, 64]⟩
abbrev S256x64 : Shape := ⟨2, ![256, 64]⟩
abbrev S128 : Shape := ⟨1, ![128]⟩
abbrev S128x1 : Shape := ⟨2, ![128, 1]⟩
abbrev S1x128x64 : Shape := ⟨3, ![1, 128, 64]⟩

abbrev nBuf : Space → Nat
  | .hbm => 6
  | .vmem => 18
  | .smem => 1
  | _ => 0

abbrev bufTy : (tb : Table) → Fin (tcTables nBuf tb) → BufTy
  | .hbm, ⟨0, _⟩ => ⟨S2x16384x4608, .bf16⟩
  | .hbm, ⟨1, _⟩ => ⟨S32x40, .f32⟩
  | .hbm, ⟨2, _⟩ => ⟨S2x8x128x256, .f32⟩
  | .hbm, ⟨3, _⟩ => ⟨S2x4096x18432, .bf16⟩
  | .hbm, ⟨4, _⟩ => ⟨S2x4096x2048, .f32⟩
  | .hbm, ⟨5, _⟩ => ⟨S2x4096x2048, .f32⟩
  | .local _ .vmem, ⟨0, _⟩ => ⟨S1x1x128x256, .f32⟩
  | .local _ .vmem, ⟨1, _⟩ => ⟨S1x1x128x256, .f32⟩
  | .local _ .vmem, ⟨2, _⟩ => ⟨S1x128x512, .bf16⟩
  | .local _ .vmem, ⟨3, _⟩ => ⟨S1x128x512, .bf16⟩
  | .local _ .vmem, ⟨4, _⟩ => ⟨S1x128x512, .bf16⟩
  | .local _ .vmem, ⟨5, _⟩ => ⟨S1x128x512, .bf16⟩
  | .local _ .vmem, ⟨6, _⟩ => ⟨S1x128x512, .bf16⟩
  | .local _ .vmem, ⟨7, _⟩ => ⟨S1x128x512, .bf16⟩
  | .local _ .vmem, ⟨8, _⟩ => ⟨S1x128x512, .bf16⟩
  | .local _ .vmem, ⟨9, _⟩ => ⟨S1x128x512, .bf16⟩
  | .local _ .vmem, ⟨10, _⟩ => ⟨S1x128x512, .bf16⟩
  | .local _ .vmem, ⟨11, _⟩ => ⟨S1x128x512, .bf16⟩
  | .local _ .vmem, ⟨12, _⟩ => ⟨S1x8x128x256, .f32⟩
  | .local _ .vmem, ⟨13, _⟩ => ⟨S1x8x128x256, .f32⟩
  | .local _ .vmem, ⟨14, _⟩ => ⟨S1x128x512, .f32⟩
  | .local _ .vmem, ⟨15, _⟩ => ⟨S1x128x512, .f32⟩
  | .local _ .vmem, ⟨16, _⟩ => ⟨S1x128x512, .f32⟩
  | .local _ .vmem, ⟨17, _⟩ => ⟨S1x128x512, .f32⟩
  | .local _ .smem, ⟨0, _⟩ => ⟨S32x40, .f32⟩
  | _, _ => ⟨S2x16384x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg1_0 : Ref sig .tc := ⟨.vmem, 0, rfl⟩
abbrev cc0_stg1_1 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg7_1 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem5_1 : DmaSem sig := 14
abbrev cc1_sem6_0 : DmaSem sig := 15
abbrev cc1_sem6_1 : DmaSem sig := 16
abbrev cc1_sem7_0 : DmaSem sig := 17
abbrev cc1_sem7_1 : DmaSem sig := 18

abbrev nD : Nat := 1
abbrev τ : Topo := Topo.v7x

variable {F : FTy → Type} [FloatOps F]

abbrev grid0 : Pipeline.Grid := ⟨2, ![2, 8], ![false, false]⟩

def k0_off1 (i : grid0.Coords) : Fin 2 → Nat :=
  let c0 : Index := 0#32
  let c24_i32 : BitVec 32 := 24#32
  let arg1 : BitVec 32 := BitVec.ofNat 32 (i 1).val
  let v30 : BitVec 32 := Scalar.addi c24_i32 arg1
  let v31 : Index := Scalar.indexCast v30
  ![0, v31.toNat]
def k0_off2 (i : grid0.Coords) : Fin 2 → Nat :=
  let c1 : Index := 1#32
  let c24_i32_6 : BitVec 32 := 24#32
  let arg1 : BitVec 32 := BitVec.ofNat 32 (i 1).val
  let v37 : BitVec 32 := Scalar.addi c24_i32_6 arg1
  let v38 : Index := Scalar.indexCast v37
  ![1, v38.toNat]
def k0_off3 (i : grid0.Coords) : Fin 2 → Nat :=
  let c2 : Index := 2#32
  let c24_i32_7 : BitVec 32 := 24#32
  let arg1 : BitVec 32 := BitVec.ofNat 32 (i 1).val
  let v44 : BitVec 32 := Scalar.addi c24_i32_7 arg1
  let v45 : Index := Scalar.indexCast v44
  ![2, v45.toNat]
def k0_off4 (i : grid0.Coords) : Fin 2 → Nat :=
  let c3 : Index := 3#32
  let c24_i32_8 : BitVec 32 := 24#32
  let arg1 : BitVec 32 := BitVec.ofNat 32 (i 1).val
  let v51 : BitVec 32 := Scalar.addi c24_i32_8 arg1
  let v52 : Index := Scalar.indexCast v51
  ![3, v52.toNat]
def k0_off5 (i : grid0.Coords) : Fin 2 → Nat :=
  let c4 : Index := 4#32
  let c24_i32_10 : BitVec 32 := 24#32
  let arg1 : BitVec 32 := BitVec.ofNat 32 (i 1).val
  let v58 : BitVec 32 := Scalar.addi c24_i32_10 arg1
  let v59 : Index := Scalar.indexCast v58
  ![4, v59.toNat]
def k0_off6 (i : grid0.Coords) : Fin 2 → Nat :=
  let c5 : Index := 5#32
  let c24_i32_11 : BitVec 32 := 24#32
  let arg1 : BitVec 32 := BitVec.ofNat 32 (i 1).val
  let v65 : BitVec 32 := Scalar.addi c24_i32_11 arg1
  let v66 : Index := Scalar.indexCast v65
  ![5, v66.toNat]
def k0_off7 (i : grid0.Coords) : Fin 2 → Nat :=
  let c6 : Index := 6#32
  let c24_i32_12 : BitVec 32 := 24#32
  let arg1 : BitVec 32 := BitVec.ofNat 32 (i 1).val
  let v72 : BitVec 32 := Scalar.addi c24_i32_12 arg1
  let v73 : Index := Scalar.indexCast v72
  ![6, v73.toNat]
def k0_off8 (i : grid0.Coords) : Fin 2 → Nat :=
  let c7 : Index := 7#32
  let c24_i32_13 : BitVec 32 := 24#32
  let arg1 : BitVec 32 := BitVec.ofNat 32 (i 1).val
  let v79 : BitVec 32 := Scalar.addi c24_i32_13 arg1
  let v80 : Index := Scalar.indexCast v79
  ![7, v80.toNat]
def k0_off9 (i : grid0.Coords) : Fin 2 → Nat :=
  let c8 : Index := 8#32
  let c24_i32_14 : BitVec 32 := 24#32
  let arg1 : BitVec 32 := BitVec.ofNat 32 (i 1).val
  let v86 : BitVec 32 := Scalar.addi c24_i32_14 arg1
  let v87 : Index := Scalar.indexCast v86
  ![8, v87.toNat]
def k0_off10 (i : grid0.Coords) : Fin 2 → Nat :=
  let c9 : Index := 9#32
  let c24_i32_15 : BitVec 32 := 24#32
  let arg1 : BitVec 32 := BitVec.ofNat 32 (i 1).val
  let v93 : BitVec 32 := Scalar.addi c24_i32_15 arg1
  let v94 : Index := Scalar.indexCast v93
  ![9, v94.toNat]
def k0_off11 (i : grid0.Coords) : Fin 2 → Nat :=
  let c10 : Index := 10#32
  let c24_i32_16 : BitVec 32 := 24#32
  let arg1 : BitVec 32 := BitVec.ofNat 32 (i 1).val
  let v100 : BitVec 32 := Scalar.addi c24_i32_16 arg1
  let v101 : Index := Scalar.indexCast v100
  ![10, v101.toNat]
def k0_off12 (i : grid0.Coords) : Fin 2 → Nat :=
  let c11 : Index := 11#32
  let c24_i32_17 : BitVec 32 := 24#32
  let arg1 : BitVec 32 := BitVec.ofNat 32 (i 1).val
  let v107 : BitVec 32 := Scalar.addi c24_i32_17 arg1
  let v108 : Index := Scalar.indexCast v107
  ![11, v108.toNat]
def k0_off13 (i : grid0.Coords) : Fin 2 → Nat :=
  let c12 : Index := 12#32
  let c24_i32_18 : BitVec 32 := 24#32
  let arg1 : BitVec 32 := BitVec.ofNat 32 (i 1).val
  let v114 : BitVec 32 := Scalar.addi c24_i32_18 arg1
  let v115 : Index := Scalar.indexCast v114
  ![12, v115.toNat]
def k0_off14 (i : grid0.Coords) : Fin 2 → Nat :=
  let c13 : Index := 13#32
  let c24_i32_19 : BitVec 32 := 24#32
  let arg1 : BitVec 32 := BitVec.ofNat 32 (i 1).val
  let v121 : BitVec 32 := Scalar.addi c24_i32_19 arg1
  let v122 : Index := Scalar.indexCast v121
  ![13, v122.toNat]
def k0_off15 (i : grid0.Coords) : Fin 2 → Nat :=
  let c14 : Index := 14#32
  let c24_i32_20 : BitVec 32 := 24#32
  let arg1 : BitVec 32 := BitVec.ofNat 32 (i 1).val
  let v128 : BitVec 32 := Scalar.addi c24_i32_20 arg1
  let v129 : Index := Scalar.indexCast v128
  ![14, v129.toNat]
def k0_off16 (i : grid0.Coords) : Fin 2 → Nat :=
  let c15 : Index := 15#32
  let c24_i32_21 : BitVec 32 := 24#32
  let arg1 : BitVec 32 := BitVec.ofNat 32 (i 1).val
  let v135 : BitVec 32 := Scalar.addi c24_i32_21 arg1
  let v136 : Index := Scalar.indexCast v135
  ![15, v136.toNat]
def k0_off17 (i : grid0.Coords) : Fin 2 → Nat :=
  let c16 : Index := 16#32
  let c24_i32_23 : BitVec 32 := 24#32
  let arg1 : BitVec 32 := BitVec.ofNat 32 (i 1).val
  let v142 : BitVec 32 := Scalar.addi c24_i32_23 arg1
  let v143 : Index := Scalar.indexCast v142
  ![16, v143.toNat]
def k0_off18 (i : grid0.Coords) : Fin 2 → Nat :=
  let c17 : Index := 17#32
  let c24_i32_24 : BitVec 32 := 24#32
  let arg1 : BitVec 32 := BitVec.ofNat 32 (i 1).val
  let v149 : BitVec 32 := Scalar.addi c24_i32_24 arg1
  let v150 : Index := Scalar.indexCast v149
  ![17, v150.toNat]
def k0_off19 (i : grid0.Coords) : Fin 2 → Nat :=
  let c18 : Index := 18#32
  let c24_i32_25 : BitVec 32 := 24#32
  let arg1 : BitVec 32 := BitVec.ofNat 32 (i 1).val
  let v156 : BitVec 32 := Scalar.addi c24_i32_25 arg1
  let v157 : Index := Scalar.indexCast v156
  ![18, v157.toNat]
def k0_off20 (i : grid0.Coords) : Fin 2 → Nat :=
  let c19 : Index := 19#32
  let c24_i32_26 : BitVec 32 := 24#32
  let arg1 : BitVec 32 := BitVec.ofNat 32 (i 1).val
  let v163 : BitVec 32 := Scalar.addi c24_i32_26 arg1
  let v164 : Index := Scalar.indexCast v163
  ![19, v164.toNat]
def k0_off21 (i : grid0.Coords) : Fin 2 → Nat :=
  let c20 : Index := 20#32
  let c24_i32_27 : BitVec 32 := 24#32
  let arg1 : BitVec 32 := BitVec.ofNat 32 (i 1).val
  let v170 : BitVec 32 := Scalar.addi c24_i32_27 arg1
  let v171 : Index := Scalar.indexCast v170
  ![20, v171.toNat]
def k0_off22 (i : grid0.Coords) : Fin 2 → Nat :=
  let c21 : Index := 21#32
  let c24_i32_28 : BitVec 32 := 24#32
  let arg1 : BitVec 32 := BitVec.ofNat 32 (i 1).val
  let v177 : BitVec 32 := Scalar.addi c24_i32_28 arg1
  let v178 : Index := Scalar.indexCast v177
  ![21, v178.toNat]
def k0_off23 (i : grid0.Coords) : Fin 2 → Nat :=
  let c22 : Index := 22#32
  let c24_i32_29 : BitVec 32 := 24#32
  let arg1 : BitVec 32 := BitVec.ofNat 32 (i 1).val
  let v184 : BitVec 32 := Scalar.addi c24_i32_29 arg1
  let v185 : Index := Scalar.indexCast v184
  ![22, v185.toNat]
def k0_off24 (i : grid0.Coords) : Fin 2 → Nat :=
  let c23 : Index := 23#32
  let c24_i32_30 : BitVec 32 := 24#32
  let arg1 : BitVec 32 := BitVec.ofNat 32 (i 1).val
  let v191 : BitVec 32 := Scalar.addi c24_i32_30 arg1
  let v192 : Index := Scalar.indexCast v191
  ![23, v192.toNat]
def k0_off25 (i : grid0.Coords) : Fin 2 → Nat :=
  let c24 : Index := 24#32
  let c24_i32_32 : BitVec 32 := 24#32
  let arg1 : BitVec 32 := BitVec.ofNat 32 (i 1).val
  let v198 : BitVec 32 := Scalar.addi c24_i32_32 arg1
  let v199 : Index := Scalar.indexCast v198
  ![24, v199.toNat]
def k0_off26 (i : grid0.Coords) : Fin 2 → Nat :=
  let c25 : Index := 25#32
  let c24_i32_33 : BitVec 32 := 24#32
  let arg1 : BitVec 32 := BitVec.ofNat 32 (i 1).val
  let v205 : BitVec 32 := Scalar.addi c24_i32_33 arg1
  let v206 : Index := Scalar.indexCast v205
  ![25, v206.toNat]
def k0_off27 (i : grid0.Coords) : Fin 2 → Nat :=
  let c26 : Index := 26#32
  let c24_i32_34 : BitVec 32 := 24#32
  let arg1 : BitVec 32 := BitVec.ofNat 32 (i 1).val
  let v212 : BitVec 32 := Scalar.addi c24_i32_34 arg1
  let v213 : Index := Scalar.indexCast v212
  ![26, v213.toNat]
def k0_off28 (i : grid0.Coords) : Fin 2 → Nat :=
  let c27 : Index := 27#32
  let c24_i32_35 : BitVec 32 := 24#32
  let arg1 : BitVec 32 := BitVec.ofNat 32 (i 1).val
  let v219 : BitVec 32 := Scalar.addi c24_i32_35 arg1
  let v220 : Index := Scalar.indexCast v219
  ![27, v220.toNat]
def k0_off29 (i : grid0.Coords) : Fin 2 → Nat :=
  let c28 : Index := 28#32
  let c24_i32_36 : BitVec 32 := 24#32
  let arg1 : BitVec 32 := BitVec.ofNat 32 (i 1).val
  let v226 : BitVec 32 := Scalar.addi c24_i32_36 arg1
  let v227 : Index := Scalar.indexCast v226
  ![28, v227.toNat]
def k0_off30 (i : grid0.Coords) : Fin 2 → Nat :=
  let c29 : Index := 29#32
  let c24_i32_37 : BitVec 32 := 24#32
  let arg1 : BitVec 32 := BitVec.ofNat 32 (i 1).val
  let v233 : BitVec 32 := Scalar.addi c24_i32_37 arg1
  let v234 : Index := Scalar.indexCast v233
  ![29, v234.toNat]
def k0_off31 (i : grid0.Coords) : Fin 2 → Nat :=
  let c30 : Index := 30#32
  let c24_i32_38 : BitVec 32 := 24#32
  let arg1 : BitVec 32 := BitVec.ofNat 32 (i 1).val
  let v240 : BitVec 32 := Scalar.addi c24_i32_38 arg1
  let v241 : Index := Scalar.indexCast v240
  ![30, v241.toNat]
def k0_off32 (i : grid0.Coords) : Fin 2 → Nat :=
  let c31 : Index := 31#32
  let c24_i32_40 : BitVec 32 := 24#32
  let arg1 : BitVec 32 := BitVec.ofNat 32 (i 1).val
  let v247 : BitVec 32 := Scalar.addi c24_i32_40 arg1
  let v248 : Index := Scalar.indexCast v247
  ![31, v248.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S32x40 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨3, ![2, 4, 32], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg1 c9_i32
  let c3_i32 : BitVec 32 := 3#32
  let v1 : BitVec 32 := Scalar.addi v0 c3_i32
  let c0_i32 : BitVec 32 := 0#32
  let v2 : BitVec 32 := Scalar.addi v1 c0_i32
  let c0_i32_0 : BitVec 32 := 0#32
  ![arg0.toNat, arg2.toNat, v2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg1 c9_i32
  let c3_i32 : BitVec 32 := 3#32
  let v1 : BitVec 32 := Scalar.addi v0 c3_i32
  let c1_i32 : BitVec 32 := 1#32
  let v2 : BitVec 32 := Scalar.addi v1 c1_i32
  let c0_i32 : BitVec 32 := 0#32
  ![arg0.toNat, arg2.toNat, v2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c9_i32 : BitVec 32 := 9#32
  let v2 : BitVec 32 := Scalar.muli arg1 c9_i32
  let c3_i32 : BitVec 32 := 3#32
  let v3 : BitVec 32 := Scalar.addi v2 c3_i32
  let c1_i32_0 : BitVec 32 := 1#32
  let v4 : BitVec 32 := Scalar.addi v3 c1_i32_0
  let c0_i32_1 : BitVec 32 := 0#32
  ![arg0.toNat, v1.toNat, v4.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg1 c9_i32
  let c3_i32 : BitVec 32 := 3#32
  let v1 : BitVec 32 := Scalar.addi v0 c3_i32
  let c2_i32 : BitVec 32 := 2#32
  let v2 : BitVec 32 := Scalar.addi v1 c2_i32
  let c0_i32 : BitVec 32 := 0#32
  ![arg0.toNat, arg2.toNat, v2.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c9_i32 : BitVec 32 := 9#32
  let v2 : BitVec 32 := Scalar.muli arg1 c9_i32
  let c3_i32 : BitVec 32 := 3#32
  let v3 : BitVec 32 := Scalar.addi v2 c3_i32
  let c2_i32 : BitVec 32 := 2#32
  let v4 : BitVec 32 := Scalar.addi v3 c2_i32
  let c0_i32_0 : BitVec 32 := 0#32
  ![arg0.toNat, v1.toNat, v4.toNat]

def cc1_transform_5 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_7 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x128x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x128x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x128x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x128x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S1x128x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev stage1_5 : Fin 2 → Memref sig .tc .vmem S1x8x128x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, false, true]

abbrev stage1_6 : Fin 2 → Memref sig .tc .vmem S1x128x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, true]

abbrev stage1_7 : Fin 2 → Memref sig .tc .vmem S1x128x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, true]
-- ==== DilFourIdeal.lean ====
variable {F : FTy → Type} [FloatOps F] [Named F]
def κ : String → Option EReal := fun
  | "mask" => some ⊥
  | _ => none
-- ==== DilFourRefIdeal.lean ====
abbrev S2x16384x4608 : Shape := ⟨3, ![2, 16384, 4608]⟩
abbrev S32x40 : Shape := ⟨2, ![32, 40]⟩
abbrev S2x16384x3x3x8x64 : Shape := ⟨6, ![2, 16384, 3, 3, 8, 64]⟩
abbrev S2x16384x1x1x8x64 : Shape := ⟨6, ![2, 16384, 1, 1, 8, 64]⟩
abbrev S2x16384x8x64 : Shape := ⟨4, ![2, 16384, 8, 64]⟩
abbrev S16384 : Shape := ⟨1, ![16384]⟩
abbrev S129 : Shape := ⟨1, ![129]⟩
abbrev S_ : Shape := ⟨0, ![]⟩
abbrev S32x8 : Shape := ⟨2, ![32, 8]⟩
abbrev S129x1 : Shape := ⟨2, ![129, 1]⟩
abbrev S129x8 : Shape := ⟨2, ![129, 8]⟩
abbrev S8x129 : Shape := ⟨2, ![8, 129]⟩
abbrev S16384x1 : Shape := ⟨2, ![16384, 1]⟩
abbrev S1x129 : Shape := ⟨2, ![1, 129]⟩
abbrev S16384x129 : Shape := ⟨2, ![16384, 129]⟩
abbrev S16384x129x1 : Shape := ⟨3, ![16384, 129, 1]⟩
abbrev S2x16384x129x8x64 : Shape := ⟨5, ![2, 16384, 129, 8, 64]⟩
abbrev S2x16384x8x129 : Shape := ⟨4, ![2, 16384, 8, 129]⟩
abbrev S1x1x8x129 : Shape := ⟨4, ![1, 1, 8, 129]⟩
abbrev S1x16384x1x129 : Shape := ⟨4, ![1, 16384, 1, 129]⟩
abbrev S2x16384x8 : Shape := ⟨3, ![2, 16384, 8]⟩
abbrev S2x16384x8x1 : Shape := ⟨4, ![2, 16384, 8, 1]⟩
abbrev S2x4096x2048 : Shape := ⟨3, ![2, 4096, 2048]⟩
abbrev S2x16384x512 : Shape := ⟨3, ![2, 16384, 512]⟩

abbrev nBuf : Space → Nat
  | .hbm => 116
  | .vmem => 0
  | .smem => 0
  | _ => 0

abbrev bufTy : (tb : Table) → Fin (tcTables nBuf tb) → BufTy
  | .hbm, ⟨0, _⟩ => ⟨S2x16384x4608, .bf16⟩
  | .hbm, ⟨1, _⟩ => ⟨S32x40, .f32⟩
  | .hbm, ⟨2, _⟩ => ⟨S2x16384x4608, .f32⟩
  | .hbm, ⟨3, _⟩ => ⟨S2x16384x3x3x8x64, .f32⟩
  | .hbm, ⟨4, _⟩ => ⟨S2x16384x1x1x8x64, .f32⟩
  | .hbm, ⟨5, _⟩ => ⟨S2x16384x8x64, .f32⟩
  | .hbm, ⟨6, _⟩ => ⟨S2x16384x1x1x8x64, .f32⟩
  | .hbm, ⟨7, _⟩ => ⟨S2x16384x8x64, .f32⟩
  | .hbm, ⟨8, _⟩ => ⟨S2x16384x1x1x8x64, .f32⟩
  | .hbm, ⟨9, _⟩ => ⟨S2x16384x8x64, .f32⟩
  | .hbm, ⟨10, _⟩ => ⟨S16384, .i32⟩
  | .hbm, ⟨11, _⟩ => ⟨S129, .i32⟩
  | .hbm, ⟨12, _⟩ => ⟨S_, .i32⟩
  | .hbm, ⟨13, _⟩ => ⟨S129, .i32⟩
  | .hbm, ⟨14, _⟩ => ⟨S129, .i32⟩
  | .hbm, ⟨15, _⟩ => ⟨S32x8, .f32⟩
  | .hbm, ⟨16, _⟩ => ⟨S_, .i32⟩
  | .hbm, ⟨17, _⟩ => ⟨S129, .i32⟩
  | .hbm, ⟨18, _⟩ => ⟨S129, .i32⟩
  | .hbm, ⟨19, _⟩ => ⟨S_, .i32⟩
  | .hbm, ⟨20, _⟩ => ⟨S129, .i32⟩
  | .hbm, ⟨21, _⟩ => ⟨S129, .i32⟩
  | .hbm, ⟨22, _⟩ => ⟨S129, .f32⟩
  | .hbm, ⟨23, _⟩ => ⟨S_, .f32⟩
  | .hbm, ⟨24, _⟩ => ⟨S129, .f32⟩
  | .hbm, ⟨25, _⟩ => ⟨S129, .f32⟩
  | .hbm, ⟨26, _⟩ => ⟨S129, .f32⟩
  | .hbm, ⟨27, _⟩ => ⟨S_, .f32⟩
  | .hbm, ⟨28, _⟩ => ⟨S129, .f32⟩
  | .hbm, ⟨29, _⟩ => ⟨S129, .f32⟩
  | .hbm, ⟨30, _⟩ => ⟨S_, .f32⟩
  | .hbm, ⟨31, _⟩ => ⟨S129, .f32⟩
  | .hbm, ⟨32, _⟩ => ⟨S129, .f32⟩
  | .hbm, ⟨33, _⟩ => ⟨S129, .i32⟩
  | .hbm, ⟨34, _⟩ => ⟨S_, .i32⟩
  | .hbm, ⟨35, _⟩ => ⟨S129, .i32⟩
  | .hbm, ⟨36, _⟩ => ⟨S129, .i32⟩
  | .hbm, ⟨37, _⟩ => ⟨S_, .i32⟩
  | .hbm, ⟨38, _⟩ => ⟨S129, .i32⟩
  | .hbm, ⟨39, _⟩ => ⟨S129, .i32⟩
  | .hbm, ⟨40, _⟩ => ⟨S_, .i32⟩
  | .hbm, ⟨41, _⟩ => ⟨S129, .i32⟩
  | .hbm, ⟨42, _⟩ => ⟨S129, .i1⟩
  | .hbm, ⟨43, _⟩ => ⟨S129, .i32⟩
  | .hbm, ⟨44, _⟩ => ⟨S_, .i32⟩
  | .hbm, ⟨45, _⟩ => ⟨S129, .i32⟩
  | .hbm, ⟨46, _⟩ => ⟨S129, .i1⟩
  | .hbm, ⟨47, _⟩ => ⟨S_, .i32⟩
  | .hbm, ⟨48, _⟩ => ⟨S129, .i32⟩
  | .hbm, ⟨49, _⟩ => ⟨S129, .i32⟩
  | .hbm, ⟨50, _⟩ => ⟨S129, .i32⟩
  | .hbm, ⟨51, _⟩ => ⟨S129x1, .i32⟩
  | .hbm, ⟨52, _⟩ => ⟨S129x8, .f32⟩
  | .hbm, ⟨53, _⟩ => ⟨S8x129, .f32⟩
  | .hbm, ⟨54, _⟩ => ⟨S16384x1, .i32⟩
  | .hbm, ⟨55, _⟩ => ⟨S1x129, .i32⟩
  | .hbm, ⟨56, _⟩ => ⟨S16384x129, .i32⟩
  | .hbm, ⟨57, _⟩ => ⟨S16384x129, .i32⟩
  | .hbm, ⟨58, _⟩ => ⟨S16384x129, .i32⟩
  | .hbm, ⟨59, _⟩ => ⟨S_, .i32⟩
  | .hbm, ⟨60, _⟩ => ⟨S16384x129, .i32⟩
  | .hbm, ⟨61, _⟩ => ⟨S16384x129, .i1⟩
  | .hbm, ⟨62, _⟩ => ⟨S_, .i32⟩
  | .hbm, ⟨63, _⟩ => ⟨S16384x129, .i32⟩
  | .hbm, ⟨64, _⟩ => ⟨S16384x129, .i32⟩
  | .hbm, ⟨65, _⟩ => ⟨S_, .i32⟩
  | .hbm, ⟨66, _⟩ => ⟨S16384x129, .i32⟩
  | .hbm, ⟨67, _⟩ => ⟨S16384x129, .i1⟩
  | .hbm, ⟨68, _⟩ => ⟨S_, .i32⟩
  | .hbm, ⟨69, _⟩ => ⟨S16384x129, .i32⟩
  | .hbm, ⟨70, _⟩ => ⟨S16384x129, .i32⟩
  | .hbm, ⟨71, _⟩ => ⟨S16384x129, .i32⟩
  | .hbm, ⟨72, _⟩ => ⟨S16384x129x1, .i32⟩
  | .hbm, ⟨73, _⟩ => ⟨S2x16384x129x8x64, .f32⟩
  | .hbm, ⟨74, _⟩ => ⟨S_, .i32⟩
  | .hbm, ⟨75, _⟩ => ⟨S16384x129, .i32⟩
  | .hbm, ⟨76, _⟩ => ⟨S16384x129, .i1⟩
  | .hbm, ⟨77, _⟩ => ⟨S_, .i32⟩
  | .hbm, ⟨78, _⟩ => ⟨S16384x129, .i32⟩
  | .hbm, ⟨79, _⟩ => ⟨S16384x129, .i32⟩
  | .hbm, ⟨80, _⟩ => ⟨S16384x129, .i32⟩
  | .hbm, ⟨81, _⟩ => ⟨S16384x129x1, .i32⟩
  | .hbm, ⟨82, _⟩ => ⟨S2x16384x129x8x64, .f32⟩
  | .hbm, ⟨83, _⟩ => ⟨S2x16384x8x129, .f32⟩
  | .hbm, ⟨84, _⟩ => ⟨S_, .f32⟩
  | .hbm, ⟨85, _⟩ => ⟨S2x16384x8x129, .f32⟩
  | .hbm, ⟨86, _⟩ => ⟨S2x16384x8x129, .f32⟩
  | .hbm, ⟨87, _⟩ => ⟨S1x1x8x129, .f32⟩
  | .hbm, ⟨88, _⟩ => ⟨S2x16384x8x129, .f32⟩
  | .hbm, ⟨89, _⟩ => ⟨S2x16384x8x129, .f32⟩
  | .hbm, ⟨90, _⟩ => ⟨S1x16384x1x129, .i1⟩
  | .hbm, ⟨91, _⟩ => ⟨S_, .f32⟩
  | .hbm, ⟨92, _⟩ => ⟨S_, .f32⟩
  | .hbm, ⟨93, _⟩ => ⟨S2x16384x8x129, .i1⟩
  | .hbm, ⟨94, _⟩ => ⟨S2x16384x8x129, .f32⟩
  | .hbm, ⟨95, _⟩ => ⟨S2x16384x8x129, .f32⟩
  | .hbm, ⟨96, _⟩ => ⟨S_, .f32⟩
  | .hbm, ⟨97, _⟩ => ⟨S2x16384x8, .f32⟩
  | .hbm, ⟨98, _⟩ => ⟨S2x16384x8x1, .f32⟩
  | .hbm, ⟨99, _⟩ => ⟨S2x16384x8x129, .f32⟩
  | .hbm, ⟨100, _⟩ => ⟨S2x16384x8x129, .f32⟩
  | .hbm, ⟨101, _⟩ => ⟨S2x16384x8x129, .f32⟩
  | .hbm, ⟨102, _⟩ => ⟨S_, .f32⟩
  | .hbm, ⟨103, _⟩ => ⟨S2x16384x8, .f32⟩
  | .hbm, ⟨104, _⟩ => ⟨S2x16384x8x1, .f32⟩
  | .hbm, ⟨105, _⟩ => ⟨S2x16384x8x1, .f32⟩
  | .hbm, ⟨106, _⟩ => ⟨S2x16384x8x1, .f32⟩
  | .hbm, ⟨107, _⟩ => ⟨S2x16384x8x129, .f32⟩
  | .hbm, ⟨108, _⟩ => ⟨S2x16384x8x129, .f32⟩
  | .hbm, ⟨109, _⟩ => ⟨S2x16384x8x129, .f32⟩
  | .hbm, ⟨110, _⟩ => ⟨S2x16384x8x64, .f32⟩
  | .hbm, ⟨111, _⟩ => ⟨S2x4096x2048, .f32⟩
  | .hbm, ⟨112, _⟩ => ⟨S2x16384x8, .f32⟩
  | .hbm, ⟨113, _⟩ => ⟨S2x16384x8x64, .f32⟩
  | .hbm, ⟨114, _⟩ => ⟨S2x16384x512, .f32⟩
  | .hbm, ⟨115, _⟩ => ⟨S2x4096x2048, .f32⟩
  | _, _ => ⟨S2x16384x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c_0 : Ref sig .tc := ⟨.hbm, 16, rfl⟩
abbrev main_v13 : Ref sig .tc := ⟨.hbm, 17, rfl⟩
abbrev main_v14 : Ref sig .tc := ⟨.hbm, 18, rfl⟩
abbrev main_c_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_4 : Ref sig .tc := ⟨.hbm, 34, rfl⟩
abbrev main_v26 : Ref sig .tc := ⟨.hbm, 35, rfl⟩
abbrev main_v27 : Ref sig .tc := ⟨.hbm, 36, rfl⟩
abbrev main_c_5 : Ref sig .tc := ⟨.hbm, 37, rfl⟩
abbrev main_v28 : Ref sig .tc := ⟨.hbm, 38, rfl⟩
abbrev main_v29 : Ref sig .tc := ⟨.hbm, 39, rfl⟩
abbrev main_c_6 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_7 : Ref sig .tc := ⟨.hbm, 44, rfl⟩
abbrev main_v33 : Ref sig .tc := ⟨.hbm, 45, rfl⟩
abbrev main_v34 : Ref sig .tc := ⟨.hbm, 46, rfl⟩
abbrev main_c_8 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c_9 : Ref sig .tc := ⟨.hbm, 59, rfl⟩
abbrev main_v46 : Ref sig .tc := ⟨.hbm, 60, rfl⟩
abbrev main_v47 : Ref sig .tc := ⟨.hbm, 61, rfl⟩
abbrev main_c_10 : Ref sig .tc := ⟨.hbm, 62, rfl⟩
abbrev main_v48 : Ref sig .tc := ⟨.hbm, 63, rfl⟩
abbrev main_v49 : Ref sig .tc := ⟨.hbm, 64, rfl⟩
abbrev main_c_11 : Ref sig .tc := ⟨.hbm, 65, rfl⟩
abbrev main_v50 : Ref sig .tc := ⟨.hbm, 66, rfl⟩
abbrev main_v51 : Ref sig .tc := ⟨.hbm, 67, rfl⟩
abbrev main_c_12 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_c_13 : Ref sig .tc := ⟨.hbm, 74, rfl⟩
abbrev main_v57 : Ref sig .tc := ⟨.hbm, 75, rfl⟩
abbrev main_v58 : Ref sig .tc := ⟨.hbm, 76, rfl⟩
abbrev main_c_14 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_15 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_16 : Ref sig .tc := ⟨.hbm, 91, rfl⟩
abbrev main_call1_v0 : Ref sig .tc := ⟨.hbm, 92, rfl⟩
abbrev main_call1_v1 : Ref sig .tc := ⟨.hbm, 93, rfl⟩
abbrev main_call1_v2 : Ref sig .tc := ⟨.hbm, 94, rfl⟩
abbrev main_v71 : Ref sig .tc := ⟨.hbm, 95, rfl⟩
abbrev main_cst_17 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_18 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩

abbrev nD : Nat := 1
abbrev τ : Topo := Topo.v7x

variable {F : FTy → Type} [FloatOps F]
-- ==== DilSixteen.lean ====
abbrev S2x16384x4608 : Shape := ⟨3, ![2, 16384, 4608]⟩
abbrev S32x40 : Shape := ⟨2, ![32, 40]⟩
abbrev S2x8x128x256 : Shape := ⟨4, ![2, 8, 128, 256]⟩
abbrev S1x1x128x256 : Shape := ⟨4, ![1, 1, 128, 256]⟩
abbrev S128x256 : Shape := ⟨2, ![128, 256]⟩
abbrev S1x1 : Shape := ⟨2, ![1, 1]⟩
abbrev S2x1024x73728 : Shape := ⟨3, ![2, 1024, 73728]⟩
abbrev S2x1024x8192 : Shape := ⟨3, ![2, 1024, 8192]⟩
abbrev S1x128x512 : Shape := ⟨3, ![1, 128, 512]⟩
abbrev S1x8x128x256 : Shape := ⟨4, ![1, 8, 128, 256]⟩
abbrev S128x512 : Shape := ⟨2, ![128, 512]⟩
abbrev S256x512 : Shape := ⟨2, ![256, 512]⟩
abbrev S128x64 : Shape := ⟨2, ![128, 64]⟩
abbrev S256x64 : Shape := ⟨2, ![256, 64]⟩
abbrev S128 : Shape := ⟨1, ![128]⟩
abbrev S128x1 : Shape := ⟨2, ![128, 1]⟩
abbrev S1x128x64 : Shape := ⟨3, ![1, 128, 64]⟩

abbrev nBuf : Space → Nat
  | .hbm => 6
  | .vmem => 18
  | .smem => 1
  | _ => 0

abbrev bufTy : (tb : Table) → Fin (tcTables nBuf tb) → BufTy
  | .hbm, ⟨0, _⟩ => ⟨S2x16384x4608, .bf16⟩
  | .hbm, ⟨1, _⟩ => ⟨S32x40, .f32⟩
  | .hbm, ⟨2, _⟩ => ⟨S2x8x128x256, .f32⟩
  | .hbm, ⟨3, _⟩ => ⟨S2x1024x73728, .bf16⟩
  | .hbm, ⟨4, _⟩ => ⟨S2x1024x8192, .f32⟩
  | .hbm, ⟨5, _⟩ => ⟨S2x1024x8192, .f32⟩
  | .local _ .vmem, ⟨0, _⟩ => ⟨S1x1x128x256, .f32⟩
  | .local _ .vmem, ⟨1, _⟩ => ⟨S1x1x128x256, .f32⟩
  | .local _ .vmem, ⟨2, _⟩ => ⟨S1x128x512, .bf16⟩
  | .local _ .vmem, ⟨3, _⟩ => ⟨S1x128x512, .bf16⟩
  | .local _ .vmem, ⟨4, _⟩ => ⟨S1x128x512, .bf16⟩
  | .local _ .vmem, ⟨5, _⟩ => ⟨S1x128x512, .bf16⟩
  | .local _ .vmem, ⟨6, _⟩ => ⟨S1x128x512, .bf16⟩
  | .local _ .vmem, ⟨7, _⟩ => ⟨S1x128x512, .bf16⟩
  | .local _ .vmem, ⟨8, _⟩ => ⟨S1x128x512, .bf16⟩
  | .local _ .vmem, ⟨9, _⟩ => ⟨S1x128x512, .bf16⟩
  | .local _ .vmem, ⟨10, _⟩ => ⟨S1x128x512, .bf16⟩
  | .local _ .vmem, ⟨11, _⟩ => ⟨S1x128x512, .bf16⟩
  | .local _ .vmem, ⟨12, _⟩ => ⟨S1x8x128x256, .f32⟩
  | .local _ .vmem, ⟨13, _⟩ => ⟨S1x8x128x256, .f32⟩
  | .local _ .vmem, ⟨14, _⟩ => ⟨S1x128x512, .f32⟩
  | .local _ .vmem, ⟨15, _⟩ => ⟨S1x128x512, .f32⟩
  | .local _ .vmem, ⟨16, _⟩ => ⟨S1x128x512, .f32⟩
  | .local _ .vmem, ⟨17, _⟩ => ⟨S1x128x512, .f32⟩
  | .local _ .smem, ⟨0, _⟩ => ⟨S32x40, .f32⟩
  | _, _ => ⟨S2x16384x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg1_0 : Ref sig .tc := ⟨.vmem, 0, rfl⟩
abbrev cc0_stg1_1 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg7_1 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem5_1 : DmaSem sig := 14
abbrev cc1_sem6_0 : DmaSem sig := 15
abbrev cc1_sem6_1 : DmaSem sig := 16
abbrev cc1_sem7_0 : DmaSem sig := 17
abbrev cc1_sem7_1 : DmaSem sig := 18

abbrev nD : Nat := 1
abbrev τ : Topo := Topo.v7x

variable {F : FTy → Type} [FloatOps F]

abbrev grid0 : Pipeline.Grid := ⟨2, ![2, 8], ![false, false]⟩

def k0_off1 (i : grid0.Coords) : Fin 2 → Nat :=
  let c0 : Index := 0#32
  let c32_i32 : BitVec 32 := 32#32
  let arg1 : BitVec 32 := BitVec.ofNat 32 (i 1).val
  let v30 : BitVec 32 := Scalar.addi c32_i32 arg1
  let v31 : Index := Scalar.indexCast v30
  ![0, v31.toNat]
def k0_off2 (i : grid0.Coords) : Fin 2 → Nat :=
  let c1 : Index := 1#32
  let c32_i32_7 : BitVec 32 := 32#32
  let arg1 : BitVec 32 := BitVec.ofNat 32 (i 1).val
  let v37 : BitVec 32 := Scalar.addi c32_i32_7 arg1
  let v38 : Index := Scalar.indexCast v37
  ![1, v38.toNat]
def k0_off3 (i : grid0.Coords) : Fin 2 → Nat :=
  let c2 : Index := 2#32
  let c32_i32_8 : BitVec 32 := 32#32
  let arg1 : BitVec 32 := BitVec.ofNat 32 (i 1).val
  let v44 : BitVec 32 := Scalar.addi c32_i32_8 arg1
  let v45 : Index := Scalar.indexCast v44
  ![2, v45.toNat]
def k0_off4 (i : grid0.Coords) : Fin 2 → Nat :=
  let c3 : Index := 3#32
  let c32_i32_9 : BitVec 32 := 32#32
  let arg1 : BitVec 32 := BitVec.ofNat 32 (i 1).val
  let v51 : BitVec 32 := Scalar.addi c32_i32_9 arg1
  let v52 : Index := Scalar.indexCast v51
  ![3, v52.toNat]
def k0_off5 (i : grid0.Coords) : Fin 2 → Nat :=
  let c4 : Index := 4#32
  let c32_i32_10 : BitVec 32 := 32#32
  let arg1 : BitVec 32 := BitVec.ofNat 32 (i 1).val
  let v58 : BitVec 32 := Scalar.addi c32_i32_10 arg1
  let v59 : Index := Scalar.indexCast v58
  ![4, v59.toNat]
def k0_off6 (i : grid0.Coords) : Fin 2 → Nat :=
  let c5 : Index := 5#32
  let c32_i32_11 : BitVec 32 := 32#32
  let arg1 : BitVec 32 := BitVec.ofNat 32 (i 1).val
  let v65 : BitVec 32 := Scalar.addi c32_i32_11 arg1
  let v66 : Index := Scalar.indexCast v65
  ![5, v66.toNat]
def k0_off7 (i : grid0.Coords) : Fin 2 → Nat :=
  let c6 : Index := 6#32
  let c32_i32_12 : BitVec 32 := 32#32
  let arg1 : BitVec 32 := BitVec.ofNat 32 (i 1).val
  let v72 : BitVec 32 := Scalar.addi c32_i32_12 arg1
  let v73 : Index := Scalar.indexCast v72
  ![6, v73.toNat]
def k0_off8 (i : grid0.Coords) : Fin 2 → Nat :=
  let c7 : Index := 7#32
  let c32_i32_13 : BitVec 32 := 32#32
  let arg1 : BitVec 32 := BitVec.ofNat 32 (i 1).val
  let v79 : BitVec 32 := Scalar.addi c32_i32_13 arg1
  let v80 : Index := Scalar.indexCast v79
  ![7, v80.toNat]
def k0_off9 (i : grid0.Coords) : Fin 2 → Nat :=
  let c8 : Index := 8#32
  let c32_i32_14 : BitVec 32 := 32#32
  let arg1 : BitVec 32 := BitVec.ofNat 32 (i 1).val
  let v86 : BitVec 32 := Scalar.addi c32_i32_14 arg1
  let v87 : Index := Scalar.indexCast v86
  ![8, v87.toNat]
def k0_off10 (i : grid0.Coords) : Fin 2 → Nat :=
  let c9 : Index := 9#32
  let c32_i32_15 : BitVec 32 := 32#32
  let arg1 : BitVec 32 := BitVec.ofNat 32 (i 1).val
  let v93 : BitVec 32 := Scalar.addi c32_i32_15 arg1
  let v94 : Index := Scalar.indexCast v93
  ![9, v94.toNat]
def k0_off11 (i : grid0.Coords) : Fin 2 → Nat :=
  let c10 : Index := 10#32
  let c32_i32_16 : BitVec 32 := 32#32
  let arg1 : BitVec 32 := BitVec.ofNat 32 (i 1).val
  let v100 : BitVec 32 := Scalar.addi c32_i32_16 arg1
  let v101 : Index := Scalar.indexCast v100
  ![10, v101.toNat]
def k0_off12 (i : grid0.Coords) : Fin 2 → Nat :=
  let c11 : Index := 11#32
  let c32_i32_17 : BitVec 32 := 32#32
  let arg1 : BitVec 32 := BitVec.ofNat 32 (i 1).val
  let v107 : BitVec 32 := Scalar.addi c32_i32_17 arg1
  let v108 : Index := Scalar.indexCast v107
  ![11, v108.toNat]
def k0_off13 (i : grid0.Coords) : Fin 2 → Nat :=
  let c12 : Index := 12#32
  let c32_i32_18 : BitVec 32 := 32#32
  let arg1 : BitVec 32 := BitVec.ofNat 32 (i 1).val
  let v114 : BitVec 32 := Scalar.addi c32_i32_18 arg1
  let v115 : Index := Scalar.indexCast v114
  ![12, v115.toNat]
def k0_off14 (i : grid0.Coords) : Fin 2 → Nat :=
  let c13 : Index := 13#32
  let c32_i32_19 : BitVec 32 := 32#32
  let arg1 : BitVec 32 := BitVec.ofNat 32 (i 1).val
  let v121 : BitVec 32 := Scalar.addi c32_i32_19 arg1
  let v122 : Index := Scalar.indexCast v121
  ![13, v122.toNat]
def k0_off15 (i : grid0.Coords) : Fin 2 → Nat :=
  let c14 : Index := 14#32
  let c32_i32_20 : BitVec 32 := 32#32
  let arg1 : BitVec 32 := BitVec.ofNat 32 (i 1).val
  let v128 : BitVec 32 := Scalar.addi c32_i32_20 arg1
  let v129 : Index := Scalar.indexCast v128
  ![14, v129.toNat]
def k0_off16 (i : grid0.Coords) : Fin 2 → Nat :=
  let c15 : Index := 15#32
  let c32_i32_21 : BitVec 32 := 32#32
  let arg1 : BitVec 32 := BitVec.ofNat 32 (i 1).val
  let v135 : BitVec 32 := Scalar.addi c32_i32_21 arg1
  let v136 : Index := Scalar.indexCast v135
  ![15, v136.toNat]
def k0_off17 (i : grid0.Coords) : Fin 2 → Nat :=
  let c16 : Index := 16#32
  let c32_i32_23 : BitVec 32 := 32#32
  let arg1 : BitVec 32 := BitVec.ofNat 32 (i 1).val
  let v142 : BitVec 32 := Scalar.addi c32_i32_23 arg1
  let v143 : Index := Scalar.indexCast v142
  ![16, v143.toNat]
def k0_off18 (i : grid0.Coords) : Fin 2 → Nat :=
  let c17 : Index := 17#32
  let c32_i32_24 : BitVec 32 := 32#32
  let arg1 : BitVec 32 := BitVec.ofNat 32 (i 1).val
  let v149 : BitVec 32 := Scalar.addi c32_i32_24 arg1
  let v150 : Index := Scalar.indexCast v149
  ![17, v150.toNat]
def k0_off19 (i : grid0.Coords) : Fin 2 → Nat :=
  let c18 : Index := 18#32
  let c32_i32_25 : BitVec 32 := 32#32
  let arg1 : BitVec 32 := BitVec.ofNat 32 (i 1).val
  let v156 : BitVec 32 := Scalar.addi c32_i32_25 arg1
  let v157 : Index := Scalar.indexCast v156
  ![18, v157.toNat]
def k0_off20 (i : grid0.Coords) : Fin 2 → Nat :=
  let c19 : Index := 19#32
  let c32_i32_26 : BitVec 32 := 32#32
  let arg1 : BitVec 32 := BitVec.ofNat 32 (i 1).val
  let v163 : BitVec 32 := Scalar.addi c32_i32_26 arg1
  let v164 : Index := Scalar.indexCast v163
  ![19, v164.toNat]
def k0_off21 (i : grid0.Coords) : Fin 2 → Nat :=
  let c20 : Index := 20#32
  let c32_i32_27 : BitVec 32 := 32#32
  let arg1 : BitVec 32 := BitVec.ofNat 32 (i 1).val
  let v170 : BitVec 32 := Scalar.addi c32_i32_27 arg1
  let v171 : Index := Scalar.indexCast v170
  ![20, v171.toNat]
def k0_off22 (i : grid0.Coords) : Fin 2 → Nat :=
  let c21 : Index := 21#32
  let c32_i32_28 : BitVec 32 := 32#32
  let arg1 : BitVec 32 := BitVec.ofNat 32 (i 1).val
  let v177 : BitVec 32 := Scalar.addi c32_i32_28 arg1
  let v178 : Index := Scalar.indexCast v177
  ![21, v178.toNat]
def k0_off23 (i : grid0.Coords) : Fin 2 → Nat :=
  let c22 : Index := 22#32
  let c32_i32_29 : BitVec 32 := 32#32
  let arg1 : BitVec 32 := BitVec.ofNat 32 (i 1).val
  let v184 : BitVec 32 := Scalar.addi c32_i32_29 arg1
  let v185 : Index := Scalar.indexCast v184
  ![22, v185.toNat]
def k0_off24 (i : grid0.Coords) : Fin 2 → Nat :=
  let c23 : Index := 23#32
  let c32_i32_30 : BitVec 32 := 32#32
  let arg1 : BitVec 32 := BitVec.ofNat 32 (i 1).val
  let v191 : BitVec 32 := Scalar.addi c32_i32_30 arg1
  let v192 : Index := Scalar.indexCast v191
  ![23, v192.toNat]
def k0_off25 (i : grid0.Coords) : Fin 2 → Nat :=
  let c24 : Index := 24#32
  let c32_i32_31 : BitVec 32 := 32#32
  let arg1 : BitVec 32 := BitVec.ofNat 32 (i 1).val
  let v198 : BitVec 32 := Scalar.addi c32_i32_31 arg1
  let v199 : Index := Scalar.indexCast v198
  ![24, v199.toNat]
def k0_off26 (i : grid0.Coords) : Fin 2 → Nat :=
  let c25 : Index := 25#32
  let c32_i32_32 : BitVec 32 := 32#32
  let arg1 : BitVec 32 := BitVec.ofNat 32 (i 1).val
  let v205 : BitVec 32 := Scalar.addi c32_i32_32 arg1
  let v206 : Index := Scalar.indexCast v205
  ![25, v206.toNat]
def k0_off27 (i : grid0.Coords) : Fin 2 → Nat :=
  let c26 : Index := 26#32
  let c32_i32_33 : BitVec 32 := 32#32
  let arg1 : BitVec 32 := BitVec.ofNat 32 (i 1).val
  let v212 : BitVec 32 := Scalar.addi c32_i32_33 arg1
  let v213 : Index := Scalar.indexCast v212
  ![26, v213.toNat]
def k0_off28 (i : grid0.Coords) : Fin 2 → Nat :=
  let c27 : Index := 27#32
  let c32_i32_34 : BitVec 32 := 32#32
  let arg1 : BitVec 32 := BitVec.ofNat 32 (i 1).val
  let v219 : BitVec 32 := Scalar.addi c32_i32_34 arg1
  let v220 : Index := Scalar.indexCast v219
  ![27, v220.toNat]
def k0_off29 (i : grid0.Coords) : Fin 2 → Nat :=
  let c28 : Index := 28#32
  let c32_i32_35 : BitVec 32 := 32#32
  let arg1 : BitVec 32 := BitVec.ofNat 32 (i 1).val
  let v226 : BitVec 32 := Scalar.addi c32_i32_35 arg1
  let v227 : Index := Scalar.indexCast v226
  ![28, v227.toNat]
def k0_off30 (i : grid0.Coords) : Fin 2 → Nat :=
  let c29 : Index := 29#32
  let c32_i32_36 : BitVec 32 := 32#32
  let arg1 : BitVec 32 := BitVec.ofNat 32 (i 1).val
  let v233 : BitVec 32 := Scalar.addi c32_i32_36 arg1
  let v234 : Index := Scalar.indexCast v233
  ![29, v234.toNat]
def k0_off31 (i : grid0.Coords) : Fin 2 → Nat :=
  let c30 : Index := 30#32
  let c32_i32_37 : BitVec 32 := 32#32
  let arg1 : BitVec 32 := BitVec.ofNat 32 (i 1).val
  let v240 : BitVec 32 := Scalar.addi c32_i32_37 arg1
  let v241 : Index := Scalar.indexCast v240
  ![30, v241.toNat]
def k0_off32 (i : grid0.Coords) : Fin 2 → Nat :=
  let c31 : Index := 31#32
  let c32_i32_39 : BitVec 32 := 32#32
  let arg1 : BitVec 32 := BitVec.ofNat 32 (i 1).val
  let v247 : BitVec 32 := Scalar.addi c32_i32_39 arg1
  let v248 : Index := Scalar.indexCast v247
  ![31, v248.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S32x40 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨3, ![2, 16, 8], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg1 c9_i32
  let c6_i32 : BitVec 32 := 6#32
  let v1 : BitVec 32 := Scalar.addi v0 c6_i32
  let c0_i32 : BitVec 32 := 0#32
  let v2 : BitVec 32 := Scalar.addi v1 c0_i32
  let c0_i32_0 : BitVec 32 := 0#32
  ![arg0.toNat, arg2.toNat, v2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg1 c9_i32
  let c6_i32 : BitVec 32 := 6#32
  let v1 : BitVec 32 := Scalar.addi v0 c6_i32
  let c1_i32 : BitVec 32 := 1#32
  let v2 : BitVec 32 := Scalar.addi v1 c1_i32
  let c0_i32 : BitVec 32 := 0#32
  ![arg0.toNat, arg2.toNat, v2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c9_i32 : BitVec 32 := 9#32
  let v2 : BitVec 32 := Scalar.muli arg1 c9_i32
  let c6_i32 : BitVec 32 := 6#32
  let v3 : BitVec 32 := Scalar.addi v2 c6_i32
  let c1_i32_0 : BitVec 32 := 1#32
  let v4 : BitVec 32 := Scalar.addi v3 c1_i32_0
  let c0_i32_1 : BitVec 32 := 0#32
  ![arg0.toNat, v1.toNat, v4.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg1 c9_i32
  let c6_i32 : BitVec 32 := 6#32
  let v1 : BitVec 32 := Scalar.addi v0 c6_i32
  let c2_i32 : BitVec 32 := 2#32
  let v2 : BitVec 32 := Scalar.addi v1 c2_i32
  let c0_i32 : BitVec 32 := 0#32
  ![arg0.toNat, arg2.toNat, v2.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c9_i32 : BitVec 32 := 9#32
  let v2 : BitVec 32 := Scalar.muli arg1 c9_i32
  let c6_i32 : BitVec 32 := 6#32
  let v3 : BitVec 32 := Scalar.addi v2 c6_i32
  let c2_i32 : BitVec 32 := 2#32
  let v4 : BitVec 32 := Scalar.addi v3 c2_i32
  let c0_i32_0 : BitVec 32 := 0#32
  ![arg0.toNat, v1.toNat, v4.toNat]

def cc1_transform_5 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_7 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x128x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x128x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x128x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x128x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S1x128x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev stage1_5 : Fin 2 → Memref sig .tc .vmem S1x8x128x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, false, true]

abbrev stage1_6 : Fin 2 → Memref sig .tc .vmem S1x128x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, true]

abbrev stage1_7 : Fin 2 → Memref sig .tc .vmem S1x128x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, true]
-- ==== DilSixteenIdeal.lean ====
variable {F : FTy → Type} [FloatOps F] [Named F]
def κ : String → Option EReal := fun
  | "mask" => some ⊥
  | _ => none
-- ==== DilSixteenRefIdeal.lean ====
abbrev S2x16384x4608 : Shape := ⟨3, ![2, 16384, 4608]⟩
abbrev S32x40 : Shape := ⟨2, ![32, 40]⟩
abbrev S2x16384x3x3x8x64 : Shape := ⟨6, ![2, 16384, 3, 3, 8, 64]⟩
abbrev S2x16384x1x1x8x64 : Shape := ⟨6, ![2, 16384, 1, 1, 8, 64]⟩
abbrev S2x16384x8x64 : Shape := ⟨4, ![2, 16384, 8, 64]⟩
abbrev S16384 : Shape := ⟨1, ![16384]⟩
abbrev S129 : Shape := ⟨1, ![129]⟩
abbrev S_ : Shape := ⟨0, ![]⟩
abbrev S32x8 : Shape := ⟨2, ![32, 8]⟩
abbrev S129x1 : Shape := ⟨2, ![129, 1]⟩
abbrev S129x8 : Shape := ⟨2, ![129, 8]⟩
abbrev S8x129 : Shape := ⟨2, ![8, 129]⟩
abbrev S16384x1 : Shape := ⟨2, ![16384, 1]⟩
abbrev S1x129 : Shape := ⟨2, ![1, 129]⟩
abbrev S16384x129 : Shape := ⟨2, ![16384, 129]⟩
abbrev S16384x129x1 : Shape := ⟨3, ![16384, 129, 1]⟩
abbrev S2x16384x129x8x64 : Shape := ⟨5, ![2, 16384, 129, 8, 64]⟩
abbrev S2x16384x8x129 : Shape := ⟨4, ![2, 16384, 8, 129]⟩
abbrev S1x1x8x129 : Shape := ⟨4, ![1, 1, 8, 129]⟩
abbrev S1x16384x1x129 : Shape := ⟨4, ![1, 16384, 1, 129]⟩
abbrev S2x16384x8 : Shape := ⟨3, ![2, 16384, 8]⟩
abbrev S2x16384x8x1 : Shape := ⟨4, ![2, 16384, 8, 1]⟩
abbrev S2x1024x8192 : Shape := ⟨3, ![2, 1024, 8192]⟩
abbrev S2x16384x512 : Shape := ⟨3, ![2, 16384, 512]⟩

abbrev nBuf : Space → Nat
  | .hbm => 116
  | .vmem => 0
  | .smem => 0
  | _ => 0

abbrev bufTy : (tb : Table) → Fin (tcTables nBuf tb) → BufTy
  | .hbm, ⟨0, _⟩ => ⟨S2x16384x4608, .bf16⟩
  | .hbm, ⟨1, _⟩ => ⟨S32x40, .f32⟩
  | .hbm, ⟨2, _⟩ => ⟨S2x16384x4608, .f32⟩
  | .hbm, ⟨3, _⟩ => ⟨S2x16384x3x3x8x64, .f32⟩
  | .hbm, ⟨4, _⟩ => ⟨S2x16384x1x1x8x64, .f32⟩
  | .hbm, ⟨5, _⟩ => ⟨S2x16384x8x64, .f32⟩
  | .hbm, ⟨6, _⟩ => ⟨S2x16384x1x1x8x64, .f32⟩
  | .hbm, ⟨7, _⟩ => ⟨S2x16384x8x64, .f32⟩
  | .hbm, ⟨8, _⟩ => ⟨S2x16384x1x1x8x64, .f32⟩
  | .hbm, ⟨9, _⟩ => ⟨S2x16384x8x64, .f32⟩
  | .hbm, ⟨10, _⟩ => ⟨S16384, .i32⟩
  | .hbm, ⟨11, _⟩ => ⟨S129, .i32⟩
  | .hbm, ⟨12, _⟩ => ⟨S_, .i32⟩
  | .hbm, ⟨13, _⟩ => ⟨S129, .i32⟩
  | .hbm, ⟨14, _⟩ => ⟨S129, .i32⟩
  | .hbm, ⟨15, _⟩ => ⟨S32x8, .f32⟩
  | .hbm, ⟨16, _⟩ => ⟨S_, .i32⟩
  | .hbm, ⟨17, _⟩ => ⟨S129, .i32⟩
  | .hbm, ⟨18, _⟩ => ⟨S129, .i32⟩
  | .hbm, ⟨19, _⟩ => ⟨S_, .i32⟩
  | .hbm, ⟨20, _⟩ => ⟨S129, .i32⟩
  | .hbm, ⟨21, _⟩ => ⟨S129, .i32⟩
  | .hbm, ⟨22, _⟩ => ⟨S129, .f32⟩
  | .hbm, ⟨23, _⟩ => ⟨S_, .f32⟩
  | .hbm, ⟨24, _⟩ => ⟨S129, .f32⟩
  | .hbm, ⟨25, _⟩ => ⟨S129, .f32⟩
  | .hbm, ⟨26, _⟩ => ⟨S129, .f32⟩
  | .hbm, ⟨27, _⟩ => ⟨S_, .f32⟩
  | .hbm, ⟨28, _⟩ => ⟨S129, .f32⟩
  | .hbm, ⟨29, _⟩ => ⟨S129, .f32⟩
  | .hbm, ⟨30, _⟩ => ⟨S_, .f32⟩
  | .hbm, ⟨31, _⟩ => ⟨S129, .f32⟩
  | .hbm, ⟨32, _⟩ => ⟨S129, .f32⟩
  | .hbm, ⟨33, _⟩ => ⟨S129, .i32⟩
  | .hbm, ⟨34, _⟩ => ⟨S_, .i32⟩
  | .hbm, ⟨35, _⟩ => ⟨S129, .i32⟩
  | .hbm, ⟨36, _⟩ => ⟨S129, .i32⟩
  | .hbm, ⟨37, _⟩ => ⟨S_, .i32⟩
  | .hbm, ⟨38, _⟩ => ⟨S129, .i32⟩
  | .hbm, ⟨39, _⟩ => ⟨S129, .i32⟩
  | .hbm, ⟨40, _⟩ => ⟨S_, .i32⟩
  | .hbm, ⟨41, _⟩ => ⟨S129, .i32⟩
  | .hbm, ⟨42, _⟩ => ⟨S129, .i1⟩
  | .hbm, ⟨43, _⟩ => ⟨S129, .i32⟩
  | .hbm, ⟨44, _⟩ => ⟨S_, .i32⟩
  | .hbm, ⟨45, _⟩ => ⟨S129, .i32⟩
  | .hbm, ⟨46, _⟩ => ⟨S129, .i1⟩
  | .hbm, ⟨47, _⟩ => ⟨S_, .i32⟩
  | .hbm, ⟨48, _⟩ => ⟨S129, .i32⟩
  | .hbm, ⟨49, _⟩ => ⟨S129, .i32⟩
  | .hbm, ⟨50, _⟩ => ⟨S129, .i32⟩
  | .hbm, ⟨51, _⟩ => ⟨S129x1, .i32⟩
  | .hbm, ⟨52, _⟩ => ⟨S129x8, .f32⟩
  | .hbm, ⟨53, _⟩ => ⟨S8x129, .f32⟩
  | .hbm, ⟨54, _⟩ => ⟨S16384x1, .i32⟩
  | .hbm, ⟨55, _⟩ => ⟨S1x129, .i32⟩
  | .hbm, ⟨56, _⟩ => ⟨S16384x129, .i32⟩
  | .hbm, ⟨57, _⟩ => ⟨S16384x129, .i32⟩
  | .hbm, ⟨58, _⟩ => ⟨S16384x129, .i32⟩
  | .hbm, ⟨59, _⟩ => ⟨S_, .i32⟩
  | .hbm, ⟨60, _⟩ => ⟨S16384x129, .i32⟩
  | .hbm, ⟨61, _⟩ => ⟨S16384x129, .i1⟩
  | .hbm, ⟨62, _⟩ => ⟨S_, .i32⟩
  | .hbm, ⟨63, _⟩ => ⟨S16384x129, .i32⟩
  | .hbm, ⟨64, _⟩ => ⟨S16384x129, .i32⟩
  | .hbm, ⟨65, _⟩ => ⟨S_, .i32⟩
  | .hbm, ⟨66, _⟩ => ⟨S16384x129, .i32⟩
  | .hbm, ⟨67, _⟩ => ⟨S16384x129, .i1⟩
  | .hbm, ⟨68, _⟩ => ⟨S_, .i32⟩
  | .hbm, ⟨69, _⟩ => ⟨S16384x129, .i32⟩
  | .hbm, ⟨70, _⟩ => ⟨S16384x129, .i32⟩
  | .hbm, ⟨71, _⟩ => ⟨S16384x129, .i32⟩
  | .hbm, ⟨72, _⟩ => ⟨S16384x129x1, .i32⟩
  | .hbm, ⟨73, _⟩ => ⟨S2x16384x129x8x64, .f32⟩
  | .hbm, ⟨74, _⟩ => ⟨S_, .i32⟩
  | .hbm, ⟨75, _⟩ => ⟨S16384x129, .i32⟩
  | .hbm, ⟨76, _⟩ => ⟨S16384x129, .i1⟩
  | .hbm, ⟨77, _⟩ => ⟨S_, .i32⟩
  | .hbm, ⟨78, _⟩ => ⟨S16384x129, .i32⟩
  | .hbm, ⟨79, _⟩ => ⟨S16384x129, .i32⟩
  | .hbm, ⟨80, _⟩ => ⟨S16384x129, .i32⟩
  | .hbm, ⟨81, _⟩ => ⟨S16384x129x1, .i32⟩
  | .hbm, ⟨82, _⟩ => ⟨S2x16384x129x8x64, .f32⟩
  | .hbm, ⟨83, _⟩ => ⟨S2x16384x8x129, .f32⟩
  | .hbm, ⟨84, _⟩ => ⟨S_, .f32⟩
  | .hbm, ⟨85, _⟩ => ⟨S2x16384x8x129, .f32⟩
  | .hbm, ⟨86, _⟩ => ⟨S2x16384x8x129, .f32⟩
  | .hbm, ⟨87, _⟩ => ⟨S1x1x8x129, .f32⟩
  | .hbm, ⟨88, _⟩ => ⟨S2x16384x8x129, .f32⟩
  | .hbm, ⟨89, _⟩ => ⟨S2x16384x8x129, .f32⟩
  | .hbm, ⟨90, _⟩ => ⟨S1x16384x1x129, .i1⟩
  | .hbm, ⟨91, _⟩ => ⟨S_, .f32⟩
  | .hbm, ⟨92, _⟩ => ⟨S_, .f32⟩
  | .hbm, ⟨93, _⟩ => ⟨S2x16384x8x129, .i1⟩
  | .hbm, ⟨94, _⟩ => ⟨S2x16384x8x129, .f32⟩
  | .hbm, ⟨95, _⟩ => ⟨S2x16384x8x129, .f32⟩
  | .hbm, ⟨96, _⟩ => ⟨S_, .f32⟩
  | .hbm, ⟨97, _⟩ => ⟨S2x16384x8, .f32⟩
  | .hbm, ⟨98, _⟩ => ⟨S2x16384x8x1, .f32⟩
  | .hbm, ⟨99, _⟩ => ⟨S2x16384x8x129, .f32⟩
  | .hbm, ⟨100, _⟩ => ⟨S2x16384x8x129, .f32⟩
  | .hbm, ⟨101, _⟩ => ⟨S2x16384x8x129, .f32⟩
  | .hbm, ⟨102, _⟩ => ⟨S_, .f32⟩
  | .hbm, ⟨103, _⟩ => ⟨S2x16384x8, .f32⟩
  | .hbm, ⟨104, _⟩ => ⟨S2x16384x8x1, .f32⟩
  | .hbm, ⟨105, _⟩ => ⟨S2x16384x8x1, .f32⟩
  | .hbm, ⟨106, _⟩ => ⟨S2x16384x8x1, .f32⟩
  | .hbm, ⟨107, _⟩ => ⟨S2x16384x8x129, .f32⟩
  | .hbm, ⟨108, _⟩ => ⟨S2x16384x8x129, .f32⟩
  | .hbm, ⟨109, _⟩ => ⟨S2x16384x8x129, .f32⟩
  | .hbm, ⟨110, _⟩ => ⟨S2x16384x8x64, .f32⟩
  | .hbm, ⟨111, _⟩ => ⟨S2x1024x8192, .f32⟩
  | .hbm, ⟨112, _⟩ => ⟨S2x16384x8, .f32⟩
  | .hbm, ⟨113, _⟩ => ⟨S2x16384x8x64, .f32⟩
  | .hbm, ⟨114, _⟩ => ⟨S2x16384x512, .f32⟩
  | .hbm, ⟨115, _⟩ => ⟨S2x1024x8192, .f32⟩
  | _, _ => ⟨S2x16384x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c_0 : Ref sig .tc := ⟨.hbm, 16, rfl⟩
abbrev main_v13 : Ref sig .tc := ⟨.hbm, 17, rfl⟩
abbrev main_v14 : Ref sig .tc := ⟨.hbm, 18, rfl⟩
abbrev main_c_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_4 : Ref sig .tc := ⟨.hbm, 34, rfl⟩
abbrev main_v26 : Ref sig .tc := ⟨.hbm, 35, rfl⟩
abbrev main_v27 : Ref sig .tc := ⟨.hbm, 36, rfl⟩
abbrev main_c_5 : Ref sig .tc := ⟨.hbm, 37, rfl⟩
abbrev main_v28 : Ref sig .tc := ⟨.hbm, 38, rfl⟩
abbrev main_v29 : Ref sig .tc := ⟨.hbm, 39, rfl⟩
abbrev main_c_6 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_7 : Ref sig .tc := ⟨.hbm, 44, rfl⟩
abbrev main_v33 : Ref sig .tc := ⟨.hbm, 45, rfl⟩
abbrev main_v34 : Ref sig .tc := ⟨.hbm, 46, rfl⟩
abbrev main_c_8 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c_9 : Ref sig .tc := ⟨.hbm, 59, rfl⟩
abbrev main_v46 : Ref sig .tc := ⟨.hbm, 60, rfl⟩
abbrev main_v47 : Ref sig .tc := ⟨.hbm, 61, rfl⟩
abbrev main_c_10 : Ref sig .tc := ⟨.hbm, 62, rfl⟩
abbrev main_v48 : Ref sig .tc := ⟨.hbm, 63, rfl⟩
abbrev main_v49 : Ref sig .tc := ⟨.hbm, 64, rfl⟩
abbrev main_c_11 : Ref sig .tc := ⟨.hbm, 65, rfl⟩
abbrev main_v50 : Ref sig .tc := ⟨.hbm, 66, rfl⟩
abbrev main_v51 : Ref sig .tc := ⟨.hbm, 67, rfl⟩
abbrev main_c_12 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_c_13 : Ref sig .tc := ⟨.hbm, 74, rfl⟩
abbrev main_v57 : Ref sig .tc := ⟨.hbm, 75, rfl⟩
abbrev main_v58 : Ref sig .tc := ⟨.hbm, 76, rfl⟩
abbrev main_c_14 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_15 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_16 : Ref sig .tc := ⟨.hbm, 91, rfl⟩
abbrev main_call1_v0 : Ref sig .tc := ⟨.hbm, 92, rfl⟩
abbrev main_call1_v1 : Ref sig .tc := ⟨.hbm, 93, rfl⟩
abbrev main_call1_v2 : Ref sig .tc := ⟨.hbm, 94, rfl⟩
abbrev main_v71 : Ref sig .tc := ⟨.hbm, 95, rfl⟩
abbrev main_cst_17 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_18 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩

abbrev nD : Nat := 1
abbrev τ : Topo := Topo.v7x

variable {F : FTy → Type} [FloatOps F]
-- ==== Strips.lean ====
abbrev S32x40 : Shape := ⟨2, ![32, 40]⟩
abbrev S16x128x3072 : Shape := ⟨3, ![16, 128, 3072]⟩
abbrev S1x128x3072 : Shape := ⟨3, ![1, 128, 3072]⟩
abbrev S128x3072 : Shape := ⟨2, ![128, 3072]⟩
abbrev S1x1 : Shape := ⟨2, ![1, 1]⟩

abbrev nBuf : Space → Nat
  | .hbm => 2
  | .vmem => 2
  | .smem => 1
  | _ => 0

abbrev bufTy : (tb : Table) → Fin (tcTables nBuf tb) → BufTy
  | .hbm, ⟨0, _⟩ => ⟨S32x40, .f32⟩
  | .hbm, ⟨1, _⟩ => ⟨S16x128x3072, .f32⟩
  | .local _ .vmem, ⟨0, _⟩ => ⟨S1x128x3072, .f32⟩
  | .local _ .vmem, ⟨1, _⟩ => ⟨S1x128x3072, .f32⟩
  | .local _ .smem, ⟨0, _⟩ => ⟨S32x40, .f32⟩
  | _, _ => ⟨S32x40, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg1_0 : Ref sig .tc := ⟨.vmem, 0, rfl⟩
abbrev cc0_stg1_1 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let c31 : Index := 31#32
  let arg0 : BitVec 32 := BitVec.ofNat 32 (i 0).val
  let v25 : Index := Scalar.indexCast arg0
  ![31, v25.toNat]
def k0_off2 (i : grid0.Coords) : Fin 2 → Nat :=
  let c0 : Index := 0#32
  let arg0 : BitVec 32 := BitVec.ofNat 32 (i 0).val
  let v30 : Index := Scalar.indexCast arg0
  ![0, v30.toNat]
def k0_off3 (i : grid0.Coords) : Fin 2 → Nat :=
  let c1 : Index := 1#32
  let arg0 : BitVec 32 := BitVec.ofNat 32 (i 0).val
  let v38 : Index := Scalar.indexCast arg0
  ![1, v38.toNat]
def k0_off4 (i : grid0.Coords) : Fin 2 → Nat :=
  let c2 : Index := 2#32
  let arg0 : BitVec 32 := BitVec.ofNat 32 (i 0).val
  let v46 : Index := Scalar.indexCast arg0
  ![2, v46.toNat]
def k0_off5 (i : grid0.Coords) : Fin 2 → Nat :=
  let c3 : Index := 3#32
  let arg0 : BitVec 32 := BitVec.ofNat 32 (i 0).val
  let v54 : Index := Scalar.indexCast arg0
  ![3, v54.toNat]
def k0_off6 (i : grid0.Coords) : Fin 2 → Nat :=
  let c4 : Index := 4#32
  let arg0 : BitVec 32 := BitVec.ofNat 32 (i 0).val
  let v62 : Index := Scalar.indexCast arg0
  ![4, v62.toNat]
def k0_off7 (i : grid0.Coords) : Fin 2 → Nat :=
  let c5 : Index := 5#32
  let arg0 : BitVec 32 := BitVec.ofNat 32 (i 0).val
  let v70 : Index := Scalar.indexCast arg0
  ![5, v70.toNat]
def k0_off8 (i : grid0.Coords) : Fin 2 → Nat :=
  let c6 : Index := 6#32
  let arg0 : BitVec 32 := BitVec.ofNat 32 (i 0).val
  let v78 : Index := Scalar.indexCast arg0
  ![6, v78.toNat]
def k0_off9 (i : grid0.Coords) : Fin 2 → Nat :=
  let c7 : Index := 7#32
  let arg0 : BitVec 32 := BitVec.ofNat 32 (i 0).val
  let v86 : Index := Scalar.indexCast arg0
  ![7, v86.toNat]
def k0_off10 (i : grid0.Coords) : Fin 2 → Nat :=
  let c8 : Index := 8#32
  let arg0 : BitVec 32 := BitVec.ofNat 32 (i 0).val
  let v94 : Index := Scalar.indexCast arg0
  ![8, v94.toNat]
def k0_off11 (i : grid0.Coords) : Fin 2 → Nat :=
  let c9 : Index := 9#32
  let arg0 : BitVec 32 := BitVec.ofNat 32 (i 0).val
  let v102 : Index := Scalar.indexCast arg0
  ![9, v102.toNat]
def k0_off12 (i : grid0.Coords) : Fin 2 → Nat :=
  let c10 : Index := 10#32
  let arg0 : BitVec 32 := BitVec.ofNat 32 (i 0).val
  let v110 : Index := Scalar.indexCast arg0
  ![10, v110.toNat]
def k0_off13 (i : grid0.Coords) : Fin 2 → Nat :=
  let c11 : Index := 11#32
  let arg0 : BitVec 32 := BitVec.ofNat 32 (i 0).val
  let v118 : Index := Scalar.indexCast arg0
  ![11, v118.toNat]
def k0_off14 (i : grid0.Coords) : Fin 2 → Nat :=
  let c12 : Index := 12#32
  let arg0 : BitVec 32 := BitVec.ofNat 32 (i 0).val
  let v126 : Index := Scalar.indexCast arg0
  ![12, v126.toNat]
def k0_off15 (i : grid0.Coords) : Fin 2 → Nat :=
  let c13 : Index := 13#32
  let arg0 : BitVec 32 := BitVec.ofNat 32 (i 0).val
  let v134 : Index := Scalar.indexCast arg0
  ![13, v134.toNat]
def k0_off16 (i : grid0.Coords) : Fin 2 → Nat :=
  let c14 : Index := 14#32
  let arg0 : BitVec 32 := BitVec.ofNat 32 (i 0).val
  let v142 : Index := Scalar.indexCast arg0
  ![14, v142.toNat]
def k0_off17 (i : grid0.Coords) : Fin 2 → Nat :=
  let c15 : Index := 15#32
  let arg0 : BitVec 32 := BitVec.ofNat 32 (i 0).val
  let v150 : Index := Scalar.indexCast arg0
  ![15, v150.toNat]
def k0_off18 (i : grid0.Coords) : Fin 2 → Nat :=
  let c16 : Index := 16#32
  let arg0 : BitVec 32 := BitVec.ofNat 32 (i 0).val
  let v158 : Index := Scalar.indexCast arg0
  ![16, v158.toNat]
def k0_off19 (i : grid0.Coords) : Fin 2 → Nat :=
  let c17 : Index := 17#32
  let arg0 : BitVec 32 := BitVec.ofNat 32 (i 0).val
  let v166 : Index := Scalar.indexCast arg0
  ![17, v166.toNat]
def k0_off20 (i : grid0.Coords) : Fin 2 → Nat :=
  let c18 : Index := 18#32
  let arg0 : BitVec 32 := BitVec.ofNat 32 (i 0).val
  let v174 : Index := Scalar.indexCast arg0
  ![18, v174.toNat]
def k0_off21 (i : grid0.Coords) : Fin 2 → Nat :=
  let c19 : Index := 19#32
  let arg0 : BitVec 32 := BitVec.ofNat 32 (i 0).val
  let v182 : Index := Scalar.indexCast arg0
  ![19, v182.toNat]
def k0_off22 (i : grid0.Coords) : Fin 2 → Nat :=
  let c20 : Index := 20#32
  let arg0 : BitVec 32 := BitVec.ofNat 32 (i 0).val
  let v190 : Index := Scalar.indexCast arg0
  ![20, v190.toNat]
def k0_off23 (i : grid0.Coords) : Fin 2 → Nat :=
  let c21 : Index := 21#32
  let arg0 : BitVec 32 := BitVec.ofNat 32 (i 0).val
  let v198 : Index := Scalar.indexCast arg0
  ![21, v198.toNat]
def k0_off24 (i : grid0.Coords) : Fin 2 → Nat :=
  let c22 : Index := 22#32
  let arg0 : BitVec 32 := BitVec.ofNat 32 (i 0).val
  let v206 : Index := Scalar.indexCast arg0
  ![22, v206.toNat]
def k0_off25 (i : grid0.Coords) : Fin 2 → Nat :=
  let c23 : Index := 23#32
  let arg0 : BitVec 32 := BitVec.ofNat 32 (i 0).val
  let v214 : Index := Scalar.indexCast arg0
  ![23, v214.toNat]
def k0_off26 (i : grid0.Coords) : Fin 2 → Nat :=
  let c24 : Index := 24#32
  let arg0 : BitVec 32 := BitVec.ofNat 32 (i 0).val
  let v222 : Index := Scalar.indexCast arg0
  ![24, v222.toNat]
def k0_off27 (i : grid0.Coords) : Fin 2 → Nat :=
  let c25 : Index := 25#32
  let arg0 : BitVec 32 := BitVec.ofNat 32 (i 0).val
  let v230 : Index := Scalar.indexCast arg0
  ![25, v230.toNat]
def k0_off28 (i : grid0.Coords) : Fin 2 → Nat :=
  let c26 : Index := 26#32
  let arg0 : BitVec 32 := BitVec.ofNat 32 (i 0).val
  let v238 : Index := Scalar.indexCast arg0
  ![26, v238.toNat]
def k0_off29 (i : grid0.Coords) : Fin 2 → Nat :=
  let c27 : Index := 27#32
  let arg0 : BitVec 32 := BitVec.ofNat 32 (i 0).val
  let v246 : Index := Scalar.indexCast arg0
  ![27, v246.toNat]
def k0_off30 (i : grid0.Coords) : Fin 2 → Nat :=
  let c28 : Index := 28#32
  let arg0 : BitVec 32 := BitVec.ofNat 32 (i 0).val
  let v254 : Index := Scalar.indexCast arg0
  ![28, v254.toNat]
def k0_off31 (i : grid0.Coords) : Fin 2 → Nat :=
  let c29 : Index := 29#32
  let arg0 : BitVec 32 := BitVec.ofNat 32 (i 0).val
  let v262 : Index := Scalar.indexCast arg0
  ![29, v262.toNat]
def k0_off32 (i : grid0.Coords) : Fin 2 → Nat :=
  let c30 : Index := 30#32
  let arg0 : BitVec 32 := BitVec.ofNat 32 (i 0).val
  let v270 : Index := Scalar.indexCast arg0
  ![30, v270.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S32x40 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x128x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== StripsRefIdeal.lean ====
abbrev S32x40 : Shape := ⟨2, ![32, 40]⟩
abbrev S32x16 : Shape := ⟨2, ![32, 16]⟩
abbrev S128 : Shape := ⟨1, ![128]⟩
abbrev S_ : Shape := ⟨0, ![]⟩
abbrev S128x1 : Shape := ⟨2, ![128, 1]⟩
abbrev S3072 : Shape := ⟨1, ![3072]⟩
abbrev S1x3072 : Shape := ⟨2, ![1, 3072]⟩
abbrev S128x3072 : Shape := ⟨2, ![128, 3072]⟩
abbrev S128x3072x1 : Shape := ⟨3, ![128, 3072, 1]⟩
abbrev S128x3072x16 : Shape := ⟨3, ![128, 3072, 16]⟩
abbrev S16x128x3072 : Shape := ⟨3, ![16, 128, 3072]⟩
abbrev S1x16 : Shape := ⟨2, ![1, 16]⟩
abbrev S16x1 : Shape := ⟨2, ![16, 1]⟩
abbrev S16x1x1 : Shape := ⟨3, ![16, 1, 1]⟩

abbrev nBuf : Space → Nat
  | .hbm => 58
  | .vmem => 0
  | .smem => 0
  | _ => 0

abbrev bufTy : (tb : Table) → Fin (tcTables nBuf tb) → BufTy
  | .hbm, ⟨0, _⟩ => ⟨S32x40, .f32⟩
  | .hbm, ⟨1, _⟩ => ⟨S32x16, .f32⟩
  | .hbm, ⟨2, _⟩ => ⟨S128, .i32⟩
  | .hbm, ⟨3, _⟩ => ⟨S_, .i32⟩
  | .hbm, ⟨4, _⟩ => ⟨S128, .i32⟩
  | .hbm, ⟨5, _⟩ => ⟨S128, .i32⟩
  | .hbm, ⟨6, _⟩ => ⟨S128x1, .i32⟩
  | .hbm, ⟨7, _⟩ => ⟨S3072, .i32⟩
  | .hbm, ⟨8, _⟩ => ⟨S1x3072, .i32⟩
  | .hbm, ⟨9, _⟩ => ⟨S128x3072, .i32⟩
  | .hbm, ⟨10, _⟩ => ⟨S128x3072, .i32⟩
  | .hbm, ⟨11, _⟩ => ⟨S128x3072, .i32⟩
  | .hbm, ⟨12, _⟩ => ⟨S_, .i32⟩
  | .hbm, ⟨13, _⟩ => ⟨S128x3072, .i32⟩
  | .hbm, ⟨14, _⟩ => ⟨S128x3072, .i32⟩
  | .hbm, ⟨15, _⟩ => ⟨S_, .i32⟩
  | .hbm, ⟨16, _⟩ => ⟨S128x3072, .i32⟩
  | .hbm, ⟨17, _⟩ => ⟨S128x3072, .i32⟩
  | .hbm, ⟨18, _⟩ => ⟨S128x3072, .f32⟩
  | .hbm, ⟨19, _⟩ => ⟨S_, .f32⟩
  | .hbm, ⟨20, _⟩ => ⟨S128x3072, .f32⟩
  | .hbm, ⟨21, _⟩ => ⟨S128x3072, .f32⟩
  | .hbm, ⟨22, _⟩ => ⟨S128x3072, .f32⟩
  | .hbm, ⟨23, _⟩ => ⟨S_, .f32⟩
  | .hbm, ⟨24, _⟩ => ⟨S128x3072, .f32⟩
  | .hbm, ⟨25, _⟩ => ⟨S128x3072, .f32⟩
  | .hbm, ⟨26, _⟩ => ⟨S_, .f32⟩
  | .hbm, ⟨27, _⟩ => ⟨S128x3072, .f32⟩
  | .hbm, ⟨28, _⟩ => ⟨S128x3072, .f32⟩
  | .hbm, ⟨29, _⟩ => ⟨S128x3072, .i32⟩
  | .hbm, ⟨30, _⟩ => ⟨S_, .i32⟩
  | .hbm, ⟨31, _⟩ => ⟨S128x3072, .i32⟩
  | .hbm, ⟨32, _⟩ => ⟨S128x3072, .i32⟩
  | .hbm, ⟨33, _⟩ => ⟨S_, .i32⟩
  | .hbm, ⟨34, _⟩ => ⟨S128x3072, .i32⟩
  | .hbm, ⟨35, _⟩ => ⟨S128x3072, .i32⟩
  | .hbm, ⟨36, _⟩ => ⟨S_, .i32⟩
  | .hbm, ⟨37, _⟩ => ⟨S128x3072, .i32⟩
  | .hbm, ⟨38, _⟩ => ⟨S128x3072, .i1⟩
  | .hbm, ⟨39, _⟩ => ⟨S128x3072, .i32⟩
  | .hbm, ⟨40, _⟩ => ⟨S_, .i32⟩
  | .hbm, ⟨41, _⟩ => ⟨S128x3072, .i32⟩
  | .hbm, ⟨42, _⟩ => ⟨S128x3072, .i1⟩
  | .hbm, ⟨43, _⟩ => ⟨S_, .i32⟩
  | .hbm, ⟨44, _⟩ => ⟨S128x3072, .i32⟩
  | .hbm, ⟨45, _⟩ => ⟨S128x3072, .i32⟩
  | .hbm, ⟨46, _⟩ => ⟨S128x3072, .i32⟩
  | .hbm, ⟨47, _⟩ => ⟨S128x3072x1, .i32⟩
  | .hbm, ⟨48, _⟩ => ⟨S128x3072x16, .f32⟩
  | .hbm, ⟨49, _⟩ => ⟨S16x128x3072, .f32⟩
  | .hbm, ⟨50, _⟩ => ⟨S1x16, .f32⟩
  | .hbm, ⟨51, _⟩ => ⟨S16x1, .f32⟩
  | .hbm, ⟨52, _⟩ => ⟨S16x1x1, .f32⟩
  | .hbm, ⟨53, _⟩ => ⟨S16x128x3072, .f32⟩
  | .hbm, ⟨54, _⟩ => ⟨S16x128x3072, .f32⟩
  | .hbm, ⟨55, _⟩ => ⟨S_, .f32⟩
  | .hbm, ⟨56, _⟩ => ⟨S16x128x3072, .f32⟩
  | .hbm, ⟨57, _⟩ => ⟨S16x128x3072, .f32⟩
  | _, _ => ⟨S32x40, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c_0 : Ref sig .tc := ⟨.hbm, 12, rfl⟩
abbrev main_v10 : Ref sig .tc := ⟨.hbm, 13, rfl⟩
abbrev main_v11 : Ref sig .tc := ⟨.hbm, 14, rfl⟩
abbrev main_c_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_4 : Ref sig .tc := ⟨.hbm, 30, rfl⟩
abbrev main_v23 : Ref sig .tc := ⟨.hbm, 31, rfl⟩
abbrev main_v24 : Ref sig .tc := ⟨.hbm, 32, rfl⟩
abbrev main_c_5 : Ref sig .tc := ⟨.hbm, 33, rfl⟩
abbrev main_v25 : Ref sig .tc := ⟨.hbm, 34, rfl⟩
abbrev main_v26 : Ref sig .tc := ⟨.hbm, 35, rfl⟩
abbrev main_c_6 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_7 : Ref sig .tc := ⟨.hbm, 40, rfl⟩
abbrev main_v30 : Ref sig .tc := ⟨.hbm, 41, rfl⟩
abbrev main_v31 : Ref sig .tc := ⟨.hbm, 42, rfl⟩
abbrev main_c_8 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_9 : Ref sig .tc := ⟨.hbm, 55, rfl⟩
abbrev main_v43 : Ref sig .tc := ⟨.hbm, 56, rfl⟩
abbrev main_v44 : Ref sig .tc := ⟨.hbm, 57, rfl⟩

abbrev nD : Nat := 1
abbrev τ : Topo := Topo.v7x

variable {F : FTy → Type} [FloatOps F]
-- ==== Proof.FfnValue.lean ====
module

public import proofs.«01_k».proof.Proof.Gen.FfnIdeal.Frame
public import proofs.«01_k».proof.Proof.Gen.FfnRefIdeal.Run
public import Idealize.ShloMosaic.Lib.Pipeline.ValueKit
public import Idealize.ShloMosaic.Lib.Pipeline.ReadBack

set_option maxRecDepth 16384

@[expose] public section

noncomputable section

open Idealize.ShloMosaic Idealize.ShloMosaic.TcCoe Idealize.SL.Sem
open Idealize.ShloMosaic.Pipeline (Dat)

namespace Cert.FfnIdeal.Halves

section Reference
open Cert.FfnRefIdeal Cert.FfnRefIdeal.Gen

/-- Each row over its root mean square, times the gain. -/
def rowsNormed (X : FVec Ideal S32768x1024 .f32) (g : FVec Ideal S1024 .f32) : FVec Ideal S32768x1024 .f32 :=
  mulf (mulf X (broadcastInDim S32768x1024 ![0, 1] bcast_S32768x1_S32768x1024_0_1 (Host.rsqrt (addf (Host.divf (broadcastInDim S32768x1 ![0] bcast_S32768_S32768x1_0 (Host.reduceAdd (mulf X X) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g))

/-- The projection of the normalised rows by one of the two input weights. -/
def projected (X : FVec Ideal S32768x1024 .f32) (g : FVec Ideal S1024 .f32) (W : FVec Ideal S1024x2816 .f32) :
    FVec Ideal S32768x2816 .f32 :=
  Host.dotGeneral dot_S32768x1024_S1024x2816_S32768x2816_1_0_0_1_n_n none (rowsNormed X g) W

/-- The reference's term: the residual stream plus half the gated network's output. -/
def network (X : FVec Ideal S32768x1024 .f32) (g : FVec Ideal S1024 .f32) (W : FVec Ideal S1024x2816 .f32)
    (W' : FVec Ideal S1024x2816 .f32) (U : FVec Ideal S2816x1024 .f32) : FVec Ideal S32768x1024 .f32 :=
  addf X (mulf (broadcastInDim S32768x1024 ![] bcast_S_S32768x1024 (constant S_ .f32 0x3F000000#32)) (Host.dotGeneral dot_S32768x2816_S2816x1024_S32768x1024_1_0_0_1_n_n none (mulf (mulf (projected X g W) (Host.divf (broadcastInDim S32768x2816 ![] bcast_S_S32768x2816 (constant S_ .f32 0x3F800000#32)) (addf (broadcastInDim S32768x2816 ![] bcast_S_S32768x2816 (constant S_ .f32 0x3F800000#32)) (Host.exp (Host.negf (projected X g W)))))) (projected X g W')) U))

end Reference

open Cert.FfnIdeal Cert.FfnIdeal.Gen

theorem zero_minus (x : EReal) : 0 - x = -x := by rw [sub_eq_add_neg, zero_add]

variable (m : (ℓ : Loc nD τ sig) → Buf (Elt Ideal) ℓ)

/-- Which block each window is on at every point: rows `t / 2`, the half of the hidden axis `t % 2`. -/
theorem blocks_at : ∀ t : Fin cfg0.N, win0_0.index t = ![t.val / 2, 0] ∧ win0_1.index t = ![0, 0]
    ∧ win0_2.index t = ![0, t.val % 2] ∧ win0_3.index t = ![0, t.val % 2] ∧ win0_4.index t = ![t.val % 2, 0]
    ∧ win0_5.index t = ![t.val / 2, 0] :=
  (by decide +kernel : ∀ t : Fin grid0.N, _)

/-- The point before a row block's last: its first. -/
abbrev firstOf (t : Fin cfg0.N) : Fin cfg0.N := ⟨t.val - 1, Nat.lt_of_le_of_lt (Nat.sub_le _ _) t.isLt⟩

/-- After a row block's first point the two scratches hold the normalised rows and the first half's sum. -/
theorem after_first (c : Dev nD) (t : Fin cfg0.N) (h0 : t.val % 2 = 0) (h1 : ¬ t.val % 2 = 1) :
    (outsAt0 m c t.val t.isLt).2.1 = k0_pay1 (iblk m c 0 t) (iblk m c 1 t)
    ∧ (outsAt0 m c t.val t.isLt).2.2 = k0_pay3 (k0_pay1 (iblk m c 0 t) (iblk m c 1 t)) (iblk m c 2 t) (iblk m c 3 t)
        (k0_pay2 : FVec Ideal S512x1024 .f32) (iblk m c 4 t) := by
  rw [outsAt0_A m c t h0 h1]
  constructor
  · frame_out
  · frame_out

/-- The block a row block's last point stores. -/
theorem stored_block (c : Dev nD) (t : Fin cfg0.N) (h0 : ¬ t.val % 2 = 0) (h1 : t.val % 2 = 1) :
    (outsAt0 m c t.val t.isLt).1 = k0_pay4 (iblk m c 0 t) (k0_pay3 (k0_pay1 (iblk m c 0 (firstOf t)) (iblk m c 1 (firstOf t)))
      (iblk m c 2 t) (iblk m c 3 t)
      (k0_pay3 (k0_pay1 (iblk m c 0 (firstOf t)) (iblk m c 1 (firstOf t))) (iblk m c 2 (firstOf t)) (iblk m c 3 (firstOf t))
        (k0_pay2 : FVec Ideal S512x1024 .f32) (iblk m c 4 (firstOf t))) (iblk m c 4 t)) := by
  obtain ⟨e0, e1⟩ := after_first m c (firstOf t) (by show (t.val - 1) % 2 = 0; omega) (by show ¬ (t.val - 1) % 2 = 1; omega)
  rw [outsAt0_B m c t h0 h1]
  frame_out
  simp only [read_unread_whole]
  rw [← e1, ← e0]

/-- One entry of a stored block is the reference's entry at the place the block has in the array. -/
theorem entry_at (c : Dev nD) (t : Fin cfg0.N) (h1 : t.val % 2 = 1) (y) :
    k0_pay4 (iblk m c 0 t) (k0_pay3 (k0_pay1 (iblk m c 0 (firstOf t)) (iblk m c 1 (firstOf t)))
      (iblk m c 2 t) (iblk m c 3 t)
      (k0_pay3 (k0_pay1 (iblk m c 0 (firstOf t)) (iblk m c 1 (firstOf t))) (iblk m c 2 (firstOf t)) (iblk m c 3 (firstOf t))
        (k0_pay2 : FVec Ideal S512x1024 .f32) (iblk m c 4 (firstOf t))) (iblk m c 4 t)) y
      = network (m ((c : Thread nD τ).loc main_arg0)) (m ((c : Thread nD τ).loc main_arg1))
          (m ((c : Thread nD τ).loc main_arg2)) (m ((c : Thread nD τ).loc main_arg3)) (m ((c : Thread nD τ).loc main_arg4))
          (((cfg0.win 5).blk t).view.emb y) := by
  have here := blocks_at t
  have first := blocks_at (firstOf t)
  have hv : (firstOf t).val = t.val - 1 := rfl
  have d1 : (t.val - 1) / 2 = t.val / 2 := by omega
  have d2 : (t.val - 1) % 2 = 0 := by omega
  rw [h1] at here
  rw [hv, d1, d2] at first
  pointwise [k0_pay1, k0_pay2, k0_pay3, k0_pay4, network, projected, rowsNormed, zero_minus]
  rw [Fin.sum_univ_two_halves (N := 2816) 1408 1408 rfl]
  blk_point [iblk, V, here, first]

/-- The result array after the run. -/
theorem result_array (c : Dev nD) : (dats m 0 c).arrAt 5 (cfgs 0).N
    = network (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats m 0 c).arrAt_eq_of_covers 5 _ (by decide +kernel) fun t hf y => ?_
  have h1 : t.val % 2 = 1 := (flush0_5 t).mp hf
  blk_simp
  rw [after0_5, stored_block m c t (by omega) h1]
  exact entry_at m c t h1 y

end Cert.FfnIdeal.Halves
-- ==== Proof.ProjAValue.lean ====
module

public import proofs.«01_k».proof.Proof.Gen.ProjAIdeal.Frame
public import proofs.«01_k».proof.Proof.Gen.ProjARefIdeal.Run
public import Idealize.ShloMosaic.Lib.Pipeline.ValueKit
public import Idealize.ShloMosaic.Lib.Pipeline.ReadBack

set_option maxRecDepth 16384

@[expose] public section

noncomputable section

open Idealize.ShloMosaic Idealize.ShloMosaic.TcCoe Idealize.SL.Sem
open Idealize.ShloMosaic.Pipeline (Dat)

namespace Cert.ProjAIdeal.Product

/-- The reference's term: each row divided by its root mean square, scaled by the gain, times the weight. -/
def normProduct (X : FVec Ideal Cert.ProjARefIdeal.S32768x1024 .f32) (g : FVec Ideal Cert.ProjARefIdeal.S1024 .f32)
    (W : FVec Ideal Cert.ProjARefIdeal.S1024x512 .f32) : FVec Ideal Cert.ProjARefIdeal.S32768x512 .f32 :=
  open Cert.ProjARefIdeal Cert.ProjARefIdeal.Gen in
  Host.dotGeneral dot_S32768x1024_S1024x512_S32768x512_1_0_0_1_n_n none (mulf (mulf X (broadcastInDim S32768x1024 ![0, 1] bcast_S32768x1_S32768x1024_0_1 (Host.rsqrt (addf (Host.divf (broadcastInDim S32768x1 ![0] bcast_S32768_S32768x1_0 (Host.reduceAdd (mulf X X) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g))) W

open Cert.ProjAIdeal Cert.ProjAIdeal.Gen

variable (m : (ℓ : Loc nD τ sig) → Buf (Elt Ideal) ℓ)

/-- Which block each window is on at every point: rows `t`, every column. -/
theorem blocks_at : ∀ t : Fin cfg0.N, win0_0.index t = ![t.val, 0] ∧ win0_1.index t = ![0, 0]
    ∧ win0_2.index t = ![0, 0] ∧ win0_3.index t = ![t.val, 0] :=
  (by decide +kernel : ∀ t : Fin grid0.N, _)

/-- The block a point stores: its normalised rows times the weight. -/
theorem stored_block (c : Dev nD) (t : Fin cfg0.N) :
    outsAt0 m c t = k0_pay2 (k0_pay1 (iblk m c 0 t) (iblk m c 1 t)) (iblk m c 2 t) := by
  unfold outsAt0
  frame_out

/-- One entry of a stored block is the reference's entry at the place the block has in the array. -/
theorem entry_at (c : Dev nD) (t : Fin cfg0.N) (y) :
    k0_pay2 (k0_pay1 (iblk m c 0 t) (iblk m c 1 t)) (iblk m c 2 t) y
      = normProduct (m ((c : Thread nD τ).loc main_arg0)) (m ((c : Thread nD τ).loc main_arg1))
          (m ((c : Thread nD τ).loc main_arg2)) (((cfg0.win 3).blk t).view.emb y) := by
  pointwise [k0_pay1, k0_pay2, normProduct]
  blk_point [iblk, V, blocks_at t]

/-- The result array after the run. -/
theorem result_array (c : Dev nD) : (dats m 0 c).arrAt 3 (cfgs 0).N
    = normProduct (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3, stored_block]
  exact entry_at m c t y

end Cert.ProjAIdeal.Product
-- ==== Proof.ProjZValue.lean ====
module

public import proofs.«01_k».proof.Proof.Gen.ProjZIdeal.Frame
public import proofs.«01_k».proof.Proof.Gen.ProjZRefIdeal.Run
public import Idealize.ShloMosaic.Lib.Pipeline.ValueKit
public import Idealize.ShloMosaic.Lib.Pipeline.ReadBack

set_option maxRecDepth 16384

@[expose] public section

noncomputable section

open Idealize.ShloMosaic Idealize.ShloMosaic.TcCoe Idealize.SL.Sem
open Idealize.ShloMosaic.Pipeline (Dat)

namespace Cert.ProjZIdeal.Product

/-- The reference's term: each row divided by its root mean square, scaled by the gain, times the weight. -/
def normProduct (X : FVec Ideal Cert.ProjZRefIdeal.S32768x1024 .f32) (g : FVec Ideal Cert.ProjZRefIdeal.S1024 .f32)
    (W : FVec Ideal Cert.ProjZRefIdeal.S1024x2048 .f32) : FVec Ideal Cert.ProjZRefIdeal.S32768x2048 .f32 :=
  open Cert.ProjZRefIdeal Cert.ProjZRefIdeal.Gen in
  Host.dotGeneral dot_S32768x1024_S1024x2048_S32768x2048_1_0_0_1_n_n none (mulf (mulf X (broadcastInDim S32768x1024 ![0, 1] bcast_S32768x1_S32768x1024_0_1 (Host.rsqrt (addf (Host.divf (broadcastInDim S32768x1 ![0] bcast_S32768_S32768x1_0 (Host.reduceAdd (mulf X X) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g))) W

open Cert.ProjZIdeal Cert.ProjZIdeal.Gen

variable (m : (ℓ : Loc nD τ sig) → Buf (Elt Ideal) ℓ)

/-- Which block each window is on at every point: the row block is `t / 2`, the column block `t % 2`. -/
theorem blocks_at : ∀ t : Fin cfg0.N, win0_0.index t = ![t.val / 2, 0] ∧ win0_1.index t = ![0, 0]
    ∧ win0_2.index t = ![0, t.val % 2] ∧ win0_3.index t = ![t.val / 2, t.val % 2] :=
  (by decide +kernel : ∀ t : Fin grid0.N, _)

/-- The scratch a row block's first point fills still holds that block's normalised rows at its later points. -/
theorem scratch_rows (c : Dev nD) : ∀ (n : ℕ) (hn : n < cfg0.N),
    (outsAt0 m c n hn).2 = k0_pay1 (iblk m c 0 ⟨n, hn⟩) (iblk m c 1 ⟨n, hn⟩) := by
  intro n
  induction n with
  | zero =>
    intro hn
    rw [outsAt0_A m c ⟨0, hn⟩ (Nat.zero_mod _)]
    frame_out
  | succ n ih =>
    intro hn
    by_cases h : (n + 1) % 2 = 0
    · rw [outsAt0_A m c ⟨n + 1, hn⟩ h]
      frame_out
    · have e : (outsAt0 m c (n + 1) hn).2 = (outsAt0 m c n (Nat.lt_of_succ_lt hn)).2 := by
        rw [outsAt0_B m c ⟨n + 1, hn⟩ h]
        rfl
      rw [e, ih]
      have before := blocks_at ⟨n, Nat.lt_of_succ_lt hn⟩
      have here := blocks_at ⟨n + 1, hn⟩
      have e0 : iblk m c 0 ⟨n, Nat.lt_of_succ_lt hn⟩ = iblk m c 0 ⟨n + 1, hn⟩ := by
        funext y
        blk_ext [iblk, V, before, here]
      have e1 : iblk m c 1 ⟨n, Nat.lt_of_succ_lt hn⟩ = iblk m c 1 ⟨n + 1, hn⟩ := by
        funext y
        blk_ext [iblk, V, before, here]
      rw [e0, e1]

/-- The block a point stores: the rows in the scratch times the point's block of the weight. -/
theorem stored_block (c : Dev nD) (t : Fin cfg0.N) :
    (outsAt0 m c t.val t.isLt).1 = k0_pay2 (k0_pay1 (iblk m c 0 t) (iblk m c 1 t)) (iblk m c 2 t) := by
  by_cases h : t.val % 2 = 0
  · rw [outsAt0_A m c t h]
    frame_out
  · have hs := scratch_rows m c t.val t.isLt
    rw [outsAt0_B m c t h] at hs ⊢
    replace hs : (outsAt0 m c (t.val - 1) (Nat.lt_of_le_of_lt (Nat.sub_le _ _) t.isLt)).2 = _ := hs
    frame_out
    simp only [read_unread_whole]
    rw [hs]

/-- One entry of a stored block is the reference's entry at the place the block has in the array. -/
theorem entry_at (c : Dev nD) (t : Fin cfg0.N) (y) :
    k0_pay2 (k0_pay1 (iblk m c 0 t) (iblk m c 1 t)) (iblk m c 2 t) y
      = normProduct (m ((c : Thread nD τ).loc main_arg0)) (m ((c : Thread nD τ).loc main_arg1))
          (m ((c : Thread nD τ).loc main_arg2)) (((cfg0.win 3).blk t).view.emb y) := by
  pointwise [k0_pay1, k0_pay2, normProduct]
  blk_point [iblk, V, blocks_at t]

/-- The result array after the run. -/
theorem result_array (c : Dev nD) : (dats m 0 c).arrAt 3 (cfgs 0).N
    = normProduct (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3, stored_block]
  exact entry_at m c t y

end Cert.ProjZIdeal.Product
-- ==== Proof.ProjXbcValue.lean ====
module

public import proofs.«01_k».proof.Proof.Gen.ProjXbcIdeal.Frame
public import proofs.«01_k».proof.Proof.Gen.ProjXbcRefIdeal.Run
public import Idealize.ShloMosaic.Lib.Pipeline.ValueKit
public import Idealize.ShloMosaic.Lib.Pipeline.ReadBack

set_option maxRecDepth 16384

@[expose] public section

noncomputable section

open Idealize.ShloMosaic Idealize.ShloMosaic.TcCoe Idealize.SL.Sem
open Idealize.ShloMosaic.Pipeline (Dat)

namespace Cert.ProjXbcIdeal.Product

/-- The reference's term: each row divided by its root mean square, scaled by the gain, times the weight. -/
def normProduct (X : FVec Ideal Cert.ProjXbcRefIdeal.S32768x1024 .f32) (g : FVec Ideal Cert.ProjXbcRefIdeal.S1024 .f32)
    (W : FVec Ideal Cert.ProjXbcRefIdeal.S1024x4096 .f32) : FVec Ideal Cert.ProjXbcRefIdeal.S32768x4096 .f32 :=
  open Cert.ProjXbcRefIdeal Cert.ProjXbcRefIdeal.Gen in
  Host.dotGeneral dot_S32768x1024_S1024x4096_S32768x4096_1_0_0_1_n_n none (mulf (mulf X (broadcastInDim S32768x1024 ![0, 1] bcast_S32768x1_S32768x1024_0_1 (Host.rsqrt (addf (Host.divf (broadcastInDim S32768x1 ![0] bcast_S32768_S32768x1_0 (Host.reduceAdd (mulf X X) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g))) W

open Cert.ProjXbcIdeal Cert.ProjXbcIdeal.Gen

variable (m : (ℓ : Loc nD τ sig) → Buf (Elt Ideal) ℓ)

/-- Which block each window is on at every point: the row block is `t / 4`, the column block `t % 4`. -/
theorem blocks_at : ∀ t : Fin cfg0.N, win0_0.index t = ![t.val / 4, 0] ∧ win0_1.index t = ![0, 0]
    ∧ win0_2.index t = ![0, t.val % 4] ∧ win0_3.index t = ![t.val / 4, t.val % 4] :=
  (by decide +kernel : ∀ t : Fin grid0.N, _)

/-- The scratch a row block's first point fills still holds that block's normalised rows at its later points. -/
theorem scratch_rows (c : Dev nD) : ∀ (n : ℕ) (hn : n < cfg0.N),
    (outsAt0 m c n hn).2 = k0_pay1 (iblk m c 0 ⟨n, hn⟩) (iblk m c 1 ⟨n, hn⟩) := by
  intro n
  induction n with
  | zero =>
    intro hn
    rw [outsAt0_A m c ⟨0, hn⟩ (Nat.zero_mod _)]
    frame_out
  | succ n ih =>
    intro hn
    by_cases h : (n + 1) % 4 = 0
    · rw [outsAt0_A m c ⟨n + 1, hn⟩ h]
      frame_out
    · have e : (outsAt0 m c (n + 1) hn).2 = (outsAt0 m c n (Nat.lt_of_succ_lt hn)).2 := by
        rw [outsAt0_B m c ⟨n + 1, hn⟩ h]
        rfl
      rw [e, ih]
      have before := blocks_at ⟨n, Nat.lt_of_succ_lt hn⟩
      have here := blocks_at ⟨n + 1, hn⟩
      have e0 : iblk m c 0 ⟨n, Nat.lt_of_succ_lt hn⟩ = iblk m c 0 ⟨n + 1, hn⟩ := by
        funext y
        blk_ext [iblk, V, before, here]
      have e1 : iblk m c 1 ⟨n, Nat.lt_of_succ_lt hn⟩ = iblk m c 1 ⟨n + 1, hn⟩ := by
        funext y
        blk_ext [iblk, V, before, here]
      rw [e0, e1]

/-- The block a point stores: the rows in the scratch times the point's block of the weight. -/
theorem stored_block (c : Dev nD) (t : Fin cfg0.N) :
    (outsAt0 m c t.val t.isLt).1 = k0_pay2 (k0_pay1 (iblk m c 0 t) (iblk m c 1 t)) (iblk m c 2 t) := by
  by_cases h : t.val % 4 = 0
  · rw [outsAt0_A m c t h]
    frame_out
  · have hs := scratch_rows m c t.val t.isLt
    rw [outsAt0_B m c t h] at hs ⊢
    replace hs : (outsAt0 m c (t.val - 1) (Nat.lt_of_le_of_lt (Nat.sub_le _ _) t.isLt)).2 = _ := hs
    frame_out
    simp only [read_unread_whole]
    rw [hs]

/-- One entry of a stored block is the reference's entry at the place the block has in the array. -/
theorem entry_at (c : Dev nD) (t : Fin cfg0.N) (y) :
    k0_pay2 (k0_pay1 (iblk m c 0 t) (iblk m c 1 t)) (iblk m c 2 t) y
      = normProduct (m ((c : Thread nD τ).loc main_arg0)) (m ((c : Thread nD τ).loc main_arg1))
          (m ((c : Thread nD τ).loc main_arg2)) (((cfg0.win 3).blk t).view.emb y) := by
  pointwise [k0_pay1, k0_pay2, normProduct]
  blk_point [iblk, V, blocks_at t]

/-- The result array after the run. -/
theorem result_array (c : Dev nD) : (dats m 0 c).arrAt 3 (cfgs 0).N
    = normProduct (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3, stored_block]
  exact entry_at m c t y

end Cert.ProjXbcIdeal.Product
-- ==== Proof.ProjDtValue.lean ====
module

public import proofs.«01_k».proof.Proof.Gen.ProjDtIdeal.Frame
public import proofs.«01_k».proof.Proof.Gen.ProjDtRefIdeal.Run
public import Idealize.ShloMosaic.Lib.Pipeline.ValueKit
public import Idealize.ShloMosaic.Lib.Pipeline.ReadBack

set_option maxRecDepth 16384

@[expose] public section

noncomputable section

open Idealize.ShloMosaic Idealize.ShloMosaic.TcCoe Idealize.SL.Sem
open Idealize.ShloMosaic.Pipeline (Dat)

namespace Cert.ProjDtIdeal.Product

/-- The reference's term: each row divided by its root mean square, scaled by the gain, times the weight. -/
def normProduct (X : FVec Ideal Cert.ProjDtRefIdeal.S32768x1024 .f32) (g : FVec Ideal Cert.ProjDtRefIdeal.S1024 .f32)
    (W : FVec Ideal Cert.ProjDtRefIdeal.S1024x128 .f32) : FVec Ideal Cert.ProjDtRefIdeal.S32768x128 .f32 :=
  open Cert.ProjDtRefIdeal Cert.ProjDtRefIdeal.Gen in
  Host.dotGeneral dot_S32768x1024_S1024x128_S32768x128_1_0_0_1_n_n none (mulf (mulf X (broadcastInDim S32768x1024 ![0, 1] bcast_S32768x1_S32768x1024_0_1 (Host.rsqrt (addf (Host.divf (broadcastInDim S32768x1 ![0] bcast_S32768_S32768x1_0 (Host.reduceAdd (mulf X X) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g))) W

open Cert.ProjDtIdeal Cert.ProjDtIdeal.Gen

variable (m : (ℓ : Loc nD τ sig) → Buf (Elt Ideal) ℓ)

/-- Which block each window is on at every point: rows `t`, every column. -/
theorem blocks_at : ∀ t : Fin cfg0.N, win0_0.index t = ![t.val, 0] ∧ win0_1.index t = ![0, 0]
    ∧ win0_2.index t = ![0, 0] ∧ win0_3.index t = ![t.val, 0] :=
  (by decide +kernel : ∀ t : Fin grid0.N, _)

/-- The block a point stores: its normalised rows times the weight. -/
theorem stored_block (c : Dev nD) (t : Fin cfg0.N) :
    outsAt0 m c t = k0_pay2 (k0_pay1 (iblk m c 0 t) (iblk m c 1 t)) (iblk m c 2 t) := by
  unfold outsAt0
  frame_out

/-- One entry of a stored block is the reference's entry at the place the block has in the array. -/
theorem entry_at (c : Dev nD) (t : Fin cfg0.N) (y) :
    k0_pay2 (k0_pay1 (iblk m c 0 t) (iblk m c 1 t)) (iblk m c 2 t) y
      = normProduct (m ((c : Thread nD τ).loc main_arg0)) (m ((c : Thread nD τ).loc main_arg1))
          (m ((c : Thread nD τ).loc main_arg2)) (((cfg0.win 3).blk t).view.emb y) := by
  pointwise [k0_pay1, k0_pay2, normProduct]
  blk_point [iblk, V, blocks_at t]

/-- The result array after the run. -/
theorem result_array (c : Dev nD) : (dats m 0 c).arrAt 3 (cfgs 0).N
    = normProduct (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3, stored_block]
  exact entry_at m c t y

end Cert.ProjDtIdeal.Product
-- ==== Proof.ProjQkvValue.lean ====
module

public import proofs.«01_k».proof.Proof.Gen.ProjQkvIdeal.Frame
public import proofs.«01_k».proof.Proof.Gen.ProjQkvRefIdeal.Run
public import Idealize.ShloMosaic.Lib.Pipeline.ValueKit
public import Idealize.ShloMosaic.Lib.Pipeline.ReadBack

set_option maxRecDepth 16384

@[expose] public section

noncomputable section

open Idealize.ShloMosaic Idealize.ShloMosaic.TcCoe Idealize.SL.Sem
open Idealize.ShloMosaic.Pipeline (Dat)

namespace Cert.ProjQkvIdeal.Product

/-- The reference's term: each row divided by its root mean square, scaled by the gain, times the weight, rounded to the result's type. -/
def normProduct (X : FVec Ideal Cert.ProjQkvRefIdeal.S32768x1024 .f32) (g : FVec Ideal Cert.ProjQkvRefIdeal.S1024 .f32)
    (W : FVec Ideal Cert.ProjQkvRefIdeal.S1024x4608 .f32) : FVec Ideal Cert.ProjQkvRefIdeal.S32768x4608 .bf16 :=
  open Cert.ProjQkvRefIdeal Cert.ProjQkvRefIdeal.Gen in
  truncf .bf16 (Host.dotGeneral dot_S32768x1024_S1024x4608_S32768x4608_1_0_0_1_n_n none (mulf (mulf X (broadcastInDim S32768x1024 ![0, 1] bcast_S32768x1_S32768x1024_0_1 (Host.rsqrt (addf (Host.divf (broadcastInDim S32768x1 ![0] bcast_S32768_S32768x1_0 (Host.reduceAdd (mulf X X) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g))) W) bitsLt_bf16_f32

open Cert.ProjQkvIdeal Cert.ProjQkvIdeal.Gen

variable (m : (ℓ : Loc nD τ sig) → Buf (Elt Ideal) ℓ)

/-- Which block each window is on at every point: the row block is `t / 3`, the column block `t % 3`. -/
theorem blocks_at : ∀ t : Fin cfg0.N, win0_0.index t = ![t.val / 3, 0] ∧ win0_1.index t = ![0, 0]
    ∧ win0_2.index t = ![0, t.val % 3] ∧ win0_3.index t = ![t.val / 3, t.val % 3] :=
  (by decide +kernel : ∀ t : Fin grid0.N, _)

/-- The scratch a row block's first point fills still holds that block's normalised rows at its later points. -/
theorem scratch_rows (c : Dev nD) : ∀ (n : ℕ) (hn : n < cfg0.N),
    (outsAt0 m c n hn).2 = k0_pay1 (iblk m c 0 ⟨n, hn⟩) (iblk m c 1 ⟨n, hn⟩) := by
  intro n
  induction n with
  | zero =>
    intro hn
    rw [outsAt0_A m c ⟨0, hn⟩ (Nat.zero_mod _)]
    frame_out
  | succ n ih =>
    intro hn
    by_cases h : (n + 1) % 3 = 0
    · rw [outsAt0_A m c ⟨n + 1, hn⟩ h]
      frame_out
    · have e : (outsAt0 m c (n + 1) hn).2 = (outsAt0 m c n (Nat.lt_of_succ_lt hn)).2 := by
        rw [outsAt0_B m c ⟨n + 1, hn⟩ h]
        rfl
      rw [e, ih]
      have before := blocks_at ⟨n, Nat.lt_of_succ_lt hn⟩
      have here := blocks_at ⟨n + 1, hn⟩
      have e0 : iblk m c 0 ⟨n, Nat.lt_of_succ_lt hn⟩ = iblk m c 0 ⟨n + 1, hn⟩ := by
        funext y
        blk_ext [iblk, V, before, here]
      have e1 : iblk m c 1 ⟨n, Nat.lt_of_succ_lt hn⟩ = iblk m c 1 ⟨n + 1, hn⟩ := by
        funext y
        blk_ext [iblk, V, before, here]
      rw [e0, e1]

/-- The block a point stores: the rows in the scratch times the point's block of the weight. -/
theorem stored_block (c : Dev nD) (t : Fin cfg0.N) :
    (outsAt0 m c t.val t.isLt).1 = k0_pay2 (k0_pay1 (iblk m c 0 t) (iblk m c 1 t)) (iblk m c 2 t) := by
  by_cases h : t.val % 3 = 0
  · rw [outsAt0_A m c t h]
    frame_out
  · have hs := scratch_rows m c t.val t.isLt
    rw [outsAt0_B m c t h] at hs ⊢
    replace hs : (outsAt0 m c (t.val - 1) (Nat.lt_of_le_of_lt (Nat.sub_le _ _) t.isLt)).2 = _ := hs
    frame_out
    simp only [read_unread_whole]
    rw [hs]

/-- One entry of a stored block is the reference's entry at the place the block has in the array. -/
theorem entry_at (c : Dev nD) (t : Fin cfg0.N) (y) :
    k0_pay2 (k0_pay1 (iblk m c 0 t) (iblk m c 1 t)) (iblk m c 2 t) y
      = normProduct (m ((c : Thread nD τ).loc main_arg0)) (m ((c : Thread nD τ).loc main_arg1))
          (m ((c : Thread nD τ).loc main_arg2)) (((cfg0.win 3).blk t).view.emb y) := by
  pointwise [k0_pay1, k0_pay2, normProduct]
  blk_point [iblk, V, blocks_at t]

/-- The result array after the run. -/
theorem result_array (c : Dev nD) : (dats m 0 c).arrAt 3 (cfgs 0).N
    = normProduct (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3, stored_block]
  exact entry_at m c t y

end Cert.ProjQkvIdeal.Product
-- ==== Proof.ProjGatesValue.lean ====
module

public import proofs.«01_k».proof.Proof.Gen.ProjGatesIdeal.Frame
public import proofs.«01_k».proof.Proof.Gen.ProjGatesRefIdeal.Run
public import Idealize.ShloMosaic.Lib.Pipeline.ValueKit
public import Idealize.ShloMosaic.Lib.Pipeline.ReadBack

set_option maxRecDepth 16384

@[expose] public section

noncomputable section

open Idealize.ShloMosaic Idealize.ShloMosaic.TcCoe Idealize.SL.Sem
open Idealize.ShloMosaic.Pipeline (Dat)

namespace Cert.ProjGatesIdeal.Product

/-- The reference's term: each row divided by its root mean square, scaled by the gain, times the weight. -/
def normProduct (X : FVec Ideal Cert.ProjGatesRefIdeal.S32768x1024 .f32) (g : FVec Ideal Cert.ProjGatesRefIdeal.S1024 .f32)
    (W : FVec Ideal Cert.ProjGatesRefIdeal.S1024x3072 .f32) : FVec Ideal Cert.ProjGatesRefIdeal.S32768x3072 .f32 :=
  open Cert.ProjGatesRefIdeal Cert.ProjGatesRefIdeal.Gen in
  Host.dotGeneral dot_S32768x1024_S1024x3072_S32768x3072_1_0_0_1_n_n none (mulf (mulf X (broadcastInDim S32768x1024 ![0, 1] bcast_S32768x1_S32768x1024_0_1 (Host.rsqrt (addf (Host.divf (broadcastInDim S32768x1 ![0] bcast_S32768_S32768x1_0 (Host.reduceAdd (mulf X X) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g))) W

open Cert.ProjGatesIdeal Cert.ProjGatesIdeal.Gen

variable (m : (ℓ : Loc nD τ sig) → Buf (Elt Ideal) ℓ)

/-- Which block each window is on at every point: the row block is `t / 3`, the column block `t % 3`. -/
theorem blocks_at : ∀ t : Fin cfg0.N, win0_0.index t = ![t.val / 3, 0] ∧ win0_1.index t = ![0, 0]
    ∧ win0_2.index t = ![0, t.val % 3] ∧ win0_3.index t = ![t.val / 3, t.val % 3] :=
  (by decide +kernel : ∀ t : Fin grid0.N, _)

/-- The scratch a row block's first point fills still holds that block's normalised rows at its later points. -/
theorem scratch_rows (c : Dev nD) : ∀ (n : ℕ) (hn : n < cfg0.N),
    (outsAt0 m c n hn).2 = k0_pay1 (iblk m c 0 ⟨n, hn⟩) (iblk m c 1 ⟨n, hn⟩) := by
  intro n
  induction n with
  | zero =>
    intro hn
    rw [outsAt0_A m c ⟨0, hn⟩ (Nat.zero_mod _)]
    frame_out
  | succ n ih =>
    intro hn
    by_cases h : (n + 1) % 3 = 0
    · rw [outsAt0_A m c ⟨n + 1, hn⟩ h]
      frame_out
    · have e : (outsAt0 m c (n + 1) hn).2 = (outsAt0 m c n (Nat.lt_of_succ_lt hn)).2 := by
        rw [outsAt0_B m c ⟨n + 1, hn⟩ h]
        rfl
      rw [e, ih]
      have before := blocks_at ⟨n, Nat.lt_of_succ_lt hn⟩
      have here := blocks_at ⟨n + 1, hn⟩
      have e0 : iblk m c 0 ⟨n, Nat.lt_of_succ_lt hn⟩ = iblk m c 0 ⟨n + 1, hn⟩ := by
        funext y
        blk_ext [iblk, V, before, here]
      have e1 : iblk m c 1 ⟨n, Nat.lt_of_succ_lt hn⟩ = iblk m c 1 ⟨n + 1, hn⟩ := by
        funext y
        blk_ext [iblk, V, before, here]
      rw [e0, e1]

/-- The block a point stores: the rows in the scratch times the point's block of the weight. -/
theorem stored_block (c : Dev nD) (t : Fin cfg0.N) :
    (outsAt0 m c t.val t.isLt).1 = k0_pay2 (k0_pay1 (iblk m c 0 t) (iblk m c 1 t)) (iblk m c 2 t) := by
  by_cases h : t.val % 3 = 0
  · rw [outsAt0_A m c t h]
    frame_out
  · have hs := scratch_rows m c t.val t.isLt
    rw [outsAt0_B m c t h] at hs ⊢
    replace hs : (outsAt0 m c (t.val - 1) (Nat.lt_of_le_of_lt (Nat.sub_le _ _) t.isLt)).2 = _ := hs
    frame_out
    simp only [read_unread_whole]
    rw [hs]

/-- One entry of a stored block is the reference's entry at the place the block has in the array. -/
theorem entry_at (c : Dev nD) (t : Fin cfg0.N) (y) :
    k0_pay2 (k0_pay1 (iblk m c 0 t) (iblk m c 1 t)) (iblk m c 2 t) y
      = normProduct (m ((c : Thread nD τ).loc main_arg0)) (m ((c : Thread nD τ).loc main_arg1))
          (m ((c : Thread nD τ).loc main_arg2)) (((cfg0.win 3).blk t).view.emb y) := by
  pointwise [k0_pay1, k0_pay2, normProduct]
  blk_point [iblk, V, blocks_at t]

/-- The result array after the run. -/
theorem result_array (c : Dev nD) : (dats m 0 c).arrAt 3 (cfgs 0).N
    = normProduct (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3, stored_block]
  exact entry_at m c t y

end Cert.ProjGatesIdeal.Product
-- ==== Proof.PleValue.lean ====
module

public import proofs.«01_k».proof.Proof.Gen.PleIdeal.Frame
public import proofs.«01_k».proof.Proof.Gen.PleRefIdeal.Run
public import Idealize.ShloMosaic.Lib.Pipeline.ValueKit

set_option maxRecDepth 16384

@[expose] public section

noncomputable section

open Idealize.ShloMosaic Idealize.ShloMosaic.TcCoe Idealize.SL.Sem
open Idealize.ShloMosaic.Pipeline (Dat)

namespace Cert.PleIdeal.Gate

section Reference
open Cert.PleRefIdeal Cert.PleRefIdeal.Gen

/-- Each row over its root mean square, times the gain. -/
def rowsNormed (X : FVec Ideal S32768x1024 .f32) (g : FVec Ideal S1024 .f32) : FVec Ideal S32768x1024 .f32 :=
  mulf (mulf X (broadcastInDim S32768x1024 ![0, 1] bcast_S32768x1_S32768x1024_0_1 (Host.rsqrt (addf (Host.divf (broadcastInDim S32768x1 ![0] bcast_S32768_S32768x1_0 (Host.reduceAdd (mulf X X) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g))

/-- The residual stream plus the gated projection of the layer's embedding. -/
def gatedStream (X : FVec Ideal S32768x1024 .f32) (E : FVec Ideal S32768x256 .f32) (g : FVec Ideal S1024 .f32)
    (W : FVec Ideal S1024x1024 .f32) (U : FVec Ideal S256x1024 .f32) : FVec Ideal S32768x1024 .f32 :=
  addf X (mulf (Host.divf (broadcastInDim S32768x1024 ![] bcast_S_S32768x1024 (constant S_ .f32 0x3F800000#32)) (addf (broadcastInDim S32768x1024 ![] bcast_S_S32768x1024 (constant S_ .f32 0x3F800000#32)) (Host.exp (Host.negf (Host.dotGeneral dot_S32768x1024_S1024x1024_S32768x1024_1_0_0_1_n_n none (rowsNormed X g) W))))) (Host.dotGeneral dot_S32768x256_S256x1024_S32768x1024_1_0_0_1_n_n none E U))

/-- The reference's term: the gated stream normalised once more by the final gain. -/
def gatedOutput (X : FVec Ideal S32768x1024 .f32) (E : FVec Ideal S32768x256 .f32) (g : FVec Ideal S1024 .f32)
    (W : FVec Ideal S1024x1024 .f32) (U : FVec Ideal S256x1024 .f32) (f : FVec Ideal S1024 .f32) : FVec Ideal S32768x1024 .f32 :=
  rowsNormed (gatedStream X E g W U) f

end Reference

open Cert.PleIdeal Cert.PleIdeal.Gen

theorem zero_minus (x : EReal) : 0 - x = -x := by rw [sub_eq_add_neg, zero_add]

variable (m : (ℓ : Loc nD τ sig) → Buf (Elt Ideal) ℓ)

/-- Which block each window is on at every point: rows `t`, everything else whole. -/
theorem blocks_at : ∀ t : Fin cfg0.N, win0_0.index t = ![t.val, 0] ∧ win0_1.index t = ![t.val, 0]
    ∧ win0_2.index t = ![0, 0] ∧ win0_3.index t = ![0, 0] ∧ win0_4.index t = ![0, 0] ∧ win0_5.index t = ![0, 0]
    ∧ win0_6.index t = ![t.val, 0] :=
  (by decide +kernel : ∀ t : Fin grid0.N, _)

/-- One entry of a stored block is the reference's entry at the place the block has in the array. -/
theorem entry_at (c : Dev nD) (t : Fin cfg0.N) (y) :
    k0_pay1 (k0_pay2 (iblk m c 0 t) (iblk m c 2 t) (iblk m c 3 t) (iblk m c 1 t) (iblk m c 4 t)) (k0_pay3 (iblk m c 5 t))
        (k0_pay4 (iblk m c 0 t) (iblk m c 2 t) (iblk m c 3 t) (iblk m c 1 t) (iblk m c 4 t)) y
      = gatedOutput (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (((cfg0.win 6).blk t).view.emb y) := by
  pointwise [k0_pay1, k0_pay2, k0_pay3, k0_pay4, gatedOutput, gatedStream, rowsNormed, zero_minus]
  blk_point [iblk, V, blocks_at t]

/-- The result array after the run. -/
theorem result_array (c : Dev nD) : (dats m 0 c).arrAt 6 (cfgs 0).N
    = gatedOutput (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (dats m 0 c).arrAt_eq_of_covers 6 _ (by decide +kernel) fun t _ y => ?_
  blk_simp
  rw [after0_6]
  frame_out
  exact entry_at m c t y

end Cert.PleIdeal.Gate
-- ==== Proof.PrepValue.lean ====
/- What the sparse attention reads, from its latents and index keys: each of the call's arrays is the reference's. -/
module

public import proofs.«01_k».proof.Proof.Gen.PrepIdeal.Frame
public import proofs.«01_k».proof.Proof.Gen.PrepRefIdeal.Run
public import Idealize.ShloMosaic.Lib.Pipeline.ValueKit
public import Idealize.ShloMosaic.Lib.Pipeline.ReadBack

set_option maxRecDepth 16384

@[expose] public section

noncomputable section

open Idealize.ShloMosaic Idealize.ShloMosaic.TcCoe Idealize.SL.Sem
open Idealize.ShloMosaic.Pipeline (Dat)

namespace Cert.PrepIdeal.Latents

section Reference
open Cert.PrepRefIdeal Cert.PrepRefIdeal.Gen

/-- The query latents, each row over its root mean square, times the gain. -/
def queryLatents (A : FVec Ideal S2x16384x512 .f32) (g : FVec Ideal S256 .f32) : FVec Ideal S2x16384x256 .f32 :=
  mulf (mulf (extractStridedSlice S2x16384x256 ![0, 0, 0] A slices_S2x16384x512_S2x16384x256_0_0_0) (broadcastInDim S2x16384x256 ![0, 1, 2] bcast_S2x16384x1_S2x16384x256_0_1_2 (Host.rsqrt (addf (Host.divf (broadcastInDim S2x16384x1 ![0, 1] bcast_S2x16384_S2x16384x1_0_1 (Host.reduceAdd (mulf (extractStridedSlice S2x16384x256 ![0, 0, 0] A slices_S2x16384x512_S2x16384x256_0_0_0) (extractStridedSlice S2x16384x256 ![0, 0, 0] A slices_S2x16384x512_S2x16384x256_0_0_0)) (constant S_ .f32 0x00000000#32) reducesTo_S2x16384x256_S2x16384_d2 h_S_)) (broadcastInDim S2x16384x1 ![] bcast_S_S2x16384x1 (constant S_ .f32 0x43800000#32))) (broadcastInDim S2x16384x1 ![] bcast_S_S2x16384x1 (constant S_ .f32 0x358637BD#32)))))) (broadcastInDim S2x16384x256 ![0, 1, 2] bcast_S1x1x256_S2x16384x256_0_1_2 (broadcastInDim S1x1x256 ![2] bcast_S256_S1x1x256_2 g))

/-- The key latents, likewise. -/
def keyLatents (A : FVec Ideal S2x16384x512 .f32) (g : FVec Ideal S128 .f32) : FVec Ideal S2x16384x128 .f32 :=
  mulf (mulf (extractStridedSlice S2x16384x128 ![0, 0, 256] A slices_S2x16384x512_S2x16384x128_0_0_256) (broadcastInDim S2x16384x128 ![0, 1, 2] bcast_S2x16384x1_S2x16384x128_0_1_2 (Host.rsqrt (addf (Host.divf (broadcastInDim S2x16384x1 ![0, 1] bcast_S2x16384_S2x16384x1_0_1 (Host.reduceAdd (mulf (extractStridedSlice S2x16384x128 ![0, 0, 256] A slices_S2x16384x512_S2x16384x128_0_0_256) (extractStridedSlice S2x16384x128 ![0, 0, 256] A slices_S2x16384x512_S2x16384x128_0_0_256)) (constant S_ .f32 0x00000000#32) reducesTo_S2x16384x128_S2x16384_d2 h_S_)) (broadcastInDim S2x16384x1 ![] bcast_S_S2x16384x1 (constant S_ .f32 0x43000000#32))) (broadcastInDim S2x16384x1 ![] bcast_S_S2x16384x1 (constant S_ .f32 0x358637BD#32)))))) (broadcastInDim S2x16384x128 ![0, 1, 2] bcast_S1x1x128_S2x16384x128_0_1_2 (broadcastInDim S1x1x128 ![2] bcast_S128_S1x1x128_2 g))

/-- The scaled queries, -/
def queries (A : FVec Ideal S2x16384x512 .f32) (g : FVec Ideal S256 .f32) (W : FVec Ideal S256x2048 .f32) : FVec Ideal S2x16x16384x128 .bf16 :=
  truncf .bf16 (transpose S2x16x16384x128 [0, 2, 1, 3] (mulf (shapeCast _ (Host.dotGeneral dot_S2x16384x256_S256x2048_S2x16384x2048_2_0_01_1_n_n none (queryLatents A g) W) shapeCasts_S2x16384x2048_S2x16384x16x128) (broadcastInDim S2x16384x16x128 ![] bcast_S_S2x16384x16x128 (constant S_ .f32 0x3E0293EE#32))) transposes_S2x16384x16x128_S2x16x16384x128_0_2_1_3) bitsLt_bf16_f32

/-- the indexer's queries, -/
def indexQueries (A : FVec Ideal S2x16384x512 .f32) (g : FVec Ideal S256 .f32) (W : FVec Ideal S256x512 .f32) : FVec Ideal S2x8x16384x64 .bf16 :=
  truncf .bf16 (transpose S2x8x16384x64 [0, 2, 1, 3] (shapeCast _ (Host.dotGeneral dot_S2x16384x256_S256x512_S2x16384x512_2_0_01_1_n_n none (queryLatents A g) W) shapeCasts_S2x16384x512_S2x16384x8x64) transposes_S2x16384x8x64_S2x8x16384x64_0_2_1_3) bitsLt_bf16_f32

/-- the keys by column, -/
def keyColumns (A : FVec Ideal S2x16384x512 .f32) (g : FVec Ideal S128 .f32) : FVec Ideal S2x128x16384 .bf16 :=
  truncf .bf16 (transpose S2x128x16384 [0, 2, 1] (keyLatents A g) transposes_S2x16384x128_S2x128x16384_0_2_1) bitsLt_bf16_f32

/-- the values with a column of ones after them, -/
def valuesAndOne (A : FVec Ideal S2x16384x512 .f32) (g : FVec Ideal S128 .f32) : FVec Ideal S2x16384x256 .bf16 :=
  truncf .bf16 (concatenate S2x16384x256 2 [⟨S2x16384x128, keyLatents A g⟩, ⟨S2x16384x128, (concatenate S2x16384x128 2 [⟨S2x16384x1, (broadcastInDim S2x16384x1 ![] bcast_S_S2x16384x1 (constant S_ .f32 0x3F800000#32))⟩, ⟨S2x16384x127, (broadcastInDim S2x16384x127 ![] bcast_S_S2x16384x127 (constant S_ .f32 0x00000000#32))⟩] concatenates_S2x16384x1_S2x16384x127_S2x16384x128_d2)⟩] concatenates_S2x16384x128_S2x16384x128_S2x16384x256_d2) bitsLt_bf16_f32

/-- the indexer's keys by column, -/
def indexKeys (A : FVec Ideal S2x16384x512 .f32) : FVec Ideal S2x64x16384 .bf16 :=
  truncf .bf16 (transpose S2x64x16384 [0, 2, 1] (extractStridedSlice S2x16384x64 ![0, 0, 384] A slices_S2x16384x512_S2x16384x64_0_0_384) transposes_S2x16384x64_S2x64x16384_0_2_1) bitsLt_bf16_f32

/-- and the indexer's weights by column, scaled. -/
def indexWeights (A : FVec Ideal S2x16384x512 .f32) : FVec Ideal S2x8x16384 .f32 :=
  transpose S2x8x16384 [0, 2, 1] (mulf (extractStridedSlice S2x16384x8 ![0, 0, 448] A slices_S2x16384x512_S2x16384x8_0_0_448) (broadcastInDim S2x16384x8 ![] bcast_S_S2x16384x8 (constant S_ .f32 0x3D3504F3#32))) transposes_S2x16384x8_S2x8x16384_0_2_1

end Reference

open Cert.PrepIdeal Cert.PrepIdeal.Gen

variable (m : (ℓ : Loc nD τ sig) → Buf (Elt Ideal) ℓ)

/-- Which block each window is on at every point: the sequence is `t / 32`, the rows' block `t % 32`. -/
theorem blocks_at : ∀ t : Fin cfg0.N, win0_0.index t = ![t.val / 32, t.val % 32, 0] ∧ win0_1.index t = ![0, 0]
    ∧ win0_2.index t = ![0, 0] ∧ win0_3.index t = ![0, 0] ∧ win0_4.index t = ![t.val / 32, 0, t.val % 32, 0]
    ∧ win0_5.index t = ![t.val / 32, 0, t.val % 32, 0] ∧ win0_6.index t = ![t.val / 32, 0, t.val % 32]
    ∧ win0_7.index t = ![t.val / 32, t.val % 32, 0] ∧ win0_8.index t = ![t.val / 32, 0, t.val % 32]
    ∧ win0_9.index t = ![t.val / 32, 0, t.val % 32] :=
  (by decide +kernel : ∀ t : Fin grid0.N, _)

/-- The indexer's weights after the run, -/
theorem weights_array (c : Dev nD) : (dats m 0 c).arrAt 9 (cfgs 0).N = indexWeights (m ((c : Thread nD τ).loc main_arg0)) := by
  refine (dats m 0 c).arrAt_eq_of_covers 9 _ (by decide +kernel) fun t _ y => ?_
  blk_simp
  rw [after0_9]
  frame_out
  pointwise [k0_pay40, k0_pay2, k0_pay4, k0_pay5, indexWeights]
  blk_point [iblk, V, blocks_at t]

/-- its keys, -/
theorem keys_array (c : Dev nD) : (dats m 0 c).arrAt 8 (cfgs 0).N = indexKeys (m ((c : Thread nD τ).loc main_arg0)) := by
  refine (dats m 0 c).arrAt_eq_of_covers 8 _ (by decide +kernel) fun t _ y => ?_
  blk_simp
  rw [after0_8]
  frame_out
  pointwise [k0_pay40, k0_pay2, k0_pay3, k0_pay5, indexKeys]
  blk_point [iblk, V, blocks_at t]

/-- the keys by column. -/
theorem columns_array (c : Dev nD) : (dats m 0 c).arrAt 6 (cfgs 0).N
    = keyColumns (m ((c : Thread nD τ).loc main_arg0)) (m ((c : Thread nD τ).loc main_arg2)) := by
  refine (dats m 0 c).arrAt_eq_of_covers 6 _ (by decide +kernel) fun t _ y => ?_
  blk_simp
  rw [after0_6]
  frame_out
  pointwise [k0_pay40, k0_pay37, k0_pay36, k0_pay5, keyColumns, keyLatents]
  blk_point [iblk, V, blocks_at t]

end Cert.PrepIdeal.Latents
-- ==== Proof.PrepQueries.lean ====
/- The queries of the sparse attention and of its indexer, by head. -/
module

public import proofs.«01_k».proof.Proof.PrepValue

set_option maxRecDepth 16384

@[expose] public section

noncomputable section

open Idealize.ShloMosaic Idealize.ShloMosaic.TcCoe Idealize.SL.Sem
open Idealize.ShloMosaic.Pipeline (Dat)

namespace Cert.PrepIdeal.Latents
open Cert.PrepIdeal Cert.PrepIdeal.Gen

theorem whole_rows (x : Vec Ideal S1x512x512 .f32) : View.ld x r0_0 = x := View.ld_unit_zero (S := S1x512x512) (by decide) _ x
theorem whole_gain (x : Vec Ideal S1x256 .f32) : View.ld x r0_1 = x := View.ld_unit_zero (S := S1x256) (by decide) _ x
theorem whole_weight (x : Vec Ideal S256x2560 .bf16) : View.ld x r0_2 = x := View.ld_unit_zero (S := S256x2560) (by decide) _ x

/-- The column of a head's lane among the queries, -/
def queryCol (h : Fin 16) (d : Fin 128) : Fin 2560 := ⟨128 * h.val + d.val, by omega⟩

/-- and among the indexer's queries, which follow them. -/
def indexCol (h : Fin 8) (d : Fin 64) : Fin 2560 := ⟨2048 + (64 * h.val + d.val), by omega⟩

/-- What the body leaves of the queries, from the product of the latents, -/
def queryAt (P : FVec Ideal S512x2560 .f32) (y : S1x16x512x128.Idx) : EReal :=
  P (ix2 (y 2) (queryCol (y 1) (y 3))) * Ideal.ofBits .f32 0x3E0293EE#32

/-- and of the indexer's. -/
def indexAt (P : FVec Ideal S512x2560 .f32) (y : S1x8x512x64.Idx) : EReal := P (ix2 (y 2) (indexCol (y 1) (y 3)))

/-- A head's store of queries, at the block's indices, -/
theorem query_stored (h : Fin 16) (G : S1x16x512x128.Idx → EReal) (p : FVec Ideal S1x1x512x128 .bf16)
    (inb : ∀ a, (![0, h.val, 0, 0] : Fin 4 → Nat) a + S1x1x512x128.size a ≤ S1x16x512x128.size a)
    (hp : ∀ i d, p (ix4 0 0 i d) = G (ix4 0 h i d)) (x : S1x1x512x128.Idx) :
    p x = G ((Rect.unit (s := S1x16x512x128) ![0, h.val, 0, 0] S1x1x512x128.size inb).emb x) := by
  have h1 : (x 1).val < 1 := (x 1).isLt
  have e : (Rect.unit (s := S1x16x512x128) ![0, h.val, 0, 0] S1x1x512x128.size inb).emb x = ix4 0 h (x 2) (x 3) := by
    funext a
    fin_cases a
    · exact Subsingleton.elim (α := Fin 1) _ _
    · exact Fin.ext (by show h.val + 1 * (x 1).val = h.val; omega)
    · exact Fin.ext (by show 0 + 1 * (x 2).val = (x 2).val; omega)
    · exact Fin.ext (by show 0 + 1 * (x 3).val = (x 3).val; omega)
  have e' : x = ix4 0 0 (x 2) (x 3) := by
    funext a
    fin_cases a
    · exact Subsingleton.elim (α := Fin 1) _ _
    · exact Subsingleton.elim (α := Fin 1) _ _
    · rfl
    · rfl
  rw [e]
  exact (congrArg p e').trans (hp (x 2) (x 3))

/-- and of the indexer's. -/
theorem index_stored (h : Fin 8) (G : S1x8x512x64.Idx → EReal) (p : FVec Ideal S1x1x512x64 .bf16)
    (inb : ∀ a, (![0, h.val, 0, 0] : Fin 4 → Nat) a + S1x1x512x64.size a ≤ S1x8x512x64.size a)
    (hp : ∀ i d, p (ix4 0 0 i d) = G (ix4 0 h i d)) (x : S1x1x512x64.Idx) :
    p x = G ((Rect.unit (s := S1x8x512x64) ![0, h.val, 0, 0] S1x1x512x64.size inb).emb x) := by
  have h1 : (x 1).val < 1 := (x 1).isLt
  have e : (Rect.unit (s := S1x8x512x64) ![0, h.val, 0, 0] S1x1x512x64.size inb).emb x = ix4 0 h (x 2) (x 3) := by
    funext a
    fin_cases a
    · exact Subsingleton.elim (α := Fin 1) _ _
    · exact Fin.ext (by show h.val + 1 * (x 1).val = h.val; omega)
    · exact Fin.ext (by show 0 + 1 * (x 2).val = (x 2).val; omega)
    · exact Fin.ext (by show 0 + 1 * (x 3).val = (x 3).val; omega)
  have e' : x = ix4 0 0 (x 2) (x 3) := by
    funext a
    fin_cases a
    · exact Subsingleton.elim (α := Fin 1) _ _
    · exact Subsingleton.elim (α := Fin 1) _ _
    · rfl
    · rfl
  rw [e]
  exact (congrArg p e').trans (hp (x 2) (x 3))

theorem query_in (h : Fin 16) (a : Fin 4) : (![0, h.val, 0, 0] : Fin 4 → Nat) a + S1x1x512x128.size a ≤ S1x16x512x128.size a := by
  fin_cases a
  · exact Nat.le_refl 1
  · show h.val + 1 ≤ 16
    omega
  · exact Nat.le_refl 512
  · exact Nat.le_refl 128

theorem index_in (h : Fin 8) (a : Fin 4) : (![0, h.val, 0, 0] : Fin 4 → Nat) a + S1x1x512x64.size a ≤ S1x8x512x64.size a := by
  fin_cases a
  · exact Nat.le_refl 1
  · show h.val + 1 ≤ 8
    omega
  · exact Nat.le_refl 512
  · exact Nat.le_refl 64

/-- The block of the queries, at an index, -/
theorem queries_block (x0 x1 x2 x3) (y : S1x16x512x128.Idx) :
    out0_4 (F := Ideal) x0 x1 x2 x3 y = queryAt (k0_pay6 x0 x1 x3) y := by
  unfold_out out0_4
  simp only [whole_rows, whole_gain, whole_weight]
  refine View.canon_apply_of_pieces (Val := Elt Ideal) (e := .bf16) (queryAt (k0_pay6 x0 x1 x3)) _ ?_ y
    (cover0_4 _ _ _ _ _ _ _ _ _ _ _ _ _ _ _ _ y)
  refine View.PiecesOf.mem ⟨query_stored 15 _ _ (query_in 15) ?_, query_stored 14 _ _ (query_in 14) ?_,
    query_stored 13 _ _ (query_in 13) ?_, query_stored 12 _ _ (query_in 12) ?_, query_stored 11 _ _ (query_in 11) ?_,
    query_stored 10 _ _ (query_in 10) ?_, query_stored 9 _ _ (query_in 9) ?_, query_stored 8 _ _ (query_in 8) ?_,
    query_stored 7 _ _ (query_in 7) ?_, query_stored 6 _ _ (query_in 6) ?_, query_stored 5 _ _ (query_in 5) ?_,
    query_stored 4 _ _ (query_in 4) ?_, query_stored 3 _ _ (query_in 3) ?_, query_stored 2 _ _ (query_in 2) ?_,
    query_stored 1 _ _ (query_in 1) ?_, query_stored 0 _ _ (query_in 0) ?_, trivial⟩
  all_goals
    intro i d
    pointwise [k0_pay7, k0_pay8, k0_pay9, k0_pay10, k0_pay11, k0_pay12, k0_pay13, k0_pay14, k0_pay15, k0_pay16, k0_pay17, k0_pay18,
      k0_pay19, k0_pay20, k0_pay21, k0_pay22, k0_pay23, k0_pay24, k0_pay25]
    refine congrArg (fun e : Fin 2560 => k0_pay6 x0 x1 x3 (ix2 i e) * Ideal.ofBits .f32 0x3E0293EE#32) (Fin.ext ?_)
    show _ = 128 * _ + d.val
    simp
    try omega

/-- and of the indexer's. -/
theorem index_block (x0 x1 x2 x3) (y : S1x8x512x64.Idx) :
    out0_5 (F := Ideal) x0 x1 x2 x3 y = indexAt (k0_pay6 x0 x1 x3) y := by
  unfold_out out0_5
  simp only [whole_rows, whole_gain, whole_weight]
  refine View.canon_apply_of_pieces (Val := Elt Ideal) (e := .bf16) (indexAt (k0_pay6 x0 x1 x3)) _ ?_ y
    (cover0_5 _ _ _ _ _ _ _ _ y)
  refine View.PiecesOf.mem ⟨index_stored 7 _ _ (index_in 7) ?_, index_stored 6 _ _ (index_in 6) ?_, index_stored 5 _ _ (index_in 5) ?_,
    index_stored 4 _ _ (index_in 4) ?_, index_stored 3 _ _ (index_in 3) ?_, index_stored 2 _ _ (index_in 2) ?_,
    index_stored 1 _ _ (index_in 1) ?_, index_stored 0 _ _ (index_in 0) ?_, trivial⟩
  all_goals
    intro i d
    pointwise [k0_pay26, k0_pay27, k0_pay28, k0_pay29, k0_pay30, k0_pay31, k0_pay32, k0_pay33, k0_pay34, k0_pay35]
    refine congrArg (fun e : Fin 2560 => k0_pay6 x0 x1 x3 (ix2 i e)) (Fin.ext ?_)
    show _ = 2048 + (64 * _ + d.val)
    simp
    try omega

variable (m : (ℓ : Loc nD τ sig) → Buf (Elt Ideal) ℓ)

/-- The two weights side by side. -/
def joined (P : FVec Ideal S256x2048 .f32) (Q : FVec Ideal S256x512 .f32) : FVec Ideal S256x2560 .bf16 :=
  truncf .bf16 (concatenate S256x2560 1 [⟨S256x2048, P⟩, ⟨S256x512, Q⟩] concatenates_S256x2048_S256x512_S256x2560_d1) bitsLt_bf16_f32

/-- The weight the body reads. -/
theorem weight_joined (c : Dev nD) : V m c main_v1 = joined (m ((c : Thread nD τ).loc main_arg3)) (m ((c : Thread nD τ).loc main_arg4)) := by
  show StableHlo.after hostOps0 _ (Proc.devRef .tc main_v1) = _
  after_results
  rfl

/-- Its columns of the queries, -/
theorem weight_query (c : Dev nD) (j : S256x2560.Idx) (i : S256x2048.Idx) (h0 : (i 0).val = (j 0).val) (h1 : (i 1).val = (j 1).val) :
    V m c main_v1 j = m ((c : Thread nD τ).loc main_arg3) i := by
  refine (congrFun (weight_joined m c) j).trans ?_
  refine Idealize.ShloMosaic.concatenate_pair_apply_left (1 : Fin S256x2560.rank) _ _ concatenates_S256x2048_S256x512_S256x2560_d1 j rfl i fun b => ?_
  fin_cases b
  · exact h0
  · exact h1

/-- and of the indexer's. -/
theorem weight_index (c : Dev nD) (j : S256x2560.Idx) (i : S256x512.Idx) (h0 : (i 0).val = (j 0).val)
    (h1 : (i 1).val + 2048 = (j 1).val) : V m c main_v1 j = m ((c : Thread nD τ).loc main_arg4) i := by
  refine (congrFun (weight_joined m c) j).trans ?_
  refine Idealize.ShloMosaic.concatenate_pair_apply_right (1 : Fin S256x2560.rank) _ _ concatenates_S256x2048_S256x512_S256x2560_d1 j rfl rfl i (fun b hb => ?_) h1
  fin_cases b
  · exact h0
  · exact absurd rfl hb

/-- The queries after the run, -/
theorem queries_array (c : Dev nD) : (dats m 0 c).arrAt 4 (cfgs 0).N
    = queries (m ((c : Thread nD τ).loc main_arg0)) (m ((c : Thread nD τ).loc main_arg1)) (m ((c : Thread nD τ).loc main_arg3)) := by
  refine (dats m 0 c).arrAt_eq_of_covers 4 _ (by decide +kernel) fun t _ y => ?_
  blk_simp
  rw [after0_4]
  refine (queries_block _ _ _ _ _).trans ?_
  unfold queryAt
  pointwise [k0_pay6, k0_pay5, queries, queryLatents]
  blk_point [iblk, V, blocks_at t]
  refine weight_query m c _ _ ?_ ?_
  · show x.val = 0 * 256 + 1 * x.val
    omega
  · show (y 1).val * 128 + (y 3).val = 0 * 2560 + 1 * (128 * (y 1).val + (y 3).val)
    omega

/-- the indexer's queries. -/
theorem index_array (c : Dev nD) : (dats m 0 c).arrAt 5 (cfgs 0).N
    = indexQueries (m ((c : Thread nD τ).loc main_arg0)) (m ((c : Thread nD τ).loc main_arg1)) (m ((c : Thread nD τ).loc main_arg4)) := by
  refine (dats m 0 c).arrAt_eq_of_covers 5 _ (by decide +kernel) fun t _ y => ?_
  blk_simp
  rw [after0_5]
  refine (index_block _ _ _ _ _).trans ?_
  unfold indexAt
  pointwise [k0_pay6, k0_pay5, indexQueries, queryLatents]
  blk_point [iblk, V, blocks_at t]
  refine weight_index m c _ _ ?_ ?_
  · show x.val = 0 * 256 + 1 * x.val
    omega
  · show (y 1).val * 64 + (y 3).val + 2048 = 0 * 2560 + 1 * (2048 + (64 * (y 1).val + (y 3).val))
    omega

end Cert.PrepIdeal.Latents
-- ==== Proof.PrepOnes.lean ====
/- The values of the sparse attention and the column of ones after them. -/
module

public import proofs.«01_k».proof.Proof.PrepValue

set_option maxRecDepth 16384

@[expose] public section

noncomputable section

open Idealize.ShloMosaic Idealize.ShloMosaic.TcCoe Idealize.SL.Sem
open Idealize.ShloMosaic.Pipeline (Dat)

namespace Cert.PrepIdeal.Latents
open Cert.PrepIdeal Cert.PrepIdeal.Gen

variable (m : (ℓ : Loc nD τ sig) → Buf (Elt Ideal) ℓ)

theorem whole_rows' (x : Vec Ideal S1x512x512 .f32) : View.ld x r0_0 = x := View.ld_unit_zero (S := S1x512x512) (by decide) _ x
theorem whole_key_gain (x : Vec Ideal S1x128 .f32) : View.ld x r0_27 = x := View.ld_unit_zero (S := S1x128) (by decide) _ x

/-- What the body leaves: the normalised latent before column 128, a one at it and zeros after. -/
def valueAt (P : FVec Ideal S512x128 .f32) (y : S1x512x256.Idx) : EReal :=
  if h : (y 2).val < 128 then P (ix2 (y 1) ⟨(y 2).val, h⟩) else if (y 2).val = 128 then 1 else 0

theorem values_block (x0 x1 x2 x3) (y : S1x512x256.Idx) :
    out0_7 (F := Ideal) x0 x1 x2 x3 y = valueAt (k0_pay36 (k0_pay5 x0) x2) y := by
  unfold_out out0_7
  simp only [whole_rows', whole_key_gain]
  refine View.canon_apply_of_pieces (Val := Elt Ideal) (e := .bf16) (valueAt (k0_pay36 (k0_pay5 x0) x2)) _ ?_ y
    (cover0_7 _ _ y)
  refine View.PiecesOf.mem ⟨?_, ?_, trivial⟩
  · intro x
    have h2 : (x 2).val < 128 := (x 2).isLt
    have e : ((r0_30.emb x) 2).val = 128 + (x 2).val := by show 128 + 1 * (x 2).val = _; omega
    pointwise [k0_pay1, k0_pay39]
    unfold valueAt
    rw [dif_neg (by omega)]
    by_cases h : (x 2).val = 0
    · rw [if_pos (by omega), h]
      rfl
    · rw [if_neg (by omega)]
      have hc : IntOp.cmpi CmpIPredicate.eq (BitVec.ofNat 32 (x 2).val) 0#32 = 0#1 := by
        have hall : ∀ k : Fin 128, k.val ≠ 0 → IntOp.cmpi CmpIPredicate.eq (BitVec.ofNat 32 k.val) 0#32 = 0#1 := by decide +kernel
        exact hall ⟨(x 2).val, h2⟩ h
      rw [hc]
      rfl
  · intro x
    have h2 : (x 2).val < 128 := (x 2).isLt
    have e : ((r0_29.emb x) 2).val = (x 2).val := by show 0 + 1 * (x 2).val = _; omega
    pointwise [k0_pay38]
    unfold valueAt
    rw [dif_pos (by omega)]
    refine congrArg _ ?_
    funext a
    fin_cases a
    · exact Fin.ext (by show (x 1).val = 0 + 1 * (x 1).val; omega)
    · exact Fin.ext (by show (x 2).val = 0 + 1 * (x 2).val; omega)

theorem values_array (c : Dev nD) : (dats m 0 c).arrAt 7 (cfgs 0).N
    = valuesAndOne (m ((c : Thread nD τ).loc main_arg0)) (m ((c : Thread nD τ).loc main_arg2)) := by
  refine (dats m 0 c).arrAt_eq_of_covers 7 _ (by decide +kernel) fun t _ y => ?_
  blk_simp
  rw [after0_7]
  refine (values_block _ _ _ _ _).trans ?_
  unfold valueAt
  pointwise [k0_pay36, k0_pay5, valuesAndOne, keyLatents]
  have hy : (y 2).val < 256 := (y 2).isLt
  have e : ((((View.whole main_v4_3).slice (win0_7.rect t)).emb y) 2).val = (y 2).val := by
    blk_point [blocks_at t]
  by_cases h : (y 2).val < 128
  · rw [dif_pos h, dif_pos (by omega)]
    blk_point [iblk, V, blocks_at t]
  · rw [dif_neg h, dif_neg (by omega)]
    by_cases h1 : (y 2).val = 128
    · rw [if_pos h1, dif_pos (by omega)]
    · rw [if_neg h1, dif_neg (by omega)]

end Cert.PrepIdeal.Latents
-- ==== Proof.PrepRun.lean ====
/- The run of the preparation, its six results named. -/
module

public import proofs.«01_k».proof.Proof.PrepQueries
public import proofs.«01_k».proof.Proof.PrepOnes

set_option maxRecDepth 16384

@[expose] public section

noncomputable section

open Idealize.ShloMosaic Idealize.ShloMosaic.TcCoe Idealize.SL.Sem
open Idealize.ShloMosaic.Pipeline (Dat)

namespace Cert.PrepIdeal.Latents
open Cert.PrepIdeal Cert.PrepIdeal.Gen

variable (m : (ℓ : Loc nD τ sig) → Buf (Elt Ideal) ℓ)

/-- The run leaves each result its array and the arguments as launched. -/
theorem run_results (ρ : Dev nD → PrngReg) : θ_run defs (onTc (τ := τ) (main (F := Ideal))) ⟨m, fun _ => 0, ρ⟩ fun r => ∀ c : Dev nD,
      r.2.mem ((c : Thread nD τ).loc main_v4_0) = (dats m 0 c).arrAt 4 cfg0.N
      ∧ r.2.mem ((c : Thread nD τ).loc main_v4_1) = (dats m 0 c).arrAt 5 cfg0.N
      ∧ r.2.mem ((c : Thread nD τ).loc main_v4_2) = (dats m 0 c).arrAt 6 cfg0.N
      ∧ r.2.mem ((c : Thread nD τ).loc main_v4_3) = (dats m 0 c).arrAt 7 cfg0.N
      ∧ r.2.mem ((c : Thread nD τ).loc main_v4_4) = (dats m 0 c).arrAt 8 cfg0.N
      ∧ r.2.mem ((c : Thread nD τ).loc main_v4_5) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 4, (h c).1 5, (h c).1 6, (h c).1 7, (h c).1 8, (h c).1 9,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.PrepIdeal.Latents
-- ==== Proof.Softmax.lean ====
module

public import Idealize.ShloMosaic.Lib.Pipeline.ValueKit

@[expose] public section

noncomputable section

open Idealize.ShloMosaic

/-! The arithmetic of a softmax at the extended reals: what a normaliser is when the scores are below `⊤`, and the two
ways of dividing by it. -/

namespace Cert.Softmax

theorem below_f32 : Ideal.ofBits .f32 0xFF800000#32 = ⊥ := by simp [Ideal.ofBits, Ideal.ieee]
theorem above_f32 : Ideal.ofBits .f32 0x7F800000#32 = ⊤ := by simp [Ideal.ofBits, Ideal.ieee]

/-- A largest along the first of three axes, as a fold over that axis. -/
theorem largest_first {n0 n1 n2 : Nat} (x : FVec Ideal ⟨3, ![n0, n1, n2]⟩ .f32) (c : FVec Ideal ⟨0, ![]⟩ .f32)
    (h : (⟨3, ![n0, n1, n2]⟩ : Shape).ReducesTo [0] ⟨2, ![n1, n2]⟩) (hu : 0 < (⟨0, ![]⟩ : Shape).numel) (i : Fin n1) (j : Fin n2) :
    Host.reduce FloatOps.maximumf x c h hu (ix2 i j)
      = (Finset.univ : Finset (Fin n0)).fold max (c (Shape.Idx.first hu)) fun k => x (ix3 k i j) := by
  pointwise

/-- A largest along the last of four axes, as a fold over that axis. -/
theorem largest_last {n0 n1 n2 n3 : Nat} (x : FVec Ideal ⟨4, ![n0, n1, n2, n3]⟩ .f32) (c : FVec Ideal ⟨0, ![]⟩ .f32)
    (h : (⟨4, ![n0, n1, n2, n3]⟩ : Shape).ReducesTo [3] ⟨3, ![n0, n1, n2]⟩) (hu : 0 < (⟨0, ![]⟩ : Shape).numel)
    (a : Fin n0) (i : Fin n1) (j : Fin n2) :
    Host.reduce FloatOps.maximumf x c h hu (ix3 a i j)
      = (Finset.univ : Finset (Fin n3)).fold max (c (Shape.Idx.first hu)) fun k => x (ix4 a i j k) := by
  pointwise

/-- A sum along the last of four axes. -/
theorem sum_last {n0 n1 n2 n3 : Nat} (x : FVec Ideal ⟨4, ![n0, n1, n2, n3]⟩ .f32)
    (h : (⟨4, ![n0, n1, n2, n3]⟩ : Shape).ReducesTo [3] ⟨3, ![n0, n1, n2]⟩) (hu : 0 < (⟨0, ![]⟩ : Shape).numel)
    (a : Fin n0) (i : Fin n1) (j : Fin n2) :
    Host.reduceAdd x (constant ⟨0, ![]⟩ .f32 0x00000000#32) h hu (ix3 a i j) = ∑ k : Fin n3, x (ix4 a i j k) := by
  pointwise

theorem fold_three (f : Fin 3 → EReal) : (Finset.univ : Finset (Fin 3)).fold max ⊥ f = max (max (f 0) (f 1)) (f 2) := by
  rw [show (Finset.univ : Finset (Fin 3)) = {0, 1, 2} from rfl]
  simp [max_assoc]

theorem div_one_real {s : ℝ} (hs : 0 < s) : Ideal.div 1 (s : EReal) = ((s⁻¹ : ℝ) : EReal) := by
  have h : (s : EReal) ≠ 0 := by exact_mod_cast hs.ne'
  unfold Ideal.div
  rw [if_neg h, one_mul, ← EReal.coe_inv]

/-- A weight divided first, or its product with the value divided afterwards. -/
theorem div_mul {s : ℝ} (hs : 0 < s) (e o : EReal) : Ideal.div e (s : EReal) * o = e * o * Ideal.div 1 (s : EReal) := by
  have h : (s : EReal) ≠ 0 := by exact_mod_cast hs.ne'
  rw [← Ideal.mul_one_div h, mul_assoc, mul_assoc, mul_comm o]

/-- Three products over one normaliser, divided together or one by one. -/
theorem three_div {s : ℝ} (hs : 0 < s) (e₁ e₂ e₃ o₁ o₂ o₃ : EReal) :
    (e₁ * o₁ + e₂ * o₂ + e₃ * o₃) * Ideal.div 1 (s : EReal)
      = Ideal.div e₁ (s : EReal) * o₁ + Ideal.div e₂ (s : EReal) * o₂ + Ideal.div e₃ (s : EReal) * o₃ := by
  rw [div_mul hs, div_mul hs, div_mul hs, div_one_real hs]
  have h0 : (0 : EReal) ≤ ((s⁻¹ : ℝ) : EReal) := by exact_mod_cast (inv_pos.mpr hs).le
  rw [EReal.right_distrib_of_nonneg_of_ne_top h0 (EReal.coe_ne_top _),
    EReal.right_distrib_of_nonneg_of_ne_top h0 (EReal.coe_ne_top _)]

/-- A sum of products times a real that is not negative, taken into the sum. -/
theorem sum_mul_real {κ : Type} (t : Finset κ) (p v : κ → EReal) {r : ℝ} (hr : 0 ≤ r) :
    (∑ k ∈ t, p k * v k) * (r : EReal) = ∑ k ∈ t, p k * (r : EReal) * v k := by
  have h0 : (0 : EReal) ≤ (r : EReal) := by exact_mod_cast hr
  classical
  induction t using Finset.induction_on with
  | empty => simp
  | insert a t ha ih =>
    rw [Finset.sum_insert ha, Finset.sum_insert ha, EReal.right_distrib_of_nonneg_of_ne_top h0 (EReal.coe_ne_top _), ih,
      mul_assoc, mul_assoc, mul_comm (v a)]

section Window
variable {ι κ : Type} [Fintype ι] [Fintype κ]

/-- The largest of the scores, when those outside a window are `⊥`, is the largest in the window. -/
theorem max_window (e : κ → ι) (f : ι → EReal) (g : κ → EReal) (hfg : ∀ k, f (e k) = g k)
    (hout : ∀ j, (∀ k, e k ≠ j) → f j = ⊥) :
    (Finset.univ : Finset ι).fold max ⊥ f = (Finset.univ : Finset κ).fold max ⊥ g := by
  show Finset.univ.sup f = Finset.univ.sup g
  apply le_antisymm
  · refine Finset.sup_le fun j _ => ?_
    by_cases h : ∃ k, e k = j
    · obtain ⟨k, rfl⟩ := h
      rw [hfg]
      exact Finset.le_sup (Finset.mem_univ k)
    · rw [hout j fun k hk => h ⟨k, hk⟩]
      exact bot_le
  · refine Finset.sup_le fun k _ => ?_
    rw [← hfg]
    exact Finset.le_sup (Finset.mem_univ (e k))

/-- With no score above `⊥` in the window there is none at all, and the largest is `⊥`. -/
theorem none_seen (e : κ → ι) (f : ι → EReal) (g : κ → EReal) (hfg : ∀ k, f (e k) = g k)
    (hout : ∀ j, (∀ k, e k ≠ j) → f j = ⊥) (hn : ∀ k, g k = ⊥) (j : ι) : f j = ⊥ := by
  by_cases h : ∃ k, e k = j
  · obtain ⟨k, rfl⟩ := h
    rw [hfg, hn]
  · exact hout j fun k hk => h ⟨k, hk⟩

theorem max_none (g : κ → EReal) (hn : ∀ k, g k = ⊥) : (Finset.univ : Finset κ).fold max ⊥ g = ⊥ :=
  le_bot_iff.mp (Finset.sup_le fun k _ => (hn k).le)

/-- A sum of terms that vanish outside a window is the sum over the window. -/
theorem sum_window (e : κ → ι) (he : Function.Injective e) (F : ι → EReal) (G : κ → EReal) (hFG : ∀ k, F (e k) = G k)
    (hout : ∀ j, (∀ k, e k ≠ j) → F j = 0) : ∑ j, F j = ∑ k, G k := by
  refine (Finset.sum_of_injOn e he.injOn (fun _ _ => Finset.mem_coe.mpr (Finset.mem_univ _)) (fun j _ hj => ?_)
    fun k _ => (hFG k).symm).symm
  exact hout j fun k hk => hj ⟨k, Finset.mem_coe.mpr (Finset.mem_univ _), hk⟩

/-- The largest of scores below `⊤`, one of which is not `⊥`, is a real. -/
theorem max_real (g : κ → EReal) (hg : ∀ k, g k ≠ ⊤) (k₀ : κ) (h₀ : g k₀ ≠ ⊥) :
    ∃ r : ℝ, (Finset.univ : Finset κ).fold max ⊥ g = (r : EReal) := by
  show ∃ r : ℝ, Finset.univ.sup g = (r : EReal)
  have hb : Finset.univ.sup g ≠ ⊥ := fun h =>
    h₀ (le_bot_iff.mp (h ▸ Finset.le_sup (f := g) (Finset.mem_univ k₀)))
  have ht : Finset.univ.sup g ≠ ⊤ := by
    obtain ⟨k, _, hk⟩ := Finset.exists_mem_eq_sup Finset.univ ⟨k₀, Finset.mem_univ k₀⟩ g
    rw [hk]
    exact hg k
  exact ⟨(Finset.univ.sup g).toReal, (EReal.coe_toReal ht hb).symm⟩

/-- A score's exponential over a real, when the score is below `⊤`: a real that is not negative. -/
theorem exp_real (x : EReal) (hx : x ≠ ⊤) (M : ℝ) : ∃ r : ℝ, 0 ≤ r ∧ Ideal.exp (x - (M : EReal)) = (r : EReal) := by
  induction x using EReal.rec with
  | bot => exact ⟨0, le_rfl, by simp⟩
  | coe x => exact ⟨Real.exp (x - M), (Real.exp_pos _).le, by rw [← EReal.coe_sub, Ideal.exp_coe]⟩
  | top => exact absurd rfl hx

/-- The normaliser of scores below `⊤`, one of which is not `⊥`, is a real above zero. -/
theorem normaliser_real (g : κ → EReal) (hg : ∀ k, g k ≠ ⊤) (k₀ : κ) (h₀ : g k₀ ≠ ⊥) (M : ℝ) :
    ∃ s : ℝ, 0 < s ∧ ∑ k, Ideal.exp (g k - (M : EReal)) = (s : EReal) := by
  choose r hr he using fun k => exp_real (g k) (hg k) M
  refine ⟨∑ k, r k, ?_, ?_⟩
  · refine Finset.sum_pos' (fun k _ => hr k) ⟨k₀, Finset.mem_univ k₀, ?_⟩
    have h := he k₀
    generalize hx : g k₀ = x at h h₀
    induction x using EReal.rec with
    | bot => exact absurd rfl h₀
    | coe x =>
      rw [← EReal.coe_sub, Ideal.exp_coe] at h
      rw [← EReal.coe_eq_coe_iff.mp h]
      exact Real.exp_pos _
    | top => exact absurd hx (hg k₀)
  · rw [Finset.sum_congr rfl fun k _ => he k]
    exact (map_sum (⟨⟨fun x : ℝ => (x : EReal), EReal.coe_zero⟩, EReal.coe_add⟩ : ℝ →+ EReal) r Finset.univ).symm

/-- The exponential of a score less the logarithm of the whole sum is its share of the normaliser. -/
theorem exp_share (x : EReal) (hx : x ≠ ⊤) (M : ℝ) {s : ℝ} (hs : 0 < s) :
    Ideal.exp (x - ((M : EReal) + Ideal.log (s : EReal))) = Ideal.exp (x - (M : EReal)) * ((s⁻¹ : ℝ) : EReal) := by
  rw [Ideal.log_coe, if_neg (not_le.mpr hs), ← EReal.coe_add]
  induction x using EReal.rec with
  | bot => simp
  | coe x =>
    rw [← EReal.coe_sub, ← EReal.coe_sub, Ideal.exp_coe, Ideal.exp_coe, ← EReal.coe_mul]
    congr 1
    rw [← sub_sub, Real.exp_sub, Real.exp_log hs, div_eq_mul_inv]
  | top => exact absurd rfl hx

/-- A windowed softmax's average: the kernel's sum over all its keys, divided by their normaliser, is the reference's sum
over the window with each weight taken against the logarithm of the sum. Values are asked to agree where the score is not
`⊥`. -/
theorem average_window (e : κ → ι) (he : Function.Injective e) (f v : ι → EReal) (g w : κ → EReal)
    (hfg : ∀ k, f (e k) = g k) (hvw : ∀ k, g k ≠ ⊥ → v (e k) = w k) (hout : ∀ j, (∀ k, e k ≠ j) → f j = ⊥)
    (hg : ∀ k, g k ≠ ⊤) :
    (∑ j, Ideal.exp (f j - Finset.univ.fold max ⊥ f) * v j)
        * Ideal.div 1 (∑ j, Ideal.exp (f j - Finset.univ.fold max ⊥ f))
      = ∑ k, Ideal.exp (g k - (Finset.univ.fold max ⊥ g
          + Ideal.log (∑ k', Ideal.exp (g k' - Finset.univ.fold max ⊥ g)))) * w k := by
  rw [max_window e f g hfg hout]
  by_cases hn : ∀ k, g k = ⊥
  · have hf := none_seen e f g hfg hout hn
    simp [hf, hn, max_none g hn]
  push Not at hn
  obtain ⟨k₀, h₀⟩ := hn
  obtain ⟨M, hM⟩ := max_real g hg k₀ h₀
  rw [hM]
  obtain ⟨s, hs, hsum⟩ := normaliser_real g hg k₀ h₀ M
  rw [sum_window e he (fun j => Ideal.exp (f j - (M : EReal))) (fun k => Ideal.exp (g k - (M : EReal)))
      (fun k => by rw [hfg]) (fun j hj => by rw [hout j hj]; simp), hsum,
    sum_window e he (fun j => Ideal.exp (f j - (M : EReal)) * v j) (fun k => Ideal.exp (g k - (M : EReal)) * w k)
      (fun k => by
        by_cases hk : g k = ⊥
        · rw [hfg, hk]; simp
        · rw [hfg, hvw k hk]) (fun j hj => by rw [hout j hj]; simp),
    div_one_real hs, sum_mul_real _ _ _ (inv_pos.mpr hs).le]
  exact Finset.sum_congr rfl fun k _ => by rw [exp_share (g k) (hg k) M hs]

/-- The logarithm of the whole sum is the same over all the kernel's keys and over the window. -/
theorem log_window (e : κ → ι) (he : Function.Injective e) (f : ι → EReal) (g : κ → EReal) (hfg : ∀ k, f (e k) = g k)
    (hout : ∀ j, (∀ k, e k ≠ j) → f j = ⊥) (hg : ∀ k, g k ≠ ⊤) :
    Finset.univ.fold max ⊥ f + Ideal.log (∑ j, Ideal.exp (f j - Finset.univ.fold max ⊥ f))
      = Finset.univ.fold max ⊥ g + Ideal.log (∑ k, Ideal.exp (g k - Finset.univ.fold max ⊥ g)) := by
  rw [max_window e f g hfg hout]
  by_cases hn : ∀ k, g k = ⊥
  · rw [max_none g hn, EReal.bot_add, EReal.bot_add]
  push Not at hn
  obtain ⟨k₀, h₀⟩ := hn
  obtain ⟨M, hM⟩ := max_real g hg k₀ h₀
  rw [hM, sum_window e he (fun j => Ideal.exp (f j - (M : EReal))) (fun k => Ideal.exp (g k - (M : EReal)))
      (fun k => by rw [hfg]) (fun j hj => by rw [hout j hj]; simp)]

end Window

/-- Three groups: the kernel's sum over one normaliser is the reference's sum of shares, when the largest score is a real. -/
theorem three_average (l o : Fin 3 → EReal) (hb : (⊥ : EReal) < max (max (l 0) (l 1)) (l 2))
    (ht : max (max (l 0) (l 1)) (l 2) < ⊤) :
    (Ideal.exp (l 0 - max (max (l 0) (l 1)) (l 2)) * o 0 + Ideal.exp (l 1 - max (max (l 0) (l 1)) (l 2)) * o 1
          + Ideal.exp (l 2 - max (max (l 0) (l 1)) (l 2)) * o 2)
        * Ideal.div 1 (Ideal.exp (l 0 - max (max (l 0) (l 1)) (l 2)) + Ideal.exp (l 1 - max (max (l 0) (l 1)) (l 2))
          + Ideal.exp (l 2 - max (max (l 0) (l 1)) (l 2)))
      = ∑ k, Ideal.div (Ideal.exp (l k - max (max (l 0) (l 1)) (l 2)))
          (∑ k', Ideal.exp (l k' - max (max (l 0) (l 1)) (l 2))) * o k := by
  have hl : ∀ k, l k ≠ ⊤ := fun k hk => absurd ht (not_lt.mpr (by
    fin_cases k <;> simp_all))
  obtain ⟨k₀, h₀⟩ : ∃ k, l k ≠ ⊥ := by
    by_contra hn
    push Not at hn
    rw [hn 0, hn 1, hn 2] at hb
    simp at hb
  generalize hM : max (max (l 0) (l 1)) (l 2) = M at hb ht ⊢
  lift M to ℝ using ⟨ht.ne, hb.ne'⟩
  obtain ⟨s, hs, hsum⟩ := normaliser_real l hl k₀ h₀ M
  rw [hsum]
  rw [Fin.sum_univ_three] at hsum ⊢
  rw [hsum, three_div hs]

end Cert.Softmax
-- ==== Proof.MergeValue.lean ====
module

public import proofs.«01_k».proof.Proof.Gen.MergeIdeal.Frame
public import proofs.«01_k».proof.Proof.Gen.MergeRefIdeal.Run
public import proofs.«01_k».proof.Proof.Softmax

set_option maxRecDepth 16384

@[expose] public section

noncomputable section

open Idealize.ShloMosaic Idealize.ShloMosaic.TcCoe Idealize.SL.Sem
open Idealize.ShloMosaic.Pipeline (Dat)

namespace Cert.MergeIdeal.Groups

section Reference
open Cert.MergeRefIdeal Cert.MergeRefIdeal.Gen

/-- Three groups' arrays, stacked. -/
def stack (x y z : FVec Ideal S32768x512 .f32) : FVec Ideal S3x32768x512 .f32 :=
  concatenate S3x32768x512 0 [⟨S1x32768x512, ((broadcastInDim S1x32768x512 ![1, 2] bcast_S32768x512_S1x32768x512_1_2 x) : (⟨S1x32768x512, .f32⟩ : BufTy).Contents (Elt Ideal))⟩, ⟨S1x32768x512, ((broadcastInDim S1x32768x512 ![1, 2] bcast_S32768x512_S1x32768x512_1_2 y) : (⟨S1x32768x512, .f32⟩ : BufTy).Contents (Elt Ideal))⟩, ⟨S1x32768x512, ((broadcastInDim S1x32768x512 ![1, 2] bcast_S32768x512_S1x32768x512_1_2 z) : (⟨S1x32768x512, .f32⟩ : BufTy).Contents (Elt Ideal))⟩] concatenates_S1x32768x512_S1x32768x512_S1x32768x512_S3x32768x512_d0

/-- The largest of the three, at every place. -/
def top (L : FVec Ideal S3x32768x512 .f32) : FVec Ideal S32768x512 .f32 :=
  maximumf (broadcastInDim S32768x512 ![] bcast_S_S32768x512 (constant S_ .f32 0xFF800000#32)) (Host.reduce FloatOps.maximumf L (constant S_ .f32 0xFF800000#32) reducesTo_S3x32768x512_S32768x512_d0 h_S_)

/-- The exponentials over the largest. -/
def powers (L : FVec Ideal S3x32768x512 .f32) : FVec Ideal S3x32768x512 .f32 :=
  Host.exp (subf L (broadcastInDim S3x32768x512 ![0, 1, 2] bcast_S1x32768x512_S3x32768x512_0_1_2 (broadcastInDim S1x32768x512 ![1, 2] bcast_S32768x512_S1x32768x512_1_2 (top L))))

/-- The sum over the groups. -/
def total (P : FVec Ideal S3x32768x512 .f32) : FVec Ideal S32768x512 .f32 :=
  Host.reduceAdd P (constant S_ .f32 0x00000000#32) reducesTo_S3x32768x512_S32768x512_d0 h_S_

/-- The groups' average by the weights `P`, over their normaliser. -/
def weighted (P O : FVec Ideal S3x32768x512 .f32) : FVec Ideal S32768x512 .f32 :=
  total (mulf (Host.divf P (broadcastInDim S3x32768x512 ![0, 1, 2] bcast_S1x32768x512_S3x32768x512_0_1_2 (broadcastInDim S1x32768x512 ![1, 2] bcast_S32768x512_S1x32768x512_1_2 (total P)))) O)

/-- The reference's softmax over the groups, and the groups' average by its weights. -/
def average (o₁ o₂ o₃ l₁ l₂ l₃ : FVec Ideal S32768x512 .f32) : FVec Ideal S32768x512 .f32 :=
  weighted (powers (stack l₁ l₂ l₃)) (stack o₁ o₂ o₃)

/-- The residual stream plus the three gated branches through the output weight, from the average already made. -/
def gatedSum (X : FVec Ideal S32768x1024 .f32) (A B : FVec Ideal S32768x2048 .bf16) (Y : FVec Ideal S32768x512 .f32)
    (G : FVec Ideal S32768x3072 .f32) (Wa Wb : FVec Ideal S2048x1024 .f32) (Wc : FVec Ideal S512x1024 .f32)
    (Wo : FVec Ideal S1024x1024 .f32) : FVec Ideal S32768x1024 .f32 :=
  addf X (Host.dotGeneral dot_S32768x1024_S1024x1024_S32768x1024_1_0_0_1_n_n none (addf (addf (mulf (Host.divf (broadcastInDim S32768x1024 ![] bcast_S_S32768x1024 (constant S_ .f32 0x3F800000#32)) (addf (broadcastInDim S32768x1024 ![] bcast_S_S32768x1024 (constant S_ .f32 0x3F800000#32)) (Host.exp (Host.negf (extractStridedSlice S32768x1024 ![0, 0] G slices_S32768x3072_S32768x1024_0_0))))) (Host.dotGeneral dot_S32768x2048_S2048x1024_S32768x1024_1_0_0_1_n_n none (extf .f32 A bitsLt_bf16_f32) Wa)) (mulf (Host.divf (broadcastInDim S32768x1024 ![] bcast_S_S32768x1024 (constant S_ .f32 0x3F800000#32)) (addf (broadcastInDim S32768x1024 ![] bcast_S_S32768x1024 (constant S_ .f32 0x3F800000#32)) (Host.exp (Host.negf (extractStridedSlice S32768x1024 ![0, 1024] G slices_S32768x3072_S32768x1024_0_1024))))) (Host.dotGeneral dot_S32768x2048_S2048x1024_S32768x1024_1_0_0_1_n_n none (extf .f32 B bitsLt_bf16_f32) Wb))) (mulf (Host.divf (broadcastInDim S32768x1024 ![] bcast_S_S32768x1024 (constant S_ .f32 0x3F800000#32)) (addf (broadcastInDim S32768x1024 ![] bcast_S_S32768x1024 (constant S_ .f32 0x3F800000#32)) (Host.exp (Host.negf (extractStridedSlice S32768x1024 ![0, 2048] G slices_S32768x3072_S32768x1024_0_2048))))) (Host.dotGeneral dot_S32768x512_S512x1024_S32768x1024_1_0_0_1_n_n none Y Wc))) Wo)

/-- One group of the stack. -/
theorem stack_at (x y z : FVec Ideal S32768x512 .f32) (k : Fin 3) (i : Fin 32768) (j : Fin 512) :
    stack x y z (ix3 k i j) = ![x (ix2 i j), y (ix2 i j), z (ix2 i j)] k := by
  pointwise [stack]
  fin_cases k <;> rfl

/-- The reduction by the largest, at one place. -/
theorem largest_at (L : FVec Ideal S3x32768x512 .f32) (c : FVec Ideal S_ .f32) (i : Fin 32768) (j : Fin 512) :
    Host.reduce FloatOps.maximumf L c reducesTo_S3x32768x512_S32768x512_d0 h_S_ (ix2 i j)
      = (Finset.univ : Finset (Fin 3)).fold max (c (Shape.Idx.first h_S_)) fun k => L (ix3 k i j) :=
  Cert.Softmax.largest_first L c reducesTo_S3x32768x512_S32768x512_d0 h_S_ i j

theorem maximum_at {s : Shape} (a b : FVec Ideal s .f32) (y : s.Idx) : maximumf a b y = max (a y) (b y) := by
  pointwise

theorem lowest_at (y) : (broadcastInDim S32768x512 ![] bcast_S_S32768x512 (constant S_ .f32 0xFF800000#32) : FVec Ideal S32768x512 .f32) y = ⊥ := by
  pointwise
  exact Cert.Softmax.below_f32

theorem lowest_first : (constant S_ .f32 0xFF800000#32 : FVec Ideal S_ .f32) (Shape.Idx.first h_S_) = ⊥ := by
  pointwise
  exact Cert.Softmax.below_f32

theorem top_at (L : FVec Ideal S3x32768x512 .f32) (i j) :
    top L (ix2 i j) = max (max (L (ix3 0 i j)) (L (ix3 1 i j))) (L (ix3 2 i j)) := by
  unfold top
  rw [maximum_at, lowest_at, largest_at, lowest_first, Cert.Softmax.fold_three]
  exact max_eq_right bot_le

theorem powers_at (L : FVec Ideal S3x32768x512 .f32) (k i j) :
    powers L (ix3 k i j) = Ideal.exp (L (ix3 k i j) - top L (ix2 i j)) := by
  pointwise [powers]

theorem total_at (L : FVec Ideal S3x32768x512 .f32) (i j) : total L (ix2 i j) = ∑ k, L (ix3 k i j) := by
  pointwise [total]

theorem weighted_at (P O : FVec Ideal S3x32768x512 .f32) (i j) :
    weighted P O (ix2 i j) = ∑ k, Ideal.div (P (ix3 k i j)) (∑ k', P (ix3 k' i j)) * O (ix3 k i j) := by
  pointwise [weighted, total_at]

/-- The kernel's average: the sum over the groups, over one normaliser. -/
def mixed (o₁ o₂ o₃ l₁ l₂ l₃ : FVec Ideal S32768x512 .f32) : FVec Ideal S32768x512 .f32 := fun y =>
  let M := max (max (l₁ y) (l₂ y)) (l₃ y)
  (Ideal.exp (l₁ y - M) * o₁ y + Ideal.exp (l₂ y - M) * o₂ y + Ideal.exp (l₃ y - M) * o₃ y)
    * Ideal.div 1 (Ideal.exp (l₁ y - M) + Ideal.exp (l₂ y - M) + Ideal.exp (l₃ y - M))

/-- The largest of three arrays, place by place. -/
def largest (l₁ l₂ l₃ : FVec Ideal S32768x512 .f32) : FVec Ideal S32768x512 .f32 := fun y => max (max (l₁ y) (l₂ y)) (l₃ y)

/-- It is the reference's average wherever the largest of the three is a real. -/
theorem mixed_eq (o₁ o₂ o₃ l₁ l₂ l₃ : FVec Ideal S32768x512 .f32)
    (hb : ∀ y, (⊥ : EReal) < max (max (l₁ y) (l₂ y)) (l₃ y)) (ht : ∀ y, max (max (l₁ y) (l₂ y)) (l₃ y) < (⊤ : EReal)) :
    mixed o₁ o₂ o₃ l₁ l₂ l₃ = average o₁ o₂ o₃ l₁ l₂ l₃ := by
  have at_place : ∀ (i : Fin 32768) (j : Fin 512),
      mixed o₁ o₂ o₃ l₁ l₂ l₃ (ix2 i j) = weighted (powers (stack l₁ l₂ l₃)) (stack o₁ o₂ o₃) (ix2 i j) := by
    intro i j
    rw [weighted_at]
    simp only [powers_at, top_at, stack_at]
    exact Cert.Softmax.three_average ![l₁ (ix2 i j), l₂ (ix2 i j), l₃ (ix2 i j)]
      ![o₁ (ix2 i j), o₂ (ix2 i j), o₃ (ix2 i j)] (hb (ix2 i j)) (ht (ix2 i j))
  funext y
  rw [show y = ix2 (y 0) (y 1) from by ext a; fin_cases a <;> rfl]
  exact at_place (y 0) (y 1)

end Reference

open Cert.MergeIdeal Cert.MergeIdeal.Gen

theorem zero_minus (x : EReal) : 0 - x = -x := by rw [sub_eq_add_neg, zero_add]

variable (m : (ℓ : Loc nD τ sig) → Buf (Elt Ideal) ℓ)

/-- Which block each window is on at every point: rows `t`, the gates' three windows on their own columns, the weights
whole. -/
theorem blocks_at : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0]
    ∧ win0_8.index t = ![t.val, 0] ∧ win0_9.index t = ![t.val, 0] ∧ win0_10.index t = ![t.val, 1]
    ∧ win0_11.index t = ![t.val, 2] ∧ win0_12.index t = ![0, 0] ∧ win0_13.index t = ![0, 0]
    ∧ win0_14.index t = ![0, 0] ∧ win0_15.index t = ![0, 0] ∧ win0_16.index t = ![t.val, 0] :=
  (by decide +kernel : ∀ t : Fin grid0.N, _)

/-- The average a point makes, as the rows of `mixed` that its block has. -/
theorem mixed_block (c : Dev nD) (t : Fin cfg0.N) :
    k0_pay3 (iblk m c 6 t) (iblk m c 7 t) (iblk m c 8 t) (iblk m c 3 t) (iblk m c 4 t) (iblk m c 5 t)
      = fun z => mixed (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (((cfg0.win 3).blk t).view.emb z) := by
  funext z
  pointwise [k0_pay3, mixed]
  blk_point [iblk, V, blocks_at t]

/-- One entry of a stored block is the reference's entry at the place the block has in the array, `Y` the average. -/
theorem entry_at (c : Dev nD) (t : Fin cfg0.N) (Y : FVec Ideal Cert.MergeRefIdeal.S32768x512 .f32) (y) :
    k0_pay4 (k0_pay1 (iblk m c 1 t) (iblk m c 12 t)) (k0_pay2 (iblk m c 2 t) (iblk m c 13 t))
        (fun z => Y (((cfg0.win 3).blk t).view.emb z)) (iblk m c 14 t) (iblk m c 9 t) (iblk m c 10 t) (iblk m c 11 t)
        (iblk m c 0 t) (iblk m c 15 t) y
      = gatedSum (m ((c : Thread nD τ).loc main_arg0)) (m ((c : Thread nD τ).loc main_arg1))
          (m ((c : Thread nD τ).loc main_arg2)) Y (m ((c : Thread nD τ).loc main_arg9)) (m ((c : Thread nD τ).loc main_arg10))
          (m ((c : Thread nD τ).loc main_arg11)) (m ((c : Thread nD τ).loc main_arg12))
          (m ((c : Thread nD τ).loc main_arg13)) (((cfg0.win 16).blk t).view.emb y) := by
  pointwise [k0_pay1, k0_pay2, k0_pay4, gatedSum, zero_minus]
  blk_point [iblk, V, blocks_at t]

/-- The result array after the run. -/
theorem result_array (c : Dev nD)
    (hb : ∀ y, (⊥ : EReal) < largest (m ((c : Thread nD τ).loc main_arg6)) (m ((c : Thread nD τ).loc main_arg7))
      (m ((c : Thread nD τ).loc main_arg8)) y)
    (ht : ∀ y, largest (m ((c : Thread nD τ).loc main_arg6)) (m ((c : Thread nD τ).loc main_arg7))
      (m ((c : Thread nD τ).loc main_arg8)) y < (⊤ : EReal)) :
    (dats m 0 c).arrAt 16 (cfgs 0).N
      = gatedSum (m ((c : Thread nD τ).loc main_arg0)) (m ((c : Thread nD τ).loc main_arg1))
          (m ((c : Thread nD τ).loc main_arg2))
          (average (m ((c : Thread nD τ).loc main_arg3)) (m ((c : Thread nD τ).loc main_arg4))
            (m ((c : Thread nD τ).loc main_arg5)) (m ((c : Thread nD τ).loc main_arg6)) (m ((c : Thread nD τ).loc main_arg7))
            (m ((c : Thread nD τ).loc main_arg8)))
          (m ((c : Thread nD τ).loc main_arg9)) (m ((c : Thread nD τ).loc main_arg10))
          (m ((c : Thread nD τ).loc main_arg11)) (m ((c : Thread nD τ).loc main_arg12))
          (m ((c : Thread nD τ).loc main_arg13)) := by
  rw [← mixed_eq _ _ _ _ _ _ hb ht]
  refine (dats m 0 c).arrAt_eq_of_covers 16 _ (by decide +kernel) fun t _ y => ?_
  blk_simp
  rw [after0_16]
  frame_out
  rw [mixed_block]
  exact entry_at m c t _ y

end Cert.MergeIdeal.Groups
-- ==== Proof.MergeCondition.lean ====
/- What the condition of the branches' merge says: the largest of the three groups' normalisers is a real everywhere. -/
module

public import proofs.«01_k».proof.Defs
public import proofs.«01_k».proof.Proof.MergeValue

set_option maxRecDepth 16384

@[expose] public section

noncomputable section

open Idealize.ShloMosaic Idealize.ShloMosaic.TcCoe Idealize.SL.Sem

namespace Cert.MergeIdeal.Groups

theorem bit_is_one (p : Bool) (h : BitVec.ofBool p = 1#1) : p = true := by
  cases p
  · exact absurd h (by decide)
  · rfl

theorem above_of_ones {s : Shape} {φ : FTy} (x y : FVec Ideal s φ) (h : cmpf .ogt x y = fun _ => 1#1) (i : s.Idx) : y i < x i := by
  have e : Ideal.cmp .ogt (x i) (y i) = 1#1 := congrFun h i
  exact of_decide_eq_true (bit_is_one _ e)

theorem below_of_ones {s : Shape} {φ : FTy} (x y : FVec Ideal s φ) (h : cmpf .olt x y = fun _ => 1#1) (i : s.Idx) : x i < y i := by
  have e : Ideal.cmp .olt (x i) (y i) = 1#1 := congrFun h i
  exact of_decide_eq_true (bit_is_one _ e)

variable [Cert.Pre_groups_finite.Facts] (m : (ℓ : Loc nD τ sig) → Buf (Elt Ideal) ℓ)

open Cert.MergeIdeal

theorem largest_above (h : Cert.Pre_MergeIdeal_groups_finite m) (c : Dev nD) (y) :
    (⊥ : EReal) < largest (m ((c : Thread nD τ).loc main_arg6)) (m ((c : Thread nD τ).loc main_arg7))
      (m ((c : Thread nD τ).loc main_arg8)) y := by
  have e := above_of_ones _ _ (h c).1 y
  rw [maximum_at, maximum_at] at e
  exact lt_of_le_of_lt bot_le e

theorem largest_below (h : Cert.Pre_MergeIdeal_groups_finite m) (c : Dev nD) (y) :
    largest (m ((c : Thread nD τ).loc main_arg6)) (m ((c : Thread nD τ).loc main_arg7))
      (m ((c : Thread nD τ).loc main_arg8)) y < (⊤ : EReal) := by
  have e := below_of_ones _ _ (h c).2 y
  rw [maximum_at, maximum_at] at e
  exact lt_of_lt_of_le e le_top

end Cert.MergeIdeal.Groups

namespace Cert.MergeRefIdeal.Groups
open Cert.MergeRefIdeal Cert.MergeIdeal.Groups

/-- The reference's result, by the names of the value. -/
theorem result_named (m : (ℓ : Loc nD τ sig) → Buf (Elt Ideal) ℓ) (c : Dev nD) :
    Cert.MergeRefIdeal.Value.res_main_v53 m c
      = gatedSum (m ((c : Thread nD τ).loc main_arg0)) (m ((c : Thread nD τ).loc main_arg1)) (m ((c : Thread nD τ).loc main_arg2))
          (average (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8)))
          (m ((c : Thread nD τ).loc main_arg9)) (m ((c : Thread nD τ).loc main_arg10)) (m ((c : Thread nD τ).loc main_arg11))
          (m ((c : Thread nD τ).loc main_arg12)) (m ((c : Thread nD τ).loc main_arg13)) := rfl

end Cert.MergeRefIdeal.Groups
-- ==== Proof.DilRun.lean ====
/- The dilated attention's run: its two results are what the second region leaves, from the bias the first region leaves. -/
module

public import proofs.«01_k».proof.Proof.Gen.DilIdeal.Frame
public import Idealize.ShloMosaic.Lib.Pipeline.ValueKit

set_option maxRecDepth 16384

@[expose] public section

noncomputable section

namespace Cert.DilIdeal.Window
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg cellOf)
open Cert.DilIdeal Cert.DilIdeal.Gen

variable (m : (ℓ : Loc nD τ sig) → Buf (Elt Ideal) ℓ) (ρ : Dev nD → PrngReg)

set_option backward.isDefEq.respectTransparency.types false in
/-- Both regions run one after the other; the results are the second region's output arrays. -/
theorem run_results : θ_run defs (onTc (τ := τ) (main (F := Ideal))) ⟨m, fun _ => 0, ρ⟩ (fun r => ∀ c : Dev nD,
      r.2.mem ((c.tc : Thread nD τ).loc main_v1_0) = (dat1 (V1 m ρ) c).arrAt 6 cfg1.N
      ∧ r.2.mem ((c.tc : Thread nD τ).loc main_v1_1) = (dat1 (V1 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz c =>
      ⟨(h c _ (mem_uc main_v1_0 (by decide))).trans (W2_arr m ρ c 6),
       (h c _ (mem_uc main_v1_1 (by decide))).trans (W2_arr m ρ c 7),
       (h c _ (mem_uc main_arg0 (by decide))).trans (W2_main_arg0 m ρ c),
       (h c _ (mem_uc main_arg1 (by decide))).trans (W2_main_arg1 m ρ c)⟩)

/-- The second region reads the first argument as launched, -/
theorem entry_qkv (c : Dev nD) : V1 m ρ c main_arg0 = m ((c : Thread nD τ).loc main_arg0) := W1_args m ρ c main_arg0 (by decide)

/-- and the bias the first region leaves. -/
theorem entry_bias (c : Dev nD) : V1 m ρ c main_v0 = (dat0 (V0 m ρ) c).arrAt 1 cfg0.N := W1_arr m ρ c 1

end Cert.DilIdeal.Window
-- ==== Proof.DilHeads.lean ====
/- One head of the dilated attention's block, at an index. -/
module

public import proofs.«01_k».proof.Proof.Gen.DilIdeal.Frame
public import proofs.«01_k».proof.Proof.Softmax
public import Idealize.ShloMosaic.Lib.Pipeline.ReadBack

set_option maxRecDepth 16384

@[expose] public section

noncomputable section

open Idealize.ShloMosaic Idealize.ShloMosaic.TcCoe Idealize.SL.Sem

namespace Cert.DilIdeal.Window
open Cert.DilIdeal Cert.DilIdeal.Gen

/-- The column of a head's lane. -/
def col (h : Fin 8) (d : Fin 64) : Fin 512 := ⟨64 * h.val + d.val, by omega⟩

/-- The head of a column. -/
def head (e : Fin 512) : Fin 8 := ⟨e.val / 64, by omega⟩

theorem head_col (h : Fin 8) (d : Fin 64) : head (col h d) = h := Fin.ext (by simp only [head, col]; omega)

/-- The columns as the slices spell them. -/
theorem cols (d : Fin 64) :
    (∀ h, (⟨d.val, h⟩ : Fin 512) = col 0 d) ∧ (∀ h, (⟨64 + d.val, h⟩ : Fin 512) = col 1 d) ∧ (∀ h, (⟨128 + d.val, h⟩ : Fin 512) = col 2 d)
    ∧ (∀ h, (⟨192 + d.val, h⟩ : Fin 512) = col 3 d) ∧ (∀ h, (⟨256 + d.val, h⟩ : Fin 512) = col 4 d)
    ∧ (∀ h, (⟨320 + d.val, h⟩ : Fin 512) = col 5 d) ∧ (∀ h, (⟨384 + d.val, h⟩ : Fin 512) = col 6 d)
    ∧ (∀ h, (⟨448 + d.val, h⟩ : Fin 512) = col 7 d) := by
  refine ⟨?_, fun _ => rfl, fun _ => rfl, fun _ => rfl, fun _ => rfl, fun _ => rfl, fun _ => rfl, fun _ => rfl⟩
  intro h
  exact Fin.ext (by simp [col])

/-- A head's score of query `i` and key `j` in the block. -/
def score (h : Fin 8) (q : FVec Ideal S128x512 .bf16) (k : FVec Ideal S256x512 .bf16) (b : Vec Ideal S1x8x128x256 .f32)
    (i : Fin 128) (j : Fin 256) : EReal :=
  (∑ d : Fin 64, q (ix2 i (col h d)) * k (ix2 j (col h d))) * Ideal.ofBits .f32 0x3E000000#32 + b (ix4 0 h i j)

/-- The average of `v` by the exponentials of the scores, over their sum. -/
def averaged {n : Nat} (f v : Fin n → EReal) : EReal :=
  (∑ j, Ideal.exp (f j - Finset.univ.fold max ⊥ f) * v j)
        * Ideal.div 1 (∑ j, Ideal.exp (f j - Finset.univ.fold max ⊥ f))

/-- The logarithm of the sum of the exponentials. -/
def logSum {n : Nat} (f : Fin n → EReal) : EReal :=
  Finset.univ.fold max ⊥ f + Ideal.log (∑ j, Ideal.exp (f j - Finset.univ.fold max ⊥ f))

/-- What the body leaves of the averages, -/
def outAt (q : FVec Ideal S128x512 .bf16) (k v : FVec Ideal S256x512 .bf16) (b : Vec Ideal S1x8x128x256 .f32)
    (y : S1x128x512.Idx) : EReal :=
  averaged (score (head (y 2)) q k b (y 1)) fun j => v (ix2 j (y 2))

/-- and of the logarithms. -/
def logAt (q : FVec Ideal S128x512 .bf16) (k : FVec Ideal S256x512 .bf16) (b : Vec Ideal S1x8x128x256 .f32)
    (y : S1x128x512.Idx) : EReal :=
  logSum (score (head (y 2)) q k b (y 1))

theorem outAt_col (q k v b) (i : Fin 128) (h : Fin 8) (d : Fin 64) :
    outAt q k v b (ix3 0 i (col h d)) = averaged (score h q k b i) fun j => v (ix2 j (col h d)) := by
  show averaged (score (head (col h d)) q k b i) (fun j => v (ix2 j (col h d))) = _
  rw [head_col]

theorem logAt_col (q k b) (i : Fin 128) (h : Fin 8) (d : Fin 64) :
    logAt q k b (ix3 0 i (col h d)) = logSum (score h q k b i) := by
  show logSum (score (head (col h d)) q k b i) = _
  rw [head_col]

/-- A head's store, at the block's indices. -/
theorem stored (h : Fin 8) (G : S1x128x512.Idx → EReal) (p : FVec Ideal S1x128x64 .f32)
    (inb : ∀ a, (![0, 0, 64 * h.val] : Fin 3 → Nat) a + S1x128x64.size a ≤ S1x128x512.size a)
    (hp : ∀ i d, p (ix3 0 i d) = G (ix3 0 i (col h d))) (x : S1x128x64.Idx) :
    p x = G ((Rect.unit (s := S1x128x512) ![0, 0, 64 * h.val] S1x128x64.size inb).emb x) := by
  have e : (Rect.unit (s := S1x128x512) ![0, 0, 64 * h.val] S1x128x64.size inb).emb x = ix3 0 (x 1) (col h (x 2)) := by
    funext a
    fin_cases a
    · exact Subsingleton.elim (α := Fin 1) _ _
    · exact Fin.ext (by show 0 + 1 * (x 1).val = (x 1).val; omega)
    · exact Fin.ext (by show 64 * h.val + 1 * (x 2).val = 64 * h.val + (x 2).val; omega)
  have e' : x = ix3 0 (x 1) (x 2) := by
    funext a
    fin_cases a
    · exact Subsingleton.elim (α := Fin 1) _ _
    · rfl
    · rfl
  rw [e]
  exact (congrArg p e').trans (hp (x 1) (x 2))

theorem in_head (h : Fin 8) (a : Fin 3) : (![0, 0, 64 * h.val] : Fin 3 → Nat) a + S1x128x64.size a ≤ S1x128x512.size a := by
  fin_cases a
  · exact Nat.le_refl 1
  · exact Nat.le_refl 128
  · show 64 * h.val + 64 ≤ 512
    omega

theorem whole (x : Vec Ideal S1x128x512 .bf16) : View.ld x r1_0 = x :=
  View.ld_unit_zero (S := S1x128x512) (by decide) _ x

theorem out_block (x0 x1 x2 x3 x4 x5) (y : S1x128x512.Idx) :
    out1_6 (F := Ideal) x0 x1 x2 x3 x4 x5 y = outAt (k1_pay2 x0) (k1_pay3 x2 x1) (k1_pay4 x4 x3) x5 y := by
  unfold_out out1_6
  simp only [whole]
  refine View.canon_apply_of_pieces (Val := Elt Ideal) (e := .f32) (outAt (k1_pay2 x0) (k1_pay3 x2 x1) (k1_pay4 x4 x3) x5) _ ?_ y
    (cover1_6 _ _ _ _ _ _ _ _ y)
  refine View.PiecesOf.mem ⟨stored 7 _ _ (in_head 7) ?_, stored 6 _ _ (in_head 6) ?_, stored 5 _ _ (in_head 5) ?_, stored 4 _ _ (in_head 4) ?_, stored 3 _ _ (in_head 3) ?_,
    stored 2 _ _ (in_head 2) ?_, stored 1 _ _ (in_head 1) ?_, stored 0 _ _ (in_head 0) ?_, trivial⟩
  all_goals
    intro i d
    rw [outAt_col]
    pointwise [k1_pay57, k1_pay56, k1_pay55, k1_pay54, k1_pay53, k1_pay51, k1_pay50, k1_pay49, k1_pay48, k1_pay47, k1_pay46,
      k1_pay45, k1_pay43, k1_pay42, k1_pay41, k1_pay40, k1_pay39, k1_pay37, k1_pay36, k1_pay35, k1_pay34, k1_pay33, k1_pay32,
      k1_pay30, k1_pay29, k1_pay28, k1_pay27, k1_pay26, k1_pay24, k1_pay23, k1_pay22, k1_pay21, k1_pay20, k1_pay17, k1_pay16,
      k1_pay15, k1_pay14, k1_pay13, k1_pay11, k1_pay10, k1_pay9, k1_pay8, k1_pay7, k1_pay6, k1_pay5]
    simp only [Softmax.below_f32]
    simp only [cols, averaged, logSum, score]
    try rfl

theorem log_block (x0 x1 x2 x3 x4 x5) (y : S1x128x512.Idx) :
    out1_7 (F := Ideal) x0 x1 x2 x3 x4 x5 y = logAt (k1_pay2 x0) (k1_pay3 x2 x1) x5 y := by
  unfold_out out1_7
  simp only [whole]
  refine View.canon_apply_of_pieces (Val := Elt Ideal) (e := .f32) (logAt (k1_pay2 x0) (k1_pay3 x2 x1) x5) _ ?_ y
    (cover1_7 _ _ _ _ _ _ _ _ y)
  refine View.PiecesOf.mem ⟨stored 7 _ _ (in_head 7) ?_, stored 6 _ _ (in_head 6) ?_, stored 5 _ _ (in_head 5) ?_, stored 4 _ _ (in_head 4) ?_, stored 3 _ _ (in_head 3) ?_,
    stored 2 _ _ (in_head 2) ?_, stored 1 _ _ (in_head 1) ?_, stored 0 _ _ (in_head 0) ?_, trivial⟩
  all_goals
    intro i d
    rw [logAt_col]
    pointwise [k1_pay1, k1_pay58, k1_pay54, k1_pay52, k1_pay46, k1_pay48, k1_pay44, k1_pay40, k1_pay41, k1_pay38, k1_pay32,
      k1_pay31, k1_pay25, k1_pay19, k1_pay18, k1_pay14, k1_pay12, k1_pay8, k1_pay6, k1_pay57, k1_pay56, k1_pay55, k1_pay53,
      k1_pay51, k1_pay50, k1_pay49, k1_pay47, k1_pay45, k1_pay43, k1_pay42, k1_pay39, k1_pay37, k1_pay36, k1_pay35, k1_pay34,
      k1_pay33, k1_pay30, k1_pay29, k1_pay28, k1_pay27, k1_pay26, k1_pay24, k1_pay23, k1_pay22, k1_pay21, k1_pay20, k1_pay17,
      k1_pay16, k1_pay15, k1_pay13, k1_pay11, k1_pay10, k1_pay9, k1_pay7, k1_pay5]
    simp only [Softmax.below_f32]
    simp only [cols, averaged, logSum, score]
    try rfl

end Cert.DilIdeal.Window
-- ==== Proof.DilBlocks.lean ====
/- What the dilated attention's second region reads at a point, by its array. -/
module

public import proofs.«01_k».proof.Proof.DilHeads
public import Idealize.ShloMosaic.Lib.Pipeline.ValueKit

set_option maxRecDepth 16384

@[expose] public section

noncomputable section

open Idealize.ShloMosaic Idealize.ShloMosaic.TcCoe Idealize.SL.Sem

namespace Cert.DilIdeal.Window
open Cert.DilIdeal Cert.DilIdeal.Gen

variable (V : (c : Dev nD) → (b : Ref sig .tc) → Buf (Elt Ideal) ((c : Thread nD τ).loc b))

/-- Which block each window is on at every point: the batch is `t / 128`, the row block `t % 128`, the row block before it
held at the first, and the bias's first array for the first row block alone. -/
theorem blocks1_at : ∀ t : Fin cfg1.N, win1_0.index t = ![t.val / 128, t.val % 128, 0] ∧ win1_1.index t = ![t.val / 128, t.val % 128, 1]
    ∧ win1_2.index t = ![t.val / 128, t.val % 128 - 1, 1] ∧ win1_3.index t = ![t.val / 128, t.val % 128, 2]
    ∧ win1_4.index t = ![t.val / 128, t.val % 128 - 1, 2] ∧ win1_5.index t = ![min (t.val % 128) 1, 0, 0, 0]
    ∧ win1_6.index t = ![t.val / 128, t.val % 128, 0] ∧ win1_7.index t = ![t.val / 128, t.val % 128, 0] :=
  (by decide +kernel : ∀ t : Fin grid1.N, _)

/-- The position of a row block's key. -/
def keyAt (n : Fin 128) (j : Fin 256) : Fin 16384 :=
  if j.val < 128 then ⟨128 * (n.val - 1) + j.val % 128, by omega⟩ else ⟨128 * n.val + (j.val - 128), by omega⟩

/-- The position of a row block's query. -/
def queryAt (n i : Fin 128) : Fin 16384 := ⟨128 * n.val + i.val, by omega⟩

/-- The columns of the group's three thirds. -/
def qCol (e : Fin 512) : Fin 4608 := ⟨e.val, by omega⟩
def kCol (e : Fin 512) : Fin 4608 := ⟨512 + e.val, by omega⟩
def vCol (e : Fin 512) : Fin 4608 := ⟨1024 + e.val, by omega⟩

theorem keyAt_before (n : Fin 128) (j : Fin 256) (h : j.val < 128) : (keyAt n j).val = 128 * (n.val - 1) + j.val := by
  unfold keyAt
  rw [if_pos h]
  show 128 * (n.val - 1) + j.val % 128 = _
  omega

theorem keyAt_own (n : Fin 128) (j : Fin 256) (h : ¬ j.val < 128) : (keyAt n j).val = 128 * n.val + (j.val - 128) := by
  unfold keyAt
  rw [if_neg h]

/-- The kernel's scores, by the arrays: the bias `B`, and the group's columns of `X`. -/
def scoreOf (X : FVec Ideal S2x16384x4608 .bf16) (B : S2x8x128x256.Idx → EReal) (b : Fin 2) (n i : Fin 128) (h : Fin 8) (j : Fin 256) : EReal :=
  (∑ d : Fin 64, X (ix3 b (queryAt n i) (qCol (col h d))) * X (ix3 b (keyAt n j) (kCol (col h d)))) * Ideal.ofBits .f32 0x3E000000#32
    + B (ix4 ⟨min n.val 1, by omega⟩ h i j)

section Reads
variable (c : Dev nD) (t : Fin cfg1.N) (b : Fin 2) (n : Fin 128) (hb : b.val = t.val / 128) (hn : n.val = t.val % 128)
include hb hn

theorem query_read (i : Fin 128) (e : Fin 512) :
    k1_pay2 (iblk1 V c 0 t) (ix2 i e) = V c main_arg0 (ix3 b (queryAt n i) (qCol e)) := by
  pointwise [k1_pay2]
  blk_point [iblk1, blocks1_at t]
  all_goals simp only [queryAt, qCol]
  omega

theorem key_read (j : Fin 256) (e : Fin 512) :
    k1_pay3 (iblk1 V c 2 t) (iblk1 V c 1 t) (ix2 j e) = V c main_arg0 (ix3 b (keyAt n j) (kCol e)) := by
  pointwise [k1_pay3]
  by_cases h : j.val < 128
  · rw [dif_pos h]
    blk_point [iblk1, blocks1_at t]
    all_goals simp only [keyAt_before n j h, kCol]
    all_goals omega
  · rw [dif_neg h]
    blk_point [iblk1, blocks1_at t]
    all_goals simp only [keyAt_own n j h, kCol]
    all_goals omega

theorem value_read (j : Fin 256) (e : Fin 512) :
    k1_pay4 (iblk1 V c 4 t) (iblk1 V c 3 t) (ix2 j e) = V c main_arg0 (ix3 b (keyAt n j) (vCol e)) := by
  pointwise [k1_pay4]
  by_cases h : j.val < 128
  · rw [dif_pos h]
    blk_point [iblk1, blocks1_at t]
    all_goals simp only [keyAt_before n j h, vCol]
    all_goals omega
  · rw [dif_neg h]
    blk_point [iblk1, blocks1_at t]
    all_goals simp only [keyAt_own n j h, vCol]
    all_goals omega

omit hb in
theorem bias_read (h : Fin 8) (i : Fin 128) (j : Fin 256) :
    iblk1 V c 5 t (ix4 0 h i j) = V c main_v0 (ix4 ⟨min n.val 1, by omega⟩ h i j) := by
  blk_point [iblk1, blocks1_at t]

theorem score_read (i : Fin 128) (h : Fin 8) :
    score h (k1_pay2 (iblk1 V c 0 t)) (k1_pay3 (iblk1 V c 2 t) (iblk1 V c 1 t)) (iblk1 V c 5 t) i
      = scoreOf (V c main_arg0) (V c main_v0) b n i h := by
  funext j
  unfold score scoreOf
  simp only [query_read V c t b n hb hn, key_read V c t b n hb hn]
  exact congrArg (_ + ·) (bias_read V c t b n hn h i j)

end Reads

/-- The row block and the row of a position. -/
def blockOf (p : Fin 16384) : Fin 128 := ⟨p.val / 128, by omega⟩
def rowOf (p : Fin 16384) : Fin 128 := ⟨p.val % 128, by omega⟩

/-- The averages the kernel leaves, -/
def averages (X : FVec Ideal S2x16384x4608 .bf16) (B : S2x8x128x256.Idx → EReal) (y : S2x16384x512.Idx) : EReal :=
  averaged (scoreOf X B (y 0) (blockOf (y 1)) (rowOf (y 1)) (head (y 2))) fun j => X (ix3 (y 0) (keyAt (blockOf (y 1)) j) (vCol (y 2)))

/-- and the logarithms. -/
def logarithms (X : FVec Ideal S2x16384x4608 .bf16) (B : S2x8x128x256.Idx → EReal) (y : S2x16384x512.Idx) : EReal :=
  logSum (scoreOf X B (y 0) (blockOf (y 1)) (rowOf (y 1)) (head (y 2)))

theorem block_query (n i : Fin 128) : blockOf (queryAt n i) = n := Fin.ext (by simp only [blockOf, queryAt]; omega)
theorem row_query (n i : Fin 128) : rowOf (queryAt n i) = i := Fin.ext (by simp only [rowOf, queryAt]; omega)

theorem averages_at (X B) (b : Fin 2) (n i : Fin 128) (e : Fin 512) : averages X B (ix3 b (queryAt n i) e)
    = averaged (scoreOf X B b n i (head e)) fun j => X (ix3 b (keyAt n j) (vCol e)) := by
  show averaged (scoreOf X B b (blockOf (queryAt n i)) (rowOf (queryAt n i)) (head e))
    (fun j => X (ix3 b (keyAt (blockOf (queryAt n i)) j) (vCol e))) = _
  rw [block_query, row_query]

theorem logarithms_at (X B) (b : Fin 2) (n i : Fin 128) (e : Fin 512) : logarithms X B (ix3 b (queryAt n i) e)
    = logSum (scoreOf X B b n i (head e)) := by
  show logSum (scoreOf X B b (blockOf (queryAt n i)) (rowOf (queryAt n i)) (head e)) = _
  rw [block_query, row_query]

theorem averages_read (c : Dev nD) (t : Fin cfg1.N) (b : Fin 2) (n : Fin 128) (hb : b.val = t.val / 128) (hn : n.val = t.val % 128)
    (i : Fin 128) (e : Fin 512) :
    averaged (score (head e) (k1_pay2 (iblk1 V c 0 t)) (k1_pay3 (iblk1 V c 2 t) (iblk1 V c 1 t)) (iblk1 V c 5 t) i)
      (fun j => k1_pay4 (iblk1 V c 4 t) (iblk1 V c 3 t) (ix2 j e))
      = averages (V c main_arg0) (V c main_v0) (ix3 b (queryAt n i) e) := by
  rw [score_read V c t b n hb hn, averages_at]
  exact congrArg _ (funext fun j => value_read V c t b n hb hn j e)

theorem logarithms_read (c : Dev nD) (t : Fin cfg1.N) (b : Fin 2) (n : Fin 128) (hb : b.val = t.val / 128) (hn : n.val = t.val % 128)
    (i : Fin 128) (e : Fin 512) :
    logSum (score (head e) (k1_pay2 (iblk1 V c 0 t)) (k1_pay3 (iblk1 V c 2 t) (iblk1 V c 1 t)) (iblk1 V c 5 t) i)
      = logarithms (V c main_arg0) (V c main_v0) (ix3 b (queryAt n i) e) := by
  rw [score_read V c t b n hb hn, logarithms_at]

theorem averages_array (c : Dev nD) : (dat1 V c).arrAt 6 cfg1.N = averages (V c main_arg0) (V c main_v0) := by
  refine (dat1 V c).arrAt_eq_of_covers 6 _ (by decide +kernel) fun t _ y => ?_
  blk_simp
  rw [after1_6]
  have ht : t.val < 256 := t.isLt
  refine (out_block _ _ _ _ _ _ _).trans ?_
  refine (averages_read V c t ⟨t.val / 128, by omega⟩ ⟨t.val % 128, by omega⟩ rfl rfl (y 1) (y 2)).trans (congrArg _ ?_)
  blk_point [blocks1_at t]
  all_goals simp only [queryAt]
  all_goals omega

theorem logarithms_array (c : Dev nD) : (dat1 V c).arrAt 7 cfg1.N = logarithms (V c main_arg0) (V c main_v0) := by
  refine (dat1 V c).arrAt_eq_of_covers 7 _ (by decide +kernel) fun t _ y => ?_
  blk_simp
  rw [after1_7]
  have ht : t.val < 256 := t.isLt
  refine (log_block _ _ _ _ _ _ _).trans ?_
  refine (logarithms_read V c t ⟨t.val / 128, by omega⟩ ⟨t.val % 128, by omega⟩ rfl rfl (y 1) (y 2)).trans (congrArg _ ?_)
  blk_point [blocks1_at t]
  all_goals simp only [queryAt]
  all_goals omega

end Cert.DilIdeal.Window
-- ==== Proof.DilBucket.lean ====
/- The bias bucket of a distance: what both programs compute of it, and that it is a row of the bias table. -/
module

public import Idealize.ShloMosaic.Lib.Pipeline.ValueKit

@[expose] public section

noncomputable section

open Idealize.ShloMosaic

namespace Cert.Bucket

/-- The bucket of a distance: the distance itself below sixteen, the logarithm's steps from there on. -/
def bucket (d : BitVec 32) : BitVec 32 :=
  Scalar.select (IntOp.cmpi .slt (IntOp.maxsi d 0#32) 16#32) (IntOp.maxsi d 0#32)
    (IntOp.minsi
      (IntOp.addi 16#32
        (FloatOps.fptosi (F := Ideal) (φ := .f32) 32
          (Ideal.div
              (Ideal.log
                (Ideal.div (FloatOps.sitofp (F := Ideal) FTy.f32 (IntOp.maxsi (IntOp.maxsi d 0#32) 1#32))
                  (Ideal.ofBits .f32 0x41800000#32)))
              (Ideal.ofBits .f32 0x409B43D5#32)
            * Ideal.ofBits .f32 0x41800000#32)))
      31#32)

theorem pick_first {α : Type} (a b : α) : Scalar.select 1#1 a b = a := rfl
theorem pick_second {α : Type} (a b : α) : Scalar.select 0#1 a b = b := rfl

theorem sixteen : Ideal.ofBits .f32 0x41800000#32 = ((16 : ℝ) : EReal) := by
  simp [Ideal.ofBits, Ideal.ieee, -EReal.coe_mul]; norm_num

theorem step : ∃ c : ℝ, 1 ≤ c ∧ Ideal.ofBits .f32 0x409B43D5#32 = (c : EReal) := by
  refine ⟨_, ?_, by simp [Ideal.ofBits, Ideal.ieee, -EReal.coe_mul]; rfl⟩
  norm_num

theorem word_small (n : Nat) (hn : n < 129) : IntOp.maxsi (BitVec.ofNat 32 n) 0#32 = BitVec.ofNat 32 n := by
  have h : ∀ n : Fin 129, IntOp.maxsi (BitVec.ofNat 32 n.val) 0#32 = BitVec.ofNat 32 n.val := by decide +kernel
  exact h ⟨n, hn⟩

theorem word_one (n : Nat) (hn : n < 129) (h1 : 16 ≤ n) : IntOp.maxsi (BitVec.ofNat 32 n) 1#32 = BitVec.ofNat 32 n := by
  have h : ∀ n : Fin 129, 16 ≤ n.val → IntOp.maxsi (BitVec.ofNat 32 n.val) 1#32 = BitVec.ofNat 32 n.val := by decide +kernel
  exact h ⟨n, hn⟩ h1

/-- A real between zero and a thousand is a word between zero and a thousand. -/
theorem toward_zero (r : ℝ) (h0 : 0 ≤ r) (h1 : r ≤ 1000) : ∃ k : Nat, k ≤ 1000 ∧ Ideal.fptosi 32 (r : EReal) = BitVec.ofNat 32 k := by
  have hk : ⌊r⌋₊ ≤ 1000 := by
    have := Nat.floor_le_floor h1
    simpa using this
  refine ⟨⌊r⌋₊, hk, ?_⟩
  unfold Ideal.fptosi
  rw [Ideal.toIntClamped_coe, if_pos h0, ← Int.natCast_floor_eq_floor h0]
  have e : max (-((2 ^ (32 - 1) : Nat) : Int)) (min (((2 ^ (32 - 1) : Nat) : Int) - 1) ((⌊r⌋₊ : Nat) : Int)) = ((⌊r⌋₊ : Nat) : Int) := by
    norm_num
    omega
  rw [e]
  exact BitVec.ofInt_natCast 32 _

theorem capped (k : Nat) (hk : k ≤ 1000) : (IntOp.minsi (IntOp.addi 16#32 (BitVec.ofNat 32 k)) 31#32).toNat < 32 := by
  have h : ∀ k : Fin 1001, (IntOp.minsi (IntOp.addi 16#32 (BitVec.ofNat 32 k.val)) 31#32).toNat < 32 := by decide +kernel
  exact h ⟨k, by omega⟩

/-- The bucket of a distance in the window is one of the table's rows. -/
theorem bucket_lt (n : Nat) (hn : n < 129) : (bucket (BitVec.ofNat 32 n)).toNat < 32 := by
  unfold bucket
  rw [word_small n hn]
  by_cases h16 : n < 16
  · have h : ∀ n : Fin 16, IntOp.cmpi .slt (BitVec.ofNat 32 n.val) 16#32 = 1#1 ∧ (BitVec.ofNat 32 n.val).toNat < 32 := by
      decide +kernel
    rw [(h ⟨n, h16⟩).1, pick_first]
    exact (h ⟨n, h16⟩).2
  · have h : ∀ n : Fin 129, 16 ≤ n.val → IntOp.cmpi .slt (BitVec.ofNat 32 n.val) 16#32 = 0#1
        ∧ (BitVec.ofNat 32 n.val).toInt = (n.val : Int) := by decide +kernel
    have hh := h ⟨n, hn⟩ (by show 16 ≤ n; omega)
    rw [hh.1, pick_second, word_one n hn (by omega)]
    obtain ⟨c, hc, ec⟩ := step
    have hc0 : c ≠ 0 := by linarith
    have en : FloatOps.sitofp (F := Ideal) FTy.f32 (BitVec.ofNat 32 n) = ((n : ℝ) : EReal) := by
      show (((BitVec.ofNat 32 n).toInt : ℝ) : EReal) = _
      rw [hh.2]
      simp
    have hn16 : (16 : ℝ) ≤ n := by exact_mod_cast (by omega : 16 ≤ n)
    have hn128 : (n : ℝ) ≤ 128 := by exact_mod_cast (by omega : n ≤ 128)
    rw [en, sixteen, ec, Ideal.div_coe (y := 16) (by norm_num), ← EReal.coe_mul, Ideal.log_coe, if_neg (by
      apply not_le.mpr
      positivity), Ideal.div_coe hc0, ← EReal.coe_mul, ← EReal.coe_mul]
    have l0 : 0 ≤ Real.log (n * (1 / 16)) := Real.log_nonneg (by linarith)
    have l1 : Real.log (n * (1 / 16)) ≤ 7 := by
      have := Real.log_le_sub_one_of_pos (x := (n : ℝ) * (1 / 16)) (by positivity)
      linarith
    have hci : 1 / c ≤ 1 := by rw [div_le_one (by linarith)]; exact hc
    have hci0 : 0 ≤ 1 / c := by positivity
    obtain ⟨k, hk, ek⟩ := toward_zero (Real.log (n * (1 / 16)) * (1 / c) * 16) (by positivity) (by
      have : Real.log (n * (1 / 16)) * (1 / c) ≤ 7 * 1 := mul_le_mul l1 hci hci0 (by norm_num)
      linarith)
    show (IntOp.minsi (IntOp.addi 16#32 (Ideal.fptosi 32 _)) 31#32).toNat < 32
    rw [ek]
    exact capped k hk

/-- The table's row of a distance. -/
def row (n : Nat) : Fin 32 := ⟨min (bucket (BitVec.ofNat 32 n)).toNat 31, by omega⟩

/-- In the window the bucket is its row's word. -/
theorem bucket_row (n : Nat) (hn : n < 129) : bucket (BitVec.ofNat 32 n) = BitVec.ofNat 32 (row n).val := by
  have h := bucket_lt n hn
  apply BitVec.eq_of_toNat_eq
  rw [BitVec.toNat_ofNat]
  show _ = min _ 31 % 2 ^ 32
  rw [Nat.min_eq_left (by omega), Nat.mod_eq_of_lt (by omega)]

end Cert.Bucket
-- ==== Proof.DilBias.lean ====
/- The bias the dilated attention's first region leaves: the table's row of a distance, and `⊥` outside the window. -/
module

public import proofs.«01_k».proof.Proof.Gen.DilIdeal.Frame
public import proofs.«01_k».proof.Proof.DilBucket
public import Idealize.ShloMosaic.Lib.Pipeline.ValueKit

set_option maxRecDepth 16384

@[expose] public section

noncomputable section

open Idealize.ShloMosaic Idealize.ShloMosaic.TcCoe Idealize.SL.Sem

namespace Cert.DilIdeal.Window
open Cert.DilIdeal Cert.DilIdeal.Gen Cert.Bucket

/-- Query `i` of a block sees its key `j`: the key is at most 128 positions back, and in the first block its own. -/
def Sees (first : Prop) (i : Fin 128) (j : Fin 256) : Prop :=
  (i.val ≤ j.val ∧ j.val ≤ 128 + i.val) ∧ (128 ≤ j.val ∨ ¬ first)

/-- The bias at an index. -/
def biasAt (T : FVec Ideal S32x40 .f32) (y : S2x8x128x256.Idx) : EReal :=
  open Classical in if Sees ((y 0).val = 0) (y 2) (y 3) then
      T (ix2 (row (128 + (y 2).val - (y 3).val)) (⟨16 + (y 1).val, by have := (y 1).isLt; change _ < 8 at this; omega⟩ : Fin 40)) else ⊥

theorem dist_at (i : Fin 128) (j : Fin 256) : k0_pay2 (ix2 i j) = 128#32 + BitVec.ofNat 32 i.val - BitVec.ofNat 32 j.val := by
  pointwise [k0_pay2]
  rfl

theorem bucket_at (i : Fin 128) (j : Fin 256) : k0_pay3 (F := Ideal) (ix2 i j) = bucket (k0_pay2 (ix2 i j)) := by
  pointwise [k0_pay3]
  rw [show IntOp.muli (k0_pay2 (ix2 i j)) 1#32 = k0_pay2 (ix2 i j) from BitVec.mul_one _]
  rfl

theorem mask_value : Named.named (F := Ideal) κ "mask" (φ := .f32) 0xF149F2CA#32 = (⊥ : EReal) := rfl

/-- The distance of a seen key is not negative and at most 128, as words, -/
theorem in_reach (i : Fin 128) (j : Fin 256) :
    IntOp.andi (IntOp.cmpi .sge (128#32 + BitVec.ofNat 32 i.val - BitVec.ofNat 32 j.val) 0#32)
        (IntOp.cmpi .sle (128#32 + BitVec.ofNat 32 i.val - BitVec.ofNat 32 j.val) 128#32)
      = if i.val ≤ j.val ∧ j.val ≤ 128 + i.val then 1#1 else 0#1 := by
  have e : (128#32 + BitVec.ofNat 32 i.val - BitVec.ofNat 32 j.val).toInt = 128 + (i.val : Int) - (j.val : Int) := by
    rw [BitVec.toInt_eq_toNat_cond]
    simp only [BitVec.toNat_sub, BitVec.toNat_add, BitVec.toNat_ofNat]
    split <;> omega
  have a : IntOp.cmpi .sge (128#32 + BitVec.ofNat 32 i.val - BitVec.ofNat 32 j.val) 0#32
      = if j.val ≤ 128 + i.val then 1#1 else 0#1 := by
    show BitVec.ofBool (decide ((0#32).toInt ≤ _)) = _
    rw [e]
    by_cases h : j.val ≤ 128 + i.val
    · rw [if_pos h, decide_eq_true (by show (0 : Int) ≤ _; omega)]
      rfl
    · rw [if_neg h, decide_eq_false (by show ¬ (0 : Int) ≤ _; omega)]
      rfl
  have b : IntOp.cmpi .sle (128#32 + BitVec.ofNat 32 i.val - BitVec.ofNat 32 j.val) 128#32
      = if i.val ≤ j.val then 1#1 else 0#1 := by
    show BitVec.ofBool (decide (_ ≤ (128#32).toInt)) = _
    rw [e]
    by_cases h : i.val ≤ j.val
    · rw [if_pos h, decide_eq_true (by show _ ≤ (128 : Int); omega)]
      rfl
    · rw [if_neg h, decide_eq_false (by show ¬ _ ≤ (128 : Int); omega)]
      rfl
  rw [a, b]
  by_cases h1 : j.val ≤ 128 + i.val <;> by_cases h2 : i.val ≤ j.val <;> simp [h1, h2, IntOp.andi]

/-- and the rows before the first block are those of keys below 128, in the first block alone. -/
theorem not_before : ∀ (v : Fin 2) (j : Fin 256),
    IntOp.ori (IntOp.cmpi .sge (BitVec.ofNat 32 j.val) 128#32) (Scalar.cmpi .sgt (BitVec.ofNat 32 v.val) 0#32)
      = if 128 ≤ j.val ∨ ¬ v.val = 0 then 1#1 else 0#1 := by decide +kernel

theorem dist_word (i : Fin 128) (j : Fin 256) (h : j.val ≤ 128 + i.val) :
    128#32 + BitVec.ofNat 32 i.val - BitVec.ofNat 32 j.val = BitVec.ofNat 32 (128 + i.val - j.val) := by
  apply BitVec.eq_of_toNat_eq
  simp only [BitVec.toNat_sub, BitVec.toNat_add, BitVec.toNat_ofNat]
  omega

variable (V : (c : Dev nD) → (b : Ref sig .tc) → Buf (Elt Ideal) ((c : Thread nD τ).loc b))

theorem blocks0_at : ∀ t : Fin cfg0.N, win0_0.index t = ![0, 0] ∧ win0_1.index t = ![t.val / 8, t.val % 8, 0, 0] :=
  (by decide +kernel : ∀ t : Fin grid0.N, _)

/-- The first region's block of the table is the whole of it. -/
theorem table_read (c : Dev nD) (t : Fin cfg0.N) (y : S32x40.Idx) : iblk0 V c 0 t y = V c main_arg1 y := by
  blk_point [iblk0, blocks0_at t]

theorem coords_at : ∀ t : Fin cfg0.N, (grid0.coords t 0).val = t.val / 8 ∧ (grid0.coords t 1).val = t.val % 8
    ∧ (Scalar.addi 16#32 (BitVec.ofNat 32 (grid0.coords t 1).val)).toNat = 16 + t.val % 8 :=
  (by decide +kernel : ∀ t : Fin grid0.N, _)

theorem bias_block (c : Dev nD) (t : Fin cfg0.N) (i : Fin 128) (j : Fin 256) (h : Fin 8) (v : Fin 2) (hh : h.val = t.val % 8)
    (hv : v.val = t.val / 8) : outsAt0 V c t (ix4 0 0 i j) = biasAt (V c main_arg1) (ix4 v h i j) := by
  unfold outsAt0 out0_A_1
  frame_out
  pointwise [k0_pay1, k0_pay19, k0_pay16, k0_pay13, k0_pay10, k0_pay7, k0_pay4, k0_pay5, k0_pay6, k0_pay8, k0_pay9, k0_pay11, k0_pay12,
    k0_pay14, k0_pay15, k0_pay17, k0_pay18, k0_pay20, k0_pay21, bucket_at, dist_at]
  rw [mask_value]
  rw [in_reach]
  rw [show (grid0.coords t 0).val = v.val from (coords_at t).1.trans hv.symm]
  rw [not_before]
  unfold biasAt
  simp only [table_read]
  by_cases hs : Sees (v.val = 0) i j
  · rw [if_pos hs.1, if_pos hs.2]
    have hc : (Scalar.addi 16#32 (BitVec.ofNat 32 (grid0.coords t 1).val)).toNat = 16 + h.val := (coords_at t).2.2.trans (by rw [hh])
    rw [dist_word i j hs.1.2, bucket_row _ (by have := hs.1; omega)]
    refine Eq.trans ?_ (if_pos hs).symm
    show _ = V c main_arg1 (ix2 (row (128 + i.val - j.val)) _)
    generalize row (128 + i.val - j.val) = r
    have key : ∀ (a b : Nat) (ha : a < 32) (hb : b < 40), a = r.val → b = 16 + h.val →
        V c main_arg1 (ix2 ⟨a, ha⟩ ⟨b, hb⟩) = V c main_arg1 (ix2 r ⟨16 + h.val, by omega⟩) := by
      intro a b ha hb e1 e2
      subst e1 e2
      rfl
    fin_cases r <;> exact key _ _ _ _ rfl hc
  · have : ¬ ((i.val ≤ j.val ∧ j.val ≤ 128 + i.val) ∧ (128 ≤ j.val ∨ ¬ v.val = 0)) := hs
    refine Eq.trans ?_ (if_neg hs).symm
    by_cases h1 : i.val ≤ j.val ∧ j.val ≤ 128 + i.val
    · rw [if_pos h1, if_neg (fun h2 => this ⟨h1, h2⟩)]
      rfl
    · rw [if_neg h1]
      by_cases h2 : 128 ≤ j.val ∨ ¬ v.val = 0
      · rw [if_pos h2]
        rfl
      · rw [if_neg h2]
        rfl

/-- The bias array the first region leaves. -/
theorem bias_array (c : Dev nD) : (dat0 V c).arrAt 1 cfg0.N = biasAt (V c main_arg1) := by
  refine (dat0 V c).arrAt_eq_of_covers 1 _ (by decide +kernel) fun t _ y => ?_
  blk_simp
  rw [after0_1]
  have e : y = ix4 0 0 (y 2) (y 3) := by
    funext a
    fin_cases a
    · exact Subsingleton.elim (α := Fin 1) _ _
    · exact Subsingleton.elim (α := Fin 1) _ _
    · rfl
    · rfl
  have ht : t.val < 16 := t.isLt
  rw [e]
  refine (bias_block V c t (y 2) (y 3) ⟨t.val % 8, by omega⟩ ⟨t.val / 8, by omega⟩ rfl rfl).trans (congrArg _ ?_)
  blk_point [blocks0_at t]

end Cert.DilIdeal.Window
-- ==== Proof.DilRef.lean ====
/- The reference of the dilated attention, in named pieces, and what each is at an index. -/
module

public import proofs.«01_k».proof.Proof.Gen.DilRefIdeal.Run
public import proofs.«01_k».proof.Proof.DilBucket
public import proofs.«01_k».proof.Proof.Softmax
public import Idealize.ShloMosaic.Lib.Pipeline.ValueKit

set_option maxRecDepth 16384

@[expose] public section

noncomputable section

open Idealize.ShloMosaic Idealize.ShloMosaic.TcCoe Idealize.SL.Sem

namespace Cert.DilRefIdeal.Pieces
open Cert.DilRefIdeal Cert.DilRefIdeal.Gen Cert.Bucket

/-- The distances of the keys, nearest first -/
def offsets : IVec S129 32 :=
  muli (iotaInDim S129 32 0) (broadcastInDim S129 ![] bcast_S_S129 (constantI S_ 32 1#32))

/-- the position of a query's key, below zero before the sequence's start -/
def places : IVec S16384x129 32 :=
  subi (broadcastInDim S16384x129 ![0, 1] bcast_S16384x1_S16384x129_0_1 (broadcastInDim S16384x1 ![0] bcast_S16384_S16384x1_0 (iotaInDim S16384 32 0))) (broadcastInDim S16384x129 ![0, 1] bcast_S1x129_S16384x129_0_1 (broadcastInDim S1x129 ![1] bcast_S129_S1x129_1 offsets))

/-- held at zero there -/
def clamped : IVec S16384x129 32 :=
  maxsi places (broadcastInDim S16384x129 ![] bcast_S_S16384x129 (constantI S_ 32 0#32))

/-- and as the gather takes it. -/
def wrapped : IVec S16384x129x1 32 :=
  broadcastInDim S16384x129x1 ![0, 1] bcast_S16384x129_S16384x129x1_0_1 (select (cmpi .slt clamped (broadcastInDim S16384x129 ![] bcast_S_S16384x129 (constantI S_ 32 0#32))) (addi clamped (broadcastInDim S16384x129 ![] bcast_S_S16384x129 (constantI S_ 32 16384#32))) clamped)

/-- Whether there is such a key. -/
def seen : IVec S2x16384x8x129 1 :=
  broadcastInDim S2x16384x8x129 ![0, 1, 2, 3] bcast_S1x16384x1x129_S2x16384x8x129_0_1_2_3 (broadcastInDim S1x16384x1x129 ![1, 3] bcast_S16384x129_S1x16384x1x129_1_3 (cmpi .sge places (broadcastInDim S16384x129 ![] bcast_S_S16384x129 (constantI S_ 32 0#32))))

/-- The first group's queries, -/
def queries (X : FVec Ideal S2x16384x4608 .bf16) : FVec Ideal S2x16384x8x64 .f32 :=
  shapeCast _ (extractStridedSlice S2x16384x1x1x8x64 ![0, 0, 0, 0, 0, 0] (shapeCast _ (extf .f32 X bitsLt_bf16_f32) shapeCasts_S2x16384x4608_S2x16384x3x3x8x64) slices_S2x16384x3x3x8x64_S2x16384x1x1x8x64_0_0_0_0_0_0) shapeCasts_S2x16384x1x1x8x64_S2x16384x8x64

/-- keys -/
def keys (X : FVec Ideal S2x16384x4608 .bf16) : FVec Ideal S2x16384x8x64 .f32 :=
  shapeCast _ (extractStridedSlice S2x16384x1x1x8x64 ![0, 0, 0, 1, 0, 0] (shapeCast _ (extf .f32 X bitsLt_bf16_f32) shapeCasts_S2x16384x4608_S2x16384x3x3x8x64) slices_S2x16384x3x3x8x64_S2x16384x1x1x8x64_0_0_0_1_0_0) shapeCasts_S2x16384x1x1x8x64_S2x16384x8x64

/-- and values. -/
def values (X : FVec Ideal S2x16384x4608 .bf16) : FVec Ideal S2x16384x8x64 .f32 :=
  shapeCast _ (extractStridedSlice S2x16384x1x1x8x64 ![0, 0, 0, 2, 0, 0] (shapeCast _ (extf .f32 X bitsLt_bf16_f32) shapeCasts_S2x16384x4608_S2x16384x3x3x8x64) slices_S2x16384x3x3x8x64_S2x16384x1x1x8x64_0_0_0_2_0_0) shapeCasts_S2x16384x1x1x8x64_S2x16384x8x64

/-- The distance and -/
def distances : IVec S129 32 :=
  maxsi offsets (broadcastInDim S129 ![] bcast_S_S129 (constantI S_ 32 0#32))

/-- its bucket, -/
def buckets : IVec S129 32 :=
  select (cmpi .slt distances (broadcastInDim S129 ![] bcast_S_S129 (constantI S_ 32 16#32))) distances (minsi (addi (broadcastInDim S129 ![] bcast_S_S129 (constantI S_ 32 16#32)) (fptosi 32 (mulf (Host.divf (Host.log (Host.divf (sitofp .f32 (maxsi distances (broadcastInDim S129 ![] bcast_S_S129 (constantI S_ 32 1#32)))) (broadcastInDim S129 ![] bcast_S_S129 (constant S_ .f32 0x41800000#32)))) (broadcastInDim S129 ![] bcast_S_S129 (constant S_ .f32 0x409B43D5#32))) (broadcastInDim S129 ![] bcast_S_S129 (constant S_ .f32 0x41800000#32)) : FVec Ideal S129 .f32))) (broadcastInDim S129 ![] bcast_S_S129 (constantI S_ 32 31#32)))

/-- as the gather takes it, -/
def rows : IVec S129x1 32 :=
  broadcastInDim S129x1 ![0] bcast_S129_S129x1_0 (select (cmpi .slt buckets (broadcastInDim S129 ![] bcast_S_S129 (constantI S_ 32 0#32))) (addi buckets (broadcastInDim S129 ![] bcast_S_S129 (constantI S_ 32 32#32))) buckets)

/-- and the group's bias at a distance. -/
def biases (T : FVec Ideal S32x40 .f32) : FVec Ideal S8x129 .f32 :=
  transpose S8x129 [1, 0] (Host.gather gather_S32x8_S129x1_S129x8_1_0_n_n_0_1_18 (extractStridedSlice S32x8 ![0, 16] T slices_S32x40_S32x8_0_16) rows) transposes_S129x8_S8x129_1_0

/-- Keys or values, one for every query and distance. -/
def gathered (K : FVec Ideal S2x16384x8x64 .f32) : FVec Ideal S2x16384x129x8x64 .f32 :=
  Host.gather gather_S2x16384x8x64_S16384x129x1_S2x16384x129x8x64_034_1_n_n_1_2_21864 K wrapped

/-- Every query's product with its keys. -/
def products (Q : FVec Ideal S2x16384x8x64 .f32) (K : FVec Ideal S2x16384x129x8x64 .f32) : FVec Ideal S2x16384x8x129 .f32 :=
  Host.dotGeneral dot_S2x16384x8x64_S2x16384x129x8x64_S2x16384x8x129_3_4_n_2_012_013 none Q K

/-- The scores. -/
def scores (X : FVec Ideal S2x16384x4608 .bf16) (T : FVec Ideal S32x40 .f32) : FVec Ideal S2x16384x8x129 .f32 :=
  select seen (addf (mulf (products (queries X) (gathered (keys X))) (broadcastInDim S2x16384x8x129 ![] bcast_S_S2x16384x8x129 (constant S_ .f32 0x3E000000#32))) (broadcastInDim S2x16384x8x129 ![0, 1, 2, 3] bcast_S1x1x8x129_S2x16384x8x129_0_1_2_3 (broadcastInDim S1x1x8x129 ![2, 3] bcast_S8x129_S1x1x8x129_2_3 (biases T)))) (broadcastInDim S2x16384x8x129 ![] bcast_S_S2x16384x8x129 (id (constant S_ .f32 0xFF800000#32)))

/-- The largest score, -/
def largest (S : FVec Ideal S2x16384x8x129 .f32) : FVec Ideal S2x16384x8 .f32 :=
  Host.reduce FloatOps.maximumf S (constant S_ .f32 0xFF800000#32) reducesTo_S2x16384x8x129_S2x16384x8_d3 h_S_

/-- with an axis for the keys, -/
def tops (S : FVec Ideal S2x16384x8x129 .f32) : FVec Ideal S2x16384x8x1 .f32 :=
  broadcastInDim S2x16384x8x1 ![0, 1, 2] bcast_S2x16384x8_S2x16384x8x1_0_1_2 (largest S)

/-- the exponentials over it -/
def powers (S : FVec Ideal S2x16384x8x129 .f32) : FVec Ideal S2x16384x8x129 .f32 :=
  Host.exp (subf S (broadcastInDim S2x16384x8x129 ![0, 1, 2, 3] bcast_S2x16384x8x1_S2x16384x8x129_0_1_2_3 (tops S)))

/-- their sum -/
def sums (S : FVec Ideal S2x16384x8x129 .f32) : FVec Ideal S2x16384x8 .f32 :=
  Host.reduceAdd (powers S) (constant S_ .f32 0x00000000#32) reducesTo_S2x16384x8x129_S2x16384x8_d3 h_S_

/-- and the logarithm of the whole sum. -/
def lses (S : FVec Ideal S2x16384x8x129 .f32) : FVec Ideal S2x16384x8x1 .f32 :=
  addf (tops S) (Host.log (broadcastInDim S2x16384x8x1 ![0, 1, 2] bcast_S2x16384x8_S2x16384x8x1_0_1_2 (sums S)))

/-- The averages by the scores `S` -/
def averagesOf (S : FVec Ideal S2x16384x8x129 .f32) (V : FVec Ideal S2x16384x129x8x64 .f32) : FVec Ideal S2x16384x512 .f32 :=
  shapeCast _ (Host.dotGeneral dot_S2x16384x8x129_S2x16384x129x8x64_S2x16384x8x64_3_2_n_4_012_013 none (Host.exp (subf S (broadcastInDim S2x16384x8x129 ![0, 1, 2, 3] bcast_S2x16384x8x1_S2x16384x8x129_0_1_2_3 (lses S)))) V) shapeCasts_S2x16384x8x64_S2x16384x512

/-- and the logarithms, one for every column. -/
def logarithmsOf (S : FVec Ideal S2x16384x8x129 .f32) : FVec Ideal S2x16384x512 .f32 :=
  shapeCast _ (broadcastInDim S2x16384x8x64 ![0, 1, 2] bcast_S2x16384x8_S2x16384x8x64_0_1_2 (shapeCast _ (lses S) shapeCasts_S2x16384x8x1_S2x16384x8)) shapeCasts_S2x16384x8x64_S2x16384x512

theorem averages_named (m : (ℓ : Loc nD τ sig) → Buf (Elt Ideal) ℓ) (c : Dev nD) : Value.res_main_v85 m c
    = averagesOf (scores (m ((c.tc : Thread nD τ).loc main_arg0)) (m ((c.tc : Thread nD τ).loc main_arg1)))
        (gathered (values (m ((c.tc : Thread nD τ).loc main_arg0)))) := rfl

set_option maxHeartbeats 4000000 in
theorem logarithms_named (m : (ℓ : Loc nD τ sig) → Buf (Elt Ideal) ℓ) (c : Dev nD) : Value.res_main_v88 m c
    = logarithmsOf (scores (m ((c.tc : Thread nD τ).loc main_arg0)) (m ((c.tc : Thread nD τ).loc main_arg1))) := rfl

end Cert.DilRefIdeal.Pieces
-- ==== Proof.DilRefAt.lean ====
/- What each piece of the dilated attention's reference is at an index. -/
module

public import proofs.«01_k».proof.Proof.DilRef
public import Idealize.ShloMosaic.Lib.Pipeline.ValueKit

set_option maxRecDepth 16384

@[expose] public section

noncomputable section

open Idealize.ShloMosaic Idealize.ShloMosaic.TcCoe Idealize.SL.Sem

namespace Cert.DilRefIdeal.Pieces
open Cert.DilRefIdeal Cert.DilRefIdeal.Gen Cert.Bucket

/-- Column `d` of head `h` of the group's query, key or value part. -/
def inPart (o : Fin 3) (h : Fin 8) (d : Fin 64) : Fin 4608 := ⟨512 * o.val + 64 * h.val + d.val, by omega⟩

section
variable (X : FVec Ideal S2x16384x4608 .bf16) (T : FVec Ideal S32x40 .f32)

theorem queries_at (b : Fin 2) (p : Fin 16384) (h : Fin 8) (d : Fin 64) : queries X (ix4 b p h d) = X (ix3 b p (inPart 0 h d)) := by
  pointwise [queries]
  refine congrArg (fun e => X (ix3 b p e)) (Fin.ext ?_)
  simp only [inPart]
  omega

theorem keys_at (b : Fin 2) (p : Fin 16384) (h : Fin 8) (d : Fin 64) : keys X (ix4 b p h d) = X (ix3 b p (inPart 1 h d)) := by
  pointwise [keys]
  refine congrArg (fun e => X (ix3 b p e)) (Fin.ext ?_)
  simp only [inPart]
  omega

theorem values_at (b : Fin 2) (p : Fin 16384) (h : Fin 8) (d : Fin 64) : values X (ix4 b p h d) = X (ix3 b p (inPart 2 h d)) := by
  pointwise [values]
  refine congrArg (fun e => X (ix3 b p e)) (Fin.ext ?_)
  simp only [inPart]
  omega

theorem offsets_at (k : Fin 129) : offsets (ix1 k) = BitVec.ofNat 32 k.val := by
  pointwise [offsets]
  exact BitVec.mul_one _

theorem places_at (p : Fin 16384) (k : Fin 129) : places (ix2 p k) = BitVec.ofNat 32 p.val - BitVec.ofNat 32 k.val := by
  pointwise [places, offsets_at]
  rfl

theorem place_int (p : Fin 16384) (k : Fin 129) :
    (BitVec.ofNat 32 p.val - BitVec.ofNat 32 k.val).toInt = (p.val : Int) - (k.val : Int) := by
  rw [BitVec.toInt_eq_toNat_cond]
  simp only [BitVec.toNat_sub, BitVec.toNat_ofNat]
  split <;> omega

theorem from_start (p : Fin 16384) (k : Fin 129) :
    IntOp.cmpi .sge (BitVec.ofNat 32 p.val - BitVec.ofNat 32 k.val) 0#32 = if k.val ≤ p.val then 1#1 else 0#1 := by
  show BitVec.ofBool (decide ((0#32).toInt ≤ _)) = _
  rw [place_int]
  by_cases h : k.val ≤ p.val
  · rw [if_pos h, decide_eq_true (by show (0 : Int) ≤ _; omega)]
    rfl
  · rw [if_neg h, decide_eq_false (by show ¬ (0 : Int) ≤ _; omega)]
    rfl

theorem held (p : Fin 16384) (k : Fin 129) :
    IntOp.maxsi (BitVec.ofNat 32 p.val - BitVec.ofNat 32 k.val) 0#32 = BitVec.ofNat 32 (p.val - k.val) := by
  unfold IntOp.maxsi
  have e : (0#32).slt (BitVec.ofNat 32 p.val - BitVec.ofNat 32 k.val) = decide (k.val < p.val) := by
    show decide ((0#32).toInt < _) = _
    rw [place_int]
    exact decide_eq_decide.mpr (by show (0 : Int) < _ ↔ _; omega)
  rw [e]
  by_cases h : k.val < p.val
  · rw [if_pos (decide_eq_true h)]
    apply BitVec.eq_of_toNat_eq
    simp only [BitVec.toNat_sub, BitVec.toNat_ofNat]
    omega
  · rw [if_neg (by simp [h]), show p.val - k.val = 0 by omega]

/-- A word below half the range is not negative: the wrap of an index leaves it. -/
theorem kept (n : Nat) (z : BitVec 32) (hn : n < 16384) :
    Scalar.select (IntOp.cmpi .slt (BitVec.ofNat 32 n) 0#32) (IntOp.addi (BitVec.ofNat 32 n) z) (BitVec.ofNat 32 n) = BitVec.ofNat 32 n := by
  have e : (BitVec.ofNat 32 n).toInt = (n : Int) := by
    rw [BitVec.toInt_eq_toNat_cond]
    simp only [BitVec.toNat_ofNat]
    split <;> omega
  have h : IntOp.cmpi .slt (BitVec.ofNat 32 n) 0#32 = 0#1 := by
    show BitVec.ofBool (decide (_ < (0#32).toInt)) = _
    rw [e, decide_eq_false (by show ¬ _ < (0 : Int); omega)]
    rfl
  rw [h, pick_second]

theorem clamped_at (p : Fin 16384) (k : Fin 129) : clamped (ix2 p k) = BitVec.ofNat 32 (p.val - k.val) := by
  pointwise [clamped, places_at]
  exact held p k

theorem wrapped_at (p : Fin 16384) (k : Fin 129) : wrapped (ix3 p k 0) = BitVec.ofNat 32 (p.val - k.val) := by
  pointwise [wrapped, clamped_at]
  exact kept _ _ (by omega)

theorem seen_at (b : Fin 2) (p : Fin 16384) (h : Fin 8) (k : Fin 129) : seen (ix4 b p h k) = if k.val ≤ p.val then 1#1 else 0#1 := by
  pointwise [seen, places_at]
  exact from_start p k

theorem buckets_at (k : Fin 129) : buckets (ix1 k) = bucket (BitVec.ofNat 32 k.val) := by
  pointwise [buckets, distances, offsets_at]
  rfl

theorem rows_at (k : Fin 129) : rows (ix2 k 0) = BitVec.ofNat 32 (row k.val).val := by
  pointwise [rows, buckets_at]
  rw [bucket_row k.val k.isLt]
  exact kept _ _ (by omega)

theorem lowest_first : (constant S_ .f32 0xFF800000#32 : FVec Ideal S_ .f32) (Shape.Idx.first h_S_) = ⊥ := by
  pointwise
  exact Cert.Softmax.below_f32

theorem tops_at (S : FVec Ideal S2x16384x8x129 .f32) (b : Fin 2) (p : Fin 16384) (h : Fin 8) :
    tops S (ix4 b p h 0) = (Finset.univ : Finset (Fin 129)).fold max ⊥ fun k => S (ix4 b p h k) := by
  have e : tops S (ix4 b p h 0) = largest S (ix3 b p h) := by pointwise [tops]
  rw [e]
  unfold largest
  rw [Cert.Softmax.largest_last, lowest_first]

theorem powers_at (S : FVec Ideal S2x16384x8x129 .f32) (b : Fin 2) (p : Fin 16384) (h : Fin 8) (k : Fin 129) :
    powers S (ix4 b p h k) = Ideal.exp (S (ix4 b p h k) - tops S (ix4 b p h 0)) := by
  pointwise [powers]

theorem log_col (A : FVec Ideal S2x16384x8x1 .f32) (B : FVec Ideal S2x16384x8 .f32) (b : Fin 2) (p : Fin 16384) (h : Fin 8) :
    addf A (Host.log (broadcastInDim S2x16384x8x1 ![0, 1, 2] bcast_S2x16384x8_S2x16384x8x1_0_1_2 B)) (ix4 b p h 0)
      = A (ix4 b p h 0) + Ideal.log (B (ix3 b p h)) := by
  pointwise

theorem sums_at (S : FVec Ideal S2x16384x8x129 .f32) (b : Fin 2) (p : Fin 16384) (h : Fin 8) :
    sums S (ix3 b p h) = ∑ k : Fin 129, powers S (ix4 b p h k) :=
  Cert.Softmax.sum_last (powers S) reducesTo_S2x16384x8x129_S2x16384x8_d3 h_S_ b p h

theorem lses_at (S : FVec Ideal S2x16384x8x129 .f32) (b : Fin 2) (p : Fin 16384) (h : Fin 8) :
    lses S (ix4 b p h 0) = tops S (ix4 b p h 0) + Ideal.log (∑ k, Ideal.exp (S (ix4 b p h k) - tops S (ix4 b p h 0))) := by
  refine (log_col (tops S) (sums S) b p h).trans ?_
  rw [sums_at, Finset.sum_congr rfl fun k _ => powers_at S b p h k]

theorem products_at (Q K) (b : Fin 2) (p : Fin 16384) (h : Fin 8) (k : Fin 129) :
    products Q K (ix4 b p h k) = ∑ d : Fin 64, Q (ix4 b p h d) * K (ix5 b p k h d) := by
  pointwise [products]

theorem averagesOf_at (S V) (b : Fin 2) (p : Fin 16384) (h : Fin 8) (d : Fin 64) :
    averagesOf S V (ix3 b p (⟨64 * h.val + d.val, by omega⟩ : Fin 512))
      = ∑ k, Ideal.exp (S (ix4 b p h k) - lses S (ix4 b p h 0)) * V (ix5 b p k h d) := by
  pointwise [averagesOf]

theorem logarithmsOf_at (S) (b : Fin 2) (p : Fin 16384) (h : Fin 8) (d : Fin 64) :
    logarithmsOf S (ix3 b p (⟨64 * h.val + d.val, by omega⟩ : Fin 512)) = lses S (ix4 b p h 0) := by
  pointwise [logarithmsOf]

end

end Cert.DilRefIdeal.Pieces
-- ==== Proof.DilGather.lean ====
/- The two gathers of the dilated attention's reference, at an index. -/
module

public import proofs.«01_k».proof.Proof.DilRefAt
public import Idealize.ShloMosaic.Lib.Pipeline.ValueKit

set_option maxRecDepth 16384

@[expose] public section

noncomputable section

open Idealize.ShloMosaic Idealize.ShloMosaic.TcCoe Idealize.SL.Sem

namespace Cert.DilRefIdeal.Pieces
open Cert.DilRefIdeal Cert.DilRefIdeal.Gen Cert.Bucket

abbrev byKey := gather_S2x16384x8x64_S16384x129x1_S2x16384x129x8x64_034_1_n_n_1_2_21864
abbrev byRow := gather_S32x8_S129x1_S129x8_1_0_n_n_0_1_18

theorem key_start (I : IVec S16384x129x1 32) (b : Fin 2) (p : Fin 16384) (k : Fin 129) (h : Fin 8) (d : Fin 64) :
    byKey.start (ix5 b p k h d) I 1 = min (I (ix3 p k 0)).toInt.toNat 16383 := by
  unfold GatherDims.start
  rw [dif_pos (show (1 : Fin 4) ∈ byKey.startIndexMap from List.mem_singleton.mpr rfl)]
  have hsi : byKey.siIdx (ix5 b p k h d) ⟨List.idxOf (1 : Fin 4) byKey.startIndexMap,
      List.idxOf_lt_length_iff.2 (List.mem_singleton.mpr rfl)⟩ = ix3 p k 0 := by
    funext a
    refine Fin.ext ?_
    match a with
    | ⟨0, _⟩ => rfl
    | ⟨1, _⟩ => rfl
    | ⟨2, _⟩ => rfl
  rw [hsi]
  rfl

theorem gather_keys (K : FVec Ideal S2x16384x8x64 .f32) (I : IVec S16384x129x1 32) (b : Fin 2) (p : Fin 16384) (k : Fin 129)
    (h : Fin 8) (d : Fin 64) : Host.gather byKey K I (ix5 b p k h d)
      = K (ix4 b ⟨min (I (ix3 p k 0)).toInt.toNat 16383, by omega⟩ h d) := by
  unfold Host.gather
  refine congrArg K ?_
  funext a
  refine Fin.ext ?_
  show byKey.start (ix5 b p k h d) I a + byKey.batchCoord (ix5 b p k h d) a + byKey.offCoord (ix5 b p k h d) a = _
  rw [GatherDims.batchCoord_eq_zero _ _ _ List.not_mem_nil]
  match a with
  | ⟨0, _⟩ =>
    show 0 + 0 + b.val = b.val
    omega
  | ⟨1, _⟩ =>
    refine (congrArg (· + 0 + _) (key_start I b p k h d)).trans ?_
    rw [GatherDims.offCoord_eq_zero _ _ _ (fun h => ((GatherDims.mem_sKept _ _).mp h).1 (List.mem_singleton.mpr rfl))]
    rfl
  | ⟨2, _⟩ =>
    show 0 + 0 + h.val = h.val
    omega
  | ⟨3, _⟩ =>
    show 0 + 0 + d.val = d.val
    omega

theorem row_start (I : IVec S129x1 32) (k : Fin 129) (h : Fin 8) :
    byRow.start (ix2 k h) I 0 = min (I (ix2 k 0)).toInt.toNat 31 := by
  unfold GatherDims.start
  rw [dif_pos (show (0 : Fin 2) ∈ byRow.startIndexMap from List.mem_singleton.mpr rfl)]
  have hsi : byRow.siIdx (ix2 k h) ⟨List.idxOf (0 : Fin 2) byRow.startIndexMap,
      List.idxOf_lt_length_iff.2 (List.mem_singleton.mpr rfl)⟩ = ix2 k 0 := by
    funext a
    refine Fin.ext ?_
    match a with
    | ⟨0, _⟩ => rfl
    | ⟨1, _⟩ => rfl
  rw [hsi]
  rfl

theorem gather_rows (T : FVec Ideal S32x8 .f32) (I : IVec S129x1 32) (k : Fin 129) (h : Fin 8) : Host.gather byRow T I (ix2 k h)
      = T (ix2 ⟨min (I (ix2 k 0)).toInt.toNat 31, by omega⟩ h) := by
  unfold Host.gather
  refine congrArg T ?_
  funext a
  refine Fin.ext ?_
  show byRow.start (ix2 k h) I a + byRow.batchCoord (ix2 k h) a + byRow.offCoord (ix2 k h) a = _
  rw [GatherDims.batchCoord_eq_zero _ _ _ List.not_mem_nil]
  match a with
  | ⟨0, _⟩ =>
    refine (congrArg (· + 0 + _) (row_start I k h)).trans ?_
    rw [GatherDims.offCoord_eq_zero _ _ _ (fun h => ((GatherDims.mem_sKept _ _).mp h).1 (List.mem_singleton.mpr rfl))]
    rfl
  | ⟨1, _⟩ =>
    show 0 + 0 + h.val = h.val
    omega

theorem word_int (n : Nat) (hn : n < 16384) : (BitVec.ofNat 32 n).toInt.toNat = n := by
  have e : (BitVec.ofNat 32 n).toInt = (n : Int) := by
    rw [BitVec.toInt_eq_toNat_cond]
    simp only [BitVec.toNat_ofNat]
    split <;> omega
  rw [e]
  omega

/-- The position of a query's key, held at the start. -/
def back (p : Fin 16384) (k : Fin 129) : Fin 16384 := ⟨p.val - k.val, by omega⟩

theorem gathered_at (K : FVec Ideal S2x16384x8x64 .f32) (b : Fin 2) (p : Fin 16384) (k : Fin 129) (h : Fin 8) (d : Fin 64) :
    gathered K (ix5 b p k h d) = K (ix4 b (back p k) h d) := by
  refine (gather_keys K wrapped b p k h d).trans ?_
  refine congrArg (fun q => K (ix4 b q h d)) (Fin.ext ?_)
  show min (wrapped (ix3 p k 0)).toInt.toNat 16383 = p.val - k.val
  rw [wrapped_at, word_int _ (by omega)]
  omega

theorem biases_at (T : FVec Ideal S32x40 .f32) (h : Fin 8) (k : Fin 129) :
    biases T (ix2 h k) = T (ix2 (row k.val) (⟨16 + h.val, by omega⟩ : Fin 40)) := by
  have e : biases T (ix2 h k) = Host.gather byRow (extractStridedSlice S32x8 ![0, 16] T slices_S32x40_S32x8_0_16) rows (ix2 k h) := by
    pointwise [biases]
  rw [e, gather_rows]
  have r : (⟨min (rows (ix2 k 0)).toInt.toNat 31, by omega⟩ : Fin 32) = row k.val := by
    refine Fin.ext ?_
    show min (rows (ix2 k 0)).toInt.toNat 31 = _
    rw [rows_at, word_int _ (by omega)]
    omega
  rw [r]
  pointwise

/-- The reference's score of a query, by its key's distance. -/
def scoreAt (X : FVec Ideal S2x16384x4608 .bf16) (T : FVec Ideal S32x40 .f32) (b : Fin 2) (p : Fin 16384) (h : Fin 8)
    (k : Fin 129) : EReal :=
  if k.val ≤ p.val then
    (∑ d : Fin 64, X (ix3 b p (inPart 0 h d)) * X (ix3 b (back p k) (inPart 1 h d))) * Ideal.ofBits .f32 0x3E000000#32
      + T (ix2 (row k.val) (⟨16 + h.val, by omega⟩ : Fin 40))
  else ⊥

theorem scores_at (X : FVec Ideal S2x16384x4608 .bf16) (T : FVec Ideal S32x40 .f32) (b : Fin 2) (p : Fin 16384) (h : Fin 8)
    (k : Fin 129) : scores X T (ix4 b p h k) = scoreAt X T b p h k := by
  pointwise [scores, seen_at, products_at, biases_at, queries_at, keys_at, gathered_at]
  unfold scoreAt
  by_cases hk : k.val ≤ p.val
  · rw [if_pos hk, if_pos hk, pick_first]
  · rw [if_neg hk, if_neg hk, pick_second]
    exact Cert.Softmax.below_f32

/-- The logarithm of the sum of the scores' exponentials. -/
def logScores (X : FVec Ideal S2x16384x4608 .bf16) (T : FVec Ideal S32x40 .f32) (b : Fin 2) (p : Fin 16384) (h : Fin 8) : EReal :=
  Finset.univ.fold max ⊥ (scoreAt X T b p h)
    + Ideal.log (∑ k, Ideal.exp (scoreAt X T b p h k - Finset.univ.fold max ⊥ (scoreAt X T b p h)))

theorem lse_scores (X : FVec Ideal S2x16384x4608 .bf16) (T : FVec Ideal S32x40 .f32) (b : Fin 2) (p : Fin 16384) (h : Fin 8) :
    lses (scores X T) (ix4 b p h 0) = logScores X T b p h := by
  rw [lses_at, tops_at]
  simp only [scores_at]
  rfl

theorem averages_ref (X : FVec Ideal S2x16384x4608 .bf16) (T : FVec Ideal S32x40 .f32) (b : Fin 2) (p : Fin 16384) (h : Fin 8)
    (d : Fin 64) : averagesOf (scores X T) (gathered (values X)) (ix3 b p (⟨64 * h.val + d.val, by omega⟩ : Fin 512))
      = ∑ k, Ideal.exp (scoreAt X T b p h k - logScores X T b p h) * X (ix3 b (back p k) (inPart 2 h d)) := by
  rw [averagesOf_at, lse_scores]
  simp only [scores_at, gathered_at, values_at]

theorem logarithms_ref (X : FVec Ideal S2x16384x4608 .bf16) (T : FVec Ideal S32x40 .f32) (b : Fin 2) (p : Fin 16384) (h : Fin 8)
    (d : Fin 64) : logarithmsOf (scores X T) (ix3 b p (⟨64 * h.val + d.val, by omega⟩ : Fin 512)) = logScores X T b p h := by
  rw [logarithmsOf_at, lse_scores]

end Cert.DilRefIdeal.Pieces
-- ==== Proof.DilJoin.lean ====
/- The dilated attention's kernel and its reference, joined: one set of scores, by block and key or by position and distance. -/
module

public import proofs.«01_k».proof.Proof.DilBlocks
public import proofs.«01_k».proof.Proof.DilBias
public import proofs.«01_k».proof.Proof.DilGather
public import Idealize.ShloMosaic.Lib.Pipeline.ValueKit

set_option maxRecDepth 16384

@[expose] public section

noncomputable section

open Idealize.ShloMosaic Idealize.ShloMosaic.TcCoe Idealize.SL.Sem

namespace Cert.DilIdeal.Window
open Cert.DilIdeal Cert.DilIdeal.Gen Cert.Bucket
open Cert.DilRefIdeal.Pieces (inPart back scoreAt logScores)

/-- The key of a block at a distance from query `i`. -/
def keyIn (i : Fin 128) (k : Fin 129) : Fin 256 := ⟨128 + i.val - k.val, by omega⟩

theorem keyIn_injective (i : Fin 128) : Function.Injective (keyIn i) := fun k l h => by
  have := congrArg Fin.val h
  simp only [keyIn] at this
  exact Fin.ext (by omega)

theorem key_back (n i : Fin 128) (k : Fin 129) (h : k.val ≤ (queryAt n i).val) : keyAt n (keyIn i k) = back (queryAt n i) k := by
  simp only [queryAt] at h
  refine Fin.ext ?_
  by_cases hj : (keyIn i k).val < 128
  · rw [keyAt_before n _ hj]
    simp only [keyIn, back, queryAt] at hj ⊢
    omega
  · rw [keyAt_own n _ hj]
    simp only [keyIn, back, queryAt] at hj ⊢
    omega

theorem q_part (h : Fin 8) (d : Fin 64) : qCol (col h d) = inPart 0 h d := Fin.ext (by simp only [qCol, col, inPart]; omega)
theorem k_part (h : Fin 8) (d : Fin 64) : kCol (col h d) = inPart 1 h d := Fin.ext (by simp only [kCol, col, inPart]; omega)
theorem v_part (h : Fin 8) (d : Fin 64) : vCol (col h d) = inPart 2 h d := Fin.ext (by simp only [vCol, col, inPart]; omega)

variable (X : FVec Ideal S2x16384x4608 .bf16) (T : FVec Ideal S32x40 .f32)

theorem bias_seen (v : Fin 2) (h : Fin 8) (i : Fin 128) (j : Fin 256) (hs : Sees (v.val = 0) i j) :
    biasAt T (ix4 v h i j) = T (ix2 (row (128 + i.val - j.val)) (⟨16 + h.val, by omega⟩ : Fin 40)) := if_pos hs

theorem bias_unseen (v : Fin 2) (h : Fin 8) (i : Fin 128) (j : Fin 256) (hs : ¬ Sees (v.val = 0) i j) :
    biasAt T (ix4 v h i j) = ⊥ := if_neg hs

theorem sees_iff (n i : Fin 128) (k : Fin 129) : Sees (min n.val 1 = 0) i (keyIn i k) ↔ k.val ≤ (queryAt n i).val := by
  simp only [Sees, keyIn, queryAt]
  omega

/-- A key's score is the reference's at its distance. -/
theorem score_key (b : Fin 2) (n i : Fin 128) (h : Fin 8) (k : Fin 129) :
    scoreOf X (biasAt T) b n i h (keyIn i k) = scoreAt X T b (queryAt n i) h k := by
  unfold scoreOf scoreAt
  by_cases hk : k.val ≤ (queryAt n i).val
  · rw [if_pos hk, bias_seen T _ h i _ ((sees_iff n i k).mpr hk), key_back n i k hk]
    simp only [q_part, k_part]
    rw [show 128 + i.val - (keyIn i k).val = k.val by simp only [keyIn]; omega]
  · rw [if_neg hk, bias_unseen T _ h i _ (fun hs => hk ((sees_iff n i k).mp hs)), EReal.add_bot]

/-- A key at no distance of the window has score `⊥`. -/
theorem score_outside (b : Fin 2) (n i : Fin 128) (h : Fin 8) (j : Fin 256) (hj : ∀ k, keyIn i k ≠ j) :
    scoreOf X (biasAt T) b n i h j = ⊥ := by
  unfold scoreOf
  rw [bias_unseen T _ h i j, EReal.add_bot]
  intro hs
  have h1 := hs.1
  exact hj ⟨128 + i.val - j.val, by omega⟩ (Fin.ext (by simp only [keyIn]; omega))

/-- The queries and the keys are reals, the group's table below `⊤`. -/
structure Reals : Prop where
  stream : ∀ b p (e : Fin 4608), e.val < 1024 → (⊥ : EReal) < X (ix3 b p e) ∧ X (ix3 b p e) < (⊤ : EReal)
  table : ∀ r (h : Fin 8), T (ix2 r (⟨16 + h.val, by omega⟩ : Fin 40)) < (⊤ : EReal)

theorem eighth : ∃ c : ℝ, Ideal.ofBits .f32 0x3E000000#32 = (c : EReal) :=
  ⟨_, by simp [Ideal.ofBits, Ideal.ieee, -EReal.coe_mul]; rfl⟩

variable {X T}

theorem score_below (R : Reals X T) (b : Fin 2) (p : Fin 16384) (h : Fin 8) (k : Fin 129) : scoreAt X T b p h k ≠ ⊤ := by
  have real : ∀ b p (o : Fin 3) (d : Fin 64), o.val < 2 → ∃ r : ℝ, X (ix3 b p (inPart o h d)) = (r : EReal) := fun b p o d ho => by
    have := R.stream b p (inPart o h d) (by simp only [inPart]; omega)
    exact ⟨_, (EReal.coe_toReal this.2.ne this.1.ne').symm⟩
  choose q hq using fun d => real b p 0 d (by decide)
  choose s hs using fun d => real b (back p k) 1 d (by decide)
  obtain ⟨c, hc⟩ := eighth
  have sum : ∑ d : Fin 64, X (ix3 b p (inPart 0 h d)) * X (ix3 b (back p k) (inPart 1 h d)) = ((∑ d, q d * s d : ℝ) : EReal) := by
    rw [Finset.sum_congr rfl fun d _ => by rw [hq d, hs d, ← EReal.coe_mul]]
    exact (map_sum (⟨⟨fun x : ℝ => (x : EReal), EReal.coe_zero⟩, EReal.coe_add⟩ : ℝ →+ EReal) (fun d => q d * s d) Finset.univ).symm
  unfold scoreAt
  by_cases hk : k.val ≤ p.val
  · rw [if_pos hk, hc, sum, ← EReal.coe_mul]
    exact (EReal.add_lt_top (EReal.coe_ne_top _) (R.table (row k.val) h).ne).ne
  · rw [if_neg hk]
    exact bot_ne_top

theorem average_join (R : Reals X T) (b : Fin 2) (n i : Fin 128) (h : Fin 8) (d : Fin 64) :
    averaged (scoreOf X (biasAt T) b n i h) (fun j => X (ix3 b (keyAt n j) (vCol (col h d))))
      = ∑ k, Ideal.exp (scoreAt X T b (queryAt n i) h k - logScores X T b (queryAt n i) h)
          * X (ix3 b (back (queryAt n i) k) (inPart 2 h d)) :=
  Cert.Softmax.average_window (keyIn i) (keyIn_injective i) _ _ (scoreAt X T b (queryAt n i) h)
    (fun k => X (ix3 b (back (queryAt n i) k) (inPart 2 h d))) (score_key X T b n i h)
    (fun k hk => by
      have hk : k.val ≤ (queryAt n i).val := by
        by_contra hn
        exact hk (if_neg hn)
      show X (ix3 b (keyAt n (keyIn i k)) (vCol (col h d))) = _
      rw [key_back n i k hk, v_part])
    (score_outside X T b n i h) (score_below R b _ h)

theorem log_join (R : Reals X T) (b : Fin 2) (n i : Fin 128) (h : Fin 8) :
    logSum (scoreOf X (biasAt T) b n i h) = logScores X T b (queryAt n i) h :=
  Cert.Softmax.log_window (keyIn i) (keyIn_injective i) _ (scoreAt X T b (queryAt n i) h) (score_key X T b n i h)
    (score_outside X T b n i h) (score_below R b _ h)

/-- An index of a result, by block, row, head and lane. -/
theorem split_index (y : S2x16384x512.Idx) :
    ∃ (b : Fin 2) (n i : Fin 128) (h : Fin 8) (d : Fin 64), y = ix3 b (queryAt n i) (col h d) := by
  have h1 : (y 1).val < 16384 := (y 1).isLt
  have h2 : (y 2).val < 512 := (y 2).isLt
  refine ⟨y 0, ⟨(y 1).val / 128, by omega⟩, ⟨(y 1).val % 128, by omega⟩, ⟨(y 2).val / 64, by omega⟩, ⟨(y 2).val % 64, by omega⟩, ?_⟩
  funext a
  refine Fin.ext ?_
  fin_cases a
  · rfl
  · show (y 1).val = 128 * ((y 1).val / 128) + (y 1).val % 128
    omega
  · show (y 2).val = 64 * ((y 2).val / 64) + (y 2).val % 64
    omega

theorem averages_join (R : Reals X T) : averages X (biasAt T)
    = Cert.DilRefIdeal.Pieces.averagesOf (Cert.DilRefIdeal.Pieces.scores X T)
        (Cert.DilRefIdeal.Pieces.gathered (Cert.DilRefIdeal.Pieces.values X)) := by
  funext y
  obtain ⟨b, n, i, h, d, rfl⟩ := split_index y
  rw [averages_at, head_col]
  exact (average_join R b n i h d).trans (Cert.DilRefIdeal.Pieces.averages_ref X T b (queryAt n i) h d).symm

theorem logarithms_join (R : Reals X T) : logarithms X (biasAt T)
    = Cert.DilRefIdeal.Pieces.logarithmsOf (Cert.DilRefIdeal.Pieces.scores X T) := by
  funext y
  obtain ⟨b, n, i, h, d, rfl⟩ := split_index y
  rw [logarithms_at, head_col]
  exact (log_join R b n i h).trans (Cert.DilRefIdeal.Pieces.logarithms_ref X T b (queryAt n i) h d).symm

end Cert.DilIdeal.Window
-- ==== Proof.DilCondition.lean ====
/- What the condition of the dilated attention says: its queries and keys are reals, the group's rows of the bias
table below `⊤`. -/
module

public import proofs.«01_k».proof.Proof.MergeCondition
public import proofs.«01_k».proof.Proof.DilRun
public import proofs.«01_k».proof.Proof.DilJoin

set_option maxRecDepth 16384

@[expose] public section

noncomputable section

open Idealize.ShloMosaic Idealize.ShloMosaic.TcCoe Idealize.SL.Sem

namespace Cert.DilIdeal.Window
open Cert.DilIdeal Cert.DilIdeal.Gen
open Cert.MergeIdeal.Groups (above_of_ones below_of_ones)

section Slices
open Cert.Pre_scores_finite Cert.Pre_scores_finite.Facts
variable [Cert.Pre_scores_finite.Facts]

theorem stream_at (X : FVec Ideal S2x16384x4608 .bf16) (b : Fin 2) (p : Fin 16384) (e : Fin 4608) (he : e.val < 1024) :
    extractStridedSlice S2x16384x1024 ![0, 0, 0] X slices_S2x16384x4608_S2x16384x1024_0_0_0 (ix3 b p (⟨e.val, he⟩ : Fin 1024))
      = X (ix3 b p e) := by
  pointwise

theorem table_at (T : FVec Ideal S32x40 .f32) (r : Fin 32) (h : Fin 8) :
    extractStridedSlice S32x8 ![0, 16] T slices_S32x40_S32x8_0_16 (ix2 r h) = T (ix2 r (⟨16 + h.val, by omega⟩ : Fin 40)) := by
  pointwise

end Slices

variable [Cert.Pre_scores_finite.Facts] (m : (ℓ : Loc nD τ sig) → Buf (Elt Ideal) ℓ)

theorem reals (hpre : Cert.Pre_DilIdeal_scores_finite m) (c : Dev nD) :
    Reals (m ((c : Thread nD τ).loc main_arg0)) (m ((c : Thread nD τ).loc main_arg1)) where
  stream b p e he := by
    have h1 := above_of_ones _ _ (hpre c).1 (ix3 b p (⟨e.val, he⟩ : Fin 1024))
    have h2 := below_of_ones _ _ (hpre c).2.1 (ix3 b p (⟨e.val, he⟩ : Fin 1024))
    have ex := stream_at (m ((c : Thread nD τ).loc main_arg0)) b p e he
    exact ⟨lt_of_le_of_lt bot_le (h1.trans_eq ex), lt_of_lt_of_le (ex.symm.trans_lt h2) le_top⟩
  table r h := by
    have h2 := below_of_ones _ _ (hpre c).2.2 (ix2 r h)
    have ex := table_at (m ((c : Thread nD τ).loc main_arg1)) r h
    exact lt_of_lt_of_le (ex.symm.trans_lt h2) le_top

variable (ρ : Dev nD → PrngReg)

/-- The averages the kernel leaves are the reference's, -/
theorem averages_result (hpre : Cert.Pre_DilIdeal_scores_finite m) (c : Dev nD) : (dat1 (V1 m ρ) c).arrAt 6 cfg1.N
    = Cert.DilRefIdeal.Pieces.averagesOf
        (Cert.DilRefIdeal.Pieces.scores (m ((c : Thread nD τ).loc main_arg0)) (m ((c : Thread nD τ).loc main_arg1)))
        (Cert.DilRefIdeal.Pieces.gathered (Cert.DilRefIdeal.Pieces.values (m ((c : Thread nD τ).loc main_arg0)))) := by
  rw [averages_array, entry_qkv m ρ c, entry_bias m ρ c, bias_array]
  exact averages_join (reals m hpre c)

/-- and so are the logarithms. -/
theorem logarithms_result (hpre : Cert.Pre_DilIdeal_scores_finite m) (c : Dev nD) : (dat1 (V1 m ρ) c).arrAt 7 cfg1.N
    = Cert.DilRefIdeal.Pieces.logarithmsOf
        (Cert.DilRefIdeal.Pieces.scores (m ((c : Thread nD τ).loc main_arg0)) (m ((c : Thread nD τ).loc main_arg1))) := by
  rw [logarithms_array, entry_qkv m ρ c, entry_bias m ρ c, bias_array]
  exact logarithms_join (reals m hpre c)

section Both
variable (m' : (ℓ : Loc Cert.DilRefIdeal.nD Cert.DilRefIdeal.τ Cert.DilRefIdeal.sig) → Buf (Elt Ideal) ℓ) (c : Dev nD)
  (e0 : m' ((c.tc : Thread Cert.DilRefIdeal.nD Cert.DilRefIdeal.τ).loc Cert.DilRefIdeal.main_arg0)
    = m ((c.tc : Thread nD τ).loc main_arg0))
  (e1 : m' ((c.tc : Thread Cert.DilRefIdeal.nD Cert.DilRefIdeal.τ).loc Cert.DilRefIdeal.main_arg1)
    = m ((c.tc : Thread nD τ).loc main_arg1))
include e0 e1

/-- From equal arguments both programs leave the same averages -/
theorem averages_both (hpre : Cert.Pre_DilIdeal_scores_finite m) :
    Cert.DilRefIdeal.Value.res_main_v85 m' c = (dat1 (V1 m ρ) c).arrAt 6 cfg1.N := by
  rw [Cert.DilRefIdeal.Pieces.averages_named, e0, e1]
  exact (averages_result m ρ hpre c).symm

/-- and the same logarithms. -/
theorem logarithms_both (hpre : Cert.Pre_DilIdeal_scores_finite m) :
    Cert.DilRefIdeal.Value.res_main_v88 m' c = (dat1 (V1 m ρ) c).arrAt 7 cfg1.N := by
  rw [Cert.DilRefIdeal.Pieces.logarithms_named, e0, e1]
  exact (logarithms_result m ρ hpre c).symm

end Both

end Cert.DilIdeal.Window
-- ==== Proof.DilFourRun.lean ====
/- The dilated attention's run: its two results are what the second region leaves, from the bias the first region leaves. -/
module

public import proofs.«01_k».proof.Proof.Gen.DilFourIdeal.Frame
public import Idealize.ShloMosaic.Lib.Pipeline.ValueKit

set_option maxRecDepth 16384

@[expose] public section

noncomputable section

namespace Cert.DilFourIdeal.Window
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg cellOf)
open Cert.DilFourIdeal Cert.DilFourIdeal.Gen

variable (m : (ℓ : Loc nD τ sig) → Buf (Elt Ideal) ℓ) (ρ : Dev nD → PrngReg)

set_option backward.isDefEq.respectTransparency.types false in
/-- Both regions run one after the other; the results are the second region's output arrays. -/
theorem run_results : θ_run defs (onTc (τ := τ) (main (F := Ideal))) ⟨m, fun _ => 0, ρ⟩ (fun r => ∀ c : Dev nD,
      r.2.mem ((c.tc : Thread nD τ).loc main_v2_0) = (dat1 (V2 m ρ) c).arrAt 6 cfg1.N
      ∧ r.2.mem ((c.tc : Thread nD τ).loc main_v2_1) = (dat1 (V2 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz c =>
      ⟨(h c _ (mem_uc main_v2_0 (by decide))).trans (W3_arr m ρ c 6),
       (h c _ (mem_uc main_v2_1 (by decide))).trans (W3_arr m ρ c 7),
       (h c _ (mem_uc main_arg0 (by decide))).trans (W3_main_arg0 m ρ c),
       (h c _ (mem_uc main_arg1 (by decide))).trans (W3_main_arg1 m ρ c)⟩)

/-- The first argument as the second region reads it: a row holds 4 positions, side by side. -/
def viewed (X : FVec Ideal S2x16384x4608 .bf16) : FVec Ideal S2x4096x18432 .bf16 := shapeCast _ X shapeCasts_S2x16384x4608_S2x4096x18432

/-- The second region reads the first argument as launched, -/
theorem entry_qkv (c : Dev nD) : V2 m ρ c main_v1 = viewed (m ((c : Thread nD τ).loc main_arg0)) := by
  rw [← W1_args m ρ c main_arg0 (by decide)]
  rfl

/-- and the bias the first region leaves. -/
theorem entry_bias (c : Dev nD) : V2 m ρ c main_v0 = (dat0 (V0 m ρ) c).arrAt 1 cfg0.N :=
  (W2_of m ρ c main_v0 (by decide)).trans (W1_arr m ρ c 1)

end Cert.DilFourIdeal.Window
-- ==== Proof.DilFourHeads.lean ====
/- One head of the dilated attention's second group's block, at an index. -/
module

public import proofs.«01_k».proof.Proof.Gen.DilFourIdeal.Frame
public import proofs.«01_k».proof.Proof.Softmax
public import Idealize.ShloMosaic.Lib.Pipeline.ReadBack

set_option maxRecDepth 16384

@[expose] public section

noncomputable section

open Idealize.ShloMosaic Idealize.ShloMosaic.TcCoe Idealize.SL.Sem

namespace Cert.DilFourIdeal.Window
open Cert.DilFourIdeal Cert.DilFourIdeal.Gen

/-- The column of a head's lane. -/
def col (h : Fin 8) (d : Fin 64) : Fin 512 := ⟨64 * h.val + d.val, by omega⟩

/-- The head of a column. -/
def head (e : Fin 512) : Fin 8 := ⟨e.val / 64, by omega⟩

theorem head_col (h : Fin 8) (d : Fin 64) : head (col h d) = h := Fin.ext (by simp only [head, col]; omega)

/-- The columns as the slices spell them. -/
theorem cols (d : Fin 64) :
    (∀ h, (⟨d.val, h⟩ : Fin 512) = col 0 d) ∧ (∀ h, (⟨64 + d.val, h⟩ : Fin 512) = col 1 d) ∧ (∀ h, (⟨128 + d.val, h⟩ : Fin 512) = col 2 d)
    ∧ (∀ h, (⟨192 + d.val, h⟩ : Fin 512) = col 3 d) ∧ (∀ h, (⟨256 + d.val, h⟩ : Fin 512) = col 4 d)
    ∧ (∀ h, (⟨320 + d.val, h⟩ : Fin 512) = col 5 d) ∧ (∀ h, (⟨384 + d.val, h⟩ : Fin 512) = col 6 d)
    ∧ (∀ h, (⟨448 + d.val, h⟩ : Fin 512) = col 7 d) := by
  refine ⟨?_, fun _ => rfl, fun _ => rfl, fun _ => rfl, fun _ => rfl, fun _ => rfl, fun _ => rfl, fun _ => rfl⟩
  intro h
  exact Fin.ext (by simp [col])

/-- A head's score of query `i` and key `j` in the block. -/
def score (h : Fin 8) (q : FVec Ideal S128x512 .bf16) (k : FVec Ideal S256x512 .bf16) (b : Vec Ideal S1x8x128x256 .f32)
    (i : Fin 128) (j : Fin 256) : EReal :=
  (∑ d : Fin 64, q (ix2 i (col h d)) * k (ix2 j (col h d))) * Ideal.ofBits .f32 0x3E000000#32 + b (ix4 0 h i j)

/-- The average of `v` by the exponentials of the scores, over their sum. -/
def averaged {n : Nat} (f v : Fin n → EReal) : EReal :=
  (∑ j, Ideal.exp (f j - Finset.univ.fold max ⊥ f) * v j)
        * Ideal.div 1 (∑ j, Ideal.exp (f j - Finset.univ.fold max ⊥ f))

/-- The logarithm of the sum of the exponentials. -/
def logSum {n : Nat} (f : Fin n → EReal) : EReal :=
  Finset.univ.fold max ⊥ f + Ideal.log (∑ j, Ideal.exp (f j - Finset.univ.fold max ⊥ f))

/-- What the body leaves of the averages, -/
def outAt (q : FVec Ideal S128x512 .bf16) (k v : FVec Ideal S256x512 .bf16) (b : Vec Ideal S1x8x128x256 .f32)
    (y : S1x128x512.Idx) : EReal :=
  averaged (score (head (y 2)) q k b (y 1)) fun j => v (ix2 j (y 2))

/-- and of the logarithms. -/
def logAt (q : FVec Ideal S128x512 .bf16) (k : FVec Ideal S256x512 .bf16) (b : Vec Ideal S1x8x128x256 .f32)
    (y : S1x128x512.Idx) : EReal :=
  logSum (score (head (y 2)) q k b (y 1))

theorem outAt_col (q k v b) (i : Fin 128) (h : Fin 8) (d : Fin 64) :
    outAt q k v b (ix3 0 i (col h d)) = averaged (score h q k b i) fun j => v (ix2 j (col h d)) := by
  show averaged (score (head (col h d)) q k b i) (fun j => v (ix2 j (col h d))) = _
  rw [head_col]

theorem logAt_col (q k b) (i : Fin 128) (h : Fin 8) (d : Fin 64) :
    logAt q k b (ix3 0 i (col h d)) = logSum (score h q k b i) := by
  show logSum (score (head (col h d)) q k b i) = _
  rw [head_col]

/-- A head's store, at the block's indices. -/
theorem stored (h : Fin 8) (G : S1x128x512.Idx → EReal) (p : FVec Ideal S1x128x64 .f32)
    (inb : ∀ a, (![0, 0, 64 * h.val] : Fin 3 → Nat) a + S1x128x64.size a ≤ S1x128x512.size a)
    (hp : ∀ i d, p (ix3 0 i d) = G (ix3 0 i (col h d))) (x : S1x128x64.Idx) :
    p x = G ((Rect.unit (s := S1x128x512) ![0, 0, 64 * h.val] S1x128x64.size inb).emb x) := by
  have e : (Rect.unit (s := S1x128x512) ![0, 0, 64 * h.val] S1x128x64.size inb).emb x = ix3 0 (x 1) (col h (x 2)) := by
    funext a
    fin_cases a
    · exact Subsingleton.elim (α := Fin 1) _ _
    · exact Fin.ext (by show 0 + 1 * (x 1).val = (x 1).val; omega)
    · exact Fin.ext (by show 64 * h.val + 1 * (x 2).val = 64 * h.val + (x 2).val; omega)
  have e' : x = ix3 0 (x 1) (x 2) := by
    funext a
    fin_cases a
    · exact Subsingleton.elim (α := Fin 1) _ _
    · rfl
    · rfl
  rw [e]
  exact (congrArg p e').trans (hp (x 1) (x 2))

theorem in_head (h : Fin 8) (a : Fin 3) : (![0, 0, 64 * h.val] : Fin 3 → Nat) a + S1x128x64.size a ≤ S1x128x512.size a := by
  fin_cases a
  · exact Nat.le_refl 1
  · exact Nat.le_refl 128
  · show 64 * h.val + 64 ≤ 512
    omega

theorem whole (x : Vec Ideal S1x128x512 .bf16) : View.ld x r1_0 = x :=
  View.ld_unit_zero (S := S1x128x512) (by decide) _ x

theorem out_block (x0 x1 x2 x3 x4 x5) (y : S1x128x512.Idx) :
    out1_6 (F := Ideal) x0 x1 x2 x3 x4 x5 y = outAt (k1_pay2 x0) (k1_pay3 x2 x1) (k1_pay4 x4 x3) x5 y := by
  unfold_out out1_6
  simp only [whole]
  refine View.canon_apply_of_pieces (Val := Elt Ideal) (e := .f32) (outAt (k1_pay2 x0) (k1_pay3 x2 x1) (k1_pay4 x4 x3) x5) _ ?_ y
    (cover1_6 _ _ _ _ _ _ _ _ y)
  refine View.PiecesOf.mem ⟨stored 7 _ _ (in_head 7) ?_, stored 6 _ _ (in_head 6) ?_, stored 5 _ _ (in_head 5) ?_, stored 4 _ _ (in_head 4) ?_, stored 3 _ _ (in_head 3) ?_,
    stored 2 _ _ (in_head 2) ?_, stored 1 _ _ (in_head 1) ?_, stored 0 _ _ (in_head 0) ?_, trivial⟩
  all_goals
    intro i d
    rw [outAt_col]
    pointwise [k1_pay57, k1_pay56, k1_pay55, k1_pay54, k1_pay53, k1_pay51, k1_pay50, k1_pay49, k1_pay48, k1_pay47, k1_pay46,
      k1_pay45, k1_pay43, k1_pay42, k1_pay41, k1_pay40, k1_pay39, k1_pay37, k1_pay36, k1_pay35, k1_pay34, k1_pay33, k1_pay32,
      k1_pay30, k1_pay29, k1_pay28, k1_pay27, k1_pay26, k1_pay24, k1_pay23, k1_pay22, k1_pay21, k1_pay20, k1_pay17, k1_pay16,
      k1_pay15, k1_pay14, k1_pay13, k1_pay11, k1_pay10, k1_pay9, k1_pay8, k1_pay7, k1_pay6, k1_pay5]
    simp only [Softmax.below_f32]
    simp only [cols, averaged, logSum, score]
    try rfl

theorem log_block (x0 x1 x2 x3 x4 x5) (y : S1x128x512.Idx) :
    out1_7 (F := Ideal) x0 x1 x2 x3 x4 x5 y = logAt (k1_pay2 x0) (k1_pay3 x2 x1) x5 y := by
  unfold_out out1_7
  simp only [whole]
  refine View.canon_apply_of_pieces (Val := Elt Ideal) (e := .f32) (logAt (k1_pay2 x0) (k1_pay3 x2 x1) x5) _ ?_ y
    (cover1_7 _ _ _ _ _ _ _ _ y)
  refine View.PiecesOf.mem ⟨stored 7 _ _ (in_head 7) ?_, stored 6 _ _ (in_head 6) ?_, stored 5 _ _ (in_head 5) ?_, stored 4 _ _ (in_head 4) ?_, stored 3 _ _ (in_head 3) ?_,
    stored 2 _ _ (in_head 2) ?_, stored 1 _ _ (in_head 1) ?_, stored 0 _ _ (in_head 0) ?_, trivial⟩
  all_goals
    intro i d
    rw [logAt_col]
    pointwise [k1_pay1, k1_pay58, k1_pay54, k1_pay52, k1_pay46, k1_pay48, k1_pay44, k1_pay40, k1_pay41, k1_pay38, k1_pay32,
      k1_pay31, k1_pay25, k1_pay19, k1_pay18, k1_pay14, k1_pay12, k1_pay8, k1_pay6, k1_pay57, k1_pay56, k1_pay55, k1_pay53,
      k1_pay51, k1_pay50, k1_pay49, k1_pay47, k1_pay45, k1_pay43, k1_pay42, k1_pay39, k1_pay37, k1_pay36, k1_pay35, k1_pay34,
      k1_pay33, k1_pay30, k1_pay29, k1_pay28, k1_pay27, k1_pay26, k1_pay24, k1_pay23, k1_pay22, k1_pay21, k1_pay20, k1_pay17,
      k1_pay16, k1_pay15, k1_pay13, k1_pay11, k1_pay10, k1_pay9, k1_pay7, k1_pay5]
    simp only [Softmax.below_f32]
    simp only [cols, averaged, logSum, score]
    try rfl

end Cert.DilFourIdeal.Window
-- ==== Proof.DilFourBlocks.lean ====
/- What the second dilated group's second region reads at a point, by its array. -/
module

public import proofs.«01_k».proof.Proof.DilFourHeads
public import Idealize.ShloMosaic.Lib.Pipeline.ValueKit

set_option maxRecDepth 16384

@[expose] public section

noncomputable section

open Idealize.ShloMosaic Idealize.ShloMosaic.TcCoe Idealize.SL.Sem

namespace Cert.DilFourIdeal.Window
open Cert.DilFourIdeal Cert.DilFourIdeal.Gen

variable (V : (c : Dev nD) → (b : Ref sig .tc) → Buf (Elt Ideal) ((c : Thread nD τ).loc b))

/-- Which block each window is on at every point: the batch is `t / 128`, the place in a row `t / 32 % 4`, the row block
`t % 32`, the row block before it held at the first, and the bias's first array for the first row block alone. -/
theorem blocks1_at : ∀ t : Fin cfg1.N, win1_0.index t = ![t.val / 128, t.val % 32, 9 * (t.val / 32 % 4) + 3]
    ∧ win1_1.index t = ![t.val / 128, t.val % 32, 9 * (t.val / 32 % 4) + 4]
    ∧ win1_2.index t = ![t.val / 128, t.val % 32 - 1, 9 * (t.val / 32 % 4) + 4]
    ∧ win1_3.index t = ![t.val / 128, t.val % 32, 9 * (t.val / 32 % 4) + 5]
    ∧ win1_4.index t = ![t.val / 128, t.val % 32 - 1, 9 * (t.val / 32 % 4) + 5]
    ∧ win1_5.index t = ![min (t.val % 32) 1, 0, 0, 0]
    ∧ win1_6.index t = ![t.val / 128, t.val % 32, t.val / 32 % 4] ∧ win1_7.index t = ![t.val / 128, t.val % 32, t.val / 32 % 4] :=
  (by decide +kernel : ∀ t : Fin grid1.N, _)

/-- The row of a row block's key. -/
def keyAt (n : Fin 32) (j : Fin 256) : Fin 4096 :=
  if j.val < 128 then ⟨128 * (n.val - 1) + j.val % 128, by omega⟩ else ⟨128 * n.val + (j.val - 128), by omega⟩

/-- The row of a row block's query. -/
def queryAt (n : Fin 32) (i : Fin 128) : Fin 4096 := ⟨128 * n.val + i.val, by omega⟩

/-- The columns of the group's three thirds, at a place in the row. -/
def qCol (s : Fin 4) (e : Fin 512) : Fin 18432 := ⟨4608 * s.val + 1536 + e.val, by omega⟩
def kCol (s : Fin 4) (e : Fin 512) : Fin 18432 := ⟨4608 * s.val + 2048 + e.val, by omega⟩
def vCol (s : Fin 4) (e : Fin 512) : Fin 18432 := ⟨4608 * s.val + 2560 + e.val, by omega⟩

/-- The results' column. -/
def oCol (s : Fin 4) (e : Fin 512) : Fin 2048 := ⟨512 * s.val + e.val, by omega⟩

theorem keyAt_before (n : Fin 32) (j : Fin 256) (h : j.val < 128) : (keyAt n j).val = 128 * (n.val - 1) + j.val := by
  unfold keyAt
  rw [if_pos h]
  show 128 * (n.val - 1) + j.val % 128 = _
  omega

theorem keyAt_own (n : Fin 32) (j : Fin 256) (h : ¬ j.val < 128) : (keyAt n j).val = 128 * n.val + (j.val - 128) := by
  unfold keyAt
  rw [if_neg h]

/-- The kernel's scores, by the arrays: the bias `B`, and the group's columns of `X`. -/
def scoreOf (X : FVec Ideal S2x4096x18432 .bf16) (B : S2x8x128x256.Idx → EReal) (b : Fin 2) (s : Fin 4) (n : Fin 32) (i : Fin 128)
    (h : Fin 8) (j : Fin 256) : EReal :=
  (∑ d : Fin 64, X (ix3 b (queryAt n i) (qCol s (col h d))) * X (ix3 b (keyAt n j) (kCol s (col h d)))) * Ideal.ofBits .f32 0x3E000000#32
    + B (ix4 ⟨min n.val 1, by omega⟩ h i j)

section Reads
variable (c : Dev nD) (t : Fin cfg1.N) (b : Fin 2) (s : Fin 4) (n : Fin 32) (hb : b.val = t.val / 128)
  (hs : s.val = t.val / 32 % 4) (hn : n.val = t.val % 32)
include hb hs hn

theorem query_read (i : Fin 128) (e : Fin 512) :
    k1_pay2 (iblk1 V c 0 t) (ix2 i e) = V c main_v1 (ix3 b (queryAt n i) (qCol s e)) := by
  pointwise [k1_pay2]
  blk_point [iblk1, blocks1_at t]
  all_goals simp only [queryAt, qCol]
  all_goals omega

theorem key_read (j : Fin 256) (e : Fin 512) :
    k1_pay3 (iblk1 V c 2 t) (iblk1 V c 1 t) (ix2 j e) = V c main_v1 (ix3 b (keyAt n j) (kCol s e)) := by
  pointwise [k1_pay3]
  by_cases h : j.val < 128
  · rw [dif_pos h]
    blk_point [iblk1, blocks1_at t]
    all_goals simp only [keyAt_before n j h, kCol]
    all_goals omega
  · rw [dif_neg h]
    blk_point [iblk1, blocks1_at t]
    all_goals simp only [keyAt_own n j h, kCol]
    all_goals omega

theorem value_read (j : Fin 256) (e : Fin 512) :
    k1_pay4 (iblk1 V c 4 t) (iblk1 V c 3 t) (ix2 j e) = V c main_v1 (ix3 b (keyAt n j) (vCol s e)) := by
  pointwise [k1_pay4]
  by_cases h : j.val < 128
  · rw [dif_pos h]
    blk_point [iblk1, blocks1_at t]
    all_goals simp only [keyAt_before n j h, vCol]
    all_goals omega
  · rw [dif_neg h]
    blk_point [iblk1, blocks1_at t]
    all_goals simp only [keyAt_own n j h, vCol]
    all_goals omega

omit hb hs in
theorem bias_read (h : Fin 8) (i : Fin 128) (j : Fin 256) :
    iblk1 V c 5 t (ix4 0 h i j) = V c main_v0 (ix4 ⟨min n.val 1, by omega⟩ h i j) := by
  blk_point [iblk1, blocks1_at t]

theorem score_read (i : Fin 128) (h : Fin 8) :
    score h (k1_pay2 (iblk1 V c 0 t)) (k1_pay3 (iblk1 V c 2 t) (iblk1 V c 1 t)) (iblk1 V c 5 t) i
      = scoreOf (V c main_v1) (V c main_v0) b s n i h := by
  funext j
  unfold score scoreOf
  simp only [query_read V c t b s n hb hs hn, key_read V c t b s n hb hs hn]
  exact congrArg (_ + ·) (bias_read V c t b s n hn h i j)

end Reads

/-- The row block, the row in it, the place and the column of a result's index. -/
def blockOf (p : Fin 4096) : Fin 32 := ⟨p.val / 128, by omega⟩
def rowOf (p : Fin 4096) : Fin 128 := ⟨p.val % 128, by omega⟩
def placeOf (e : Fin 2048) : Fin 4 := ⟨e.val / 512, by omega⟩
def laneOf (e : Fin 2048) : Fin 512 := ⟨e.val % 512, by omega⟩

/-- The averages the kernel leaves, -/
def averages (X : FVec Ideal S2x4096x18432 .bf16) (B : S2x8x128x256.Idx → EReal) (y : S2x4096x2048.Idx) : EReal :=
  averaged (scoreOf X B (y 0) (placeOf (y 2)) (blockOf (y 1)) (rowOf (y 1)) (head (laneOf (y 2))))
    fun j => X (ix3 (y 0) (keyAt (blockOf (y 1)) j) (vCol (placeOf (y 2)) (laneOf (y 2))))

/-- and the logarithms. -/
def logarithms (X : FVec Ideal S2x4096x18432 .bf16) (B : S2x8x128x256.Idx → EReal) (y : S2x4096x2048.Idx) : EReal :=
  logSum (scoreOf X B (y 0) (placeOf (y 2)) (blockOf (y 1)) (rowOf (y 1)) (head (laneOf (y 2))))

theorem block_query (n : Fin 32) (i : Fin 128) : blockOf (queryAt n i) = n := Fin.ext (by simp only [blockOf, queryAt]; omega)
theorem row_query (n : Fin 32) (i : Fin 128) : rowOf (queryAt n i) = i := Fin.ext (by simp only [rowOf, queryAt]; omega)
theorem place_col (s : Fin 4) (e : Fin 512) : placeOf (oCol s e) = s := Fin.ext (by simp only [placeOf, oCol]; omega)
theorem lane_col (s : Fin 4) (e : Fin 512) : laneOf (oCol s e) = e := Fin.ext (by simp only [laneOf, oCol]; omega)

theorem averages_at (X B) (b : Fin 2) (s : Fin 4) (n : Fin 32) (i : Fin 128) (e : Fin 512) :
    averages X B (ix3 b (queryAt n i) (oCol s e))
      = averaged (scoreOf X B b s n i (head e)) fun j => X (ix3 b (keyAt n j) (vCol s e)) := by
  show averaged (scoreOf X B b (placeOf (oCol s e)) (blockOf (queryAt n i)) (rowOf (queryAt n i)) (head (laneOf (oCol s e))))
    (fun j => X (ix3 b (keyAt (blockOf (queryAt n i)) j) (vCol (placeOf (oCol s e)) (laneOf (oCol s e))))) = _
  rw [block_query, row_query, place_col, lane_col]

theorem logarithms_at (X B) (b : Fin 2) (s : Fin 4) (n : Fin 32) (i : Fin 128) (e : Fin 512) :
    logarithms X B (ix3 b (queryAt n i) (oCol s e)) = logSum (scoreOf X B b s n i (head e)) := by
  show logSum (scoreOf X B b (placeOf (oCol s e)) (blockOf (queryAt n i)) (rowOf (queryAt n i)) (head (laneOf (oCol s e)))) = _
  rw [block_query, row_query, place_col, lane_col]

theorem averages_read (c : Dev nD) (t : Fin cfg1.N) (b : Fin 2) (s : Fin 4) (n : Fin 32) (hb : b.val = t.val / 128)
    (hs : s.val = t.val / 32 % 4) (hn : n.val = t.val % 32)
    (i : Fin 128) (e : Fin 512) :
    averaged (score (head e) (k1_pay2 (iblk1 V c 0 t)) (k1_pay3 (iblk1 V c 2 t) (iblk1 V c 1 t)) (iblk1 V c 5 t) i)
      (fun j => k1_pay4 (iblk1 V c 4 t) (iblk1 V c 3 t) (ix2 j e))
      = averages (V c main_v1) (V c main_v0) (ix3 b (queryAt n i) (oCol s e)) := by
  rw [score_read V c t b s n hb hs hn, averages_at]
  exact congrArg _ (funext fun j => value_read V c t b s n hb hs hn j e)

theorem logarithms_read (c : Dev nD) (t : Fin cfg1.N) (b : Fin 2) (s : Fin 4) (n : Fin 32) (hb : b.val = t.val / 128)
    (hs : s.val = t.val / 32 % 4) (hn : n.val = t.val % 32)
    (i : Fin 128) (e : Fin 512) :
    logSum (score (head e) (k1_pay2 (iblk1 V c 0 t)) (k1_pay3 (iblk1 V c 2 t) (iblk1 V c 1 t)) (iblk1 V c 5 t) i)
      = logarithms (V c main_v1) (V c main_v0) (ix3 b (queryAt n i) (oCol s e)) := by
  rw [score_read V c t b s n hb hs hn, logarithms_at]

theorem averages_array (c : Dev nD) : (dat1 V c).arrAt 6 cfg1.N = averages (V c main_v1) (V c main_v0) := by
  refine (dat1 V c).arrAt_eq_of_covers 6 _ (by decide +kernel) fun t _ y => ?_
  blk_simp
  rw [after1_6]
  have ht : t.val < 256 := t.isLt
  refine (out_block _ _ _ _ _ _ _).trans ?_
  refine (averages_read V c t ⟨t.val / 128, by omega⟩ ⟨t.val / 32 % 4, by omega⟩ ⟨t.val % 32, by omega⟩ rfl rfl rfl (y 1) (y 2)).trans (congrArg _ ?_)
  blk_point [blocks1_at t]
  all_goals simp only [queryAt, oCol]
  all_goals omega

theorem logarithms_array (c : Dev nD) : (dat1 V c).arrAt 7 cfg1.N = logarithms (V c main_v1) (V c main_v0) := by
  refine (dat1 V c).arrAt_eq_of_covers 7 _ (by decide +kernel) fun t _ y => ?_
  blk_simp
  rw [after1_7]
  have ht : t.val < 256 := t.isLt
  refine (log_block _ _ _ _ _ _ _).trans ?_
  refine (logarithms_read V c t ⟨t.val / 128, by omega⟩ ⟨t.val / 32 % 4, by omega⟩ ⟨t.val % 32, by omega⟩ rfl rfl rfl (y 1) (y 2)).trans (congrArg _ ?_)
  blk_point [blocks1_at t]
  all_goals simp only [queryAt, oCol]
  all_goals omega

end Cert.DilFourIdeal.Window
-- ==== Proof.StripsBucket.lean ====
/- The bias bucket of a distance as far as the sparse attention's strips reach, and of a negative one. -/
module

public import proofs.«01_k».proof.Proof.DilBucket

set_option maxRecDepth 16384

@[expose] public section

noncomputable section

open Idealize.ShloMosaic

namespace Cert.Bucket

theorem word_held (n : Nat) (hn : n < 4096) : IntOp.maxsi (BitVec.ofNat 32 n) 0#32 = BitVec.ofNat 32 n := by
  have h : ∀ n : Fin 4096, IntOp.maxsi (BitVec.ofNat 32 n.val) 0#32 = BitVec.ofNat 32 n.val := by decide +kernel
  exact h ⟨n, hn⟩

theorem word_positive (n : Nat) (hn : n < 4096) (h1 : 16 ≤ n) : IntOp.maxsi (BitVec.ofNat 32 n) 1#32 = BitVec.ofNat 32 n := by
  have h : ∀ n : Fin 4096, 16 ≤ n.val → IntOp.maxsi (BitVec.ofNat 32 n.val) 1#32 = BitVec.ofNat 32 n.val := by decide +kernel
  exact h ⟨n, hn⟩ h1

/-- A real between zero and five thousand is a word between zero and five thousand. -/
theorem toward_zero_far (r : ℝ) (h0 : 0 ≤ r) (h1 : r ≤ 5000) :
    ∃ k : Nat, k ≤ 5000 ∧ Ideal.fptosi 32 (r : EReal) = BitVec.ofNat 32 k := by
  have hk : ⌊r⌋₊ ≤ 5000 := by
    have := Nat.floor_le_floor h1
    simpa using this
  refine ⟨⌊r⌋₊, hk, ?_⟩
  unfold Ideal.fptosi
  rw [Ideal.toIntClamped_coe, if_pos h0, ← Int.natCast_floor_eq_floor h0]
  have e : max (-((2 ^ (32 - 1) : Nat) : Int)) (min (((2 ^ (32 - 1) : Nat) : Int) - 1) ((⌊r⌋₊ : Nat) : Int)) = ((⌊r⌋₊ : Nat) : Int) := by
    norm_num
    omega
  rw [e]
  exact BitVec.ofInt_natCast 32 _

theorem capped_far (k : Nat) (hk : k ≤ 5000) : (IntOp.minsi (IntOp.addi 16#32 (BitVec.ofNat 32 k)) 31#32).toNat < 32 := by
  have h : ∀ k : Fin 5001, (IntOp.minsi (IntOp.addi 16#32 (BitVec.ofNat 32 k.val)) 31#32).toNat < 32 := by decide +kernel
  exact h ⟨k, by omega⟩

/-- The bucket of a distance along a strip is one of the table's rows. -/
theorem bucket_lt_far (n : Nat) (hn : n < 4096) : (bucket (BitVec.ofNat 32 n)).toNat < 32 := by
  unfold bucket
  rw [word_held n hn]
  by_cases h16 : n < 16
  · have h : ∀ n : Fin 16, IntOp.cmpi .slt (BitVec.ofNat 32 n.val) 16#32 = 1#1 ∧ (BitVec.ofNat 32 n.val).toNat < 32 := by
      decide +kernel
    rw [(h ⟨n, h16⟩).1, pick_first]
    exact (h ⟨n, h16⟩).2
  · have h : ∀ n : Fin 4096, 16 ≤ n.val → IntOp.cmpi .slt (BitVec.ofNat 32 n.val) 16#32 = 0#1
        ∧ (BitVec.ofNat 32 n.val).toInt = (n.val : Int) := by decide +kernel
    have hh := h ⟨n, hn⟩ (by show 16 ≤ n; omega)
    rw [hh.1, pick_second, word_positive n hn (by omega)]
    obtain ⟨c, hc, ec⟩ := step
    have hc0 : c ≠ 0 := by linarith
    have en : FloatOps.sitofp (F := Ideal) FTy.f32 (BitVec.ofNat 32 n) = ((n : ℝ) : EReal) := by
      show (((BitVec.ofNat 32 n).toInt : ℝ) : EReal) = _
      rw [hh.2]
      simp
    have hn16 : (16 : ℝ) ≤ n := by exact_mod_cast (by omega : 16 ≤ n)
    have hn4096 : (n : ℝ) ≤ 4096 := by exact_mod_cast (by omega : n ≤ 4096)
    rw [en, sixteen, ec, Ideal.div_coe (y := 16) (by norm_num), ← EReal.coe_mul, Ideal.log_coe, if_neg (by
      apply not_le.mpr
      positivity), Ideal.div_coe hc0, ← EReal.coe_mul, ← EReal.coe_mul]
    have l0 : 0 ≤ Real.log (n * (1 / 16)) := Real.log_nonneg (by linarith)
    have l1 : Real.log (n * (1 / 16)) ≤ 255 := by
      have := Real.log_le_sub_one_of_pos (x := (n : ℝ) * (1 / 16)) (by positivity)
      linarith
    have hci : 1 / c ≤ 1 := by rw [div_le_one (by linarith)]; exact hc
    have hci0 : 0 ≤ 1 / c := by positivity
    obtain ⟨k, hk, ek⟩ := toward_zero_far (Real.log (n * (1 / 16)) * (1 / c) * 16) (by positivity) (by
      have : Real.log (n * (1 / 16)) * (1 / c) ≤ 255 * 1 := mul_le_mul l1 hci hci0 (by norm_num)
      linarith)
    show (IntOp.minsi (IntOp.addi 16#32 (Ideal.fptosi 32 _)) 31#32).toNat < 32
    rw [ek]
    exact capped_far k hk

/-- Along a strip the bucket is its row's word. -/
theorem bucket_row_far (n : Nat) (hn : n < 4096) : bucket (BitVec.ofNat 32 n) = BitVec.ofNat 32 (row n).val := by
  have h := bucket_lt_far n hn
  apply BitVec.eq_of_toNat_eq
  rw [BitVec.toNat_ofNat]
  show _ = min _ 31 % 2 ^ 32
  rw [Nat.min_eq_left (by omega), Nat.mod_eq_of_lt (by omega)]

/-- A negative distance has the bucket of distance zero. -/
theorem bucket_held (d : BitVec 32) : bucket d = bucket (IntOp.maxsi d 0#32) := by
  have e : IntOp.maxsi (IntOp.maxsi d 0#32) 0#32 = IntOp.maxsi d 0#32 := by
    unfold IntOp.maxsi
    split <;> simp_all
  unfold bucket
  rw [e]

/-- The distance of a query and a place of its strip, held at zero. -/
theorem strip_held (i : Fin 128) (j : Fin 3072) : IntOp.maxsi (BitVec.ofNat 32 i.val + 2560#32 - BitVec.ofNat 32 j.val) 0#32
    = BitVec.ofNat 32 (2560 + i.val - j.val) := by
  have hi : (BitVec.ofNat 32 i.val + 2560#32 - BitVec.ofNat 32 j.val).toInt = 2560 + (i.val : Int) - (j.val : Int) := by
    rw [BitVec.toInt_eq_toNat_cond]
    simp only [BitVec.toNat_sub, BitVec.toNat_add, BitVec.toNat_ofNat]
    split <;> omega
  unfold IntOp.maxsi
  have e : (0#32).slt (BitVec.ofNat 32 i.val + 2560#32 - BitVec.ofNat 32 j.val) = decide (j.val < 2560 + i.val) := by
    show decide ((0#32).toInt < _) = _
    rw [hi]
    exact decide_eq_decide.mpr (by show (0 : Int) < _ ↔ _; omega)
  rw [e]
  by_cases h : j.val < 2560 + i.val
  · rw [if_pos (decide_eq_true h)]
    apply BitVec.eq_of_toNat_eq
    simp only [BitVec.toNat_sub, BitVec.toNat_add, BitVec.toNat_ofNat]
    omega
  · rw [if_neg (by simp [h]), show 2560 + i.val - j.val = 0 by omega]

/-- The bucket along a strip is the word of the row. -/
theorem strip_bucket (i : Fin 128) (j : Fin 3072) : bucket (BitVec.ofNat 32 i.val + 2560#32 - BitVec.ofNat 32 j.val)
    = BitVec.ofNat 32 (row (2560 + i.val - j.val)).val := by
  rw [bucket_held, strip_held, bucket_row_far _ (by omega)]

end Cert.Bucket
-- ==== Proof.DilFourBias.lean ====
/- The bias the dilated attention's second group's first region leaves: the table's row of a distance, and `⊥` outside the window. -/
module

public import proofs.«01_k».proof.Proof.Gen.DilFourIdeal.Frame
public import proofs.«01_k».proof.Proof.StripsBucket
public import Idealize.ShloMosaic.Lib.Pipeline.ValueKit

set_option maxRecDepth 16384

@[expose] public section

noncomputable section

open Idealize.ShloMosaic Idealize.ShloMosaic.TcCoe Idealize.SL.Sem

namespace Cert.DilFourIdeal.Window
open Cert.DilFourIdeal Cert.DilFourIdeal.Gen Cert.Bucket

/-- Query `i` of a block sees its key `j`: the key is at most 128 rows back, and in the first block its own. -/
def Sees (first : Prop) (i : Fin 128) (j : Fin 256) : Prop :=
  (i.val ≤ j.val ∧ j.val ≤ 128 + i.val) ∧ (128 ≤ j.val ∨ ¬ first)

/-- The bias at an index. -/
def biasAt (T : FVec Ideal S32x40 .f32) (y : S2x8x128x256.Idx) : EReal :=
  open Classical in if Sees ((y 0).val = 0) (y 2) (y 3) then
      T (ix2 (row (4 * (128 + (y 2).val - (y 3).val))) (⟨24 + (y 1).val, by have := (y 1).isLt; change _ < 8 at this; omega⟩ : Fin 40)) else ⊥

theorem dist_at (i : Fin 128) (j : Fin 256) : k0_pay2 (ix2 i j) = 128#32 + BitVec.ofNat 32 i.val - BitVec.ofNat 32 j.val := by
  pointwise [k0_pay2]
  rfl

theorem bucket_at (i : Fin 128) (j : Fin 256) : k0_pay3 (F := Ideal) (ix2 i j) = bucket (IntOp.muli (k0_pay2 (ix2 i j)) 4#32) := by
  pointwise [k0_pay3]
  rfl

/-- A distance in rows, in positions. -/
theorem spread (n : Nat) : IntOp.muli (BitVec.ofNat 32 n) 4#32 = BitVec.ofNat 32 (4 * n) := by
  show BitVec.ofNat 32 n * 4#32 = _
  rw [← BitVec.ofNat_mul, Nat.mul_comm]

theorem mask_value : Named.named (F := Ideal) κ "mask" (φ := .f32) 0xF149F2CA#32 = (⊥ : EReal) := rfl

/-- The distance of a seen key is not negative and at most 128, as words, -/
theorem in_reach (i : Fin 128) (j : Fin 256) :
    IntOp.andi (IntOp.cmpi .sge (128#32 + BitVec.ofNat 32 i.val - BitVec.ofNat 32 j.val) 0#32)
        (IntOp.cmpi .sle (128#32 + BitVec.ofNat 32 i.val - BitVec.ofNat 32 j.val) 128#32)
      = if i.val ≤ j.val ∧ j.val ≤ 128 + i.val then 1#1 else 0#1 := by
  have e : (128#32 + BitVec.ofNat 32 i.val - BitVec.ofNat 32 j.val).toInt = 128 + (i.val : Int) - (j.val : Int) := by
    rw [BitVec.toInt_eq_toNat_cond]
    simp only [BitVec.toNat_sub, BitVec.toNat_add, BitVec.toNat_ofNat]
    split <;> omega
  have a : IntOp.cmpi .sge (128#32 + BitVec.ofNat 32 i.val - BitVec.ofNat 32 j.val) 0#32
      = if j.val ≤ 128 + i.val then 1#1 else 0#1 := by
    show BitVec.ofBool (decide ((0#32).toInt ≤ _)) = _
    rw [e]
    by_cases h : j.val ≤ 128 + i.val
    · rw [if_pos h, decide_eq_true (by show (0 : Int) ≤ _; omega)]
      rfl
    · rw [if_neg h, decide_eq_false (by show ¬ (0 : Int) ≤ _; omega)]
      rfl
  have b : IntOp.cmpi .sle (128#32 + BitVec.ofNat 32 i.val - BitVec.ofNat 32 j.val) 128#32
      = if i.val ≤ j.val then 1#1 else 0#1 := by
    show BitVec.ofBool (decide (_ ≤ (128#32).toInt)) = _
    rw [e]
    by_cases h : i.val ≤ j.val
    · rw [if_pos h, decide_eq_true (by show _ ≤ (128 : Int); omega)]
      rfl
    · rw [if_neg h, decide_eq_false (by show ¬ _ ≤ (128 : Int); omega)]
      rfl
  rw [a, b]
  by_cases h1 : j.val ≤ 128 + i.val <;> by_cases h2 : i.val ≤ j.val <;> simp [h1, h2, IntOp.andi]

/-- and the rows before the first block are those of keys below 128, in the first block alone. -/
theorem not_before : ∀ (v : Fin 2) (j : Fin 256),
    IntOp.ori (IntOp.cmpi .sge (BitVec.ofNat 32 j.val) 128#32) (Scalar.cmpi .sgt (BitVec.ofNat 32 v.val) 0#32)
      = if 128 ≤ j.val ∨ ¬ v.val = 0 then 1#1 else 0#1 := by decide +kernel

theorem dist_word (i : Fin 128) (j : Fin 256) (h : j.val ≤ 128 + i.val) :
    128#32 + BitVec.ofNat 32 i.val - BitVec.ofNat 32 j.val = BitVec.ofNat 32 (128 + i.val - j.val) := by
  apply BitVec.eq_of_toNat_eq
  simp only [BitVec.toNat_sub, BitVec.toNat_add, BitVec.toNat_ofNat]
  omega

variable (V : (c : Dev nD) → (b : Ref sig .tc) → Buf (Elt Ideal) ((c : Thread nD τ).loc b))

theorem blocks0_at : ∀ t : Fin cfg0.N, win0_0.index t = ![0, 0] ∧ win0_1.index t = ![t.val / 8, t.val % 8, 0, 0] :=
  (by decide +kernel : ∀ t : Fin grid0.N, _)

/-- The first region's block of the table is the whole of it. -/
theorem table_read (c : Dev nD) (t : Fin cfg0.N) (y : S32x40.Idx) : iblk0 V c 0 t y = V c main_arg1 y := by
  blk_point [iblk0, blocks0_at t]

theorem coords_at : ∀ t : Fin cfg0.N, (grid0.coords t 0).val = t.val / 8 ∧ (grid0.coords t 1).val = t.val % 8
    ∧ (Scalar.addi 24#32 (BitVec.ofNat 32 (grid0.coords t 1).val)).toNat = 24 + t.val % 8 :=
  (by decide +kernel : ∀ t : Fin grid0.N, _)

theorem bias_block (c : Dev nD) (t : Fin cfg0.N) (i : Fin 128) (j : Fin 256) (h : Fin 8) (v : Fin 2) (hh : h.val = t.val % 8)
    (hv : v.val = t.val / 8) : outsAt0 V c t (ix4 0 0 i j) = biasAt (V c main_arg1) (ix4 v h i j) := by
  unfold outsAt0 out0_A_1
  frame_out
  pointwise [k0_pay1, k0_pay19, k0_pay16, k0_pay13, k0_pay10, k0_pay7, k0_pay4, k0_pay5, k0_pay6, k0_pay8, k0_pay9, k0_pay11, k0_pay12,
    k0_pay14, k0_pay15, k0_pay17, k0_pay18, k0_pay20, k0_pay21, bucket_at, dist_at]
  rw [mask_value]
  rw [in_reach]
  rw [show (grid0.coords t 0).val = v.val from (coords_at t).1.trans hv.symm]
  rw [not_before]
  unfold biasAt
  simp only [table_read]
  by_cases hs : Sees (v.val = 0) i j
  · rw [if_pos hs.1, if_pos hs.2]
    have hc : (Scalar.addi 24#32 (BitVec.ofNat 32 (grid0.coords t 1).val)).toNat = 24 + h.val := (coords_at t).2.2.trans (by rw [hh])
    rw [dist_word i j hs.1.2, spread, bucket_row_far _ (by have := hs.1; omega)]
    refine Eq.trans ?_ (if_pos hs).symm
    show _ = V c main_arg1 (ix2 (row (4 * (128 + i.val - j.val))) _)
    generalize row (4 * (128 + i.val - j.val)) = r
    have key : ∀ (a b : Nat) (ha : a < 32) (hb : b < 40), a = r.val → b = 24 + h.val →
        V c main_arg1 (ix2 ⟨a, ha⟩ ⟨b, hb⟩) = V c main_arg1 (ix2 r ⟨24 + h.val, by omega⟩) := by
      intro a b ha hb e1 e2
      subst e1 e2
      rfl
    fin_cases r <;> exact key _ _ _ _ rfl hc
  · have : ¬ ((i.val ≤ j.val ∧ j.val ≤ 128 + i.val) ∧ (128 ≤ j.val ∨ ¬ v.val = 0)) := hs
    refine Eq.trans ?_ (if_neg hs).symm
    by_cases h1 : i.val ≤ j.val ∧ j.val ≤ 128 + i.val
    · rw [if_pos h1, if_neg (fun h2 => this ⟨h1, h2⟩)]
      rfl
    · rw [if_neg h1]
      by_cases h2 : 128 ≤ j.val ∨ ¬ v.val = 0
      · rw [if_pos h2]
        rfl
      · rw [if_neg h2]
        rfl

/-- The bias array the first region leaves. -/
theorem bias_array (c : Dev nD) : (dat0 V c).arrAt 1 cfg0.N = biasAt (V c main_arg1) := by
  refine (dat0 V c).arrAt_eq_of_covers 1 _ (by decide +kernel) fun t _ y => ?_
  blk_simp
  rw [after0_1]
  have e : y = ix4 0 0 (y 2) (y 3) := by
    funext a
    fin_cases a
    · exact Subsingleton.elim (α := Fin 1) _ _
    · exact Subsingleton.elim (α := Fin 1) _ _
    · rfl
    · rfl
  have ht : t.val < 16 := t.isLt
  rw [e]
  refine (bias_block V c t (y 2) (y 3) ⟨t.val % 8, by omega⟩ ⟨t.val / 8, by omega⟩ rfl rfl).trans (congrArg _ ?_)
  blk_point [blocks0_at t]

end Cert.DilFourIdeal.Window
-- ==== Proof.DilFourRef.lean ====
/- The reference of the dilated attention, in named pieces, and what each is at an index. -/
module

public import proofs.«01_k».proof.Proof.Gen.DilFourRefIdeal.Run
public import proofs.«01_k».proof.Proof.DilBucket
public import proofs.«01_k».proof.Proof.Softmax
public import Idealize.ShloMosaic.Lib.Pipeline.ValueKit

set_option maxRecDepth 16384

@[expose] public section

noncomputable section

open Idealize.ShloMosaic Idealize.ShloMosaic.TcCoe Idealize.SL.Sem

namespace Cert.DilFourRefIdeal.Pieces
open Cert.DilFourRefIdeal Cert.DilFourRefIdeal.Gen Cert.Bucket

/-- The distances of the keys, nearest first -/
def offsets : IVec S129 32 :=
  muli (iotaInDim S129 32 0) (broadcastInDim S129 ![] bcast_S_S129 (constantI S_ 32 4#32))

/-- the position of a query's key, below zero before the sequence's start -/
def places : IVec S16384x129 32 :=
  subi (broadcastInDim S16384x129 ![0, 1] bcast_S16384x1_S16384x129_0_1 (broadcastInDim S16384x1 ![0] bcast_S16384_S16384x1_0 (iotaInDim S16384 32 0))) (broadcastInDim S16384x129 ![0, 1] bcast_S1x129_S16384x129_0_1 (broadcastInDim S1x129 ![1] bcast_S129_S1x129_1 offsets))

/-- held at zero there -/
def clamped : IVec S16384x129 32 :=
  maxsi places (broadcastInDim S16384x129 ![] bcast_S_S16384x129 (constantI S_ 32 0#32))

/-- and as the gather takes it. -/
def wrapped : IVec S16384x129x1 32 :=
  broadcastInDim S16384x129x1 ![0, 1] bcast_S16384x129_S16384x129x1_0_1 (select (cmpi .slt clamped (broadcastInDim S16384x129 ![] bcast_S_S16384x129 (constantI S_ 32 0#32))) (addi clamped (broadcastInDim S16384x129 ![] bcast_S_S16384x129 (constantI S_ 32 16384#32))) clamped)

/-- Whether there is such a key. -/
def seen : IVec S2x16384x8x129 1 :=
  broadcastInDim S2x16384x8x129 ![0, 1, 2, 3] bcast_S1x16384x1x129_S2x16384x8x129_0_1_2_3 (broadcastInDim S1x16384x1x129 ![1, 3] bcast_S16384x129_S1x16384x1x129_1_3 (cmpi .sge places (broadcastInDim S16384x129 ![] bcast_S_S16384x129 (constantI S_ 32 0#32))))

/-- The second group's queries, -/
def queries (X : FVec Ideal S2x16384x4608 .bf16) : FVec Ideal S2x16384x8x64 .f32 :=
  shapeCast _ (extractStridedSlice S2x16384x1x1x8x64 ![0, 0, 1, 0, 0, 0] (shapeCast _ (extf .f32 X bitsLt_bf16_f32) shapeCasts_S2x16384x4608_S2x16384x3x3x8x64) slices_S2x16384x3x3x8x64_S2x16384x1x1x8x64_0_0_1_0_0_0) shapeCasts_S2x16384x1x1x8x64_S2x16384x8x64

/-- keys -/
def keys (X : FVec Ideal S2x16384x4608 .bf16) : FVec Ideal S2x16384x8x64 .f32 :=
  shapeCast _ (extractStridedSlice S2x16384x1x1x8x64 ![0, 0, 1, 1, 0, 0] (shapeCast _ (extf .f32 X bitsLt_bf16_f32) shapeCasts_S2x16384x4608_S2x16384x3x3x8x64) slices_S2x16384x3x3x8x64_S2x16384x1x1x8x64_0_0_1_1_0_0) shapeCasts_S2x16384x1x1x8x64_S2x16384x8x64

/-- and values. -/
def values (X : FVec Ideal S2x16384x4608 .bf16) : FVec Ideal S2x16384x8x64 .f32 :=
  shapeCast _ (extractStridedSlice S2x16384x1x1x8x64 ![0, 0, 1, 2, 0, 0] (shapeCast _ (extf .f32 X bitsLt_bf16_f32) shapeCasts_S2x16384x4608_S2x16384x3x3x8x64) slices_S2x16384x3x3x8x64_S2x16384x1x1x8x64_0_0_1_2_0_0) shapeCasts_S2x16384x1x1x8x64_S2x16384x8x64

/-- The distance and -/
def distances : IVec S129 32 :=
  maxsi offsets (broadcastInDim S129 ![] bcast_S_S129 (constantI S_ 32 0#32))

/-- its bucket, -/
def buckets : IVec S129 32 :=
  select (cmpi .slt distances (broadcastInDim S129 ![] bcast_S_S129 (constantI S_ 32 16#32))) distances (minsi (addi (broadcastInDim S129 ![] bcast_S_S129 (constantI S_ 32 16#32)) (fptosi 32 (mulf (Host.divf (Host.log (Host.divf (sitofp .f32 (maxsi distances (broadcastInDim S129 ![] bcast_S_S129 (constantI S_ 32 1#32)))) (broadcastInDim S129 ![] bcast_S_S129 (constant S_ .f32 0x41800000#32)))) (broadcastInDim S129 ![] bcast_S_S129 (constant S_ .f32 0x409B43D5#32))) (broadcastInDim S129 ![] bcast_S_S129 (constant S_ .f32 0x41800000#32)) : FVec Ideal S129 .f32))) (broadcastInDim S129 ![] bcast_S_S129 (constantI S_ 32 31#32)))

/-- as the gather takes it, -/
def rows : IVec S129x1 32 :=
  broadcastInDim S129x1 ![0] bcast_S129_S129x1_0 (select (cmpi .slt buckets (broadcastInDim S129 ![] bcast_S_S129 (constantI S_ 32 0#32))) (addi buckets (broadcastInDim S129 ![] bcast_S_S129 (constantI S_ 32 32#32))) buckets)

/-- and the group's bias at a distance. -/
def biases (T : FVec Ideal S32x40 .f32) : FVec Ideal S8x129 .f32 :=
  transpose S8x129 [1, 0] (Host.gather gather_S32x8_S129x1_S129x8_1_0_n_n_0_1_18 (extractStridedSlice S32x8 ![0, 24] T slices_S32x40_S32x8_0_24) rows) transposes_S129x8_S8x129_1_0

/-- Keys or values, one for every query and distance. -/
def gathered (K : FVec Ideal S2x16384x8x64 .f32) : FVec Ideal S2x16384x129x8x64 .f32 :=
  Host.gather gather_S2x16384x8x64_S16384x129x1_S2x16384x129x8x64_034_1_n_n_1_2_21864 K wrapped

/-- Every query's product with its keys. -/
def products (Q : FVec Ideal S2x16384x8x64 .f32) (K : FVec Ideal S2x16384x129x8x64 .f32) : FVec Ideal S2x16384x8x129 .f32 :=
  Host.dotGeneral dot_S2x16384x8x64_S2x16384x129x8x64_S2x16384x8x129_3_4_n_2_012_013 none Q K

/-- The scores. -/
def scores (X : FVec Ideal S2x16384x4608 .bf16) (T : FVec Ideal S32x40 .f32) : FVec Ideal S2x16384x8x129 .f32 :=
  select seen (addf (mulf (products (queries X) (gathered (keys X))) (broadcastInDim S2x16384x8x129 ![] bcast_S_S2x16384x8x129 (constant S_ .f32 0x3E000000#32))) (broadcastInDim S2x16384x8x129 ![0, 1, 2, 3] bcast_S1x1x8x129_S2x16384x8x129_0_1_2_3 (broadcastInDim S1x1x8x129 ![2, 3] bcast_S8x129_S1x1x8x129_2_3 (biases T)))) (broadcastInDim S2x16384x8x129 ![] bcast_S_S2x16384x8x129 (id (constant S_ .f32 0xFF800000#32)))

/-- The largest score, -/
def largest (S : FVec Ideal S2x16384x8x129 .f32) : FVec Ideal S2x16384x8 .f32 :=
  Host.reduce FloatOps.maximumf S (constant S_ .f32 0xFF800000#32) reducesTo_S2x16384x8x129_S2x16384x8_d3 h_S_

/-- with an axis for the keys, -/
def tops (S : FVec Ideal S2x16384x8x129 .f32) : FVec Ideal S2x16384x8x1 .f32 :=
  broadcastInDim S2x16384x8x1 ![0, 1, 2] bcast_S2x16384x8_S2x16384x8x1_0_1_2 (largest S)

/-- the exponentials over it -/
def powers (S : FVec Ideal S2x16384x8x129 .f32) : FVec Ideal S2x16384x8x129 .f32 :=
  Host.exp (subf S (broadcastInDim S2x16384x8x129 ![0, 1, 2, 3] bcast_S2x16384x8x1_S2x16384x8x129_0_1_2_3 (tops S)))

/-- their sum -/
def sums (S : FVec Ideal S2x16384x8x129 .f32) : FVec Ideal S2x16384x8 .f32 :=
  Host.reduceAdd (powers S) (constant S_ .f32 0x00000000#32) reducesTo_S2x16384x8x129_S2x16384x8_d3 h_S_

/-- and the logarithm of the whole sum. -/
def lses (S : FVec Ideal S2x16384x8x129 .f32) : FVec Ideal S2x16384x8x1 .f32 :=
  addf (tops S) (Host.log (broadcastInDim S2x16384x8x1 ![0, 1, 2] bcast_S2x16384x8_S2x16384x8x1_0_1_2 (sums S)))

/-- The averages by the scores `S` -/
def averagesOf (S : FVec Ideal S2x16384x8x129 .f32) (V : FVec Ideal S2x16384x129x8x64 .f32) : FVec Ideal S2x4096x2048 .f32 :=
  shapeCast _ (Host.dotGeneral dot_S2x16384x8x129_S2x16384x129x8x64_S2x16384x8x64_3_2_n_4_012_013 none (Host.exp (subf S (broadcastInDim S2x16384x8x129 ![0, 1, 2, 3] bcast_S2x16384x8x1_S2x16384x8x129_0_1_2_3 (lses S)))) V) shapeCasts_S2x16384x8x64_S2x4096x2048

/-- and the logarithms, one for every column. -/
def logarithmsOf (S : FVec Ideal S2x16384x8x129 .f32) : FVec Ideal S2x4096x2048 .f32 :=
  shapeCast _ (shapeCast S2x16384x512 (broadcastInDim S2x16384x8x64 ![0, 1, 2] bcast_S2x16384x8_S2x16384x8x64_0_1_2 (shapeCast _ (lses S) shapeCasts_S2x16384x8x1_S2x16384x8)) shapeCasts_S2x16384x8x64_S2x16384x512) shapeCasts_S2x16384x512_S2x4096x2048

theorem averages_named (m : (ℓ : Loc nD τ sig) → Buf (Elt Ideal) ℓ) (c : Dev nD) : Value.res_main_v85 m c
    = averagesOf (scores (m ((c.tc : Thread nD τ).loc main_arg0)) (m ((c.tc : Thread nD τ).loc main_arg1)))
        (gathered (values (m ((c.tc : Thread nD τ).loc main_arg0)))) := rfl

set_option maxHeartbeats 4000000 in
theorem logarithms_named (m : (ℓ : Loc nD τ sig) → Buf (Elt Ideal) ℓ) (c : Dev nD) : Value.res_main_v89 m c
    = logarithmsOf (scores (m ((c.tc : Thread nD τ).loc main_arg0)) (m ((c.tc : Thread nD τ).loc main_arg1))) := rfl

end Cert.DilFourRefIdeal.Pieces
-- ==== Proof.DilFourRefAt.lean ====
/- What each piece of the dilated attention's second group's reference is at an index. -/
module

public import proofs.«01_k».proof.Proof.DilFourRef
public import proofs.«01_k».proof.Proof.StripsBucket
public import Idealize.ShloMosaic.Lib.Pipeline.ValueKit

set_option maxRecDepth 16384

@[expose] public section

noncomputable section

open Idealize.ShloMosaic Idealize.ShloMosaic.TcCoe Idealize.SL.Sem

namespace Cert.DilFourRefIdeal.Pieces
open Cert.DilFourRefIdeal Cert.DilFourRefIdeal.Gen Cert.Bucket

/-- Column `d` of head `h` of the group's query, key or value part. -/
def inPart (o : Fin 3) (h : Fin 8) (d : Fin 64) : Fin 4608 := ⟨1536 + 512 * o.val + 64 * h.val + d.val, by omega⟩

section
variable (X : FVec Ideal S2x16384x4608 .bf16) (T : FVec Ideal S32x40 .f32)

theorem queries_at (b : Fin 2) (p : Fin 16384) (h : Fin 8) (d : Fin 64) : queries X (ix4 b p h d) = X (ix3 b p (inPart 0 h d)) := by
  pointwise [queries]
  refine congrArg (fun e => X (ix3 b p e)) (Fin.ext ?_)
  simp only [inPart]
  omega

theorem keys_at (b : Fin 2) (p : Fin 16384) (h : Fin 8) (d : Fin 64) : keys X (ix4 b p h d) = X (ix3 b p (inPart 1 h d)) := by
  pointwise [keys]
  refine congrArg (fun e => X (ix3 b p e)) (Fin.ext ?_)
  simp only [inPart]
  omega

theorem values_at (b : Fin 2) (p : Fin 16384) (h : Fin 8) (d : Fin 64) : values X (ix4 b p h d) = X (ix3 b p (inPart 2 h d)) := by
  pointwise [values]
  refine congrArg (fun e => X (ix3 b p e)) (Fin.ext ?_)
  simp only [inPart]
  omega

theorem offsets_at (k : Fin 129) : offsets (ix1 k) = BitVec.ofNat 32 (4 * k.val) := by
  pointwise [offsets]
  show BitVec.ofNat 32 k.val * 4#32 = _
  rw [← BitVec.ofNat_mul, Nat.mul_comm]

theorem places_at (p : Fin 16384) (k : Fin 129) : places (ix2 p k) = BitVec.ofNat 32 p.val - BitVec.ofNat 32 (4 * k.val) := by
  pointwise [places, offsets_at]
  rfl

theorem place_int (p : Fin 16384) (k : Fin 129) :
    (BitVec.ofNat 32 p.val - BitVec.ofNat 32 (4 * k.val)).toInt = (p.val : Int) - ((4 * k.val : Nat) : Int) := by
  rw [BitVec.toInt_eq_toNat_cond]
  simp only [BitVec.toNat_sub, BitVec.toNat_ofNat]
  split <;> omega

theorem from_start (p : Fin 16384) (k : Fin 129) :
    IntOp.cmpi .sge (BitVec.ofNat 32 p.val - BitVec.ofNat 32 (4 * k.val)) 0#32 = if (4 * k.val) ≤ p.val then 1#1 else 0#1 := by
  show BitVec.ofBool (decide ((0#32).toInt ≤ _)) = _
  rw [place_int]
  by_cases h : (4 * k.val) ≤ p.val
  · rw [if_pos h, decide_eq_true (by show (0 : Int) ≤ _; omega)]
    rfl
  · rw [if_neg h, decide_eq_false (by show ¬ (0 : Int) ≤ _; omega)]
    rfl

theorem held (p : Fin 16384) (k : Fin 129) :
    IntOp.maxsi (BitVec.ofNat 32 p.val - BitVec.ofNat 32 (4 * k.val)) 0#32 = BitVec.ofNat 32 (p.val - (4 * k.val)) := by
  unfold IntOp.maxsi
  have e : (0#32).slt (BitVec.ofNat 32 p.val - BitVec.ofNat 32 (4 * k.val)) = decide ((4 * k.val) < p.val) := by
    show decide ((0#32).toInt < _) = _
    rw [place_int]
    exact decide_eq_decide.mpr (by show (0 : Int) < _ ↔ _; omega)
  rw [e]
  by_cases h : (4 * k.val) < p.val
  · rw [if_pos (decide_eq_true h)]
    apply BitVec.eq_of_toNat_eq
    simp only [BitVec.toNat_sub, BitVec.toNat_ofNat]
    omega
  · rw [if_neg (by simp [h]), show p.val - (4 * k.val) = 0 by omega]

/-- A word below half the range is not negative: the wrap of an index leaves it. -/
theorem kept (n : Nat) (z : BitVec 32) (hn : n < 16384) :
    Scalar.select (IntOp.cmpi .slt (BitVec.ofNat 32 n) 0#32) (IntOp.addi (BitVec.ofNat 32 n) z) (BitVec.ofNat 32 n) = BitVec.ofNat 32 n := by
  have e : (BitVec.ofNat 32 n).toInt = (n : Int) := by
    rw [BitVec.toInt_eq_toNat_cond]
    simp only [BitVec.toNat_ofNat]
    split <;> omega
  have h : IntOp.cmpi .slt (BitVec.ofNat 32 n) 0#32 = 0#1 := by
    show BitVec.ofBool (decide (_ < (0#32).toInt)) = _
    rw [e, decide_eq_false (by show ¬ _ < (0 : Int); omega)]
    rfl
  rw [h, pick_second]

theorem clamped_at (p : Fin 16384) (k : Fin 129) : clamped (ix2 p k) = BitVec.ofNat 32 (p.val - (4 * k.val)) := by
  pointwise [clamped, places_at]
  exact held p k

theorem wrapped_at (p : Fin 16384) (k : Fin 129) : wrapped (ix3 p k 0) = BitVec.ofNat 32 (p.val - (4 * k.val)) := by
  pointwise [wrapped, clamped_at]
  exact kept _ _ (by omega)

theorem seen_at (b : Fin 2) (p : Fin 16384) (h : Fin 8) (k : Fin 129) : seen (ix4 b p h k) = if (4 * k.val) ≤ p.val then 1#1 else 0#1 := by
  pointwise [seen, places_at]
  exact from_start p k

theorem buckets_at (k : Fin 129) : buckets (ix1 k) = bucket (BitVec.ofNat 32 (4 * k.val)) := by
  pointwise [buckets, distances, offsets_at]
  rfl

theorem rows_at (k : Fin 129) : rows (ix2 k 0) = BitVec.ofNat 32 (row (4 * k.val)).val := by
  pointwise [rows, buckets_at]
  rw [bucket_row_far (4 * k.val) (by omega)]
  exact kept _ _ (by omega)

theorem lowest_first : (constant S_ .f32 0xFF800000#32 : FVec Ideal S_ .f32) (Shape.Idx.first h_S_) = ⊥ := by
  pointwise
  exact Cert.Softmax.below_f32

theorem tops_at (S : FVec Ideal S2x16384x8x129 .f32) (b : Fin 2) (p : Fin 16384) (h : Fin 8) :
    tops S (ix4 b p h 0) = (Finset.univ : Finset (Fin 129)).fold max ⊥ fun k => S (ix4 b p h k) := by
  have e : tops S (ix4 b p h 0) = largest S (ix3 b p h) := by pointwise [tops]
  rw [e]
  unfold largest
  rw [Cert.Softmax.largest_last, lowest_first]

theorem powers_at (S : FVec Ideal S2x16384x8x129 .f32) (b : Fin 2) (p : Fin 16384) (h : Fin 8) (k : Fin 129) :
    powers S (ix4 b p h k) = Ideal.exp (S (ix4 b p h k) - tops S (ix4 b p h 0)) := by
  pointwise [powers]

theorem log_col (A : FVec Ideal S2x16384x8x1 .f32) (B : FVec Ideal S2x16384x8 .f32) (b : Fin 2) (p : Fin 16384) (h : Fin 8) :
    addf A (Host.log (broadcastInDim S2x16384x8x1 ![0, 1, 2] bcast_S2x16384x8_S2x16384x8x1_0_1_2 B)) (ix4 b p h 0)
      = A (ix4 b p h 0) + Ideal.log (B (ix3 b p h)) := by
  pointwise

theorem sums_at (S : FVec Ideal S2x16384x8x129 .f32) (b : Fin 2) (p : Fin 16384) (h : Fin 8) :
    sums S (ix3 b p h) = ∑ k : Fin 129, powers S (ix4 b p h k) :=
  Cert.Softmax.sum_last (powers S) reducesTo_S2x16384x8x129_S2x16384x8_d3 h_S_ b p h

theorem lses_at (S : FVec Ideal S2x16384x8x129 .f32) (b : Fin 2) (p : Fin 16384) (h : Fin 8) :
    lses S (ix4 b p h 0) = tops S (ix4 b p h 0) + Ideal.log (∑ k, Ideal.exp (S (ix4 b p h k) - tops S (ix4 b p h 0))) := by
  refine (log_col (tops S) (sums S) b p h).trans ?_
  rw [sums_at, Finset.sum_congr rfl fun k _ => powers_at S b p h k]

theorem products_at (Q K) (b : Fin 2) (p : Fin 16384) (h : Fin 8) (k : Fin 129) :
    products Q K (ix4 b p h k) = ∑ d : Fin 64, Q (ix4 b p h d) * K (ix5 b p k h d) := by
  pointwise [products]

/-- The position in a row's place `c`, -/
def pos (r : Fin 4096) (c : Fin 4) : Fin 16384 := ⟨4 * r.val + c.val, by omega⟩

/-- and the results' column of it. -/
def outCol (c : Fin 4) (e : Fin 512) : Fin 2048 := ⟨512 * c.val + e.val, by omega⟩

/-- The columns' places, heads and lanes as the reshapes spell them. -/
theorem outCol_place (r : Fin 4096) (c : Fin 4) (h : Fin 8) (d : Fin 64) (l : 64 * h.val + d.val < 512) (q) :
    (⟨r.val * 4 + (outCol c ⟨64 * h.val + d.val, l⟩).val / 512, q⟩ : Fin 16384) = pos r c :=
  Fin.ext (by simp only [outCol, pos]; omega)

theorem outCol_head (c : Fin 4) (h : Fin 8) (d : Fin 64) (l : 64 * h.val + d.val < 512) (q) :
    (⟨(outCol c ⟨64 * h.val + d.val, l⟩).val / 64 % 8, q⟩ : Fin 8) = h := Fin.ext (by simp only [outCol]; omega)

theorem outCol_lane (c : Fin 4) (h : Fin 8) (d : Fin 64) (l : 64 * h.val + d.val < 512)
    (q : (outCol c ⟨64 * h.val + d.val, l⟩).val % 64 < 64) :
    (⟨(outCol c ⟨64 * h.val + d.val, l⟩).val % 64, q⟩ : Fin 64) = d := Fin.ext (by simp only [outCol]; omega)

theorem averagesOf_at (S V) (b : Fin 2) (r : Fin 4096) (c : Fin 4) (h : Fin 8) (d : Fin 64) :
    averagesOf S V (ix3 b r (outCol c ⟨64 * h.val + d.val, by omega⟩))
      = ∑ k, Ideal.exp (S (ix4 b (pos r c) h k) - lses S (ix4 b (pos r c) h 0)) * V (ix5 b (pos r c) k h d) := by
  pointwise [averagesOf]
  simp only [outCol_place, outCol_head, outCol_lane]

theorem logarithmsOf_at (S) (b : Fin 2) (r : Fin 4096) (c : Fin 4) (h : Fin 8) (d : Fin 64) :
    logarithmsOf S (ix3 b r (outCol c ⟨64 * h.val + d.val, by omega⟩)) = lses S (ix4 b (pos r c) h 0) := by
  pointwise [logarithmsOf]
  simp only [outCol_place, outCol_head, outCol_lane]

end

end Cert.DilFourRefIdeal.Pieces
-- ==== Proof.DilFourGather.lean ====
/- The two gathers of the dilated attention's second group's reference, at an index. -/
module

public import proofs.«01_k».proof.Proof.DilFourRefAt
public import Idealize.ShloMosaic.Lib.Pipeline.ValueKit

set_option maxRecDepth 16384

@[expose] public section

noncomputable section

open Idealize.ShloMosaic Idealize.ShloMosaic.TcCoe Idealize.SL.Sem

namespace Cert.DilFourRefIdeal.Pieces
open Cert.DilFourRefIdeal Cert.DilFourRefIdeal.Gen Cert.Bucket

abbrev byKey := gather_S2x16384x8x64_S16384x129x1_S2x16384x129x8x64_034_1_n_n_1_2_21864
abbrev byRow := gather_S32x8_S129x1_S129x8_1_0_n_n_0_1_18

theorem key_start (I : IVec S16384x129x1 32) (b : Fin 2) (p : Fin 16384) (k : Fin 129) (h : Fin 8) (d : Fin 64) :
    byKey.start (ix5 b p k h d) I 1 = min (I (ix3 p k 0)).toInt.toNat 16383 := by
  unfold GatherDims.start
  rw [dif_pos (show (1 : Fin 4) ∈ byKey.startIndexMap from List.mem_singleton.mpr rfl)]
  have hsi : byKey.siIdx (ix5 b p k h d) ⟨List.idxOf (1 : Fin 4) byKey.startIndexMap,
      List.idxOf_lt_length_iff.2 (List.mem_singleton.mpr rfl)⟩ = ix3 p k 0 := by
    funext a
    refine Fin.ext ?_
    match a with
    | ⟨0, _⟩ => rfl
    | ⟨1, _⟩ => rfl
    | ⟨2, _⟩ => rfl
  rw [hsi]
  rfl

theorem gather_keys (K : FVec Ideal S2x16384x8x64 .f32) (I : IVec S16384x129x1 32) (b : Fin 2) (p : Fin 16384) (k : Fin 129)
    (h : Fin 8) (d : Fin 64) : Host.gather byKey K I (ix5 b p k h d)
      = K (ix4 b ⟨min (I (ix3 p k 0)).toInt.toNat 16383, by omega⟩ h d) := by
  unfold Host.gather
  refine congrArg K ?_
  funext a
  refine Fin.ext ?_
  show byKey.start (ix5 b p k h d) I a + byKey.batchCoord (ix5 b p k h d) a + byKey.offCoord (ix5 b p k h d) a = _
  rw [GatherDims.batchCoord_eq_zero _ _ _ List.not_mem_nil]
  match a with
  | ⟨0, _⟩ =>
    show 0 + 0 + b.val = b.val
    omega
  | ⟨1, _⟩ =>
    refine (congrArg (· + 0 + _) (key_start I b p k h d)).trans ?_
    rw [GatherDims.offCoord_eq_zero _ _ _ (fun h => ((GatherDims.mem_sKept _ _).mp h).1 (List.mem_singleton.mpr rfl))]
    rfl
  | ⟨2, _⟩ =>
    show 0 + 0 + h.val = h.val
    omega
  | ⟨3, _⟩ =>
    show 0 + 0 + d.val = d.val
    omega

theorem row_start (I : IVec S129x1 32) (k : Fin 129) (h : Fin 8) :
    byRow.start (ix2 k h) I 0 = min (I (ix2 k 0)).toInt.toNat 31 := by
  unfold GatherDims.start
  rw [dif_pos (show (0 : Fin 2) ∈ byRow.startIndexMap from List.mem_singleton.mpr rfl)]
  have hsi : byRow.siIdx (ix2 k h) ⟨List.idxOf (0 : Fin 2) byRow.startIndexMap,
      List.idxOf_lt_length_iff.2 (List.mem_singleton.mpr rfl)⟩ = ix2 k 0 := by
    funext a
    refine Fin.ext ?_
    match a with
    | ⟨0, _⟩ => rfl
    | ⟨1, _⟩ => rfl
  rw [hsi]
  rfl

theorem gather_rows (T : FVec Ideal S32x8 .f32) (I : IVec S129x1 32) (k : Fin 129) (h : Fin 8) : Host.gather byRow T I (ix2 k h)
      = T (ix2 ⟨min (I (ix2 k 0)).toInt.toNat 31, by omega⟩ h) := by
  unfold Host.gather
  refine congrArg T ?_
  funext a
  refine Fin.ext ?_
  show byRow.start (ix2 k h) I a + byRow.batchCoord (ix2 k h) a + byRow.offCoord (ix2 k h) a = _
  rw [GatherDims.batchCoord_eq_zero _ _ _ List.not_mem_nil]
  match a with
  | ⟨0, _⟩ =>
    refine (congrArg (· + 0 + _) (row_start I k h)).trans ?_
    rw [GatherDims.offCoord_eq_zero _ _ _ (fun h => ((GatherDims.mem_sKept _ _).mp h).1 (List.mem_singleton.mpr rfl))]
    rfl
  | ⟨1, _⟩ =>
    show 0 + 0 + h.val = h.val
    omega

theorem word_int (n : Nat) (hn : n < 16384) : (BitVec.ofNat 32 n).toInt.toNat = n := by
  have e : (BitVec.ofNat 32 n).toInt = (n : Int) := by
    rw [BitVec.toInt_eq_toNat_cond]
    simp only [BitVec.toNat_ofNat]
    split <;> omega
  rw [e]
  omega

/-- The position of a query's key, held at the start. -/
def back (p : Fin 16384) (k : Fin 129) : Fin 16384 := ⟨p.val - 4 * k.val, by omega⟩

theorem gathered_at (K : FVec Ideal S2x16384x8x64 .f32) (b : Fin 2) (p : Fin 16384) (k : Fin 129) (h : Fin 8) (d : Fin 64) :
    gathered K (ix5 b p k h d) = K (ix4 b (back p k) h d) := by
  refine (gather_keys K wrapped b p k h d).trans ?_
  refine congrArg (fun q => K (ix4 b q h d)) (Fin.ext ?_)
  show min (wrapped (ix3 p k 0)).toInt.toNat 16383 = p.val - 4 * k.val
  rw [wrapped_at, word_int _ (by omega)]
  omega

theorem biases_at (T : FVec Ideal S32x40 .f32) (h : Fin 8) (k : Fin 129) :
    biases T (ix2 h k) = T (ix2 (row (4 * k.val)) (⟨24 + h.val, by omega⟩ : Fin 40)) := by
  have e : biases T (ix2 h k) = Host.gather byRow (extractStridedSlice S32x8 ![0, 24] T slices_S32x40_S32x8_0_24) rows (ix2 k h) := by
    pointwise [biases]
  rw [e, gather_rows]
  have r : (⟨min (rows (ix2 k 0)).toInt.toNat 31, by omega⟩ : Fin 32) = row (4 * k.val) := by
    refine Fin.ext ?_
    show min (rows (ix2 k 0)).toInt.toNat 31 = _
    rw [rows_at, word_int _ (by omega)]
    omega
  rw [r]
  pointwise

/-- The reference's score of a query, by its key's distance. -/
def scoreAt (X : FVec Ideal S2x16384x4608 .bf16) (T : FVec Ideal S32x40 .f32) (b : Fin 2) (p : Fin 16384) (h : Fin 8)
    (k : Fin 129) : EReal :=
  if 4 * k.val ≤ p.val then
    (∑ d : Fin 64, X (ix3 b p (inPart 0 h d)) * X (ix3 b (back p k) (inPart 1 h d))) * Ideal.ofBits .f32 0x3E000000#32
      + T (ix2 (row (4 * k.val)) (⟨24 + h.val, by omega⟩ : Fin 40))
  else ⊥

theorem scores_at (X : FVec Ideal S2x16384x4608 .bf16) (T : FVec Ideal S32x40 .f32) (b : Fin 2) (p : Fin 16384) (h : Fin 8)
    (k : Fin 129) : scores X T (ix4 b p h k) = scoreAt X T b p h k := by
  pointwise [scores, seen_at, products_at, biases_at, queries_at, keys_at, gathered_at]
  unfold scoreAt
  by_cases hk : 4 * k.val ≤ p.val
  · rw [if_pos hk, if_pos hk, pick_first]
  · rw [if_neg hk, if_neg hk, pick_second]
    exact Cert.Softmax.below_f32

/-- The logarithm of the sum of the scores' exponentials. -/
def logScores (X : FVec Ideal S2x16384x4608 .bf16) (T : FVec Ideal S32x40 .f32) (b : Fin 2) (p : Fin 16384) (h : Fin 8) : EReal :=
  Finset.univ.fold max ⊥ (scoreAt X T b p h)
    + Ideal.log (∑ k, Ideal.exp (scoreAt X T b p h k - Finset.univ.fold max ⊥ (scoreAt X T b p h)))

theorem lse_scores (X : FVec Ideal S2x16384x4608 .bf16) (T : FVec Ideal S32x40 .f32) (b : Fin 2) (p : Fin 16384) (h : Fin 8) :
    lses (scores X T) (ix4 b p h 0) = logScores X T b p h := by
  rw [lses_at, tops_at]
  simp only [scores_at]
  rfl

theorem averages_ref (X : FVec Ideal S2x16384x4608 .bf16) (T : FVec Ideal S32x40 .f32) (b : Fin 2) (r : Fin 4096) (c : Fin 4) (h : Fin 8)
    (d : Fin 64) : averagesOf (scores X T) (gathered (values X)) (ix3 b r (outCol c ⟨64 * h.val + d.val, by omega⟩))
      = ∑ k, Ideal.exp (scoreAt X T b (pos r c) h k - logScores X T b (pos r c) h) * X (ix3 b (back (pos r c) k) (inPart 2 h d)) := by
  rw [averagesOf_at, lse_scores]
  simp only [scores_at, gathered_at, values_at]

theorem logarithms_ref (X : FVec Ideal S2x16384x4608 .bf16) (T : FVec Ideal S32x40 .f32) (b : Fin 2) (r : Fin 4096) (c : Fin 4) (h : Fin 8)
    (d : Fin 64) : logarithmsOf (scores X T) (ix3 b r (outCol c ⟨64 * h.val + d.val, by omega⟩)) = logScores X T b (pos r c) h := by
  rw [logarithmsOf_at, lse_scores]

end Cert.DilFourRefIdeal.Pieces
-- ==== Proof.DilFourJoin.lean ====
/- The dilated attention's kernel and its reference, joined: one set of scores, by block and key or by position and distance. -/
module

public import proofs.«01_k».proof.Proof.DilFourBlocks
public import proofs.«01_k».proof.Proof.DilFourBias
public import proofs.«01_k».proof.Proof.DilFourGather
public import proofs.«01_k».proof.Proof.DilFourRun
public import Idealize.ShloMosaic.Lib.Pipeline.ValueKit

set_option maxRecDepth 16384

@[expose] public section

noncomputable section

open Idealize.ShloMosaic Idealize.ShloMosaic.TcCoe Idealize.SL.Sem

namespace Cert.DilFourIdeal.Window
open Cert.DilFourIdeal Cert.DilFourIdeal.Gen Cert.Bucket
open Cert.DilFourRefIdeal.Pieces (inPart back scoreAt logScores pos)

/-- The key of a block at a distance from query `i`. -/
def keyIn (i : Fin 128) (k : Fin 129) : Fin 256 := ⟨128 + i.val - k.val, by omega⟩

theorem keyIn_injective (i : Fin 128) : Function.Injective (keyIn i) := fun k l h => by
  have := congrArg Fin.val h
  simp only [keyIn] at this
  exact Fin.ext (by omega)

theorem key_back (s : Fin 4) (n : Fin 32) (i : Fin 128) (k : Fin 129) (h : 4 * k.val ≤ (pos (queryAt n i) s).val) :
    pos (keyAt n (keyIn i k)) s = back (pos (queryAt n i) s) k := by
  simp only [pos, queryAt] at h
  refine Fin.ext ?_
  by_cases hj : (keyIn i k).val < 128
  · simp only [pos, back, keyAt_before n _ hj]
    simp only [keyIn, queryAt] at hj ⊢
    omega
  · simp only [pos, back, keyAt_own n _ hj]
    simp only [keyIn, queryAt] at hj ⊢
    omega

/-- A row's column is its place's column of the argument. -/
theorem viewed_at (X : FVec Ideal S2x16384x4608 .bf16) (b : Fin 2) (r : Fin 4096) (s : Fin 4) (e : Fin 4608) (c : Fin 18432)
    (hc : c.val = 4608 * s.val + e.val) : viewed X (ix3 b r c) = X (ix3 b (pos r s) e) := by
  pointwise [viewed]
  exact congrArg₂ (fun p q => X (ix3 b p q)) (Fin.ext (by simp only [pos]; omega)) (Fin.ext (by show c.val % 4608 = e.val; omega))

theorem q_part (X : FVec Ideal S2x16384x4608 .bf16) (b : Fin 2) (r : Fin 4096) (s : Fin 4) (h : Fin 8) (d : Fin 64) :
    viewed X (ix3 b r (qCol s (col h d))) = X (ix3 b (pos r s) (inPart 0 h d)) :=
  viewed_at X b r s _ _ (by simp only [qCol, col, inPart]; omega)

theorem k_part (X : FVec Ideal S2x16384x4608 .bf16) (b : Fin 2) (r : Fin 4096) (s : Fin 4) (h : Fin 8) (d : Fin 64) :
    viewed X (ix3 b r (kCol s (col h d))) = X (ix3 b (pos r s) (inPart 1 h d)) :=
  viewed_at X b r s _ _ (by simp only [kCol, col, inPart]; omega)

theorem v_part (X : FVec Ideal S2x16384x4608 .bf16) (b : Fin 2) (r : Fin 4096) (s : Fin 4) (h : Fin 8) (d : Fin 64) :
    viewed X (ix3 b r (vCol s (col h d))) = X (ix3 b (pos r s) (inPart 2 h d)) :=
  viewed_at X b r s _ _ (by simp only [vCol, col, inPart]; omega)

variable (X : FVec Ideal S2x16384x4608 .bf16) (T : FVec Ideal S32x40 .f32)

theorem bias_seen (v : Fin 2) (h : Fin 8) (i : Fin 128) (j : Fin 256) (hs : Sees (v.val = 0) i j) :
    biasAt T (ix4 v h i j) = T (ix2 (row (4 * (128 + i.val - j.val))) (⟨24 + h.val, by omega⟩ : Fin 40)) := if_pos hs

theorem bias_unseen (v : Fin 2) (h : Fin 8) (i : Fin 128) (j : Fin 256) (hs : ¬ Sees (v.val = 0) i j) :
    biasAt T (ix4 v h i j) = ⊥ := if_neg hs

theorem sees_iff (s : Fin 4) (n : Fin 32) (i : Fin 128) (k : Fin 129) : Sees (min n.val 1 = 0) i (keyIn i k) ↔ 4 * k.val ≤ (pos (queryAt n i) s).val := by
  simp only [Sees, keyIn, pos, queryAt]
  omega

/-- A key's score is the reference's at its distance. -/
theorem score_key (b : Fin 2) (s : Fin 4) (n : Fin 32) (i : Fin 128) (h : Fin 8) (k : Fin 129) :
    scoreOf (viewed X) (biasAt T) b s n i h (keyIn i k) = scoreAt X T b (pos (queryAt n i) s) h k := by
  unfold scoreOf scoreAt
  by_cases hk : 4 * k.val ≤ (pos (queryAt n i) s).val
  · rw [if_pos hk, bias_seen T _ h i _ ((sees_iff s n i k).mpr hk)]
    simp only [q_part, k_part, key_back s n i k hk]
    rw [show 128 + i.val - (keyIn i k).val = k.val by simp only [keyIn]; omega]
  · rw [if_neg hk, bias_unseen T _ h i _ (fun hs => hk ((sees_iff s n i k).mp hs)), EReal.add_bot]

/-- A key at no distance of the window has score `⊥`. -/
theorem score_outside (b : Fin 2) (s : Fin 4) (n : Fin 32) (i : Fin 128) (h : Fin 8) (j : Fin 256) (hj : ∀ k, keyIn i k ≠ j) :
    scoreOf (viewed X) (biasAt T) b s n i h j = ⊥ := by
  unfold scoreOf
  rw [bias_unseen T _ h i j, EReal.add_bot]
  intro hs
  have h1 := hs.1
  exact hj ⟨128 + i.val - j.val, by omega⟩ (Fin.ext (by simp only [keyIn]; omega))

/-- The queries and the keys are reals, the group's table below `⊤`. -/
structure Reals : Prop where
  stream : ∀ b p (e : Fin 4608), 1536 ≤ e.val ∧ e.val < 2560 → (⊥ : EReal) < X (ix3 b p e) ∧ X (ix3 b p e) < (⊤ : EReal)
  table : ∀ r (h : Fin 8), T (ix2 r (⟨24 + h.val, by omega⟩ : Fin 40)) < (⊤ : EReal)

theorem eighth : ∃ c : ℝ, Ideal.ofBits .f32 0x3E000000#32 = (c : EReal) :=
  ⟨_, by simp [Ideal.ofBits, Ideal.ieee, -EReal.coe_mul]; rfl⟩

variable {X T}

theorem score_below (R : Reals X T) (b : Fin 2) (p : Fin 16384) (h : Fin 8) (k : Fin 129) : scoreAt X T b p h k ≠ ⊤ := by
  have real : ∀ b p (o : Fin 3) (d : Fin 64), o.val < 2 → ∃ r : ℝ, X (ix3 b p (inPart o h d)) = (r : EReal) := fun b p o d ho => by
    have := R.stream b p (inPart o h d) (by simp only [inPart]; omega)
    exact ⟨_, (EReal.coe_toReal this.2.ne this.1.ne').symm⟩
  choose q hq using fun d => real b p 0 d (by decide)
  choose s hs using fun d => real b (back p k) 1 d (by decide)
  obtain ⟨c, hc⟩ := eighth
  have sum : ∑ d : Fin 64, X (ix3 b p (inPart 0 h d)) * X (ix3 b (back p k) (inPart 1 h d)) = ((∑ d, q d * s d : ℝ) : EReal) := by
    rw [Finset.sum_congr rfl fun d _ => by rw [hq d, hs d, ← EReal.coe_mul]]
    exact (map_sum (⟨⟨fun x : ℝ => (x : EReal), EReal.coe_zero⟩, EReal.coe_add⟩ : ℝ →+ EReal) (fun d => q d * s d) Finset.univ).symm
  unfold scoreAt
  by_cases hk : 4 * k.val ≤ p.val
  · rw [if_pos hk, hc, sum, ← EReal.coe_mul]
    exact (EReal.add_lt_top (EReal.coe_ne_top _) (R.table (row (4 * k.val)) h).ne).ne
  · rw [if_neg hk]
    exact bot_ne_top

theorem average_join (R : Reals X T) (b : Fin 2) (s : Fin 4) (n : Fin 32) (i : Fin 128) (h : Fin 8) (d : Fin 64) :
    averaged (scoreOf (viewed X) (biasAt T) b s n i h) (fun j => viewed X (ix3 b (keyAt n j) (vCol s (col h d))))
      = ∑ k, Ideal.exp (scoreAt X T b (pos (queryAt n i) s) h k - logScores X T b (pos (queryAt n i) s) h)
          * X (ix3 b (back (pos (queryAt n i) s) k) (inPart 2 h d)) :=
  Cert.Softmax.average_window (keyIn i) (keyIn_injective i) _ _ (scoreAt X T b (pos (queryAt n i) s) h)
    (fun k => X (ix3 b (back (pos (queryAt n i) s) k) (inPart 2 h d))) (score_key X T b s n i h)
    (fun k hk => by
      have hk : 4 * k.val ≤ (pos (queryAt n i) s).val := by
        by_contra hn
        exact hk (if_neg hn)
      show viewed X (ix3 b (keyAt n (keyIn i k)) (vCol s (col h d))) = _
      rw [v_part, key_back s n i k hk])
    (score_outside X T b s n i h) (score_below R b _ h)

theorem log_join (R : Reals X T) (b : Fin 2) (s : Fin 4) (n : Fin 32) (i : Fin 128) (h : Fin 8) :
    logSum (scoreOf (viewed X) (biasAt T) b s n i h) = logScores X T b (pos (queryAt n i) s) h :=
  Cert.Softmax.log_window (keyIn i) (keyIn_injective i) _ (scoreAt X T b (pos (queryAt n i) s) h) (score_key X T b s n i h)
    (score_outside X T b s n i h) (score_below R b _ h)

/-- An index of a result, by block, row, head and lane. -/
theorem split_index (y : S2x4096x2048.Idx) :
    ∃ (b : Fin 2) (s : Fin 4) (n : Fin 32) (i : Fin 128) (h : Fin 8) (d : Fin 64), y = ix3 b (queryAt n i) (oCol s (col h d)) := by
  have h1 : (y 1).val < 4096 := (y 1).isLt
  have h2 : (y 2).val < 2048 := (y 2).isLt
  refine ⟨y 0, ⟨(y 2).val / 512, by omega⟩, ⟨(y 1).val / 128, by omega⟩, ⟨(y 1).val % 128, by omega⟩, ⟨(y 2).val % 512 / 64, by omega⟩,
    ⟨(y 2).val % 64, by omega⟩, ?_⟩
  funext a
  refine Fin.ext ?_
  fin_cases a
  · rfl
  · show (y 1).val = 128 * ((y 1).val / 128) + (y 1).val % 128
    omega
  · show (y 2).val = 512 * ((y 2).val / 512) + (64 * ((y 2).val % 512 / 64) + (y 2).val % 64)
    omega

theorem averages_join (R : Reals X T) : averages (viewed X) (biasAt T)
    = Cert.DilFourRefIdeal.Pieces.averagesOf (Cert.DilFourRefIdeal.Pieces.scores X T)
        (Cert.DilFourRefIdeal.Pieces.gathered (Cert.DilFourRefIdeal.Pieces.values X)) := by
  funext y
  obtain ⟨b, s, n, i, h, d, rfl⟩ := split_index y
  rw [averages_at, head_col]
  exact (average_join R b s n i h d).trans (Cert.DilFourRefIdeal.Pieces.averages_ref X T b (queryAt n i) s h d).symm

theorem logarithms_join (R : Reals X T) : logarithms (viewed X) (biasAt T)
    = Cert.DilFourRefIdeal.Pieces.logarithmsOf (Cert.DilFourRefIdeal.Pieces.scores X T) := by
  funext y
  obtain ⟨b, s, n, i, h, d, rfl⟩ := split_index y
  rw [logarithms_at, head_col]
  exact (log_join R b s n i h).trans (Cert.DilFourRefIdeal.Pieces.logarithms_ref X T b (queryAt n i) s h d).symm

end Cert.DilFourIdeal.Window
-- ==== Proof.DilFourCondition.lean ====
/- What the condition of the dilated attention says: its queries and keys are reals, the group's rows of the bias
table below `⊤`. -/
module

public import proofs.«01_k».proof.Proof.MergeCondition
public import proofs.«01_k».proof.Proof.DilFourRun
public import proofs.«01_k».proof.Proof.DilFourJoin

set_option maxRecDepth 16384

@[expose] public section

noncomputable section

open Idealize.ShloMosaic Idealize.ShloMosaic.TcCoe Idealize.SL.Sem

namespace Cert.DilFourIdeal.Window
open Cert.DilFourIdeal Cert.DilFourIdeal.Gen
open Cert.MergeIdeal.Groups (above_of_ones below_of_ones)

section Slices
open Cert.Pre_four_finite Cert.Pre_four_finite.Facts
variable [Cert.Pre_four_finite.Facts]

theorem stream_at (X : FVec Ideal S2x16384x4608 .bf16) (b : Fin 2) (p : Fin 16384) (e : Fin 4608) (h0 : 1536 ≤ e.val) (he : e.val < 2560) :
    extractStridedSlice S2x16384x1024 ![0, 0, 1536] X slices_S2x16384x4608_S2x16384x1024_0_0_1536 (ix3 b p (⟨e.val - 1536, by omega⟩ : Fin 1024))
      = X (ix3 b p e) := by
  pointwise
  exact congrArg (fun q => X (ix3 b p q)) (Fin.ext (by simp only []; omega))

theorem table_at (T : FVec Ideal S32x40 .f32) (r : Fin 32) (h : Fin 8) :
    extractStridedSlice S32x8 ![0, 24] T slices_S32x40_S32x8_0_24 (ix2 r h) = T (ix2 r (⟨24 + h.val, by omega⟩ : Fin 40)) := by
  pointwise

end Slices

variable [Cert.Pre_four_finite.Facts] (m : (ℓ : Loc nD τ sig) → Buf (Elt Ideal) ℓ)

theorem reals (hpre : Cert.Pre_DilFourIdeal_four_finite m) (c : Dev nD) :
    Reals (m ((c : Thread nD τ).loc main_arg0)) (m ((c : Thread nD τ).loc main_arg1)) where
  stream b p e he := by
    have h1 := above_of_ones _ _ (hpre c).1 (ix3 b p (⟨e.val - 1536, by omega⟩ : Fin 1024))
    have h2 := below_of_ones _ _ (hpre c).2.1 (ix3 b p (⟨e.val - 1536, by omega⟩ : Fin 1024))
    have ex := stream_at (m ((c : Thread nD τ).loc main_arg0)) b p e he.1 he.2
    exact ⟨lt_of_le_of_lt bot_le (h1.trans_eq ex), lt_of_lt_of_le (ex.symm.trans_lt h2) le_top⟩
  table r h := by
    have h2 := below_of_ones _ _ (hpre c).2.2 (ix2 r h)
    have ex := table_at (m ((c : Thread nD τ).loc main_arg1)) r h
    exact lt_of_lt_of_le (ex.symm.trans_lt h2) le_top

variable (ρ : Dev nD → PrngReg)

/-- The averages the kernel leaves are the reference's, -/
theorem averages_result (hpre : Cert.Pre_DilFourIdeal_four_finite m) (c : Dev nD) : (dat1 (V2 m ρ) c).arrAt 6 cfg1.N
    = Cert.DilFourRefIdeal.Pieces.averagesOf
        (Cert.DilFourRefIdeal.Pieces.scores (m ((c : Thread nD τ).loc main_arg0)) (m ((c : Thread nD τ).loc main_arg1)))
        (Cert.DilFourRefIdeal.Pieces.gathered (Cert.DilFourRefIdeal.Pieces.values (m ((c : Thread nD τ).loc main_arg0)))) := by
  rw [averages_array, entry_qkv m ρ c, entry_bias m ρ c, bias_array]
  exact averages_join (reals m hpre c)

/-- and so are the logarithms. -/
theorem logarithms_result (hpre : Cert.Pre_DilFourIdeal_four_finite m) (c : Dev nD) : (dat1 (V2 m ρ) c).arrAt 7 cfg1.N
    = Cert.DilFourRefIdeal.Pieces.logarithmsOf
        (Cert.DilFourRefIdeal.Pieces.scores (m ((c : Thread nD τ).loc main_arg0)) (m ((c : Thread nD τ).loc main_arg1))) := by
  rw [logarithms_array, entry_qkv m ρ c, entry_bias m ρ c, bias_array]
  exact logarithms_join (reals m hpre c)

section Both
variable (m' : (ℓ : Loc Cert.DilFourRefIdeal.nD Cert.DilFourRefIdeal.τ Cert.DilFourRefIdeal.sig) → Buf (Elt Ideal) ℓ) (c : Dev nD)
  (e0 : m' ((c.tc : Thread Cert.DilFourRefIdeal.nD Cert.DilFourRefIdeal.τ).loc Cert.DilFourRefIdeal.main_arg0)
    = m ((c.tc : Thread nD τ).loc main_arg0))
  (e1 : m' ((c.tc : Thread Cert.DilFourRefIdeal.nD Cert.DilFourRefIdeal.τ).loc Cert.DilFourRefIdeal.main_arg1)
    = m ((c.tc : Thread nD τ).loc main_arg1))
include e0 e1

/-- From equal arguments both programs leave the same averages -/
theorem averages_both (hpre : Cert.Pre_DilFourIdeal_four_finite m) :
    Cert.DilFourRefIdeal.Value.res_main_v85 m' c = (dat1 (V2 m ρ) c).arrAt 6 cfg1.N := by
  rw [Cert.DilFourRefIdeal.Pieces.averages_named, e0, e1]
  exact (averages_result m ρ hpre c).symm

/-- and the same logarithms. -/
theorem logarithms_both (hpre : Cert.Pre_DilFourIdeal_four_finite m) :
    Cert.DilFourRefIdeal.Value.res_main_v89 m' c = (dat1 (V2 m ρ) c).arrAt 7 cfg1.N := by
  rw [Cert.DilFourRefIdeal.Pieces.logarithms_named, e0, e1]
  exact (logarithms_result m ρ hpre c).symm

end Both

end Cert.DilFourIdeal.Window
-- ==== Proof.DilSixteenRun.lean ====
/- The dilated attention's run: its two results are what the second region leaves, from the bias the first region leaves. -/
module

public import proofs.«01_k».proof.Proof.Gen.DilSixteenIdeal.Frame
public import Idealize.ShloMosaic.Lib.Pipeline.ValueKit

set_option maxRecDepth 16384

@[expose] public section

noncomputable section

namespace Cert.DilSixteenIdeal.Window
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg cellOf)
open Cert.DilSixteenIdeal Cert.DilSixteenIdeal.Gen

variable (m : (ℓ : Loc nD τ sig) → Buf (Elt Ideal) ℓ) (ρ : Dev nD → PrngReg)

set_option backward.isDefEq.respectTransparency.types false in
/-- Both regions run one after the other; the results are the second region's output arrays. -/
theorem run_results : θ_run defs (onTc (τ := τ) (main (F := Ideal))) ⟨m, fun _ => 0, ρ⟩ (fun r => ∀ c : Dev nD,
      r.2.mem ((c.tc : Thread nD τ).loc main_v2_0) = (dat1 (V2 m ρ) c).arrAt 6 cfg1.N
      ∧ r.2.mem ((c.tc : Thread nD τ).loc main_v2_1) = (dat1 (V2 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz c =>
      ⟨(h c _ (mem_uc main_v2_0 (by decide))).trans (W3_arr m ρ c 6),
       (h c _ (mem_uc main_v2_1 (by decide))).trans (W3_arr m ρ c 7),
       (h c _ (mem_uc main_arg0 (by decide))).trans (W3_main_arg0 m ρ c),
       (h c _ (mem_uc main_arg1 (by decide))).trans (W3_main_arg1 m ρ c)⟩)

/-- The first argument as the second region reads it: a row holds 16 positions, side by side. -/
def viewed (X : FVec Ideal S2x16384x4608 .bf16) : FVec Ideal S2x1024x73728 .bf16 := shapeCast _ X shapeCasts_S2x16384x4608_S2x1024x73728

/-- The second region reads the first argument as launched, -/
theorem entry_qkv (c : Dev nD) : V2 m ρ c main_v1 = viewed (m ((c : Thread nD τ).loc main_arg0)) := by
  rw [← W1_args m ρ c main_arg0 (by decide)]
  rfl

/-- and the bias the first region leaves. -/
theorem entry_bias (c : Dev nD) : V2 m ρ c main_v0 = (dat0 (V0 m ρ) c).arrAt 1 cfg0.N :=
  (W2_of m ρ c main_v0 (by decide)).trans (W1_arr m ρ c 1)

end Cert.DilSixteenIdeal.Window
-- ==== Proof.DilSixteenHeads.lean ====
/- One head of the dilated attention's third group's block, at an index. -/
module

public import proofs.«01_k».proof.Proof.Gen.DilSixteenIdeal.Frame
public import proofs.«01_k».proof.Proof.Softmax
public import Idealize.ShloMosaic.Lib.Pipeline.ReadBack

set_option maxRecDepth 16384

@[expose] public section

noncomputable section

open Idealize.ShloMosaic Idealize.ShloMosaic.TcCoe Idealize.SL.Sem

namespace Cert.DilSixteenIdeal.Window
open Cert.DilSixteenIdeal Cert.DilSixteenIdeal.Gen

/-- The column of a head's lane. -/
def col (h : Fin 8) (d : Fin 64) : Fin 512 := ⟨64 * h.val + d.val, by omega⟩

/-- The head of a column. -/
def head (e : Fin 512) : Fin 8 := ⟨e.val / 64, by omega⟩

theorem head_col (h : Fin 8) (d : Fin 64) : head (col h d) = h := Fin.ext (by simp only [head, col]; omega)

/-- The columns as the slices spell them. -/
theorem cols (d : Fin 64) :
    (∀ h, (⟨d.val, h⟩ : Fin 512) = col 0 d) ∧ (∀ h, (⟨64 + d.val, h⟩ : Fin 512) = col 1 d) ∧ (∀ h, (⟨128 + d.val, h⟩ : Fin 512) = col 2 d)
    ∧ (∀ h, (⟨192 + d.val, h⟩ : Fin 512) = col 3 d) ∧ (∀ h, (⟨256 + d.val, h⟩ : Fin 512) = col 4 d)
    ∧ (∀ h, (⟨320 + d.val, h⟩ : Fin 512) = col 5 d) ∧ (∀ h, (⟨384 + d.val, h⟩ : Fin 512) = col 6 d)
    ∧ (∀ h, (⟨448 + d.val, h⟩ : Fin 512) = col 7 d) := by
  refine ⟨?_, fun _ => rfl, fun _ => rfl, fun _ => rfl, fun _ => rfl, fun _ => rfl, fun _ => rfl, fun _ => rfl⟩
  intro h
  exact Fin.ext (by simp [col])

/-- A head's score of query `i` and key `j` in the block. -/
def score (h : Fin 8) (q : FVec Ideal S128x512 .bf16) (k : FVec Ideal S256x512 .bf16) (b : Vec Ideal S1x8x128x256 .f32)
    (i : Fin 128) (j : Fin 256) : EReal :=
  (∑ d : Fin 64, q (ix2 i (col h d)) * k (ix2 j (col h d))) * Ideal.ofBits .f32 0x3E000000#32 + b (ix4 0 h i j)

/-- The average of `v` by the exponentials of the scores, over their sum. -/
def averaged {n : Nat} (f v : Fin n → EReal) : EReal :=
  (∑ j, Ideal.exp (f j - Finset.univ.fold max ⊥ f) * v j)
        * Ideal.div 1 (∑ j, Ideal.exp (f j - Finset.univ.fold max ⊥ f))

/-- The logarithm of the sum of the exponentials. -/
def logSum {n : Nat} (f : Fin n → EReal) : EReal :=
  Finset.univ.fold max ⊥ f + Ideal.log (∑ j, Ideal.exp (f j - Finset.univ.fold max ⊥ f))

/-- What the body leaves of the averages, -/
def outAt (q : FVec Ideal S128x512 .bf16) (k v : FVec Ideal S256x512 .bf16) (b : Vec Ideal S1x8x128x256 .f32)
    (y : S1x128x512.Idx) : EReal :=
  averaged (score (head (y 2)) q k b (y 1)) fun j => v (ix2 j (y 2))

/-- and of the logarithms. -/
def logAt (q : FVec Ideal S128x512 .bf16) (k : FVec Ideal S256x512 .bf16) (b : Vec Ideal S1x8x128x256 .f32)
    (y : S1x128x512.Idx) : EReal :=
  logSum (score (head (y 2)) q k b (y 1))

theorem outAt_col (q k v b) (i : Fin 128) (h : Fin 8) (d : Fin 64) :
    outAt q k v b (ix3 0 i (col h d)) = averaged (score h q k b i) fun j => v (ix2 j (col h d)) := by
  show averaged (score (head (col h d)) q k b i) (fun j => v (ix2 j (col h d))) = _
  rw [head_col]

theorem logAt_col (q k b) (i : Fin 128) (h : Fin 8) (d : Fin 64) :
    logAt q k b (ix3 0 i (col h d)) = logSum (score h q k b i) := by
  show logSum (score (head (col h d)) q k b i) = _
  rw [head_col]

/-- A head's store, at the block's indices. -/
theorem stored (h : Fin 8) (G : S1x128x512.Idx → EReal) (p : FVec Ideal S1x128x64 .f32)
    (inb : ∀ a, (![0, 0, 64 * h.val] : Fin 3 → Nat) a + S1x128x64.size a ≤ S1x128x512.size a)
    (hp : ∀ i d, p (ix3 0 i d) = G (ix3 0 i (col h d))) (x : S1x128x64.Idx) :
    p x = G ((Rect.unit (s := S1x128x512) ![0, 0, 64 * h.val] S1x128x64.size inb).emb x) := by
  have e : (Rect.unit (s := S1x128x512) ![0, 0, 64 * h.val] S1x128x64.size inb).emb x = ix3 0 (x 1) (col h (x 2)) := by
    funext a
    fin_cases a
    · exact Subsingleton.elim (α := Fin 1) _ _
    · exact Fin.ext (by show 0 + 1 * (x 1).val = (x 1).val; omega)
    · exact Fin.ext (by show 64 * h.val + 1 * (x 2).val = 64 * h.val + (x 2).val; omega)
  have e' : x = ix3 0 (x 1) (x 2) := by
    funext a
    fin_cases a
    · exact Subsingleton.elim (α := Fin 1) _ _
    · rfl
    · rfl
  rw [e]
  exact (congrArg p e').trans (hp (x 1) (x 2))

theorem in_head (h : Fin 8) (a : Fin 3) : (![0, 0, 64 * h.val] : Fin 3 → Nat) a + S1x128x64.size a ≤ S1x128x512.size a := by
  fin_cases a
  · exact Nat.le_refl 1
  · exact Nat.le_refl 128
  · show 64 * h.val + 64 ≤ 512
    omega

theorem whole (x : Vec Ideal S1x128x512 .bf16) : View.ld x r1_0 = x :=
  View.ld_unit_zero (S := S1x128x512) (by decide) _ x

theorem out_block (x0 x1 x2 x3 x4 x5) (y : S1x128x512.Idx) :
    out1_6 (F := Ideal) x0 x1 x2 x3 x4 x5 y = outAt (k1_pay2 x0) (k1_pay3 x2 x1) (k1_pay4 x4 x3) x5 y := by
  unfold_out out1_6
  simp only [whole]
  refine View.canon_apply_of_pieces (Val := Elt Ideal) (e := .f32) (outAt (k1_pay2 x0) (k1_pay3 x2 x1) (k1_pay4 x4 x3) x5) _ ?_ y
    (cover1_6 _ _ _ _ _ _ _ _ y)
  refine View.PiecesOf.mem ⟨stored 7 _ _ (in_head 7) ?_, stored 6 _ _ (in_head 6) ?_, stored 5 _ _ (in_head 5) ?_, stored 4 _ _ (in_head 4) ?_, stored 3 _ _ (in_head 3) ?_,
    stored 2 _ _ (in_head 2) ?_, stored 1 _ _ (in_head 1) ?_, stored 0 _ _ (in_head 0) ?_, trivial⟩
  all_goals
    intro i d
    rw [outAt_col]
    pointwise [k1_pay57, k1_pay56, k1_pay55, k1_pay54, k1_pay53, k1_pay51, k1_pay50, k1_pay49, k1_pay48, k1_pay47, k1_pay46,
      k1_pay45, k1_pay43, k1_pay42, k1_pay41, k1_pay40, k1_pay39, k1_pay37, k1_pay36, k1_pay35, k1_pay34, k1_pay33, k1_pay32,
      k1_pay30, k1_pay29, k1_pay28, k1_pay27, k1_pay26, k1_pay24, k1_pay23, k1_pay22, k1_pay21, k1_pay20, k1_pay17, k1_pay16,
      k1_pay15, k1_pay14, k1_pay13, k1_pay11, k1_pay10, k1_pay9, k1_pay8, k1_pay7, k1_pay6, k1_pay5]
    simp only [Softmax.below_f32]
    simp only [cols, averaged, logSum, score]
    try rfl

theorem log_block (x0 x1 x2 x3 x4 x5) (y : S1x128x512.Idx) :
    out1_7 (F := Ideal) x0 x1 x2 x3 x4 x5 y = logAt (k1_pay2 x0) (k1_pay3 x2 x1) x5 y := by
  unfold_out out1_7
  simp only [whole]
  refine View.canon_apply_of_pieces (Val := Elt Ideal) (e := .f32) (logAt (k1_pay2 x0) (k1_pay3 x2 x1) x5) _ ?_ y
    (cover1_7 _ _ _ _ _ _ _ _ y)
  refine View.PiecesOf.mem ⟨stored 7 _ _ (in_head 7) ?_, stored 6 _ _ (in_head 6) ?_, stored 5 _ _ (in_head 5) ?_, stored 4 _ _ (in_head 4) ?_, stored 3 _ _ (in_head 3) ?_,
    stored 2 _ _ (in_head 2) ?_, stored 1 _ _ (in_head 1) ?_, stored 0 _ _ (in_head 0) ?_, trivial⟩
  all_goals
    intro i d
    rw [logAt_col]
    pointwise [k1_pay1, k1_pay58, k1_pay54, k1_pay52, k1_pay46, k1_pay48, k1_pay44, k1_pay40, k1_pay41, k1_pay38, k1_pay32,
      k1_pay31, k1_pay25, k1_pay19, k1_pay18, k1_pay14, k1_pay12, k1_pay8, k1_pay6, k1_pay57, k1_pay56, k1_pay55, k1_pay53,
      k1_pay51, k1_pay50, k1_pay49, k1_pay47, k1_pay45, k1_pay43, k1_pay42, k1_pay39, k1_pay37, k1_pay36, k1_pay35, k1_pay34,
      k1_pay33, k1_pay30, k1_pay29, k1_pay28, k1_pay27, k1_pay26, k1_pay24, k1_pay23, k1_pay22, k1_pay21, k1_pay20, k1_pay17,
      k1_pay16, k1_pay15, k1_pay13, k1_pay11, k1_pay10, k1_pay9, k1_pay7, k1_pay5]
    simp only [Softmax.below_f32]
    simp only [cols, averaged, logSum, score]
    try rfl

end Cert.DilSixteenIdeal.Window
-- ==== Proof.DilSixteenBlocks.lean ====
/- What the third dilated group's second region reads at a point, by its array. -/
module

public import proofs.«01_k».proof.Proof.DilSixteenHeads
public import Idealize.ShloMosaic.Lib.Pipeline.ValueKit

set_option maxRecDepth 16384

@[expose] public section

noncomputable section

open Idealize.ShloMosaic Idealize.ShloMosaic.TcCoe Idealize.SL.Sem

namespace Cert.DilSixteenIdeal.Window
open Cert.DilSixteenIdeal Cert.DilSixteenIdeal.Gen

variable (V : (c : Dev nD) → (b : Ref sig .tc) → Buf (Elt Ideal) ((c : Thread nD τ).loc b))

/-- Which block each window is on at every point: the batch is `t / 128`, the place in a row `t / 8 % 16`, the row block
`t % 8`, the row block before it held at the first, and the bias's first array for the first row block alone. -/
theorem blocks1_at : ∀ t : Fin cfg1.N, win1_0.index t = ![t.val / 128, t.val % 8, 9 * (t.val / 8 % 16) + 6]
    ∧ win1_1.index t = ![t.val / 128, t.val % 8, 9 * (t.val / 8 % 16) + 7]
    ∧ win1_2.index t = ![t.val / 128, t.val % 8 - 1, 9 * (t.val / 8 % 16) + 7]
    ∧ win1_3.index t = ![t.val / 128, t.val % 8, 9 * (t.val / 8 % 16) + 8]
    ∧ win1_4.index t = ![t.val / 128, t.val % 8 - 1, 9 * (t.val / 8 % 16) + 8]
    ∧ win1_5.index t = ![min (t.val % 8) 1, 0, 0, 0]
    ∧ win1_6.index t = ![t.val / 128, t.val % 8, t.val / 8 % 16] ∧ win1_7.index t = ![t.val / 128, t.val % 8, t.val / 8 % 16] :=
  (by decide +kernel : ∀ t : Fin grid1.N, _)

/-- The row of a row block's key. -/
def keyAt (n : Fin 8) (j : Fin 256) : Fin 1024 :=
  if j.val < 128 then ⟨128 * (n.val - 1) + j.val % 128, by omega⟩ else ⟨128 * n.val + (j.val - 128), by omega⟩

/-- The row of a row block's query. -/
def queryAt (n : Fin 8) (i : Fin 128) : Fin 1024 := ⟨128 * n.val + i.val, by omega⟩

/-- The columns of the group's three thirds, at a place in the row. -/
def qCol (s : Fin 16) (e : Fin 512) : Fin 73728 := ⟨4608 * s.val + 3072 + e.val, by omega⟩
def kCol (s : Fin 16) (e : Fin 512) : Fin 73728 := ⟨4608 * s.val + 3584 + e.val, by omega⟩
def vCol (s : Fin 16) (e : Fin 512) : Fin 73728 := ⟨4608 * s.val + 4096 + e.val, by omega⟩

/-- The results' column. -/
def oCol (s : Fin 16) (e : Fin 512) : Fin 8192 := ⟨512 * s.val + e.val, by omega⟩

theorem keyAt_before (n : Fin 8) (j : Fin 256) (h : j.val < 128) : (keyAt n j).val = 128 * (n.val - 1) + j.val := by
  unfold keyAt
  rw [if_pos h]
  show 128 * (n.val - 1) + j.val % 128 = _
  omega

theorem keyAt_own (n : Fin 8) (j : Fin 256) (h : ¬ j.val < 128) : (keyAt n j).val = 128 * n.val + (j.val - 128) := by
  unfold keyAt
  rw [if_neg h]

/-- The kernel's scores, by the arrays: the bias `B`, and the group's columns of `X`. -/
def scoreOf (X : FVec Ideal S2x1024x73728 .bf16) (B : S2x8x128x256.Idx → EReal) (b : Fin 2) (s : Fin 16) (n : Fin 8) (i : Fin 128)
    (h : Fin 8) (j : Fin 256) : EReal :=
  (∑ d : Fin 64, X (ix3 b (queryAt n i) (qCol s (col h d))) * X (ix3 b (keyAt n j) (kCol s (col h d)))) * Ideal.ofBits .f32 0x3E000000#32
    + B (ix4 ⟨min n.val 1, by omega⟩ h i j)

section Reads
variable (c : Dev nD) (t : Fin cfg1.N) (b : Fin 2) (s : Fin 16) (n : Fin 8) (hb : b.val = t.val / 128)
  (hs : s.val = t.val / 8 % 16) (hn : n.val = t.val % 8)
include hb hs hn

theorem query_read (i : Fin 128) (e : Fin 512) :
    k1_pay2 (iblk1 V c 0 t) (ix2 i e) = V c main_v1 (ix3 b (queryAt n i) (qCol s e)) := by
  pointwise [k1_pay2]
  blk_point [iblk1, blocks1_at t]
  all_goals simp only [queryAt, qCol]
  all_goals omega

theorem key_read (j : Fin 256) (e : Fin 512) :
    k1_pay3 (iblk1 V c 2 t) (iblk1 V c 1 t) (ix2 j e) = V c main_v1 (ix3 b (keyAt n j) (kCol s e)) := by
  pointwise [k1_pay3]
  by_cases h : j.val < 128
  · rw [dif_pos h]
    blk_point [iblk1, blocks1_at t]
    all_goals simp only [keyAt_before n j h, kCol]
    all_goals omega
  · rw [dif_neg h]
    blk_point [iblk1, blocks1_at t]
    all_goals simp only [keyAt_own n j h, kCol]
    all_goals omega

theorem value_read (j : Fin 256) (e : Fin 512) :
    k1_pay4 (iblk1 V c 4 t) (iblk1 V c 3 t) (ix2 j e) = V c main_v1 (ix3 b (keyAt n j) (vCol s e)) := by
  pointwise [k1_pay4]
  by_cases h : j.val < 128
  · rw [dif_pos h]
    blk_point [iblk1, blocks1_at t]
    all_goals simp only [keyAt_before n j h, vCol]
    all_goals omega
  · rw [dif_neg h]
    blk_point [iblk1, blocks1_at t]
    all_goals simp only [keyAt_own n j h, vCol]
    all_goals omega

omit hb hs in
theorem bias_read (h : Fin 8) (i : Fin 128) (j : Fin 256) :
    iblk1 V c 5 t (ix4 0 h i j) = V c main_v0 (ix4 ⟨min n.val 1, by omega⟩ h i j) := by
  blk_point [iblk1, blocks1_at t]

theorem score_read (i : Fin 128) (h : Fin 8) :
    score h (k1_pay2 (iblk1 V c 0 t)) (k1_pay3 (iblk1 V c 2 t) (iblk1 V c 1 t)) (iblk1 V c 5 t) i
      = scoreOf (V c main_v1) (V c main_v0) b s n i h := by
  funext j
  unfold score scoreOf
  simp only [query_read V c t b s n hb hs hn, key_read V c t b s n hb hs hn]
  exact congrArg (_ + ·) (bias_read V c t b s n hn h i j)

end Reads

/-- The row block, the row in it, the place and the column of a result's index. -/
def blockOf (p : Fin 1024) : Fin 8 := ⟨p.val / 128, by omega⟩
def rowOf (p : Fin 1024) : Fin 128 := ⟨p.val % 128, by omega⟩
def placeOf (e : Fin 8192) : Fin 16 := ⟨e.val / 512, by omega⟩
def laneOf (e : Fin 8192) : Fin 512 := ⟨e.val % 512, by omega⟩

/-- The averages the kernel leaves, -/
def averages (X : FVec Ideal S2x1024x73728 .bf16) (B : S2x8x128x256.Idx → EReal) (y : S2x1024x8192.Idx) : EReal :=
  averaged (scoreOf X B (y 0) (placeOf (y 2)) (blockOf (y 1)) (rowOf (y 1)) (head (laneOf (y 2))))
    fun j => X (ix3 (y 0) (keyAt (blockOf (y 1)) j) (vCol (placeOf (y 2)) (laneOf (y 2))))

/-- and the logarithms. -/
def logarithms (X : FVec Ideal S2x1024x73728 .bf16) (B : S2x8x128x256.Idx → EReal) (y : S2x1024x8192.Idx) : EReal :=
  logSum (scoreOf X B (y 0) (placeOf (y 2)) (blockOf (y 1)) (rowOf (y 1)) (head (laneOf (y 2))))

theorem block_query (n : Fin 8) (i : Fin 128) : blockOf (queryAt n i) = n := Fin.ext (by simp only [blockOf, queryAt]; omega)
theorem row_query (n : Fin 8) (i : Fin 128) : rowOf (queryAt n i) = i := Fin.ext (by simp only [rowOf, queryAt]; omega)
theorem place_col (s : Fin 16) (e : Fin 512) : placeOf (oCol s e) = s := Fin.ext (by simp only [placeOf, oCol]; omega)
theorem lane_col (s : Fin 16) (e : Fin 512) : laneOf (oCol s e) = e := Fin.ext (by simp only [laneOf, oCol]; omega)

theorem averages_at (X B) (b : Fin 2) (s : Fin 16) (n : Fin 8) (i : Fin 128) (e : Fin 512) :
    averages X B (ix3 b (queryAt n i) (oCol s e))
      = averaged (scoreOf X B b s n i (head e)) fun j => X (ix3 b (keyAt n j) (vCol s e)) := by
  show averaged (scoreOf X B b (placeOf (oCol s e)) (blockOf (queryAt n i)) (rowOf (queryAt n i)) (head (laneOf (oCol s e))))
    (fun j => X (ix3 b (keyAt (blockOf (queryAt n i)) j) (vCol (placeOf (oCol s e)) (laneOf (oCol s e))))) = _
  rw [block_query, row_query, place_col, lane_col]

theorem logarithms_at (X B) (b : Fin 2) (s : Fin 16) (n : Fin 8) (i : Fin 128) (e : Fin 512) :
    logarithms X B (ix3 b (queryAt n i) (oCol s e)) = logSum (scoreOf X B b s n i (head e)) := by
  show logSum (scoreOf X B b (placeOf (oCol s e)) (blockOf (queryAt n i)) (rowOf (queryAt n i)) (head (laneOf (oCol s e)))) = _
  rw [block_query, row_query, place_col, lane_col]

theorem averages_read (c : Dev nD) (t : Fin cfg1.N) (b : Fin 2) (s : Fin 16) (n : Fin 8) (hb : b.val = t.val / 128)
    (hs : s.val = t.val / 8 % 16) (hn : n.val = t.val % 8)
    (i : Fin 128) (e : Fin 512) :
    averaged (score (head e) (k1_pay2 (iblk1 V c 0 t)) (k1_pay3 (iblk1 V c 2 t) (iblk1 V c 1 t)) (iblk1 V c 5 t) i)
      (fun j => k1_pay4 (iblk1 V c 4 t) (iblk1 V c 3 t) (ix2 j e))
      = averages (V c main_v1) (V c main_v0) (ix3 b (queryAt n i) (oCol s e)) := by
  rw [score_read V c t b s n hb hs hn, averages_at]
  exact congrArg _ (funext fun j => value_read V c t b s n hb hs hn j e)

theorem logarithms_read (c : Dev nD) (t : Fin cfg1.N) (b : Fin 2) (s : Fin 16) (n : Fin 8) (hb : b.val = t.val / 128)
    (hs : s.val = t.val / 8 % 16) (hn : n.val = t.val % 8)
    (i : Fin 128) (e : Fin 512) :
    logSum (score (head e) (k1_pay2 (iblk1 V c 0 t)) (k1_pay3 (iblk1 V c 2 t) (iblk1 V c 1 t)) (iblk1 V c 5 t) i)
      = logarithms (V c main_v1) (V c main_v0) (ix3 b (queryAt n i) (oCol s e)) := by
  rw [score_read V c t b s n hb hs hn, logarithms_at]

theorem averages_array (c : Dev nD) : (dat1 V c).arrAt 6 cfg1.N = averages (V c main_v1) (V c main_v0) := by
  refine (dat1 V c).arrAt_eq_of_covers 6 _ (by decide +kernel) fun t _ y => ?_
  blk_simp
  rw [after1_6]
  have ht : t.val < 256 := t.isLt
  refine (out_block _ _ _ _ _ _ _).trans ?_
  refine (averages_read V c t ⟨t.val / 128, by omega⟩ ⟨t.val / 8 % 16, by omega⟩ ⟨t.val % 8, by omega⟩ rfl rfl rfl (y 1) (y 2)).trans (congrArg _ ?_)
  blk_point [blocks1_at t]
  all_goals simp only [queryAt, oCol]
  all_goals omega

theorem logarithms_array (c : Dev nD) : (dat1 V c).arrAt 7 cfg1.N = logarithms (V c main_v1) (V c main_v0) := by
  refine (dat1 V c).arrAt_eq_of_covers 7 _ (by decide +kernel) fun t _ y => ?_
  blk_simp
  rw [after1_7]
  have ht : t.val < 256 := t.isLt
  refine (log_block _ _ _ _ _ _ _).trans ?_
  refine (logarithms_read V c t ⟨t.val / 128, by omega⟩ ⟨t.val / 8 % 16, by omega⟩ ⟨t.val % 8, by omega⟩ rfl rfl rfl (y 1) (y 2)).trans (congrArg _ ?_)
  blk_point [blocks1_at t]
  all_goals simp only [queryAt, oCol]
  all_goals omega

end Cert.DilSixteenIdeal.Window
-- ==== Proof.DilSixteenBias.lean ====
/- The bias the dilated attention's third group's first region leaves: the table's row of a distance, and `⊥` outside the window. -/
module

public import proofs.«01_k».proof.Proof.Gen.DilSixteenIdeal.Frame
public import proofs.«01_k».proof.Proof.StripsBucket
public import Idealize.ShloMosaic.Lib.Pipeline.ValueKit

set_option maxRecDepth 16384

@[expose] public section

noncomputable section

open Idealize.ShloMosaic Idealize.ShloMosaic.TcCoe Idealize.SL.Sem

namespace Cert.DilSixteenIdeal.Window
open Cert.DilSixteenIdeal Cert.DilSixteenIdeal.Gen Cert.Bucket

/-- Query `i` of a block sees its key `j`: the key is at most 128 rows back, and in the first block its own. -/
def Sees (first : Prop) (i : Fin 128) (j : Fin 256) : Prop :=
  (i.val ≤ j.val ∧ j.val ≤ 128 + i.val) ∧ (128 ≤ j.val ∨ ¬ first)

/-- The bias at an index. -/
def biasAt (T : FVec Ideal S32x40 .f32) (y : S2x8x128x256.Idx) : EReal :=
  open Classical in if Sees ((y 0).val = 0) (y 2) (y 3) then
      T (ix2 (row (16 * (128 + (y 2).val - (y 3).val))) (⟨32 + (y 1).val, by have := (y 1).isLt; change _ < 8 at this; omega⟩ : Fin 40)) else ⊥

theorem dist_at (i : Fin 128) (j : Fin 256) : k0_pay2 (ix2 i j) = 128#32 + BitVec.ofNat 32 i.val - BitVec.ofNat 32 j.val := by
  pointwise [k0_pay2]
  rfl

theorem bucket_at (i : Fin 128) (j : Fin 256) : k0_pay3 (F := Ideal) (ix2 i j) = bucket (IntOp.muli (k0_pay2 (ix2 i j)) 16#32) := by
  pointwise [k0_pay3]
  rfl

/-- A distance in rows, in positions. -/
theorem spread (n : Nat) : IntOp.muli (BitVec.ofNat 32 n) 16#32 = BitVec.ofNat 32 (16 * n) := by
  show BitVec.ofNat 32 n * 16#32 = _
  rw [← BitVec.ofNat_mul, Nat.mul_comm]

theorem mask_value : Named.named (F := Ideal) κ "mask" (φ := .f32) 0xF149F2CA#32 = (⊥ : EReal) := rfl

/-- The distance of a seen key is not negative and at most 128, as words, -/
theorem in_reach (i : Fin 128) (j : Fin 256) :
    IntOp.andi (IntOp.cmpi .sge (128#32 + BitVec.ofNat 32 i.val - BitVec.ofNat 32 j.val) 0#32)
        (IntOp.cmpi .sle (128#32 + BitVec.ofNat 32 i.val - BitVec.ofNat 32 j.val) 128#32)
      = if i.val ≤ j.val ∧ j.val ≤ 128 + i.val then 1#1 else 0#1 := by
  have e : (128#32 + BitVec.ofNat 32 i.val - BitVec.ofNat 32 j.val).toInt = 128 + (i.val : Int) - (j.val : Int) := by
    rw [BitVec.toInt_eq_toNat_cond]
    simp only [BitVec.toNat_sub, BitVec.toNat_add, BitVec.toNat_ofNat]
    split <;> omega
  have a : IntOp.cmpi .sge (128#32 + BitVec.ofNat 32 i.val - BitVec.ofNat 32 j.val) 0#32
      = if j.val ≤ 128 + i.val then 1#1 else 0#1 := by
    show BitVec.ofBool (decide ((0#32).toInt ≤ _)) = _
    rw [e]
    by_cases h : j.val ≤ 128 + i.val
    · rw [if_pos h, decide_eq_true (by show (0 : Int) ≤ _; omega)]
      rfl
    · rw [if_neg h, decide_eq_false (by show ¬ (0 : Int) ≤ _; omega)]
      rfl
  have b : IntOp.cmpi .sle (128#32 + BitVec.ofNat 32 i.val - BitVec.ofNat 32 j.val) 128#32
      = if i.val ≤ j.val then 1#1 else 0#1 := by
    show BitVec.ofBool (decide (_ ≤ (128#32).toInt)) = _
    rw [e]
    by_cases h : i.val ≤ j.val
    · rw [if_pos h, decide_eq_true (by show _ ≤ (128 : Int); omega)]
      rfl
    · rw [if_neg h, decide_eq_false (by show ¬ _ ≤ (128 : Int); omega)]
      rfl
  rw [a, b]
  by_cases h1 : j.val ≤ 128 + i.val <;> by_cases h2 : i.val ≤ j.val <;> simp [h1, h2, IntOp.andi]

/-- and the rows before the first block are those of keys below 128, in the first block alone. -/
theorem not_before : ∀ (v : Fin 2) (j : Fin 256),
    IntOp.ori (IntOp.cmpi .sge (BitVec.ofNat 32 j.val) 128#32) (Scalar.cmpi .sgt (BitVec.ofNat 32 v.val) 0#32)
      = if 128 ≤ j.val ∨ ¬ v.val = 0 then 1#1 else 0#1 := by decide +kernel

theorem dist_word (i : Fin 128) (j : Fin 256) (h : j.val ≤ 128 + i.val) :
    128#32 + BitVec.ofNat 32 i.val - BitVec.ofNat 32 j.val = BitVec.ofNat 32 (128 + i.val - j.val) := by
  apply BitVec.eq_of_toNat_eq
  simp only [BitVec.toNat_sub, BitVec.toNat_add, BitVec.toNat_ofNat]
  omega

variable (V : (c : Dev nD) → (b : Ref sig .tc) → Buf (Elt Ideal) ((c : Thread nD τ).loc b))

theorem blocks0_at : ∀ t : Fin cfg0.N, win0_0.index t = ![0, 0] ∧ win0_1.index t = ![t.val / 8, t.val % 8, 0, 0] :=
  (by decide +kernel : ∀ t : Fin grid0.N, _)

/-- The first region's block of the table is the whole of it. -/
theorem table_read (c : Dev nD) (t : Fin cfg0.N) (y : S32x40.Idx) : iblk0 V c 0 t y = V c main_arg1 y := by
  blk_point [iblk0, blocks0_at t]

theorem coords_at : ∀ t : Fin cfg0.N, (grid0.coords t 0).val = t.val / 8 ∧ (grid0.coords t 1).val = t.val % 8
    ∧ (Scalar.addi 32#32 (BitVec.ofNat 32 (grid0.coords t 1).val)).toNat = 32 + t.val % 8 :=
  (by decide +kernel : ∀ t : Fin grid0.N, _)

theorem bias_block (c : Dev nD) (t : Fin cfg0.N) (i : Fin 128) (j : Fin 256) (h : Fin 8) (v : Fin 2) (hh : h.val = t.val % 8)
    (hv : v.val = t.val / 8) : outsAt0 V c t (ix4 0 0 i j) = biasAt (V c main_arg1) (ix4 v h i j) := by
  unfold outsAt0 out0_A_1
  frame_out
  pointwise [k0_pay1, k0_pay19, k0_pay16, k0_pay13, k0_pay10, k0_pay7, k0_pay4, k0_pay5, k0_pay6, k0_pay8, k0_pay9, k0_pay11, k0_pay12,
    k0_pay14, k0_pay15, k0_pay17, k0_pay18, k0_pay20, k0_pay21, bucket_at, dist_at]
  rw [mask_value]
  rw [in_reach]
  rw [show (grid0.coords t 0).val = v.val from (coords_at t).1.trans hv.symm]
  rw [not_before]
  unfold biasAt
  simp only [table_read]
  by_cases hs : Sees (v.val = 0) i j
  · rw [if_pos hs.1, if_pos hs.2]
    have hc : (Scalar.addi 32#32 (BitVec.ofNat 32 (grid0.coords t 1).val)).toNat = 32 + h.val := (coords_at t).2.2.trans (by rw [hh])
    rw [dist_word i j hs.1.2, spread, bucket_row_far _ (by have := hs.1; omega)]
    refine Eq.trans ?_ (if_pos hs).symm
    show _ = V c main_arg1 (ix2 (row (16 * (128 + i.val - j.val))) _)
    generalize row (16 * (128 + i.val - j.val)) = r
    have key : ∀ (a b : Nat) (ha : a < 32) (hb : b < 40), a = r.val → b = 32 + h.val →
        V c main_arg1 (ix2 ⟨a, ha⟩ ⟨b, hb⟩) = V c main_arg1 (ix2 r ⟨32 + h.val, by omega⟩) := by
      intro a b ha hb e1 e2
      subst e1 e2
      rfl
    fin_cases r <;> exact key _ _ _ _ rfl hc
  · have : ¬ ((i.val ≤ j.val ∧ j.val ≤ 128 + i.val) ∧ (128 ≤ j.val ∨ ¬ v.val = 0)) := hs
    refine Eq.trans ?_ (if_neg hs).symm
    by_cases h1 : i.val ≤ j.val ∧ j.val ≤ 128 + i.val
    · rw [if_pos h1, if_neg (fun h2 => this ⟨h1, h2⟩)]
      rfl
    · rw [if_neg h1]
      by_cases h2 : 128 ≤ j.val ∨ ¬ v.val = 0
      · rw [if_pos h2]
        rfl
      · rw [if_neg h2]
        rfl

/-- The bias array the first region leaves. -/
theorem bias_array (c : Dev nD) : (dat0 V c).arrAt 1 cfg0.N = biasAt (V c main_arg1) := by
  refine (dat0 V c).arrAt_eq_of_covers 1 _ (by decide +kernel) fun t _ y => ?_
  blk_simp
  rw [after0_1]
  have e : y = ix4 0 0 (y 2) (y 3) := by
    funext a
    fin_cases a
    · exact Subsingleton.elim (α := Fin 1) _ _
    · exact Subsingleton.elim (α := Fin 1) _ _
    · rfl
    · rfl
  have ht : t.val < 16 := t.isLt
  rw [e]
  refine (bias_block V c t (y 2) (y 3) ⟨t.val % 8, by omega⟩ ⟨t.val / 8, by omega⟩ rfl rfl).trans (congrArg _ ?_)
  blk_point [blocks0_at t]

end Cert.DilSixteenIdeal.Window
-- ==== Proof.DilSixteenRef.lean ====
/- The reference of the dilated attention, in named pieces, and what each is at an index. -/
module

public import proofs.«01_k».proof.Proof.Gen.DilSixteenRefIdeal.Run
public import proofs.«01_k».proof.Proof.DilBucket
public import proofs.«01_k».proof.Proof.Softmax
public import Idealize.ShloMosaic.Lib.Pipeline.ValueKit

set_option maxRecDepth 16384

@[expose] public section

noncomputable section

open Idealize.ShloMosaic Idealize.ShloMosaic.TcCoe Idealize.SL.Sem

namespace Cert.DilSixteenRefIdeal.Pieces
open Cert.DilSixteenRefIdeal Cert.DilSixteenRefIdeal.Gen Cert.Bucket

/-- The distances of the keys, nearest first -/
def offsets : IVec S129 32 :=
  muli (iotaInDim S129 32 0) (broadcastInDim S129 ![] bcast_S_S129 (constantI S_ 32 16#32))

/-- the position of a query's key, below zero before the sequence's start -/
def places : IVec S16384x129 32 :=
  subi (broadcastInDim S16384x129 ![0, 1] bcast_S16384x1_S16384x129_0_1 (broadcastInDim S16384x1 ![0] bcast_S16384_S16384x1_0 (iotaInDim S16384 32 0))) (broadcastInDim S16384x129 ![0, 1] bcast_S1x129_S16384x129_0_1 (broadcastInDim S1x129 ![1] bcast_S129_S1x129_1 offsets))

/-- held at zero there -/
def clamped : IVec S16384x129 32 :=
  maxsi places (broadcastInDim S16384x129 ![] bcast_S_S16384x129 (constantI S_ 32 0#32))

/-- and as the gather takes it. -/
def wrapped : IVec S16384x129x1 32 :=
  broadcastInDim S16384x129x1 ![0, 1] bcast_S16384x129_S16384x129x1_0_1 (select (cmpi .slt clamped (broadcastInDim S16384x129 ![] bcast_S_S16384x129 (constantI S_ 32 0#32))) (addi clamped (broadcastInDim S16384x129 ![] bcast_S_S16384x129 (constantI S_ 32 16384#32))) clamped)

/-- Whether there is such a key. -/
def seen : IVec S2x16384x8x129 1 :=
  broadcastInDim S2x16384x8x129 ![0, 1, 2, 3] bcast_S1x16384x1x129_S2x16384x8x129_0_1_2_3 (broadcastInDim S1x16384x1x129 ![1, 3] bcast_S16384x129_S1x16384x1x129_1_3 (cmpi .sge places (broadcastInDim S16384x129 ![] bcast_S_S16384x129 (constantI S_ 32 0#32))))

/-- The third group's queries, -/
def queries (X : FVec Ideal S2x16384x4608 .bf16) : FVec Ideal S2x16384x8x64 .f32 :=
  shapeCast _ (extractStridedSlice S2x16384x1x1x8x64 ![0, 0, 2, 0, 0, 0] (shapeCast _ (extf .f32 X bitsLt_bf16_f32) shapeCasts_S2x16384x4608_S2x16384x3x3x8x64) slices_S2x16384x3x3x8x64_S2x16384x1x1x8x64_0_0_2_0_0_0) shapeCasts_S2x16384x1x1x8x64_S2x16384x8x64

/-- keys -/
def keys (X : FVec Ideal S2x16384x4608 .bf16) : FVec Ideal S2x16384x8x64 .f32 :=
  shapeCast _ (extractStridedSlice S2x16384x1x1x8x64 ![0, 0, 2, 1, 0, 0] (shapeCast _ (extf .f32 X bitsLt_bf16_f32) shapeCasts_S2x16384x4608_S2x16384x3x3x8x64) slices_S2x16384x3x3x8x64_S2x16384x1x1x8x64_0_0_2_1_0_0) shapeCasts_S2x16384x1x1x8x64_S2x16384x8x64

/-- and values. -/
def values (X : FVec Ideal S2x16384x4608 .bf16) : FVec Ideal S2x16384x8x64 .f32 :=
  shapeCast _ (extractStridedSlice S2x16384x1x1x8x64 ![0, 0, 2, 2, 0, 0] (shapeCast _ (extf .f32 X bitsLt_bf16_f32) shapeCasts_S2x16384x4608_S2x16384x3x3x8x64) slices_S2x16384x3x3x8x64_S2x16384x1x1x8x64_0_0_2_2_0_0) shapeCasts_S2x16384x1x1x8x64_S2x16384x8x64

/-- The distance and -/
def distances : IVec S129 32 :=
  maxsi offsets (broadcastInDim S129 ![] bcast_S_S129 (constantI S_ 32 0#32))

/-- its bucket, -/
def buckets : IVec S129 32 :=
  select (cmpi .slt distances (broadcastInDim S129 ![] bcast_S_S129 (constantI S_ 32 16#32))) distances (minsi (addi (broadcastInDim S129 ![] bcast_S_S129 (constantI S_ 32 16#32)) (fptosi 32 (mulf (Host.divf (Host.log (Host.divf (sitofp .f32 (maxsi distances (broadcastInDim S129 ![] bcast_S_S129 (constantI S_ 32 1#32)))) (broadcastInDim S129 ![] bcast_S_S129 (constant S_ .f32 0x41800000#32)))) (broadcastInDim S129 ![] bcast_S_S129 (constant S_ .f32 0x409B43D5#32))) (broadcastInDim S129 ![] bcast_S_S129 (constant S_ .f32 0x41800000#32)) : FVec Ideal S129 .f32))) (broadcastInDim S129 ![] bcast_S_S129 (constantI S_ 32 31#32)))

/-- as the gather takes it, -/
def rows : IVec S129x1 32 :=
  broadcastInDim S129x1 ![0] bcast_S129_S129x1_0 (select (cmpi .slt buckets (broadcastInDim S129 ![] bcast_S_S129 (constantI S_ 32 0#32))) (addi buckets (broadcastInDim S129 ![] bcast_S_S129 (constantI S_ 32 32#32))) buckets)

/-- and the group's bias at a distance. -/
def biases (T : FVec Ideal S32x40 .f32) : FVec Ideal S8x129 .f32 :=
  transpose S8x129 [1, 0] (Host.gather gather_S32x8_S129x1_S129x8_1_0_n_n_0_1_18 (extractStridedSlice S32x8 ![0, 32] T slices_S32x40_S32x8_0_32) rows) transposes_S129x8_S8x129_1_0

/-- Keys or values, one for every query and distance. -/
def gathered (K : FVec Ideal S2x16384x8x64 .f32) : FVec Ideal S2x16384x129x8x64 .f32 :=
  Host.gather gather_S2x16384x8x64_S16384x129x1_S2x16384x129x8x64_034_1_n_n_1_2_21864 K wrapped

/-- Every query's product with its keys. -/
def products (Q : FVec Ideal S2x16384x8x64 .f32) (K : FVec Ideal S2x16384x129x8x64 .f32) : FVec Ideal S2x16384x8x129 .f32 :=
  Host.dotGeneral dot_S2x16384x8x64_S2x16384x129x8x64_S2x16384x8x129_3_4_n_2_012_013 none Q K

/-- The scores. -/
def scores (X : FVec Ideal S2x16384x4608 .bf16) (T : FVec Ideal S32x40 .f32) : FVec Ideal S2x16384x8x129 .f32 :=
  select seen (addf (mulf (products (queries X) (gathered (keys X))) (broadcastInDim S2x16384x8x129 ![] bcast_S_S2x16384x8x129 (constant S_ .f32 0x3E000000#32))) (broadcastInDim S2x16384x8x129 ![0, 1, 2, 3] bcast_S1x1x8x129_S2x16384x8x129_0_1_2_3 (broadcastInDim S1x1x8x129 ![2, 3] bcast_S8x129_S1x1x8x129_2_3 (biases T)))) (broadcastInDim S2x16384x8x129 ![] bcast_S_S2x16384x8x129 (id (constant S_ .f32 0xFF800000#32)))

/-- The largest score, -/
def largest (S : FVec Ideal S2x16384x8x129 .f32) : FVec Ideal S2x16384x8 .f32 :=
  Host.reduce FloatOps.maximumf S (constant S_ .f32 0xFF800000#32) reducesTo_S2x16384x8x129_S2x16384x8_d3 h_S_

/-- with an axis for the keys, -/
def tops (S : FVec Ideal S2x16384x8x129 .f32) : FVec Ideal S2x16384x8x1 .f32 :=
  broadcastInDim S2x16384x8x1 ![0, 1, 2] bcast_S2x16384x8_S2x16384x8x1_0_1_2 (largest S)

/-- the exponentials over it -/
def powers (S : FVec Ideal S2x16384x8x129 .f32) : FVec Ideal S2x16384x8x129 .f32 :=
  Host.exp (subf S (broadcastInDim S2x16384x8x129 ![0, 1, 2, 3] bcast_S2x16384x8x1_S2x16384x8x129_0_1_2_3 (tops S)))

/-- their sum -/
def sums (S : FVec Ideal S2x16384x8x129 .f32) : FVec Ideal S2x16384x8 .f32 :=
  Host.reduceAdd (powers S) (constant S_ .f32 0x00000000#32) reducesTo_S2x16384x8x129_S2x16384x8_d3 h_S_

/-- and the logarithm of the whole sum. -/
def lses (S : FVec Ideal S2x16384x8x129 .f32) : FVec Ideal S2x16384x8x1 .f32 :=
  addf (tops S) (Host.log (broadcastInDim S2x16384x8x1 ![0, 1, 2] bcast_S2x16384x8_S2x16384x8x1_0_1_2 (sums S)))

/-- The averages by the scores `S` -/
def averagesOf (S : FVec Ideal S2x16384x8x129 .f32) (V : FVec Ideal S2x16384x129x8x64 .f32) : FVec Ideal S2x1024x8192 .f32 :=
  shapeCast _ (Host.dotGeneral dot_S2x16384x8x129_S2x16384x129x8x64_S2x16384x8x64_3_2_n_4_012_013 none (Host.exp (subf S (broadcastInDim S2x16384x8x129 ![0, 1, 2, 3] bcast_S2x16384x8x1_S2x16384x8x129_0_1_2_3 (lses S)))) V) shapeCasts_S2x16384x8x64_S2x1024x8192

/-- and the logarithms, one for every column. -/
def logarithmsOf (S : FVec Ideal S2x16384x8x129 .f32) : FVec Ideal S2x1024x8192 .f32 :=
  shapeCast _ (shapeCast S2x16384x512 (broadcastInDim S2x16384x8x64 ![0, 1, 2] bcast_S2x16384x8_S2x16384x8x64_0_1_2 (shapeCast _ (lses S) shapeCasts_S2x16384x8x1_S2x16384x8)) shapeCasts_S2x16384x8x64_S2x16384x512) shapeCasts_S2x16384x512_S2x1024x8192

theorem averages_named (m : (ℓ : Loc nD τ sig) → Buf (Elt Ideal) ℓ) (c : Dev nD) : Value.res_main_v85 m c
    = averagesOf (scores (m ((c.tc : Thread nD τ).loc main_arg0)) (m ((c.tc : Thread nD τ).loc main_arg1)))
        (gathered (values (m ((c.tc : Thread nD τ).loc main_arg0)))) := rfl

set_option maxHeartbeats 4000000 in
theorem logarithms_named (m : (ℓ : Loc nD τ sig) → Buf (Elt Ideal) ℓ) (c : Dev nD) : Value.res_main_v89 m c
    = logarithmsOf (scores (m ((c.tc : Thread nD τ).loc main_arg0)) (m ((c.tc : Thread nD τ).loc main_arg1))) := rfl

end Cert.DilSixteenRefIdeal.Pieces
-- ==== Proof.DilSixteenRefAt.lean ====
/- What each piece of the dilated attention's third group's reference is at an index. -/
module

public import proofs.«01_k».proof.Proof.DilSixteenRef
public import proofs.«01_k».proof.Proof.StripsBucket
public import Idealize.ShloMosaic.Lib.Pipeline.ValueKit

set_option maxRecDepth 16384

@[expose] public section

noncomputable section

open Idealize.ShloMosaic Idealize.ShloMosaic.TcCoe Idealize.SL.Sem

namespace Cert.DilSixteenRefIdeal.Pieces
open Cert.DilSixteenRefIdeal Cert.DilSixteenRefIdeal.Gen Cert.Bucket

/-- Column `d` of head `h` of the group's query, key or value part. -/
def inPart (o : Fin 3) (h : Fin 8) (d : Fin 64) : Fin 4608 := ⟨3072 + 512 * o.val + 64 * h.val + d.val, by omega⟩

section
variable (X : FVec Ideal S2x16384x4608 .bf16) (T : FVec Ideal S32x40 .f32)

theorem queries_at (b : Fin 2) (p : Fin 16384) (h : Fin 8) (d : Fin 64) : queries X (ix4 b p h d) = X (ix3 b p (inPart 0 h d)) := by
  pointwise [queries]
  refine congrArg (fun e => X (ix3 b p e)) (Fin.ext ?_)
  simp only [inPart]
  omega

theorem keys_at (b : Fin 2) (p : Fin 16384) (h : Fin 8) (d : Fin 64) : keys X (ix4 b p h d) = X (ix3 b p (inPart 1 h d)) := by
  pointwise [keys]
  refine congrArg (fun e => X (ix3 b p e)) (Fin.ext ?_)
  simp only [inPart]
  omega

theorem values_at (b : Fin 2) (p : Fin 16384) (h : Fin 8) (d : Fin 64) : values X (ix4 b p h d) = X (ix3 b p (inPart 2 h d)) := by
  pointwise [values]
  refine congrArg (fun e => X (ix3 b p e)) (Fin.ext ?_)
  simp only [inPart]
  omega

theorem offsets_at (k : Fin 129) : offsets (ix1 k) = BitVec.ofNat 32 (16 * k.val) := by
  pointwise [offsets]
  show BitVec.ofNat 32 k.val * 16#32 = _
  rw [← BitVec.ofNat_mul, Nat.mul_comm]

theorem places_at (p : Fin 16384) (k : Fin 129) : places (ix2 p k) = BitVec.ofNat 32 p.val - BitVec.ofNat 32 (16 * k.val) := by
  pointwise [places, offsets_at]
  rfl

theorem place_int (p : Fin 16384) (k : Fin 129) :
    (BitVec.ofNat 32 p.val - BitVec.ofNat 32 (16 * k.val)).toInt = (p.val : Int) - ((16 * k.val : Nat) : Int) := by
  rw [BitVec.toInt_eq_toNat_cond]
  simp only [BitVec.toNat_sub, BitVec.toNat_ofNat]
  split <;> omega

theorem from_start (p : Fin 16384) (k : Fin 129) :
    IntOp.cmpi .sge (BitVec.ofNat 32 p.val - BitVec.ofNat 32 (16 * k.val)) 0#32 = if (16 * k.val) ≤ p.val then 1#1 else 0#1 := by
  show BitVec.ofBool (decide ((0#32).toInt ≤ _)) = _
  rw [place_int]
  by_cases h : (16 * k.val) ≤ p.val
  · rw [if_pos h, decide_eq_true (by show (0 : Int) ≤ _; omega)]
    rfl
  · rw [if_neg h, decide_eq_false (by show ¬ (0 : Int) ≤ _; omega)]
    rfl

theorem held (p : Fin 16384) (k : Fin 129) :
    IntOp.maxsi (BitVec.ofNat 32 p.val - BitVec.ofNat 32 (16 * k.val)) 0#32 = BitVec.ofNat 32 (p.val - (16 * k.val)) := by
  unfold IntOp.maxsi
  have e : (0#32).slt (BitVec.ofNat 32 p.val - BitVec.ofNat 32 (16 * k.val)) = decide ((16 * k.val) < p.val) := by
    show decide ((0#32).toInt < _) = _
    rw [place_int]
    exact decide_eq_decide.mpr (by show (0 : Int) < _ ↔ _; omega)
  rw [e]
  by_cases h : (16 * k.val) < p.val
  · rw [if_pos (decide_eq_true h)]
    apply BitVec.eq_of_toNat_eq
    simp only [BitVec.toNat_sub, BitVec.toNat_ofNat]
    omega
  · rw [if_neg (by simp [h]), show p.val - (16 * k.val) = 0 by omega]

/-- A word below half the range is not negative: the wrap of an index leaves it. -/
theorem kept (n : Nat) (z : BitVec 32) (hn : n < 16384) :
    Scalar.select (IntOp.cmpi .slt (BitVec.ofNat 32 n) 0#32) (IntOp.addi (BitVec.ofNat 32 n) z) (BitVec.ofNat 32 n) = BitVec.ofNat 32 n := by
  have e : (BitVec.ofNat 32 n).toInt = (n : Int) := by
    rw [BitVec.toInt_eq_toNat_cond]
    simp only [BitVec.toNat_ofNat]
    split <;> omega
  have h : IntOp.cmpi .slt (BitVec.ofNat 32 n) 0#32 = 0#1 := by
    show BitVec.ofBool (decide (_ < (0#32).toInt)) = _
    rw [e, decide_eq_false (by show ¬ _ < (0 : Int); omega)]
    rfl
  rw [h, pick_second]

theorem clamped_at (p : Fin 16384) (k : Fin 129) : clamped (ix2 p k) = BitVec.ofNat 32 (p.val - (16 * k.val)) := by
  pointwise [clamped, places_at]
  exact held p k

theorem wrapped_at (p : Fin 16384) (k : Fin 129) : wrapped (ix3 p k 0) = BitVec.ofNat 32 (p.val - (16 * k.val)) := by
  pointwise [wrapped, clamped_at]
  exact kept _ _ (by omega)

theorem seen_at (b : Fin 2) (p : Fin 16384) (h : Fin 8) (k : Fin 129) : seen (ix4 b p h k) = if (16 * k.val) ≤ p.val then 1#1 else 0#1 := by
  pointwise [seen, places_at]
  exact from_start p k

theorem buckets_at (k : Fin 129) : buckets (ix1 k) = bucket (BitVec.ofNat 32 (16 * k.val)) := by
  pointwise [buckets, distances, offsets_at]
  rfl

theorem rows_at (k : Fin 129) : rows (ix2 k 0) = BitVec.ofNat 32 (row (16 * k.val)).val := by
  pointwise [rows, buckets_at]
  rw [bucket_row_far (16 * k.val) (by omega)]
  exact kept _ _ (by omega)

theorem lowest_first : (constant S_ .f32 0xFF800000#32 : FVec Ideal S_ .f32) (Shape.Idx.first h_S_) = ⊥ := by
  pointwise
  exact Cert.Softmax.below_f32

theorem tops_at (S : FVec Ideal S2x16384x8x129 .f32) (b : Fin 2) (p : Fin 16384) (h : Fin 8) :
    tops S (ix4 b p h 0) = (Finset.univ : Finset (Fin 129)).fold max ⊥ fun k => S (ix4 b p h k) := by
  have e : tops S (ix4 b p h 0) = largest S (ix3 b p h) := by pointwise [tops]
  rw [e]
  unfold largest
  rw [Cert.Softmax.largest_last, lowest_first]

theorem powers_at (S : FVec Ideal S2x16384x8x129 .f32) (b : Fin 2) (p : Fin 16384) (h : Fin 8) (k : Fin 129) :
    powers S (ix4 b p h k) = Ideal.exp (S (ix4 b p h k) - tops S (ix4 b p h 0)) := by
  pointwise [powers]

theorem log_col (A : FVec Ideal S2x16384x8x1 .f32) (B : FVec Ideal S2x16384x8 .f32) (b : Fin 2) (p : Fin 16384) (h : Fin 8) :
    addf A (Host.log (broadcastInDim S2x16384x8x1 ![0, 1, 2] bcast_S2x16384x8_S2x16384x8x1_0_1_2 B)) (ix4 b p h 0)
      = A (ix4 b p h 0) + Ideal.log (B (ix3 b p h)) := by
  pointwise

theorem sums_at (S : FVec Ideal S2x16384x8x129 .f32) (b : Fin 2) (p : Fin 16384) (h : Fin 8) :
    sums S (ix3 b p h) = ∑ k : Fin 129, powers S (ix4 b p h k) :=
  Cert.Softmax.sum_last (powers S) reducesTo_S2x16384x8x129_S2x16384x8_d3 h_S_ b p h

theorem lses_at (S : FVec Ideal S2x16384x8x129 .f32) (b : Fin 2) (p : Fin 16384) (h : Fin 8) :
    lses S (ix4 b p h 0) = tops S (ix4 b p h 0) + Ideal.log (∑ k, Ideal.exp (S (ix4 b p h k) - tops S (ix4 b p h 0))) := by
  refine (log_col (tops S) (sums S) b p h).trans ?_
  rw [sums_at, Finset.sum_congr rfl fun k _ => powers_at S b p h k]

theorem products_at (Q K) (b : Fin 2) (p : Fin 16384) (h : Fin 8) (k : Fin 129) :
    products Q K (ix4 b p h k) = ∑ d : Fin 64, Q (ix4 b p h d) * K (ix5 b p k h d) := by
  pointwise [products]

/-- The position in a row's place `c`, -/
def pos (r : Fin 1024) (c : Fin 16) : Fin 16384 := ⟨16 * r.val + c.val, by omega⟩

/-- and the results' column of it. -/
def outCol (c : Fin 16) (e : Fin 512) : Fin 8192 := ⟨512 * c.val + e.val, by omega⟩

/-- The columns' places, heads and lanes as the reshapes spell them. -/
theorem outCol_place (r : Fin 1024) (c : Fin 16) (h : Fin 8) (d : Fin 64) (l : 64 * h.val + d.val < 512) (q) :
    (⟨r.val * 16 + (outCol c ⟨64 * h.val + d.val, l⟩).val / 512, q⟩ : Fin 16384) = pos r c :=
  Fin.ext (by simp only [outCol, pos]; omega)

theorem outCol_head (c : Fin 16) (h : Fin 8) (d : Fin 64) (l : 64 * h.val + d.val < 512) (q) :
    (⟨(outCol c ⟨64 * h.val + d.val, l⟩).val / 64 % 8, q⟩ : Fin 8) = h := Fin.ext (by simp only [outCol]; omega)

theorem outCol_lane (c : Fin 16) (h : Fin 8) (d : Fin 64) (l : 64 * h.val + d.val < 512)
    (q : (outCol c ⟨64 * h.val + d.val, l⟩).val % 64 < 64) :
    (⟨(outCol c ⟨64 * h.val + d.val, l⟩).val % 64, q⟩ : Fin 64) = d := Fin.ext (by simp only [outCol]; omega)

theorem averagesOf_at (S V) (b : Fin 2) (r : Fin 1024) (c : Fin 16) (h : Fin 8) (d : Fin 64) :
    averagesOf S V (ix3 b r (outCol c ⟨64 * h.val + d.val, by omega⟩))
      = ∑ k, Ideal.exp (S (ix4 b (pos r c) h k) - lses S (ix4 b (pos r c) h 0)) * V (ix5 b (pos r c) k h d) := by
  pointwise [averagesOf]
  simp only [outCol_place, outCol_head, outCol_lane]

theorem logarithmsOf_at (S) (b : Fin 2) (r : Fin 1024) (c : Fin 16) (h : Fin 8) (d : Fin 64) :
    logarithmsOf S (ix3 b r (outCol c ⟨64 * h.val + d.val, by omega⟩)) = lses S (ix4 b (pos r c) h 0) := by
  pointwise [logarithmsOf]
  simp only [outCol_place, outCol_head, outCol_lane]

end

end Cert.DilSixteenRefIdeal.Pieces
-- ==== Proof.DilSixteenGather.lean ====
/- The two gathers of the dilated attention's third group's reference, at an index. -/
module

public import proofs.«01_k».proof.Proof.DilSixteenRefAt
public import Idealize.ShloMosaic.Lib.Pipeline.ValueKit

set_option maxRecDepth 16384

@[expose] public section

noncomputable section

open Idealize.ShloMosaic Idealize.ShloMosaic.TcCoe Idealize.SL.Sem

namespace Cert.DilSixteenRefIdeal.Pieces
open Cert.DilSixteenRefIdeal Cert.DilSixteenRefIdeal.Gen Cert.Bucket

abbrev byKey := gather_S2x16384x8x64_S16384x129x1_S2x16384x129x8x64_034_1_n_n_1_2_21864
abbrev byRow := gather_S32x8_S129x1_S129x8_1_0_n_n_0_1_18

theorem key_start (I : IVec S16384x129x1 32) (b : Fin 2) (p : Fin 16384) (k : Fin 129) (h : Fin 8) (d : Fin 64) :
    byKey.start (ix5 b p k h d) I 1 = min (I (ix3 p k 0)).toInt.toNat 16383 := by
  unfold GatherDims.start
  rw [dif_pos (show (1 : Fin 4) ∈ byKey.startIndexMap from List.mem_singleton.mpr rfl)]
  have hsi : byKey.siIdx (ix5 b p k h d) ⟨List.idxOf (1 : Fin 4) byKey.startIndexMap,
      List.idxOf_lt_length_iff.2 (List.mem_singleton.mpr rfl)⟩ = ix3 p k 0 := by
    funext a
    refine Fin.ext ?_
    match a with
    | ⟨0, _⟩ => rfl
    | ⟨1, _⟩ => rfl
    | ⟨2, _⟩ => rfl
  rw [hsi]
  rfl

theorem gather_keys (K : FVec Ideal S2x16384x8x64 .f32) (I : IVec S16384x129x1 32) (b : Fin 2) (p : Fin 16384) (k : Fin 129)
    (h : Fin 8) (d : Fin 64) : Host.gather byKey K I (ix5 b p k h d)
      = K (ix4 b ⟨min (I (ix3 p k 0)).toInt.toNat 16383, by omega⟩ h d) := by
  unfold Host.gather
  refine congrArg K ?_
  funext a
  refine Fin.ext ?_
  show byKey.start (ix5 b p k h d) I a + byKey.batchCoord (ix5 b p k h d) a + byKey.offCoord (ix5 b p k h d) a = _
  rw [GatherDims.batchCoord_eq_zero _ _ _ List.not_mem_nil]
  match a with
  | ⟨0, _⟩ =>
    show 0 + 0 + b.val = b.val
    omega
  | ⟨1, _⟩ =>
    refine (congrArg (· + 0 + _) (key_start I b p k h d)).trans ?_
    rw [GatherDims.offCoord_eq_zero _ _ _ (fun h => ((GatherDims.mem_sKept _ _).mp h).1 (List.mem_singleton.mpr rfl))]
    rfl
  | ⟨2, _⟩ =>
    show 0 + 0 + h.val = h.val
    omega
  | ⟨3, _⟩ =>
    show 0 + 0 + d.val = d.val
    omega

theorem row_start (I : IVec S129x1 32) (k : Fin 129) (h : Fin 8) :
    byRow.start (ix2 k h) I 0 = min (I (ix2 k 0)).toInt.toNat 31 := by
  unfold GatherDims.start
  rw [dif_pos (show (0 : Fin 2) ∈ byRow.startIndexMap from List.mem_singleton.mpr rfl)]
  have hsi : byRow.siIdx (ix2 k h) ⟨List.idxOf (0 : Fin 2) byRow.startIndexMap,
      List.idxOf_lt_length_iff.2 (List.mem_singleton.mpr rfl)⟩ = ix2 k 0 := by
    funext a
    refine Fin.ext ?_
    match a with
    | ⟨0, _⟩ => rfl
    | ⟨1, _⟩ => rfl
  rw [hsi]
  rfl

theorem gather_rows (T : FVec Ideal S32x8 .f32) (I : IVec S129x1 32) (k : Fin 129) (h : Fin 8) : Host.gather byRow T I (ix2 k h)
      = T (ix2 ⟨min (I (ix2 k 0)).toInt.toNat 31, by omega⟩ h) := by
  unfold Host.gather
  refine congrArg T ?_
  funext a
  refine Fin.ext ?_
  show byRow.start (ix2 k h) I a + byRow.batchCoord (ix2 k h) a + byRow.offCoord (ix2 k h) a = _
  rw [GatherDims.batchCoord_eq_zero _ _ _ List.not_mem_nil]
  match a with
  | ⟨0, _⟩ =>
    refine (congrArg (· + 0 + _) (row_start I k h)).trans ?_
    rw [GatherDims.offCoord_eq_zero _ _ _ (fun h => ((GatherDims.mem_sKept _ _).mp h).1 (List.mem_singleton.mpr rfl))]
    rfl
  | ⟨1, _⟩ =>
    show 0 + 0 + h.val = h.val
    omega

theorem word_int (n : Nat) (hn : n < 16384) : (BitVec.ofNat 32 n).toInt.toNat = n := by
  have e : (BitVec.ofNat 32 n).toInt = (n : Int) := by
    rw [BitVec.toInt_eq_toNat_cond]
    simp only [BitVec.toNat_ofNat]
    split <;> omega
  rw [e]
  omega

/-- The position of a query's key, held at the start. -/
def back (p : Fin 16384) (k : Fin 129) : Fin 16384 := ⟨p.val - 16 * k.val, by omega⟩

theorem gathered_at (K : FVec Ideal S2x16384x8x64 .f32) (b : Fin 2) (p : Fin 16384) (k : Fin 129) (h : Fin 8) (d : Fin 64) :
    gathered K (ix5 b p k h d) = K (ix4 b (back p k) h d) := by
  refine (gather_keys K wrapped b p k h d).trans ?_
  refine congrArg (fun q => K (ix4 b q h d)) (Fin.ext ?_)
  show min (wrapped (ix3 p k 0)).toInt.toNat 16383 = p.val - 16 * k.val
  rw [wrapped_at, word_int _ (by omega)]
  omega

theorem biases_at (T : FVec Ideal S32x40 .f32) (h : Fin 8) (k : Fin 129) :
    biases T (ix2 h k) = T (ix2 (row (16 * k.val)) (⟨32 + h.val, by omega⟩ : Fin 40)) := by
  have e : biases T (ix2 h k) = Host.gather byRow (extractStridedSlice S32x8 ![0, 32] T slices_S32x40_S32x8_0_32) rows (ix2 k h) := by
    pointwise [biases]
  rw [e, gather_rows]
  have r : (⟨min (rows (ix2 k 0)).toInt.toNat 31, by omega⟩ : Fin 32) = row (16 * k.val) := by
    refine Fin.ext ?_
    show min (rows (ix2 k 0)).toInt.toNat 31 = _
    rw [rows_at, word_int _ (by omega)]
    omega
  rw [r]
  pointwise

/-- The reference's score of a query, by its key's distance. -/
def scoreAt (X : FVec Ideal S2x16384x4608 .bf16) (T : FVec Ideal S32x40 .f32) (b : Fin 2) (p : Fin 16384) (h : Fin 8)
    (k : Fin 129) : EReal :=
  if 16 * k.val ≤ p.val then
    (∑ d : Fin 64, X (ix3 b p (inPart 0 h d)) * X (ix3 b (back p k) (inPart 1 h d))) * Ideal.ofBits .f32 0x3E000000#32
      + T (ix2 (row (16 * k.val)) (⟨32 + h.val, by omega⟩ : Fin 40))
  else ⊥

theorem scores_at (X : FVec Ideal S2x16384x4608 .bf16) (T : FVec Ideal S32x40 .f32) (b : Fin 2) (p : Fin 16384) (h : Fin 8)
    (k : Fin 129) : scores X T (ix4 b p h k) = scoreAt X T b p h k := by
  pointwise [scores, seen_at, products_at, biases_at, queries_at, keys_at, gathered_at]
  unfold scoreAt
  by_cases hk : 16 * k.val ≤ p.val
  · rw [if_pos hk, if_pos hk, pick_first]
  · rw [if_neg hk, if_neg hk, pick_second]
    exact Cert.Softmax.below_f32

/-- The logarithm of the sum of the scores' exponentials. -/
def logScores (X : FVec Ideal S2x16384x4608 .bf16) (T : FVec Ideal S32x40 .f32) (b : Fin 2) (p : Fin 16384) (h : Fin 8) : EReal :=
  Finset.univ.fold max ⊥ (scoreAt X T b p h)
    + Ideal.log (∑ k, Ideal.exp (scoreAt X T b p h k - Finset.univ.fold max ⊥ (scoreAt X T b p h)))

theorem lse_scores (X : FVec Ideal S2x16384x4608 .bf16) (T : FVec Ideal S32x40 .f32) (b : Fin 2) (p : Fin 16384) (h : Fin 8) :
    lses (scores X T) (ix4 b p h 0) = logScores X T b p h := by
  rw [lses_at, tops_at]
  simp only [scores_at]
  rfl

theorem averages_ref (X : FVec Ideal S2x16384x4608 .bf16) (T : FVec Ideal S32x40 .f32) (b : Fin 2) (r : Fin 1024) (c : Fin 16) (h : Fin 8)
    (d : Fin 64) : averagesOf (scores X T) (gathered (values X)) (ix3 b r (outCol c ⟨64 * h.val + d.val, by omega⟩))
      = ∑ k, Ideal.exp (scoreAt X T b (pos r c) h k - logScores X T b (pos r c) h) * X (ix3 b (back (pos r c) k) (inPart 2 h d)) := by
  rw [averagesOf_at, lse_scores]
  simp only [scores_at, gathered_at, values_at]

theorem logarithms_ref (X : FVec Ideal S2x16384x4608 .bf16) (T : FVec Ideal S32x40 .f32) (b : Fin 2) (r : Fin 1024) (c : Fin 16) (h : Fin 8)
    (d : Fin 64) : logarithmsOf (scores X T) (ix3 b r (outCol c ⟨64 * h.val + d.val, by omega⟩)) = logScores X T b (pos r c) h := by
  rw [logarithmsOf_at, lse_scores]

end Cert.DilSixteenRefIdeal.Pieces
-- ==== Proof.DilSixteenJoin.lean ====
/- The dilated attention's kernel and its reference, joined: one set of scores, by block and key or by position and distance. -/
module

public import proofs.«01_k».proof.Proof.DilSixteenBlocks
public import proofs.«01_k».proof.Proof.DilSixteenBias
public import proofs.«01_k».proof.Proof.DilSixteenGather
public import proofs.«01_k».proof.Proof.DilSixteenRun
public import Idealize.ShloMosaic.Lib.Pipeline.ValueKit

set_option maxRecDepth 16384

@[expose] public section

noncomputable section

open Idealize.ShloMosaic Idealize.ShloMosaic.TcCoe Idealize.SL.Sem

namespace Cert.DilSixteenIdeal.Window
open Cert.DilSixteenIdeal Cert.DilSixteenIdeal.Gen Cert.Bucket
open Cert.DilSixteenRefIdeal.Pieces (inPart back scoreAt logScores pos)

/-- The key of a block at a distance from query `i`. -/
def keyIn (i : Fin 128) (k : Fin 129) : Fin 256 := ⟨128 + i.val - k.val, by omega⟩

theorem keyIn_injective (i : Fin 128) : Function.Injective (keyIn i) := fun k l h => by
  have := congrArg Fin.val h
  simp only [keyIn] at this
  exact Fin.ext (by omega)

theorem key_back (s : Fin 16) (n : Fin 8) (i : Fin 128) (k : Fin 129) (h : 16 * k.val ≤ (pos (queryAt n i) s).val) :
    pos (keyAt n (keyIn i k)) s = back (pos (queryAt n i) s) k := by
  simp only [pos, queryAt] at h
  refine Fin.ext ?_
  by_cases hj : (keyIn i k).val < 128
  · simp only [pos, back, keyAt_before n _ hj]
    simp only [keyIn, queryAt] at hj ⊢
    omega
  · simp only [pos, back, keyAt_own n _ hj]
    simp only [keyIn, queryAt] at hj ⊢
    omega

/-- A row's column is its place's column of the argument. -/
theorem viewed_at (X : FVec Ideal S2x16384x4608 .bf16) (b : Fin 2) (r : Fin 1024) (s : Fin 16) (e : Fin 4608) (c : Fin 73728)
    (hc : c.val = 4608 * s.val + e.val) : viewed X (ix3 b r c) = X (ix3 b (pos r s) e) := by
  pointwise [viewed]
  exact congrArg₂ (fun p q => X (ix3 b p q)) (Fin.ext (by simp only [pos]; omega)) (Fin.ext (by show c.val % 4608 = e.val; omega))

theorem q_part (X : FVec Ideal S2x16384x4608 .bf16) (b : Fin 2) (r : Fin 1024) (s : Fin 16) (h : Fin 8) (d : Fin 64) :
    viewed X (ix3 b r (qCol s (col h d))) = X (ix3 b (pos r s) (inPart 0 h d)) :=
  viewed_at X b r s _ _ (by simp only [qCol, col, inPart]; omega)

theorem k_part (X : FVec Ideal S2x16384x4608 .bf16) (b : Fin 2) (r : Fin 1024) (s : Fin 16) (h : Fin 8) (d : Fin 64) :
    viewed X (ix3 b r (kCol s (col h d))) = X (ix3 b (pos r s) (inPart 1 h d)) :=
  viewed_at X b r s _ _ (by simp only [kCol, col, inPart]; omega)

theorem v_part (X : FVec Ideal S2x16384x4608 .bf16) (b : Fin 2) (r : Fin 1024) (s : Fin 16) (h : Fin 8) (d : Fin 64) :
    viewed X (ix3 b r (vCol s (col h d))) = X (ix3 b (pos r s) (inPart 2 h d)) :=
  viewed_at X b r s _ _ (by simp only [vCol, col, inPart]; omega)

variable (X : FVec Ideal S2x16384x4608 .bf16) (T : FVec Ideal S32x40 .f32)

theorem bias_seen (v : Fin 2) (h : Fin 8) (i : Fin 128) (j : Fin 256) (hs : Sees (v.val = 0) i j) :
    biasAt T (ix4 v h i j) = T (ix2 (row (16 * (128 + i.val - j.val))) (⟨32 + h.val, by omega⟩ : Fin 40)) := if_pos hs

theorem bias_unseen (v : Fin 2) (h : Fin 8) (i : Fin 128) (j : Fin 256) (hs : ¬ Sees (v.val = 0) i j) :
    biasAt T (ix4 v h i j) = ⊥ := if_neg hs

theorem sees_iff (s : Fin 16) (n : Fin 8) (i : Fin 128) (k : Fin 129) : Sees (min n.val 1 = 0) i (keyIn i k) ↔ 16 * k.val ≤ (pos (queryAt n i) s).val := by
  simp only [Sees, keyIn, pos, queryAt]
  omega

/-- A key's score is the reference's at its distance. -/
theorem score_key (b : Fin 2) (s : Fin 16) (n : Fin 8) (i : Fin 128) (h : Fin 8) (k : Fin 129) :
    scoreOf (viewed X) (biasAt T) b s n i h (keyIn i k) = scoreAt X T b (pos (queryAt n i) s) h k := by
  unfold scoreOf scoreAt
  by_cases hk : 16 * k.val ≤ (pos (queryAt n i) s).val
  · rw [if_pos hk, bias_seen T _ h i _ ((sees_iff s n i k).mpr hk)]
    simp only [q_part, k_part, key_back s n i k hk]
    rw [show 128 + i.val - (keyIn i k).val = k.val by simp only [keyIn]; omega]
  · rw [if_neg hk, bias_unseen T _ h i _ (fun hs => hk ((sees_iff s n i k).mp hs)), EReal.add_bot]

/-- A key at no distance of the window has score `⊥`. -/
theorem score_outside (b : Fin 2) (s : Fin 16) (n : Fin 8) (i : Fin 128) (h : Fin 8) (j : Fin 256) (hj : ∀ k, keyIn i k ≠ j) :
    scoreOf (viewed X) (biasAt T) b s n i h j = ⊥ := by
  unfold scoreOf
  rw [bias_unseen T _ h i j, EReal.add_bot]
  intro hs
  have h1 := hs.1
  exact hj ⟨128 + i.val - j.val, by omega⟩ (Fin.ext (by simp only [keyIn]; omega))

/-- The queries and the keys are reals, the group's table below `⊤`. -/
structure Reals : Prop where
  stream : ∀ b p (e : Fin 4608), 3072 ≤ e.val ∧ e.val < 4096 → (⊥ : EReal) < X (ix3 b p e) ∧ X (ix3 b p e) < (⊤ : EReal)
  table : ∀ r (h : Fin 8), T (ix2 r (⟨32 + h.val, by omega⟩ : Fin 40)) < (⊤ : EReal)

theorem eighth : ∃ c : ℝ, Ideal.ofBits .f32 0x3E000000#32 = (c : EReal) :=
  ⟨_, by simp [Ideal.ofBits, Ideal.ieee, -EReal.coe_mul]; rfl⟩

variable {X T}

theorem score_below (R : Reals X T) (b : Fin 2) (p : Fin 16384) (h : Fin 8) (k : Fin 129) : scoreAt X T b p h k ≠ ⊤ := by
  have real : ∀ b p (o : Fin 3) (d : Fin 64), o.val < 2 → ∃ r : ℝ, X (ix3 b p (inPart o h d)) = (r : EReal) := fun b p o d ho => by
    have := R.stream b p (inPart o h d) (by simp only [inPart]; omega)
    exact ⟨_, (EReal.coe_toReal this.2.ne this.1.ne').symm⟩
  choose q hq using fun d => real b p 0 d (by decide)
  choose s hs using fun d => real b (back p k) 1 d (by decide)
  obtain ⟨c, hc⟩ := eighth
  have sum : ∑ d : Fin 64, X (ix3 b p (inPart 0 h d)) * X (ix3 b (back p k) (inPart 1 h d)) = ((∑ d, q d * s d : ℝ) : EReal) := by
    rw [Finset.sum_congr rfl fun d _ => by rw [hq d, hs d, ← EReal.coe_mul]]
    exact (map_sum (⟨⟨fun x : ℝ => (x : EReal), EReal.coe_zero⟩, EReal.coe_add⟩ : ℝ →+ EReal) (fun d => q d * s d) Finset.univ).symm
  unfold scoreAt
  by_cases hk : 16 * k.val ≤ p.val
  · rw [if_pos hk, hc, sum, ← EReal.coe_mul]
    exact (EReal.add_lt_top (EReal.coe_ne_top _) (R.table (row (16 * k.val)) h).ne).ne
  · rw [if_neg hk]
    exact bot_ne_top

theorem average_join (R : Reals X T) (b : Fin 2) (s : Fin 16) (n : Fin 8) (i : Fin 128) (h : Fin 8) (d : Fin 64) :
    averaged (scoreOf (viewed X) (biasAt T) b s n i h) (fun j => viewed X (ix3 b (keyAt n j) (vCol s (col h d))))
      = ∑ k, Ideal.exp (scoreAt X T b (pos (queryAt n i) s) h k - logScores X T b (pos (queryAt n i) s) h)
          * X (ix3 b (back (pos (queryAt n i) s) k) (inPart 2 h d)) :=
  Cert.Softmax.average_window (keyIn i) (keyIn_injective i) _ _ (scoreAt X T b (pos (queryAt n i) s) h)
    (fun k => X (ix3 b (back (pos (queryAt n i) s) k) (inPart 2 h d))) (score_key X T b s n i h)
    (fun k hk => by
      have hk : 16 * k.val ≤ (pos (queryAt n i) s).val := by
        by_contra hn
        exact hk (if_neg hn)
      show viewed X (ix3 b (keyAt n (keyIn i k)) (vCol s (col h d))) = _
      rw [v_part, key_back s n i k hk])
    (score_outside X T b s n i h) (score_below R b _ h)

theorem log_join (R : Reals X T) (b : Fin 2) (s : Fin 16) (n : Fin 8) (i : Fin 128) (h : Fin 8) :
    logSum (scoreOf (viewed X) (biasAt T) b s n i h) = logScores X T b (pos (queryAt n i) s) h :=
  Cert.Softmax.log_window (keyIn i) (keyIn_injective i) _ (scoreAt X T b (pos (queryAt n i) s) h) (score_key X T b s n i h)
    (score_outside X T b s n i h) (score_below R b _ h)

/-- An index of a result, by block, row, head and lane. -/
theorem split_index (y : S2x1024x8192.Idx) :
    ∃ (b : Fin 2) (s : Fin 16) (n : Fin 8) (i : Fin 128) (h : Fin 8) (d : Fin 64), y = ix3 b (queryAt n i) (oCol s (col h d)) := by
  have h1 : (y 1).val < 1024 := (y 1).isLt
  have h2 : (y 2).val < 8192 := (y 2).isLt
  refine ⟨y 0, ⟨(y 2).val / 512, by omega⟩, ⟨(y 1).val / 128, by omega⟩, ⟨(y 1).val % 128, by omega⟩, ⟨(y 2).val % 512 / 64, by omega⟩,
    ⟨(y 2).val % 64, by omega⟩, ?_⟩
  funext a
  refine Fin.ext ?_
  fin_cases a
  · rfl
  · show (y 1).val = 128 * ((y 1).val / 128) + (y 1).val % 128
    omega
  · show (y 2).val = 512 * ((y 2).val / 512) + (64 * ((y 2).val % 512 / 64) + (y 2).val % 64)
    omega

theorem averages_join (R : Reals X T) : averages (viewed X) (biasAt T)
    = Cert.DilSixteenRefIdeal.Pieces.averagesOf (Cert.DilSixteenRefIdeal.Pieces.scores X T)
        (Cert.DilSixteenRefIdeal.Pieces.gathered (Cert.DilSixteenRefIdeal.Pieces.values X)) := by
  funext y
  obtain ⟨b, s, n, i, h, d, rfl⟩ := split_index y
  rw [averages_at, head_col]
  exact (average_join R b s n i h d).trans (Cert.DilSixteenRefIdeal.Pieces.averages_ref X T b (queryAt n i) s h d).symm

theorem logarithms_join (R : Reals X T) : logarithms (viewed X) (biasAt T)
    = Cert.DilSixteenRefIdeal.Pieces.logarithmsOf (Cert.DilSixteenRefIdeal.Pieces.scores X T) := by
  funext y
  obtain ⟨b, s, n, i, h, d, rfl⟩ := split_index y
  rw [logarithms_at, head_col]
  exact (log_join R b s n i h).trans (Cert.DilSixteenRefIdeal.Pieces.logarithms_ref X T b (queryAt n i) s h d).symm

end Cert.DilSixteenIdeal.Window
-- ==== Proof.DilSixteenCondition.lean ====
/- What the condition of the dilated attention says: its queries and keys are reals, the group's rows of the bias
table below `⊤`. -/
module

public import proofs.«01_k».proof.Proof.MergeCondition
public import proofs.«01_k».proof.Proof.DilSixteenRun
public import proofs.«01_k».proof.Proof.DilSixteenJoin

set_option maxRecDepth 16384

@[expose] public section

noncomputable section

open Idealize.ShloMosaic Idealize.ShloMosaic.TcCoe Idealize.SL.Sem

namespace Cert.DilSixteenIdeal.Window
open Cert.DilSixteenIdeal Cert.DilSixteenIdeal.Gen
open Cert.MergeIdeal.Groups (above_of_ones below_of_ones)

section Slices
open Cert.Pre_sixteen_finite Cert.Pre_sixteen_finite.Facts
variable [Cert.Pre_sixteen_finite.Facts]

theorem stream_at (X : FVec Ideal S2x16384x4608 .bf16) (b : Fin 2) (p : Fin 16384) (e : Fin 4608) (h0 : 3072 ≤ e.val) (he : e.val < 4096) :
    extractStridedSlice S2x16384x1024 ![0, 0, 3072] X slices_S2x16384x4608_S2x16384x1024_0_0_3072 (ix3 b p (⟨e.val - 3072, by omega⟩ : Fin 1024))
      = X (ix3 b p e) := by
  pointwise
  exact congrArg (fun q => X (ix3 b p q)) (Fin.ext (by simp only []; omega))

theorem table_at (T : FVec Ideal S32x40 .f32) (r : Fin 32) (h : Fin 8) :
    extractStridedSlice S32x8 ![0, 32] T slices_S32x40_S32x8_0_32 (ix2 r h) = T (ix2 r (⟨32 + h.val, by omega⟩ : Fin 40)) := by
  pointwise

end Slices

variable [Cert.Pre_sixteen_finite.Facts] (m : (ℓ : Loc nD τ sig) → Buf (Elt Ideal) ℓ)

theorem reals (hpre : Cert.Pre_DilSixteenIdeal_sixteen_finite m) (c : Dev nD) :
    Reals (m ((c : Thread nD τ).loc main_arg0)) (m ((c : Thread nD τ).loc main_arg1)) where
  stream b p e he := by
    have h1 := above_of_ones _ _ (hpre c).1 (ix3 b p (⟨e.val - 3072, by omega⟩ : Fin 1024))
    have h2 := below_of_ones _ _ (hpre c).2.1 (ix3 b p (⟨e.val - 3072, by omega⟩ : Fin 1024))
    have ex := stream_at (m ((c : Thread nD τ).loc main_arg0)) b p e he.1 he.2
    exact ⟨lt_of_le_of_lt bot_le (h1.trans_eq ex), lt_of_lt_of_le (ex.symm.trans_lt h2) le_top⟩
  table r h := by
    have h2 := below_of_ones _ _ (hpre c).2.2 (ix2 r h)
    have ex := table_at (m ((c : Thread nD τ).loc main_arg1)) r h
    exact lt_of_lt_of_le (ex.symm.trans_lt h2) le_top

variable (ρ : Dev nD → PrngReg)

/-- The averages the kernel leaves are the reference's, -/
theorem averages_result (hpre : Cert.Pre_DilSixteenIdeal_sixteen_finite m) (c : Dev nD) : (dat1 (V2 m ρ) c).arrAt 6 cfg1.N
    = Cert.DilSixteenRefIdeal.Pieces.averagesOf
        (Cert.DilSixteenRefIdeal.Pieces.scores (m ((c : Thread nD τ).loc main_arg0)) (m ((c : Thread nD τ).loc main_arg1)))
        (Cert.DilSixteenRefIdeal.Pieces.gathered (Cert.DilSixteenRefIdeal.Pieces.values (m ((c : Thread nD τ).loc main_arg0)))) := by
  rw [averages_array, entry_qkv m ρ c, entry_bias m ρ c, bias_array]
  exact averages_join (reals m hpre c)

/-- and so are the logarithms. -/
theorem logarithms_result (hpre : Cert.Pre_DilSixteenIdeal_sixteen_finite m) (c : Dev nD) : (dat1 (V2 m ρ) c).arrAt 7 cfg1.N
    = Cert.DilSixteenRefIdeal.Pieces.logarithmsOf
        (Cert.DilSixteenRefIdeal.Pieces.scores (m ((c : Thread nD τ).loc main_arg0)) (m ((c : Thread nD τ).loc main_arg1))) := by
  rw [logarithms_array, entry_qkv m ρ c, entry_bias m ρ c, bias_array]
  exact logarithms_join (reals m hpre c)

section Both
variable (m' : (ℓ : Loc Cert.DilSixteenRefIdeal.nD Cert.DilSixteenRefIdeal.τ Cert.DilSixteenRefIdeal.sig) → Buf (Elt Ideal) ℓ) (c : Dev nD)
  (e0 : m' ((c.tc : Thread Cert.DilSixteenRefIdeal.nD Cert.DilSixteenRefIdeal.τ).loc Cert.DilSixteenRefIdeal.main_arg0)
    = m ((c.tc : Thread nD τ).loc main_arg0))
  (e1 : m' ((c.tc : Thread Cert.DilSixteenRefIdeal.nD Cert.DilSixteenRefIdeal.τ).loc Cert.DilSixteenRefIdeal.main_arg1)
    = m ((c.tc : Thread nD τ).loc main_arg1))
include e0 e1

/-- From equal arguments both programs leave the same averages -/
theorem averages_both (hpre : Cert.Pre_DilSixteenIdeal_sixteen_finite m) :
    Cert.DilSixteenRefIdeal.Value.res_main_v85 m' c = (dat1 (V2 m ρ) c).arrAt 6 cfg1.N := by
  rw [Cert.DilSixteenRefIdeal.Pieces.averages_named, e0, e1]
  exact (averages_result m ρ hpre c).symm

/-- and the same logarithms. -/
theorem logarithms_both (hpre : Cert.Pre_DilSixteenIdeal_sixteen_finite m) :
    Cert.DilSixteenRefIdeal.Value.res_main_v89 m' c = (dat1 (V2 m ρ) c).arrAt 7 cfg1.N := by
  rw [Cert.DilSixteenRefIdeal.Pieces.logarithms_named, e0, e1]
  exact (logarithms_result m ρ hpre c).symm

end Both

end Cert.DilSixteenIdeal.Window
-- ==== Proof.StripsBias.lean ====
/- The strips the sparse attention's biases come from: the table's row of a distance over the far row. -/
module

public import proofs.«01_k».proof.Proof.Gen.StripsIdeal.Frame
public import proofs.«01_k».proof.Proof.StripsBucket
public import Idealize.ShloMosaic.Lib.Pipeline.ValueKit

set_option maxRecDepth 16384

@[expose] public section

noncomputable section

open Idealize.ShloMosaic Idealize.ShloMosaic.TcCoe Idealize.SL.Sem

namespace Cert.StripsIdeal.Strip
open Cert.StripsIdeal Cert.StripsIdeal.Gen Cert.Bucket

/-- A row of the table over the far one, in base two. -/
def over (T : FVec Ideal S32x40 .f32) (h : Fin 16) (r : Fin 32) : EReal :=
  (T (ix2 r (⟨h.val, by omega⟩ : Fin 40)) - T (ix2 (31 : Fin 32) (⟨h.val, by omega⟩ : Fin 40))) * Ideal.ofBits .f32 0x3FB8AA3B#32

/-- The far row is a real at a head. -/
def FarReal (T : FVec Ideal S32x40 .f32) (h : Fin 16) : Prop :=
  (⊥ : EReal) < T (ix2 (31 : Fin 32) (⟨h.val, by omega⟩ : Fin 40)) ∧ T (ix2 (31 : Fin 32) (⟨h.val, by omega⟩ : Fin 40)) < (⊤ : EReal)

/-- The far row over itself is nothing, where it is a real. -/
theorem over_far (T : FVec Ideal S32x40 .f32) (h : Fin 16) (far : FarReal T h) : over T h 31 = 0 := by
  unfold over
  rw [EReal.sub_self far.2.ne far.1.ne', zero_mul]

/-- Of 31 comparisons one holds, or none and the row is the far one. -/
theorem picked (P : Fin 32 → EReal) (h31 : P 31 = 0) (r : Fin 32) : Scalar.select (IntOp.cmpi CmpIPredicate.eq (BitVec.ofNat 32 r.val) 30#32) (P 30)
      (Scalar.select (IntOp.cmpi CmpIPredicate.eq (BitVec.ofNat 32 r.val) 29#32) (P 29)
      (Scalar.select (IntOp.cmpi CmpIPredicate.eq (BitVec.ofNat 32 r.val) 28#32) (P 28)
      (Scalar.select (IntOp.cmpi CmpIPredicate.eq (BitVec.ofNat 32 r.val) 27#32) (P 27)
      (Scalar.select (IntOp.cmpi CmpIPredicate.eq (BitVec.ofNat 32 r.val) 26#32) (P 26)
      (Scalar.select (IntOp.cmpi CmpIPredicate.eq (BitVec.ofNat 32 r.val) 25#32) (P 25)
      (Scalar.select (IntOp.cmpi CmpIPredicate.eq (BitVec.ofNat 32 r.val) 24#32) (P 24)
      (Scalar.select (IntOp.cmpi CmpIPredicate.eq (BitVec.ofNat 32 r.val) 23#32) (P 23)
      (Scalar.select (IntOp.cmpi CmpIPredicate.eq (BitVec.ofNat 32 r.val) 22#32) (P 22)
      (Scalar.select (IntOp.cmpi CmpIPredicate.eq (BitVec.ofNat 32 r.val) 21#32) (P 21)
      (Scalar.select (IntOp.cmpi CmpIPredicate.eq (BitVec.ofNat 32 r.val) 20#32) (P 20)
      (Scalar.select (IntOp.cmpi CmpIPredicate.eq (BitVec.ofNat 32 r.val) 19#32) (P 19)
      (Scalar.select (IntOp.cmpi CmpIPredicate.eq (BitVec.ofNat 32 r.val) 18#32) (P 18)
      (Scalar.select (IntOp.cmpi CmpIPredicate.eq (BitVec.ofNat 32 r.val) 17#32) (P 17)
      (Scalar.select (IntOp.cmpi CmpIPredicate.eq (BitVec.ofNat 32 r.val) 16#32) (P 16)
      (Scalar.select (IntOp.cmpi CmpIPredicate.eq (BitVec.ofNat 32 r.val) 15#32) (P 15)
      (Scalar.select (IntOp.cmpi CmpIPredicate.eq (BitVec.ofNat 32 r.val) 14#32) (P 14)
      (Scalar.select (IntOp.cmpi CmpIPredicate.eq (BitVec.ofNat 32 r.val) 13#32) (P 13)
      (Scalar.select (IntOp.cmpi CmpIPredicate.eq (BitVec.ofNat 32 r.val) 12#32) (P 12)
      (Scalar.select (IntOp.cmpi CmpIPredicate.eq (BitVec.ofNat 32 r.val) 11#32) (P 11)
      (Scalar.select (IntOp.cmpi CmpIPredicate.eq (BitVec.ofNat 32 r.val) 10#32) (P 10)
      (Scalar.select (IntOp.cmpi CmpIPredicate.eq (BitVec.ofNat 32 r.val) 9#32) (P 9)
      (Scalar.select (IntOp.cmpi CmpIPredicate.eq (BitVec.ofNat 32 r.val) 8#32) (P 8)
      (Scalar.select (IntOp.cmpi CmpIPredicate.eq (BitVec.ofNat 32 r.val) 7#32) (P 7)
      (Scalar.select (IntOp.cmpi CmpIPredicate.eq (BitVec.ofNat 32 r.val) 6#32) (P 6)
      (Scalar.select (IntOp.cmpi CmpIPredicate.eq (BitVec.ofNat 32 r.val) 5#32) (P 5)
      (Scalar.select (IntOp.cmpi CmpIPredicate.eq (BitVec.ofNat 32 r.val) 4#32) (P 4)
      (Scalar.select (IntOp.cmpi CmpIPredicate.eq (BitVec.ofNat 32 r.val) 3#32) (P 3)
      (Scalar.select (IntOp.cmpi CmpIPredicate.eq (BitVec.ofNat 32 r.val) 2#32) (P 2)
      (Scalar.select (IntOp.cmpi CmpIPredicate.eq (BitVec.ofNat 32 r.val) 1#32) (P 1)
      (Scalar.select (IntOp.cmpi CmpIPredicate.eq (BitVec.ofNat 32 r.val) 0#32) (P 0)
      0)))))))))))))))))))))))))))))) = P r := by
  fin_cases r
  case «31» => exact h31.symm
  all_goals rfl

theorem select_eq {c : BitVec 1} {a a' b b' : EReal} (ha : a = a') (hb : b = b') : Scalar.select c a b = Scalar.select c a' b' := by
  rw [ha, hb]

theorem over_loads (T : FVec Ideal S32x40 .f32) (h : Fin 16) (a b a' b' : Nat) (ha : a < 32) (hb : b < 40) (ha' : a' < 32) (hb' : b' < 40)
    (k : Fin 32) (e0 : a = k.val) (e1 : b = h.val) (e0' : a' = 31) (e1' : b' = h.val) :
    (T (ix2 (⟨a, ha⟩ : Fin 32) (⟨b, hb⟩ : Fin 40)) - T (ix2 (⟨a', ha'⟩ : Fin 32) (⟨b', hb'⟩ : Fin 40))) * Ideal.ofBits .f32 0x3FB8AA3B#32
      = over T h k := by
  subst e0 e1 e0' e1'
  rfl

/-- The strip's bias at an index. -/
def stripAt (T : FVec Ideal S32x40 .f32) (y : S16x128x3072.Idx) : EReal := over T (y 0) (row (2560 + (y 1).val - (y 2).val))

theorem bucket_at (i : Fin 128) (j : Fin 3072) :
    k0_pay2 (F := Ideal) (ix2 i j) = BitVec.ofNat 32 (row (2560 + i.val - j.val)).val := by
  refine Eq.trans ?_ (strip_bucket i j)
  pointwise [k0_pay2]
  rfl

variable (m : (ℓ : Loc nD τ sig) → Buf (Elt Ideal) ℓ)

theorem blocks_at : ∀ t : Fin cfg0.N, win0_0.index t = ![0, 0] ∧ win0_1.index t = ![t.val, 0, 0] :=
  (by decide +kernel : ∀ t : Fin grid0.N, _)

/-- The region's block of the table is the whole of it. -/
theorem table_read (c : Dev nD) (t : Fin cfg0.N) (y : S32x40.Idx) : iblk m c 0 t y = m ((c : Thread nD τ).loc main_arg0) y := by
  blk_point [iblk, V, blocks_at t]

theorem head_at : ∀ t : Fin cfg0.N, (BitVec.ofNat 32 (grid0.coords t 0).val).toNat = t.val :=
  (by decide +kernel : ∀ t : Fin grid0.N, _)

theorem strip_block (c : Dev nD) (t : Fin cfg0.N) (i : Fin 128) (j : Fin 3072) (h : Fin 16) (hh : h.val = t.val)
    (far : FarReal (m ((c : Thread nD τ).loc main_arg0)) h) :
    outsAt0 m c t (ix3 0 i j) = stripAt (m ((c : Thread nD τ).loc main_arg0)) (ix3 h i j) := by
  unfold outsAt0 out0_A_1
  frame_out
  pointwise [k0_pay1, k0_pay3, k0_pay4, k0_pay5, k0_pay6, k0_pay7, k0_pay8, k0_pay9, k0_pay10, k0_pay11, k0_pay12, k0_pay13, k0_pay14,
    k0_pay15, k0_pay16, bucket_at]
  simp only [table_read]
  have hc : (BitVec.ofNat 32 (grid0.coords t 0).val).toNat = h.val := (head_at t).trans hh.symm
  refine Eq.trans ?_ (picked (over (m ((c : Thread nD τ).loc main_arg0)) h) (over_far _ h far) (row (2560 + i.val - j.val)))
  iterate 31 refine select_eq (over_loads _ _ _ _ _ _ _ _ _ _ _ rfl hc rfl hc) ?_
  rfl

/-- The strips the region leaves. -/
theorem strips_array (c : Dev nD)
    (far : ∀ h : Fin 16, FarReal (m ((c : Thread nD τ).loc main_arg0)) h) :
    (dats m 0 c).arrAt 1 (cfgs 0).N = stripAt (m ((c : Thread nD τ).loc main_arg0)) := by
  refine (dats m 0 c).arrAt_eq_of_covers 1 _ (by decide +kernel) fun t _ y => ?_
  blk_simp
  rw [after0_1]
  have e : y = ix3 0 (y 1) (y 2) := by
    funext a
    fin_cases a
    · exact Subsingleton.elim (α := Fin 1) _ _
    · rfl
    · rfl
  have ht : t.val < 16 := t.isLt
  rw [e]
  refine (strip_block m c t (y 1) (y 2) ⟨t.val, ht⟩ rfl (far _)).trans (congrArg _ ?_)
  blk_point [blocks_at t]

end Cert.StripsIdeal.Strip
-- ==== Proof.StripsRef.lean ====
/- The reference of the strips, in named pieces, and what it is at an index. -/
module

public import proofs.«01_k».proof.Proof.Gen.StripsRefIdeal.Run
public import proofs.«01_k».proof.Proof.StripsBias
public import proofs.«01_k».proof.Proof.DilGather

set_option maxRecDepth 16384

@[expose] public section

noncomputable section

open Idealize.ShloMosaic Idealize.ShloMosaic.TcCoe Idealize.SL.Sem

namespace Cert.StripsRefIdeal.Pieces
open Cert.StripsRefIdeal Cert.StripsRefIdeal.Gen Cert.Bucket

/-- The distances along the strip, held at zero, -/
def distances : IVec S128x3072 32 :=
  maxsi (subi (broadcastInDim S128x3072 ![0, 1] bcast_S128x1_S128x3072_0_1 (broadcastInDim S128x1 ![0] bcast_S128_S128x1_0 (addi (iotaInDim S128 32 0) (broadcastInDim S128 ![] bcast_S_S128 (constantI S_ 32 2560#32))))) (broadcastInDim S128x3072 ![0, 1] bcast_S1x3072_S128x3072_0_1 (broadcastInDim S1x3072 ![1] bcast_S3072_S1x3072_1 (iotaInDim S3072 32 0)))) (broadcastInDim S128x3072 ![] bcast_S_S128x3072 (constantI S_ 32 0#32))

/-- their buckets, -/
def buckets : IVec S128x3072 32 :=
  select (cmpi .slt distances (broadcastInDim S128x3072 ![] bcast_S_S128x3072 (constantI S_ 32 16#32))) distances (minsi (addi (broadcastInDim S128x3072 ![] bcast_S_S128x3072 (constantI S_ 32 16#32)) (fptosi 32 (mulf (Host.divf (Host.log (Host.divf (sitofp .f32 (maxsi distances (broadcastInDim S128x3072 ![] bcast_S_S128x3072 (constantI S_ 32 1#32)))) (broadcastInDim S128x3072 ![] bcast_S_S128x3072 (constant S_ .f32 0x41800000#32)))) (broadcastInDim S128x3072 ![] bcast_S_S128x3072 (constant S_ .f32 0x409B43D5#32))) (broadcastInDim S128x3072 ![] bcast_S_S128x3072 (constant S_ .f32 0x41800000#32)) : FVec Ideal S128x3072 .f32))) (broadcastInDim S128x3072 ![] bcast_S_S128x3072 (constantI S_ 32 31#32)))

/-- as the gather takes them, -/
def rows : IVec S128x3072x1 32 :=
  broadcastInDim S128x3072x1 ![0, 1] bcast_S128x3072_S128x3072x1_0_1 (select (cmpi .slt buckets (broadcastInDim S128x3072 ![] bcast_S_S128x3072 (constantI S_ 32 0#32))) (addi buckets (broadcastInDim S128x3072 ![] bcast_S_S128x3072 (constantI S_ 32 32#32))) buckets)

/-- and the biases over the far one. -/
def biases (T : FVec Ideal S32x40 .f32) : FVec Ideal S16x128x3072 .f32 :=
  mulf (subf (transpose S16x128x3072 [2, 0, 1] (Host.gather gather_S32x16_S128x3072x1_S128x3072x16_2_0_n_n_0_2_116 (extractStridedSlice S32x16 ![0, 0] T slices_S32x40_S32x16_0_0) rows) transposes_S128x3072x16_S16x128x3072_2_0_1) (broadcastInDim S16x128x3072 ![0, 1, 2] bcast_S16x1x1_S16x128x3072_0_1_2 (broadcastInDim S16x1x1 ![0, 1] bcast_S16x1_S16x1x1_0_1 (transpose S16x1 [1, 0] (extractStridedSlice S1x16 ![31, 0] (extractStridedSlice S32x16 ![0, 0] T slices_S32x40_S32x16_0_0) slices_S32x16_S1x16_31_0) transposes_S1x16_S16x1_1_0)))) (broadcastInDim S16x128x3072 ![] bcast_S_S16x128x3072 (constant S_ .f32 0x3FB8AA3B#32))

theorem biases_named (m : (ℓ : Loc nD τ sig) → Buf (Elt Ideal) ℓ) (c : Dev nD) : Value.res_main_v44 m c
    = biases (m ((c.tc : Thread nD τ).loc main_arg0)) := rfl

abbrev byRow := gather_S32x16_S128x3072x1_S128x3072x16_2_0_n_n_0_2_116

theorem row_start (I : IVec S128x3072x1 32) (i : Fin 128) (j : Fin 3072) (h : Fin 16) :
    byRow.start (ix3 i j h) I 0 = min (I (ix3 i j 0)).toInt.toNat 31 := by
  unfold GatherDims.start
  rw [dif_pos (show (0 : Fin 2) ∈ byRow.startIndexMap from List.mem_singleton.mpr rfl)]
  have hsi : byRow.siIdx (ix3 i j h) ⟨List.idxOf (0 : Fin 2) byRow.startIndexMap,
      List.idxOf_lt_length_iff.2 (List.mem_singleton.mpr rfl)⟩ = ix3 i j 0 := by
    funext a
    refine Fin.ext ?_
    match a with
    | ⟨0, _⟩ => rfl
    | ⟨1, _⟩ => rfl
    | ⟨2, _⟩ => rfl
  rw [hsi]
  rfl

theorem gather_rows (T : FVec Ideal S32x16 .f32) (I : IVec S128x3072x1 32) (i : Fin 128) (j : Fin 3072) (h : Fin 16) :
    Host.gather byRow T I (ix3 i j h) = T (ix2 ⟨min (I (ix3 i j 0)).toInt.toNat 31, by omega⟩ h) := by
  unfold Host.gather
  refine congrArg T ?_
  funext a
  refine Fin.ext ?_
  show byRow.start (ix3 i j h) I a + byRow.batchCoord (ix3 i j h) a + byRow.offCoord (ix3 i j h) a = _
  rw [GatherDims.batchCoord_eq_zero _ _ _ List.not_mem_nil]
  match a with
  | ⟨0, _⟩ =>
    refine (congrArg (· + 0 + _) (row_start I i j h)).trans ?_
    rw [GatherDims.offCoord_eq_zero _ _ _ (fun h => ((GatherDims.mem_sKept _ _).mp h).1 (List.mem_singleton.mpr rfl))]
    rfl
  | ⟨1, _⟩ =>
    show 0 + 0 + h.val = h.val
    omega

theorem distances_at (i : Fin 128) (j : Fin 3072) : distances (ix2 i j) = BitVec.ofNat 32 (2560 + i.val - j.val) := by
  pointwise [distances]
  exact strip_held i j

theorem buckets_at (i : Fin 128) (j : Fin 3072) : buckets (ix2 i j) = BitVec.ofNat 32 (row (2560 + i.val - j.val)).val := by
  refine Eq.trans ?_ (strip_bucket i j)
  rw [bucket_held, strip_held]
  unfold bucket
  rw [word_held _ (by omega)]
  pointwise [buckets, distances_at]

theorem rows_at (i : Fin 128) (j : Fin 3072) : rows (ix3 i j 0) = BitVec.ofNat 32 (row (2560 + i.val - j.val)).val := by
  pointwise [rows, buckets_at]
  exact Cert.DilRefIdeal.Pieces.kept _ _ (by omega)

theorem biases_at (T : FVec Ideal S32x40 .f32) (h : Fin 16) (i : Fin 128) (j : Fin 3072) :
    biases T (ix3 h i j) = Cert.StripsIdeal.Strip.over T h (row (2560 + i.val - j.val)) := by
  pointwise [biases]
  rw [gather_rows]
  have r : (⟨min (rows (ix3 i j 0)).toInt.toNat 31, by omega⟩ : Fin 32) = row (2560 + i.val - j.val) := by
    refine Fin.ext ?_
    show min (rows (ix3 i j 0)).toInt.toNat 31 = _
    rw [rows_at, Cert.DilRefIdeal.Pieces.word_int _ (by omega)]
    omega
  rw [r]
  unfold Cert.StripsIdeal.Strip.over
  pointwise

end Cert.StripsRefIdeal.Pieces
-- ==== Proof.StripsCondition.lean ====
/- What the condition of the strips says: the far row of the sparse attention's heads is real. -/
module

public import proofs.«01_k».proof.Proof.MergeCondition
public import proofs.«01_k».proof.Proof.StripsRef

set_option maxRecDepth 16384

@[expose] public section

noncomputable section

open Idealize.ShloMosaic Idealize.ShloMosaic.TcCoe Idealize.SL.Sem

namespace Cert.StripsIdeal.Strip
open Cert.StripsIdeal Cert.StripsIdeal.Gen
open Cert.MergeIdeal.Groups (above_of_ones below_of_ones)

section Slices
open Cert.Pre_far_finite Cert.Pre_far_finite.Facts
variable [Cert.Pre_far_finite.Facts]

theorem far_at (T : FVec Ideal S32x40 .f32) (h : Fin 16) :
    extractStridedSlice S1x16 ![31, 0] T slices_S32x40_S1x16_31_0 (ix2 (0 : Fin 1) h)
      = T (ix2 (31 : Fin 32) (⟨h.val, by omega⟩ : Fin 40)) := by
  pointwise

end Slices

variable [Cert.Pre_far_finite.Facts] (m : (ℓ : Loc nD τ sig) → Buf (Elt Ideal) ℓ)

theorem far_real (hpre : Cert.Pre_StripsIdeal_far_finite m) (c : Dev nD) (h : Fin 16) :
    FarReal (m ((c : Thread nD τ).loc main_arg0)) h := by
  have h1 := above_of_ones _ _ (hpre c).1 (ix2 (0 : Fin 1) h)
  have h2 := below_of_ones _ _ (hpre c).2 (ix2 (0 : Fin 1) h)
  have ex := far_at (m ((c : Thread nD τ).loc main_arg0)) h
  exact ⟨lt_of_le_of_lt bot_le (h1.trans_eq ex), lt_of_lt_of_le (ex.symm.trans_lt h2) le_top⟩

/-- The strips the kernel leaves are the reference's. -/
theorem strips_result (hpre : Cert.Pre_StripsIdeal_far_finite m) (c : Dev nD) : (dats m 0 c).arrAt 1 (cfgs 0).N
    = Cert.StripsRefIdeal.Pieces.biases (m ((c : Thread nD τ).loc main_arg0)) := by
  rw [strips_array m c (far_real m hpre c)]
  funext y
  have e : y = ix3 (y 0) (y 1) (y 2) := by
    funext a
    fin_cases a <;> rfl
  rw [e]
  exact (Cert.StripsRefIdeal.Pieces.biases_at _ (y 0) (y 1) (y 2)).symm

end Cert.StripsIdeal.Strip
-- ==== Proof.lean ====
module

public import proofs.«01_k».proof.Defs
public import proofs.«01_k».proof.Proof.Gen.Ffn.Frame
public import proofs.«01_k».proof.Proof.Gen.FfnIdeal.Value
public import proofs.«01_k».proof.Proof.Gen.FfnRefIdeal.Run
public import proofs.«01_k».proof.Proof.Gen.ProjA.Frame
public import proofs.«01_k».proof.Proof.Gen.ProjAIdeal.Value
public import proofs.«01_k».proof.Proof.Gen.ProjARefIdeal.Run
public import proofs.«01_k».proof.Proof.Gen.ProjZ.Frame
public import proofs.«01_k».proof.Proof.Gen.ProjZIdeal.Value
public import proofs.«01_k».proof.Proof.Gen.ProjZRefIdeal.Run
public import proofs.«01_k».proof.Proof.Gen.ProjXbc.Frame
public import proofs.«01_k».proof.Proof.Gen.ProjXbcIdeal.Value
public import proofs.«01_k».proof.Proof.Gen.ProjXbcRefIdeal.Run
public import proofs.«01_k».proof.Proof.Gen.ProjDt.Frame
public import proofs.«01_k».proof.Proof.Gen.ProjDtIdeal.Value
public import proofs.«01_k».proof.Proof.Gen.ProjDtRefIdeal.Run
public import proofs.«01_k».proof.Proof.Gen.ProjQkv.Frame
public import proofs.«01_k».proof.Proof.Gen.ProjQkvIdeal.Value
public import proofs.«01_k».proof.Proof.Gen.ProjQkvRefIdeal.Run
public import proofs.«01_k».proof.Proof.Gen.ProjGates.Frame
public import proofs.«01_k».proof.Proof.Gen.ProjGatesIdeal.Value
public import proofs.«01_k».proof.Proof.Gen.ProjGatesRefIdeal.Run
public import proofs.«01_k».proof.Proof.Gen.Ple.Frame
public import proofs.«01_k».proof.Proof.Gen.PleIdeal.Value
public import proofs.«01_k».proof.Proof.Gen.PleRefIdeal.Run
public import proofs.«01_k».proof.Proof.Gen.Prep.Frame
public import proofs.«01_k».proof.Proof.Gen.PrepIdeal.Frame
public import proofs.«01_k».proof.Proof.Gen.PrepRefIdeal.Run
public import proofs.«01_k».proof.Proof.FfnValue
public import proofs.«01_k».proof.Proof.ProjAValue
public import proofs.«01_k».proof.Proof.ProjZValue
public import proofs.«01_k».proof.Proof.ProjXbcValue
public import proofs.«01_k».proof.Proof.ProjDtValue
public import proofs.«01_k».proof.Proof.ProjQkvValue
public import proofs.«01_k».proof.Proof.ProjGatesValue
public import proofs.«01_k».proof.Proof.PleValue
public import proofs.«01_k».proof.Proof.PrepRun
public import proofs.«01_k».proof.Proof.Gen.Merge.Frame
public import proofs.«01_k».proof.Proof.Gen.MergeIdeal.Value
public import proofs.«01_k».proof.Proof.Gen.MergeRefIdeal.Run
public import proofs.«01_k».proof.Proof.Gen.Dil.Frame
public import proofs.«01_k».proof.Proof.Gen.DilIdeal.Frame
public import proofs.«01_k».proof.Proof.Gen.DilRefIdeal.Run
public import proofs.«01_k».proof.Proof.Gen.DilFour.Frame
public import proofs.«01_k».proof.Proof.Gen.DilFourIdeal.Frame
public import proofs.«01_k».proof.Proof.Gen.DilFourRefIdeal.Run
public import proofs.«01_k».proof.Proof.Gen.DilSixteen.Frame
public import proofs.«01_k».proof.Proof.Gen.DilSixteenIdeal.Frame
public import proofs.«01_k».proof.Proof.Gen.DilSixteenRefIdeal.Run
public import proofs.«01_k».proof.Proof.Gen.Strips.Frame
public import proofs.«01_k».proof.Proof.Gen.StripsIdeal.Frame
public import proofs.«01_k».proof.Proof.Gen.StripsRefIdeal.Run
public import proofs.«01_k».proof.Proof.Gen.Pre_groups_finite
public import proofs.«01_k».proof.Proof.Gen.Pre_scores_finite
public import proofs.«01_k».proof.Proof.Gen.Pre_four_finite
public import proofs.«01_k».proof.Proof.Gen.Pre_sixteen_finite
public import proofs.«01_k».proof.Proof.Gen.Pre_far_finite
public import proofs.«01_k».proof.Proof.MergeValue
public import proofs.«01_k».proof.Proof.MergeCondition
public import proofs.«01_k».proof.Proof.DilCondition
public import proofs.«01_k».proof.Proof.DilFourCondition
public import proofs.«01_k».proof.Proof.DilSixteenCondition
public import proofs.«01_k».proof.Proof.StripsCondition
public import Idealize.ShloMosaic.Lib.Claim

@[expose] public section

noncomputable section

namespace Cert.Proof

open Idealize.ShloMosaic Idealize.SL.Sem

theorem ffn_reference_frame [Cert.FfnRefIdeal.Facts] : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

theorem ffn_algebraic [Cert.FfnIdeal.Facts] [Cert.FfnRefIdeal.Facts] : Cert.algebraic_FfnIdeal_FfnRefIdeal := by
  pair_intro
  · run_from Cert.FfnIdeal.Gen.run_main m g
  · run_from Cert.FfnRefIdeal.Value.run m' g'
    exact (Cert.FfnIdeal.Halves.result_array m c).symm

theorem projA_reference_frame [Cert.ProjARefIdeal.Facts] : Cert.quiescent_ProjARefIdeal := fun m ρ _ =>
  (θ_run Cert.ProjARefIdeal.defs _ _).mono (fun r h => ⟨fun c => (h c).2, sem_eq_zero_of_no_sems (by decide) r.2⟩)
    (Cert.ProjARefIdeal.Value.run (F := Ideal) m ρ)

theorem projA_algebraic [Cert.ProjAIdeal.Facts] [Cert.ProjARefIdeal.Facts] : Cert.algebraic_ProjAIdeal_ProjARefIdeal := by
  pair_intro
  · run_from Cert.ProjAIdeal.Gen.run_main m g
  · run_from Cert.ProjARefIdeal.Value.run m' g'
    exact (Cert.ProjAIdeal.Product.result_array m c).symm

theorem projZ_reference_frame [Cert.ProjZRefIdeal.Facts] : Cert.quiescent_ProjZRefIdeal := fun m ρ _ =>
  (θ_run Cert.ProjZRefIdeal.defs _ _).mono (fun r h => ⟨fun c => (h c).2, sem_eq_zero_of_no_sems (by decide) r.2⟩)
    (Cert.ProjZRefIdeal.Value.run (F := Ideal) m ρ)

theorem projZ_algebraic [Cert.ProjZIdeal.Facts] [Cert.ProjZRefIdeal.Facts] : Cert.algebraic_ProjZIdeal_ProjZRefIdeal := by
  pair_intro
  · run_from Cert.ProjZIdeal.Gen.run_main m g
  · run_from Cert.ProjZRefIdeal.Value.run m' g'
    exact (Cert.ProjZIdeal.Product.result_array m c).symm

theorem projXbc_reference_frame [Cert.ProjXbcRefIdeal.Facts] : Cert.quiescent_ProjXbcRefIdeal := fun m ρ _ =>
  (θ_run Cert.ProjXbcRefIdeal.defs _ _).mono (fun r h => ⟨fun c => (h c).2, sem_eq_zero_of_no_sems (by decide) r.2⟩)
    (Cert.ProjXbcRefIdeal.Value.run (F := Ideal) m ρ)

theorem projXbc_algebraic [Cert.ProjXbcIdeal.Facts] [Cert.ProjXbcRefIdeal.Facts] : Cert.algebraic_ProjXbcIdeal_ProjXbcRefIdeal := by
  pair_intro
  · run_from Cert.ProjXbcIdeal.Gen.run_main m g
  · run_from Cert.ProjXbcRefIdeal.Value.run m' g'
    exact (Cert.ProjXbcIdeal.Product.result_array m c).symm

theorem projDt_reference_frame [Cert.ProjDtRefIdeal.Facts] : Cert.quiescent_ProjDtRefIdeal := fun m ρ _ =>
  (θ_run Cert.ProjDtRefIdeal.defs _ _).mono (fun r h => ⟨fun c => (h c).2, sem_eq_zero_of_no_sems (by decide) r.2⟩)
    (Cert.ProjDtRefIdeal.Value.run (F := Ideal) m ρ)

theorem projDt_algebraic [Cert.ProjDtIdeal.Facts] [Cert.ProjDtRefIdeal.Facts] : Cert.algebraic_ProjDtIdeal_ProjDtRefIdeal := by
  pair_intro
  · run_from Cert.ProjDtIdeal.Gen.run_main m g
  · run_from Cert.ProjDtRefIdeal.Value.run m' g'
    exact (Cert.ProjDtIdeal.Product.result_array m c).symm

theorem projQkv_reference_frame [Cert.ProjQkvRefIdeal.Facts] : Cert.quiescent_ProjQkvRefIdeal := fun m ρ _ =>
  (θ_run Cert.ProjQkvRefIdeal.defs _ _).mono (fun r h => ⟨fun c => (h c).2, sem_eq_zero_of_no_sems (by decide) r.2⟩)
    (Cert.ProjQkvRefIdeal.Value.run (F := Ideal) m ρ)

theorem projQkv_algebraic [Cert.ProjQkvIdeal.Facts] [Cert.ProjQkvRefIdeal.Facts] : Cert.algebraic_ProjQkvIdeal_ProjQkvRefIdeal := by
  pair_intro
  · run_from Cert.ProjQkvIdeal.Gen.run_main m g
  · run_from Cert.ProjQkvRefIdeal.Value.run m' g'
    exact (Cert.ProjQkvIdeal.Product.result_array m c).symm

theorem projGates_reference_frame [Cert.ProjGatesRefIdeal.Facts] : Cert.quiescent_ProjGatesRefIdeal := fun m ρ _ =>
  (θ_run Cert.ProjGatesRefIdeal.defs _ _).mono (fun r h => ⟨fun c => (h c).2, sem_eq_zero_of_no_sems (by decide) r.2⟩)
    (Cert.ProjGatesRefIdeal.Value.run (F := Ideal) m ρ)

theorem projGates_algebraic [Cert.ProjGatesIdeal.Facts] [Cert.ProjGatesRefIdeal.Facts] : Cert.algebraic_ProjGatesIdeal_ProjGatesRefIdeal := by
  pair_intro
  · run_from Cert.ProjGatesIdeal.Gen.run_main m g
  · run_from Cert.ProjGatesRefIdeal.Value.run m' g'
    exact (Cert.ProjGatesIdeal.Product.result_array m c).symm

theorem ple_reference_frame [Cert.PleRefIdeal.Facts] : Cert.quiescent_PleRefIdeal := fun m ρ _ =>
  (θ_run Cert.PleRefIdeal.defs _ _).mono (fun r h => ⟨fun c => (h c).2, sem_eq_zero_of_no_sems (by decide) r.2⟩)
    (Cert.PleRefIdeal.Value.run (F := Ideal) m ρ)

theorem ple_algebraic [Cert.PleIdeal.Facts] [Cert.PleRefIdeal.Facts] : Cert.algebraic_PleIdeal_PleRefIdeal := by
  pair_intro
  · run_from Cert.PleIdeal.Gen.run_main m g
  · run_from Cert.PleRefIdeal.Value.run m' g'
    obtain ⟨e0, e1, e2, e3, e4, e5⟩ := hagree c
    unfold Cert.PleRefIdeal.Value.res_main_v35
    rw [e0, e1, e2, e3, e4, e5]
    exact (Cert.PleIdeal.Gate.result_array m c).symm

theorem prep_reference_frame [Cert.PrepRefIdeal.Facts] : Cert.quiescent_PrepRefIdeal := fun m ρ _ =>
  (θ_run Cert.PrepRefIdeal.defs _ _).mono (fun r h => ⟨fun c => (h c).2.2.2.2.2.2, sem_eq_zero_of_no_sems (by decide) r.2⟩)
    (Cert.PrepRefIdeal.Value.run (F := Ideal) m ρ)

theorem prep_algebraic [Cert.PrepIdeal.Facts] [Cert.PrepRefIdeal.Facts] : Cert.algebraic_PrepIdeal_PrepRefIdeal := by
  pair_intro
  · exact Cert.PrepIdeal.Latents.run_results m g
  · refine (θ_run Cert.PrepRefIdeal.defs _ _).mono (fun r h c => ?_) (Cert.PrepRefIdeal.Value.run (F := Ideal) m' g')
    obtain ⟨e0, e1, e2, e3, e4⟩ := hagree c
    obtain ⟨h0, h1, h2, h3, h4, h5, hargs⟩ := h c
    refine ⟨h0.trans ?_, h1.trans ?_, h2.trans ?_, h3.trans ?_, h4.trans ?_, h5.trans ?_, hargs⟩
    · rw [e0, e1, e3]
      exact (Cert.PrepIdeal.Latents.queries_array m c).symm
    · rw [e0, e1, e4]
      exact (Cert.PrepIdeal.Latents.index_array m c).symm
    · rw [e0, e2]
      exact (Cert.PrepIdeal.Latents.columns_array m c).symm
    · rw [e0, e2]
      exact (Cert.PrepIdeal.Latents.values_array m c).symm
    · rw [e0]
      exact (Cert.PrepIdeal.Latents.keys_array m c).symm
    · rw [e0]
      exact (Cert.PrepIdeal.Latents.weights_array m c).symm

theorem merge_reference_frame [Cert.MergeRefIdeal.Facts] : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

theorem merge_algebraic [Cert.MergeIdeal.Facts] [Cert.MergeRefIdeal.Facts] [Cert.Pre_groups_finite.Facts] :
    Cert.algebraic_MergeIdeal_MergeRefIdeal_pre_groups_finite := by
  pair_intro
  · exact Cert.MergeIdeal.Value.run_blocks m g
  · run_from Cert.MergeRefIdeal.Value.run m' g'
    obtain ⟨e0, e1, e2, e3, e4, e5, e6, e7, e8, e9, e10, e11, e12, e13⟩ := hagree c
    rw [Cert.MergeRefIdeal.Groups.result_named, e0, e1, e2, e3, e4, e5, e6, e7, e8, e9, e10, e11, e12, e13]
    exact (Cert.MergeIdeal.Groups.result_array m c (Cert.MergeIdeal.Groups.largest_above m hpre c)
      (Cert.MergeIdeal.Groups.largest_below m hpre c)).symm

theorem dilated_reference_frame [Cert.DilRefIdeal.Facts] : Cert.quiescent_DilRefIdeal := fun m ρ _ =>
  (θ_run Cert.DilRefIdeal.defs _ _).mono (fun r h => ⟨fun c => (h c).2.2, sem_eq_zero_of_no_sems (by decide) r.2⟩)
    (Cert.DilRefIdeal.Value.run (F := Ideal) m ρ)

theorem dilated_algebraic [Cert.DilIdeal.Facts] [Cert.DilRefIdeal.Facts] [Cert.Pre_scores_finite.Facts] :
    Cert.algebraic_DilIdeal_DilRefIdeal_pre_scores_finite := by
  pair_intro
  · exact Cert.DilIdeal.Window.run_results m g
  · exact (θ_run Cert.DilRefIdeal.defs _ _).mono (fun r h c =>
      ⟨(h c).1.trans (Cert.DilIdeal.Window.averages_both m g m' c (hagree c).1 (hagree c).2 hpre),
        (h c).2.1.trans (Cert.DilIdeal.Window.logarithms_both m g m' c (hagree c).1 (hagree c).2 hpre), (h c).2.2⟩)
      (Cert.DilRefIdeal.Value.run (F := Ideal) m' g')

theorem dilated_four_reference_frame [Cert.DilFourRefIdeal.Facts] : Cert.quiescent_DilFourRefIdeal := fun m ρ _ =>
  (θ_run Cert.DilFourRefIdeal.defs _ _).mono (fun r h => ⟨fun c => (h c).2.2, sem_eq_zero_of_no_sems (by decide) r.2⟩)
    (Cert.DilFourRefIdeal.Value.run (F := Ideal) m ρ)

theorem dilated_four_algebraic [Cert.DilFourIdeal.Facts] [Cert.DilFourRefIdeal.Facts] [Cert.Pre_four_finite.Facts] :
    Cert.algebraic_DilFourIdeal_DilFourRefIdeal_pre_four_finite := by
  pair_intro
  · exact Cert.DilFourIdeal.Window.run_results m g
  · exact (θ_run Cert.DilFourRefIdeal.defs _ _).mono (fun r h c =>
      ⟨(h c).1.trans (Cert.DilFourIdeal.Window.averages_both m g m' c (hagree c).1 (hagree c).2 hpre),
        (h c).2.1.trans (Cert.DilFourIdeal.Window.logarithms_both m g m' c (hagree c).1 (hagree c).2 hpre), (h c).2.2⟩)
      (Cert.DilFourRefIdeal.Value.run (F := Ideal) m' g')

theorem dilated_sixteen_reference_frame [Cert.DilSixteenRefIdeal.Facts] : Cert.quiescent_DilSixteenRefIdeal := fun m ρ _ =>
  (θ_run Cert.DilSixteenRefIdeal.defs _ _).mono (fun r h => ⟨fun c => (h c).2.2, sem_eq_zero_of_no_sems (by decide) r.2⟩)
    (Cert.DilSixteenRefIdeal.Value.run (F := Ideal) m ρ)

theorem dilated_sixteen_algebraic [Cert.DilSixteenIdeal.Facts] [Cert.DilSixteenRefIdeal.Facts] [Cert.Pre_sixteen_finite.Facts] :
    Cert.algebraic_DilSixteenIdeal_DilSixteenRefIdeal_pre_sixteen_finite := by
  pair_intro
  · exact Cert.DilSixteenIdeal.Window.run_results m g
  · exact (θ_run Cert.DilSixteenRefIdeal.defs _ _).mono (fun r h c =>
      ⟨(h c).1.trans (Cert.DilSixteenIdeal.Window.averages_both m g m' c (hagree c).1 (hagree c).2 hpre),
        (h c).2.1.trans (Cert.DilSixteenIdeal.Window.logarithms_both m g m' c (hagree c).1 (hagree c).2 hpre), (h c).2.2⟩)
      (Cert.DilSixteenRefIdeal.Value.run (F := Ideal) m' g')

theorem strips_reference_frame [Cert.StripsRefIdeal.Facts] : Cert.quiescent_StripsRefIdeal := fun m ρ _ =>
  (θ_run Cert.StripsRefIdeal.defs _ _).mono (fun r h => ⟨fun c => (h c).2, sem_eq_zero_of_no_sems (by decide) r.2⟩)
    (Cert.StripsRefIdeal.Value.run (F := Ideal) m ρ)

theorem strips_algebraic [Cert.StripsIdeal.Facts] [Cert.StripsRefIdeal.Facts] [Cert.Pre_far_finite.Facts] :
    Cert.algebraic_StripsIdeal_StripsRefIdeal_pre_far_finite := by
  pair_intro
  · run_from Cert.StripsIdeal.Gen.run_main m g
  · run_from Cert.StripsRefIdeal.Value.run m' g'
    rw [Cert.StripsRefIdeal.Pieces.biases_named, hagree c]
    exact (Cert.StripsIdeal.Strip.strips_result m hpre c).symm

theorem claim : Cert.Claim := ⟨Cert.Ffn.Gen.facts, Cert.FfnIdeal.Gen.facts, Cert.FfnRefIdeal.Gen.facts, Cert.ProjA.Gen.facts, Cert.ProjAIdeal.Gen.facts, Cert.ProjARefIdeal.Gen.facts, Cert.ProjZ.Gen.facts, Cert.ProjZIdeal.Gen.facts, Cert.ProjZRefIdeal.Gen.facts, Cert.ProjXbc.Gen.facts, Cert.ProjXbcIdeal.Gen.facts, Cert.ProjXbcRefIdeal.Gen.facts, Cert.ProjDt.Gen.facts, Cert.ProjDtIdeal.Gen.facts, Cert.ProjDtRefIdeal.Gen.facts, Cert.ProjQkv.Gen.facts, Cert.ProjQkvIdeal.Gen.facts, Cert.ProjQkvRefIdeal.Gen.facts, Cert.ProjGates.Gen.facts, Cert.ProjGatesIdeal.Gen.facts, Cert.ProjGatesRefIdeal.Gen.facts, Cert.Ple.Gen.facts, Cert.PleIdeal.Gen.facts, Cert.PleRefIdeal.Gen.facts, Cert.Prep.Gen.facts, Cert.PrepIdeal.Gen.facts, Cert.PrepRefIdeal.Gen.facts, Cert.Merge.Gen.facts, Cert.MergeIdeal.Gen.facts, Cert.MergeRefIdeal.Gen.facts,
  Cert.Dil.Gen.facts, Cert.DilIdeal.Gen.facts, Cert.DilRefIdeal.Gen.facts,
  Cert.DilFour.Gen.facts, Cert.DilFourIdeal.Gen.facts, Cert.DilFourRefIdeal.Gen.facts,
  Cert.DilSixteen.Gen.facts, Cert.DilSixteenIdeal.Gen.facts, Cert.DilSixteenRefIdeal.Gen.facts,
  Cert.Strips.Gen.facts, Cert.StripsIdeal.Gen.facts, Cert.StripsRefIdeal.Gen.facts,
  Cert.Pre_groups_finite.Gen.facts, Cert.Pre_scores_finite.Gen.facts, Cert.Pre_four_finite.Gen.facts, Cert.Pre_sixteen_finite.Gen.facts, Cert.Pre_far_finite.Gen.facts,
  fun m ρ _ => Cert.Ffn.Gen.frame m ρ, fun m ρ _ => Cert.FfnIdeal.Gen.frame m ρ, ffn_reference_frame,
  fun m ρ _ => Cert.ProjA.Gen.frame m ρ, fun m ρ _ => Cert.ProjAIdeal.Gen.frame m ρ, projA_reference_frame,
  fun m ρ _ => Cert.ProjZ.Gen.frame m ρ, fun m ρ _ => Cert.ProjZIdeal.Gen.frame m ρ, projZ_reference_frame,
  fun m ρ _ => Cert.ProjXbc.Gen.frame m ρ, fun m ρ _ => Cert.ProjXbcIdeal.Gen.frame m ρ, projXbc_reference_frame,
  fun m ρ _ => Cert.ProjDt.Gen.frame m ρ, fun m ρ _ => Cert.ProjDtIdeal.Gen.frame m ρ, projDt_reference_frame,
  fun m ρ _ => Cert.ProjQkv.Gen.frame m ρ, fun m ρ _ => Cert.ProjQkvIdeal.Gen.frame m ρ, projQkv_reference_frame,
  fun m ρ _ => Cert.ProjGates.Gen.frame m ρ, fun m ρ _ => Cert.ProjGatesIdeal.Gen.frame m ρ, projGates_reference_frame,
  fun m ρ _ => Cert.Ple.Gen.frame m ρ, fun m ρ _ => Cert.PleIdeal.Gen.frame m ρ, ple_reference_frame,
  fun m ρ _ => Cert.Prep.Gen.frame m ρ, fun m ρ _ => Cert.PrepIdeal.Gen.frame m ρ, prep_reference_frame,
  fun m ρ _ => Cert.Merge.Gen.frame m ρ, fun m ρ _ => Cert.MergeIdeal.Gen.frame m ρ,
  fun m ρ _ => Cert.MergeIdeal.Gen.frame m ρ, merge_reference_frame, fun m ρ _ => merge_reference_frame m ρ trivial,
  fun m ρ _ => Cert.Dil.Gen.frame m ρ, fun m ρ _ => Cert.DilIdeal.Gen.frame m ρ,
  fun m ρ _ => Cert.DilIdeal.Gen.frame m ρ, dilated_reference_frame, fun m ρ _ => dilated_reference_frame m ρ trivial,
  fun m ρ _ => Cert.DilFour.Gen.frame m ρ, fun m ρ _ => Cert.DilFourIdeal.Gen.frame m ρ,
  fun m ρ _ => Cert.DilFourIdeal.Gen.frame m ρ, dilated_four_reference_frame, fun m ρ _ => dilated_four_reference_frame m ρ trivial,
  fun m ρ _ => Cert.DilSixteen.Gen.frame m ρ, fun m ρ _ => Cert.DilSixteenIdeal.Gen.frame m ρ,
  fun m ρ _ => Cert.DilSixteenIdeal.Gen.frame m ρ, dilated_sixteen_reference_frame, fun m ρ _ => dilated_sixteen_reference_frame m ρ trivial,
  fun m ρ _ => Cert.Strips.Gen.frame m ρ, fun m ρ _ => Cert.StripsIdeal.Gen.frame m ρ,
  fun m ρ _ => Cert.StripsIdeal.Gen.frame m ρ, strips_reference_frame, fun m ρ _ => strips_reference_frame m ρ trivial,
  trivial, ffn_algebraic,
  trivial, projA_algebraic,
  trivial, projZ_algebraic,
  trivial, projXbc_algebraic,
  trivial, projDt_algebraic,
  trivial, projQkv_algebraic,
  trivial, projGates_algebraic,
  trivial, ple_algebraic,
  trivial, prep_algebraic,
  trivial, merge_algebraic,
  IdealRules.named_const.statement Cert.DilIdeal.κ "mask" .f32 0xF149F2CA#32 ⊥ rfl, dilated_algebraic,
  IdealRules.named_const.statement Cert.DilFourIdeal.κ "mask" .f32 0xF149F2CA#32 ⊥ rfl, dilated_four_algebraic,
  IdealRules.named_const.statement Cert.DilSixteenIdeal.κ "mask" .f32 0xF149F2CA#32 ⊥ rfl, dilated_sixteen_algebraic,
  trivial, strips_algebraic⟩

end Cert.Proof

end
